-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Moe [hPre_tiles_in_range : Cert.Pre_tiles_in_range.Facts] (m : (ℓ : Loc Cert.Moe.nD Cert.Moe.τ Cert.Moe.sig) → Buf (Elt Bits) ℓ) : Prop :=
  ∀ c : Dev Cert.Moe.nD,
    (Cert.Pre_tiles_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).1 = (fun _ => 1#1)
    ∧ (Cert.Pre_tiles_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.1 = (fun _ => 1#1)
    ∧ (Cert.Pre_tiles_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2 = (fun _ => 1#1)

def Pre_MoeIdeal [hPre_tiles_in_range : Cert.Pre_tiles_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2 = (fun _ => 1#1)

def Pre_MoeIdeal_finite_tiles_in_range [hPre_finite_tiles_in_range : Cert.Pre_finite_tiles_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.1 = (fun _ => 1#1)
    ∧ (Cert.Pre_finite_tiles_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2 = (fun _ => 1#1)

def Pre_ExpertsIdeal (m : (ℓ : Loc Cert.ExpertsIdeal.nD Cert.ExpertsIdeal.τ Cert.ExpertsIdeal.sig) → Buf (Elt Ideal) ℓ) : Prop :=
  True

def Pre_ExpertsIdeal_finite_tiles_in_range [hPre_finite_tiles_in_range : Cert.Pre_finite_tiles_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.2.2.1 = (fun _ => 1#1)
    ∧ (Cert.Pre_finite_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.2.2.2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_NormIdeal (m : (ℓ : Loc Cert.NormIdeal.nD Cert.NormIdeal.τ Cert.NormIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_ProjectIdeal (m : (ℓ : Loc Cert.ProjectIdeal.nD Cert.ProjectIdeal.τ Cert.ProjectIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixersIdeal (m : (ℓ : Loc Cert.MixersIdeal.nD Cert.MixersIdeal.τ Cert.MixersIdeal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Moe [hMoe : Cert.Moe.Facts] [hPre_tiles_in_range : Cert.Pre_tiles_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_tiles_in_range : Cert.Pre_tiles_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_finite_tiles_in_range [hMoeIdeal : Cert.MoeIdeal.Facts] [hPre_finite_tiles_in_range : Cert.Pre_finite_tiles_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_tiles_in_range m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_finite_tiles_in_range [hExpertsIdeal : Cert.ExpertsIdeal.Facts] [hPre_finite_tiles_in_range : Cert.Pre_finite_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_finite_tiles_in_range m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
      ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
      ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
      ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12)
      ∧ r.2.mem ((c.tc : Thread Cert.MixersIdeal.nD Cert.MixersIdeal.τ).loc Cert.MixersIdeal.main_arg13) = m ((c.tc : Thread Cert.MixersIdeal.nD Cert.MixersIdeal.τ).loc Cert.MixersIdeal.main_arg13)
      ∧ r.2.mem ((c.tc : Thread Cert.MixersIdeal.nD Cert.MixersIdeal.τ).loc Cert.MixersIdeal.main_arg14) = m ((c.tc : Thread Cert.MixersIdeal.nD Cert.MixersIdeal.τ).loc Cert.MixersIdeal.main_arg14)
      ∧ r.2.mem ((c.tc : Thread Cert.MixersIdeal.nD Cert.MixersIdeal.τ).loc Cert.MixersIdeal.main_arg15) = m ((c.tc : Thread Cert.MixersIdeal.nD Cert.MixersIdeal.τ).loc Cert.MixersIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Moe_MoeIdeal : Prop :=
  True

def algebraic_MoeIdeal_ExpertsIdeal_pre_finite_tiles_in_range [hMoeIdeal : Cert.MoeIdeal.Facts] [hExpertsIdeal : Cert.ExpertsIdeal.Facts] [hPre_finite_tiles_in_range : Cert.Pre_finite_tiles_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_MoeIdeal_finite_tiles_in_range m →
    (∀ c : Dev Cert.MoeIdeal.nD,
      m' ((c.tc : Thread Cert.ExpertsIdeal.nD Cert.ExpertsIdeal.τ).loc Cert.ExpertsIdeal.main_arg0) = m ((c.tc : Thread Cert.MoeIdeal.nD Cert.MoeIdeal.τ).loc Cert.MoeIdeal.main_arg0)
      ∧ m' ((c.tc : Thread Cert.ExpertsIdeal.nD Cert.ExpertsIdeal.τ).loc Cert.ExpertsIdeal.main_arg1) = m ((c.tc : Thread Cert.MoeIdeal.nD Cert.MoeIdeal.τ).loc Cert.MoeIdeal.main_arg1)
      ∧ m' ((c.tc : Thread Cert.ExpertsIdeal.nD Cert.ExpertsIdeal.τ).loc Cert.ExpertsIdeal.main_arg2) = m ((c.tc : Thread Cert.MoeIdeal.nD Cert.MoeIdeal.τ).loc Cert.MoeIdeal.main_arg2)
      ∧ m' ((c.tc : Thread Cert.ExpertsIdeal.nD Cert.ExpertsIdeal.τ).loc Cert.ExpertsIdeal.main_arg3) = m ((c.tc : Thread Cert.MoeIdeal.nD Cert.MoeIdeal.τ).loc Cert.MoeIdeal.main_arg3)
      ∧ m' ((c.tc : Thread Cert.ExpertsIdeal.nD Cert.ExpertsIdeal.τ).loc Cert.ExpertsIdeal.main_arg4) = m ((c.tc : Thread Cert.MoeIdeal.nD Cert.MoeIdeal.τ).loc Cert.MoeIdeal.main_arg4)
      ∧ m' ((c.tc : Thread Cert.ExpertsIdeal.nD Cert.ExpertsIdeal.τ).loc Cert.ExpertsIdeal.main_arg5) = m ((c.tc : Thread Cert.MoeIdeal.nD Cert.MoeIdeal.τ).loc Cert.MoeIdeal.main_arg5)
      ∧ m' ((c.tc : Thread Cert.ExpertsIdeal.nD Cert.ExpertsIdeal.τ).loc Cert.ExpertsIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v16)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v16) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v31) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m' ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m' ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m' ((c.tc : Thread Cert.ExpertsIdeal.nD Cert.ExpertsIdeal.τ).loc Cert.ExpertsIdeal.main_arg6))

def preserves_Final_FinalIdeal : Prop :=
  True

def algebraic_FinalIdeal_NormIdeal [hFinalIdeal : Cert.FinalIdeal.Facts] [hNormIdeal : Cert.NormIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.NormIdeal.nD Cert.NormIdeal.τ Cert.NormIdeal.sig) → Buf (Elt Ideal) ℓ) (g' : Dev Cert.NormIdeal.nD → PrngReg), Pre_FinalIdeal m →
    (∀ c : Dev Cert.FinalIdeal.nD,
      m' ((c.tc : Thread Cert.NormIdeal.nD Cert.NormIdeal.τ).loc Cert.NormIdeal.main_arg0) = m ((c.tc : Thread Cert.FinalIdeal.nD Cert.FinalIdeal.τ).loc Cert.FinalIdeal.main_arg0)
      ∧ m' ((c.tc : Thread Cert.NormIdeal.nD Cert.NormIdeal.τ).loc Cert.NormIdeal.main_arg1) = m ((c.tc : Thread Cert.FinalIdeal.nD Cert.FinalIdeal.τ).loc Cert.FinalIdeal.main_arg1)
      ∧ m' ((c.tc : Thread Cert.NormIdeal.nD Cert.NormIdeal.τ).loc Cert.NormIdeal.main_arg2) = m ((c.tc : Thread Cert.FinalIdeal.nD Cert.FinalIdeal.τ).loc Cert.FinalIdeal.main_arg2)
      ∧ m' ((c.tc : Thread Cert.NormIdeal.nD Cert.NormIdeal.τ).loc Cert.NormIdeal.main_arg3) = m ((c.tc : Thread Cert.FinalIdeal.nD Cert.FinalIdeal.τ).loc Cert.FinalIdeal.main_arg3)
      ∧ m' ((c.tc : Thread Cert.NormIdeal.nD Cert.NormIdeal.τ).loc Cert.NormIdeal.main_arg4) = m ((c.tc : Thread Cert.FinalIdeal.nD Cert.FinalIdeal.τ).loc Cert.FinalIdeal.main_arg4)
      ∧ m' ((c.tc : Thread Cert.NormIdeal.nD Cert.NormIdeal.τ).loc Cert.NormIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.NormIdeal.defs (F := Ideal)) (onTc (τ := Cert.NormIdeal.τ) (Cert.NormIdeal.main (F := Ideal))) ⟨m', fun _ => 0, g'⟩ (fun r => ∀ c : Dev Cert.NormIdeal.nD,
          r.2.mem ((c.tc : Thread Cert.NormIdeal.nD Cert.NormIdeal.τ).loc Cert.NormIdeal.main_v25) = v0 c
          ∧ r.2.mem ((c.tc : Thread Cert.NormIdeal.nD Cert.NormIdeal.τ).loc Cert.NormIdeal.main_arg0) = m' ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m' ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m' ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m' ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m' ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m' ((c.tc : Thread Cert.NormIdeal.nD Cert.NormIdeal.τ).loc Cert.NormIdeal.main_arg5))

def preserves_Front_FrontIdeal : Prop :=
  True

def algebraic_FrontIdeal_ProjectIdeal [hFrontIdeal : Cert.FrontIdeal.Facts] [hProjectIdeal : Cert.ProjectIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.ProjectIdeal.nD Cert.ProjectIdeal.τ Cert.ProjectIdeal.sig) → Buf (Elt Ideal) ℓ) (g' : Dev Cert.ProjectIdeal.nD → PrngReg), Pre_FrontIdeal m →
    (∀ c : Dev Cert.FrontIdeal.nD,
      m' ((c.tc : Thread Cert.ProjectIdeal.nD Cert.ProjectIdeal.τ).loc Cert.ProjectIdeal.main_arg0) = m ((c.tc : Thread Cert.FrontIdeal.nD Cert.FrontIdeal.τ).loc Cert.FrontIdeal.main_arg0)
      ∧ m' ((c.tc : Thread Cert.ProjectIdeal.nD Cert.ProjectIdeal.τ).loc Cert.ProjectIdeal.main_arg1) = m ((c.tc : Thread Cert.FrontIdeal.nD Cert.FrontIdeal.τ).loc Cert.FrontIdeal.main_arg1)
      ∧ m' ((c.tc : Thread Cert.ProjectIdeal.nD Cert.ProjectIdeal.τ).loc Cert.ProjectIdeal.main_arg2) = m ((c.tc : Thread Cert.FrontIdeal.nD Cert.FrontIdeal.τ).loc Cert.FrontIdeal.main_arg2)
      ∧ m' ((c.tc : Thread Cert.ProjectIdeal.nD Cert.ProjectIdeal.τ).loc Cert.ProjectIdeal.main_arg3) = m ((c.tc : Thread Cert.FrontIdeal.nD Cert.FrontIdeal.τ).loc Cert.FrontIdeal.main_arg3)
      ∧ m' ((c.tc : Thread Cert.ProjectIdeal.nD Cert.ProjectIdeal.τ).loc Cert.ProjectIdeal.main_arg4) = m ((c.tc : Thread Cert.FrontIdeal.nD Cert.FrontIdeal.τ).loc Cert.FrontIdeal.main_arg4)
      ∧ m' ((c.tc : Thread Cert.ProjectIdeal.nD Cert.ProjectIdeal.τ).loc Cert.ProjectIdeal.main_arg5) = m ((c.tc : Thread Cert.FrontIdeal.nD Cert.FrontIdeal.τ).loc Cert.FrontIdeal.main_arg5)
      ∧ m' ((c.tc : Thread Cert.ProjectIdeal.nD Cert.ProjectIdeal.τ).loc Cert.ProjectIdeal.main_arg6) = m ((c.tc : Thread Cert.FrontIdeal.nD Cert.FrontIdeal.τ).loc Cert.FrontIdeal.main_arg6)
      ∧ m' ((c.tc : Thread Cert.ProjectIdeal.nD Cert.ProjectIdeal.τ).loc Cert.ProjectIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v8)) (v1 : (c : Dev Cert.FrontIdeal.nD) → Buf (Elt Ideal) ((c.tc : Thread Cert.FrontIdeal.nD Cert.FrontIdeal.τ).loc Cert.FrontIdeal.main_v10)) (v2 : (c : Dev Cert.FrontIdeal.nD) → Buf (Elt Ideal) ((c.tc : Thread Cert.FrontIdeal.nD Cert.FrontIdeal.τ).loc Cert.FrontIdeal.main_v20)) (v3 : (c : Dev Cert.FrontIdeal.nD) → Buf (Elt Ideal) ((c.tc : Thread Cert.FrontIdeal.nD Cert.FrontIdeal.τ).loc Cert.FrontIdeal.main_v21)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v8) = v0 c
          ∧ r.2.mem ((c.tc : Thread Cert.FrontIdeal.nD Cert.FrontIdeal.τ).loc Cert.FrontIdeal.main_v10) = v1 c
          ∧ r.2.mem ((c.tc : Thread Cert.FrontIdeal.nD Cert.FrontIdeal.τ).loc Cert.FrontIdeal.main_v20) = v2 c
          ∧ r.2.mem ((c.tc : Thread Cert.FrontIdeal.nD Cert.FrontIdeal.τ).loc Cert.FrontIdeal.main_v21) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.ProjectIdeal.defs (F := Ideal)) (onTc (τ := Cert.ProjectIdeal.τ) (Cert.ProjectIdeal.main (F := Ideal))) ⟨m', fun _ => 0, g'⟩ (fun r => ∀ c : Dev Cert.ProjectIdeal.nD,
          r.2.mem ((c.tc : Thread Cert.ProjectIdeal.nD Cert.ProjectIdeal.τ).loc Cert.ProjectIdeal.main_v74) = v0 c
          ∧ r.2.mem ((c.tc : Thread Cert.ProjectIdeal.nD Cert.ProjectIdeal.τ).loc Cert.ProjectIdeal.main_v75) = v1 c
          ∧ r.2.mem ((c.tc : Thread Cert.ProjectIdeal.nD Cert.ProjectIdeal.τ).loc Cert.ProjectIdeal.main_v50) = v2 c
          ∧ r.2.mem ((c.tc : Thread Cert.ProjectIdeal.nD Cert.ProjectIdeal.τ).loc Cert.ProjectIdeal.main_v73) = v3 c
          ∧ r.2.mem ((c.tc : Thread Cert.ProjectIdeal.nD Cert.ProjectIdeal.τ).loc Cert.ProjectIdeal.main_arg0) = m' ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m' ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m' ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m' ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m' ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m' ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m' ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m' ((c.tc : Thread Cert.ProjectIdeal.nD Cert.ProjectIdeal.τ).loc Cert.ProjectIdeal.main_arg7))

def preserves_Mix_MixIdeal : Prop :=
  True

def algebraic_MixIdeal_MixersIdeal [hMixIdeal : Cert.MixIdeal.Facts] [hMixersIdeal : Cert.MixersIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixersIdeal.nD Cert.MixersIdeal.τ Cert.MixersIdeal.sig) → Buf (Elt Ideal) ℓ) (g' : Dev Cert.MixersIdeal.nD → PrngReg), Pre_MixIdeal m →
    (∀ c : Dev Cert.MixIdeal.nD,
      m' ((c.tc : Thread Cert.MixersIdeal.nD Cert.MixersIdeal.τ).loc Cert.MixersIdeal.main_arg0) = m ((c.tc : Thread Cert.MixIdeal.nD Cert.MixIdeal.τ).loc Cert.MixIdeal.main_arg0)
      ∧ m' ((c.tc : Thread Cert.MixersIdeal.nD Cert.MixersIdeal.τ).loc Cert.MixersIdeal.main_arg1) = m ((c.tc : Thread Cert.MixIdeal.nD Cert.MixIdeal.τ).loc Cert.MixIdeal.main_arg1)
      ∧ m' ((c.tc : Thread Cert.MixersIdeal.nD Cert.MixersIdeal.τ).loc Cert.MixersIdeal.main_arg2) = m ((c.tc : Thread Cert.MixIdeal.nD Cert.MixIdeal.τ).loc Cert.MixIdeal.main_arg2)
      ∧ m' ((c.tc : Thread Cert.MixersIdeal.nD Cert.MixersIdeal.τ).loc Cert.MixersIdeal.main_arg3) = m ((c.tc : Thread Cert.MixIdeal.nD Cert.MixIdeal.τ).loc Cert.MixIdeal.main_arg3)
      ∧ m' ((c.tc : Thread Cert.MixersIdeal.nD Cert.MixersIdeal.τ).loc Cert.MixersIdeal.main_arg4) = m ((c.tc : Thread Cert.MixIdeal.nD Cert.MixIdeal.τ).loc Cert.MixIdeal.main_arg4)
      ∧ m' ((c.tc : Thread Cert.MixersIdeal.nD Cert.MixersIdeal.τ).loc Cert.MixersIdeal.main_arg5) = m ((c.tc : Thread Cert.MixIdeal.nD Cert.MixIdeal.τ).loc Cert.MixIdeal.main_arg5)
      ∧ m' ((c.tc : Thread Cert.MixersIdeal.nD Cert.MixersIdeal.τ).loc Cert.MixersIdeal.main_arg6) = m ((c.tc : Thread Cert.MixIdeal.nD Cert.MixIdeal.τ).loc Cert.MixIdeal.main_arg6)
      ∧ m' ((c.tc : Thread Cert.MixersIdeal.nD Cert.MixersIdeal.τ).loc Cert.MixersIdeal.main_arg7) = m ((c.tc : Thread Cert.MixIdeal.nD Cert.MixIdeal.τ).loc Cert.MixIdeal.main_arg7)
      ∧ m' ((c.tc : Thread Cert.MixersIdeal.nD Cert.MixersIdeal.τ).loc Cert.MixersIdeal.main_arg8) = m ((c.tc : Thread Cert.MixIdeal.nD Cert.MixIdeal.τ).loc Cert.MixIdeal.main_arg8)
      ∧ m' ((c.tc : Thread Cert.MixersIdeal.nD Cert.MixersIdeal.τ).loc Cert.MixersIdeal.main_arg9) = m ((c.tc : Thread Cert.MixIdeal.nD Cert.MixIdeal.τ).loc Cert.MixIdeal.main_arg9)
      ∧ m' ((c.tc : Thread Cert.MixersIdeal.nD Cert.MixersIdeal.τ).loc Cert.MixersIdeal.main_arg10) = m ((c.tc : Thread Cert.MixIdeal.nD Cert.MixIdeal.τ).loc Cert.MixIdeal.main_arg10)
      ∧ m' ((c.tc : Thread Cert.MixersIdeal.nD Cert.MixersIdeal.τ).loc Cert.MixersIdeal.main_arg11) = m ((c.tc : Thread Cert.MixIdeal.nD Cert.MixIdeal.τ).loc Cert.MixIdeal.main_arg11)
      ∧ m' ((c.tc : Thread Cert.MixersIdeal.nD Cert.MixersIdeal.τ).loc Cert.MixersIdeal.main_arg12) = m ((c.tc : Thread Cert.MixIdeal.nD Cert.MixIdeal.τ).loc Cert.MixIdeal.main_arg12)
      ∧ m' ((c.tc : Thread Cert.MixersIdeal.nD Cert.MixersIdeal.τ).loc Cert.MixersIdeal.main_arg13) = m ((c.tc : Thread Cert.MixIdeal.nD Cert.MixIdeal.τ).loc Cert.MixIdeal.main_arg13)
      ∧ m' ((c.tc : Thread Cert.MixersIdeal.nD Cert.MixersIdeal.τ).loc Cert.MixersIdeal.main_arg14) = m ((c.tc : Thread Cert.MixIdeal.nD Cert.MixIdeal.τ).loc Cert.MixIdeal.main_arg14)
      ∧ m' ((c.tc : Thread Cert.MixersIdeal.nD Cert.MixersIdeal.τ).loc Cert.MixersIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v37_0)) (v1 : (c : Dev Cert.MixIdeal.nD) → Buf (Elt Ideal) ((c.tc : Thread Cert.MixIdeal.nD Cert.MixIdeal.τ).loc Cert.MixIdeal.main_v38)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v37_0) = v0 c
          ∧ r.2.mem ((c.tc : Thread Cert.MixIdeal.nD Cert.MixIdeal.τ).loc Cert.MixIdeal.main_v38) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixersIdeal.defs (F := Ideal)) (onTc (τ := Cert.MixersIdeal.τ) (Cert.MixersIdeal.main (F := Ideal))) ⟨m', fun _ => 0, g'⟩ (fun r => ∀ c : Dev Cert.MixersIdeal.nD,
          r.2.mem ((c.tc : Thread Cert.MixersIdeal.nD Cert.MixersIdeal.τ).loc Cert.MixersIdeal.main_v125) = v0 c
          ∧ r.2.mem ((c.tc : Thread Cert.MixersIdeal.nD Cert.MixersIdeal.τ).loc Cert.MixersIdeal.main_v145) = v1 c
          ∧ r.2.mem ((c.tc : Thread Cert.MixersIdeal.nD Cert.MixersIdeal.τ).loc Cert.MixersIdeal.main_arg0) = m' ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m' ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m' ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m' ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m' ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m' ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m' ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m' ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m' ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m' ((c.tc : Thread Cert.MixersIdeal.nD Cert.MixersIdeal.τ).loc Cert.MixersIdeal.main_arg9)
          ∧ r.2.mem ((c.tc : Thread Cert.MixersIdeal.nD Cert.MixersIdeal.τ).loc Cert.MixersIdeal.main_arg10) = m' ((c.tc : Thread Cert.MixersIdeal.nD Cert.MixersIdeal.τ).loc Cert.MixersIdeal.main_arg10)
          ∧ r.2.mem ((c.tc : Thread Cert.MixersIdeal.nD Cert.MixersIdeal.τ).loc Cert.MixersIdeal.main_arg11) = m' ((c.tc : Thread Cert.MixersIdeal.nD Cert.MixersIdeal.τ).loc Cert.MixersIdeal.main_arg11)
          ∧ r.2.mem ((c.tc : Thread Cert.MixersIdeal.nD Cert.MixersIdeal.τ).loc Cert.MixersIdeal.main_arg12) = m' ((c.tc : Thread Cert.MixersIdeal.nD Cert.MixersIdeal.τ).loc Cert.MixersIdeal.main_arg12)
          ∧ r.2.mem ((c.tc : Thread Cert.MixersIdeal.nD Cert.MixersIdeal.τ).loc Cert.MixersIdeal.main_arg13) = m' ((c.tc : Thread Cert.MixersIdeal.nD Cert.MixersIdeal.τ).loc Cert.MixersIdeal.main_arg13)
          ∧ r.2.mem ((c.tc : Thread Cert.MixersIdeal.nD Cert.MixersIdeal.τ).loc Cert.MixersIdeal.main_arg14) = m' ((c.tc : Thread Cert.MixersIdeal.nD Cert.MixersIdeal.τ).loc Cert.MixersIdeal.main_arg14)
          ∧ r.2.mem ((c.tc : Thread Cert.MixersIdeal.nD Cert.MixersIdeal.τ).loc Cert.MixersIdeal.main_arg15) = m' ((c.tc : Thread Cert.MixersIdeal.nD Cert.MixersIdeal.τ).loc Cert.MixersIdeal.main_arg15))

def Claim : Prop :=
  ∃ (hKernel : Cert.Kernel.Facts) (hKernelIdeal : Cert.KernelIdeal.Facts) (hReferenceIdeal : Cert.ReferenceIdeal.Facts) (hReference : Cert.Reference.Facts) (hMoe : Cert.Moe.Facts) (hMoeIdeal : Cert.MoeIdeal.Facts) (hExpertsIdeal : Cert.ExpertsIdeal.Facts) (hFinal : Cert.Final.Facts) (hFinalIdeal : Cert.FinalIdeal.Facts) (hNormIdeal : Cert.NormIdeal.Facts) (hFront : Cert.Front.Facts) (hFrontIdeal : Cert.FrontIdeal.Facts) (hProjectIdeal : Cert.ProjectIdeal.Facts) (hMix : Cert.Mix.Facts) (hMixIdeal : Cert.MixIdeal.Facts) (hMixersIdeal : Cert.MixersIdeal.Facts) (hPre_rows_in_range : Cert.Pre_rows_in_range.Facts) (hPre_tiles_in_range : Cert.Pre_tiles_in_range.Facts) (hPre_finite_tiles_in_range : Cert.Pre_finite_tiles_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference) (hPre_rows_in_range := hPre_rows_in_range)
    ∧ quiescent_Moe (hMoe := hMoe) (hPre_tiles_in_range := hPre_tiles_in_range)
    ∧ quiescent_MoeIdeal (hMoeIdeal := hMoeIdeal) (hPre_tiles_in_range := hPre_tiles_in_range)
    ∧ quiescent_MoeIdeal_pre_finite_tiles_in_range (hMoeIdeal := hMoeIdeal) (hPre_finite_tiles_in_range := hPre_finite_tiles_in_range)
    ∧ quiescent_ExpertsIdeal (hExpertsIdeal := hExpertsIdeal)
    ∧ quiescent_ExpertsIdeal_pre_finite_tiles_in_range (hExpertsIdeal := hExpertsIdeal) (hPre_finite_tiles_in_range := hPre_finite_tiles_in_range)
    ∧ quiescent_Final (hFinal := hFinal)
    ∧ quiescent_FinalIdeal (hFinalIdeal := hFinalIdeal)
    ∧ quiescent_NormIdeal (hNormIdeal := hNormIdeal)
    ∧ quiescent_Front (hFront := hFront)
    ∧ quiescent_FrontIdeal (hFrontIdeal := hFrontIdeal)
    ∧ quiescent_ProjectIdeal (hProjectIdeal := hProjectIdeal)
    ∧ quiescent_Mix (hMix := hMix)
    ∧ quiescent_MixIdeal (hMixIdeal := hMixIdeal)
    ∧ quiescent_MixersIdeal (hMixersIdeal := hMixersIdeal)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Moe_MoeIdeal
    ∧ algebraic_MoeIdeal_ExpertsIdeal_pre_finite_tiles_in_range (hMoeIdeal := hMoeIdeal) (hExpertsIdeal := hExpertsIdeal) (hPre_finite_tiles_in_range := hPre_finite_tiles_in_range)
    ∧ preserves_Final_FinalIdeal
    ∧ algebraic_FinalIdeal_NormIdeal (hFinalIdeal := hFinalIdeal) (hNormIdeal := hNormIdeal)
    ∧ preserves_Front_FrontIdeal
    ∧ algebraic_FrontIdeal_ProjectIdeal (hFrontIdeal := hFrontIdeal) (hProjectIdeal := hProjectIdeal)
    ∧ preserves_Mix_MixIdeal
    ∧ algebraic_MixIdeal_MixersIdeal (hMixIdeal := hMixIdeal) (hMixersIdeal := hMixersIdeal)
-- ==== Pre_finite_tiles_in_range.lean ====
abbrev S53248x640 : Shape := ⟨2, ![53248, 640]⟩
abbrev S104 : Shape := ⟨1, ![104]⟩
abbrev S1 : Shape := ⟨1, ![1]⟩
abbrev S16x1024x512 : Shape := ⟨3, ![16, 1024, 512]⟩
abbrev S16x512x1024 : Shape := ⟨3, ![16, 512, 1024]⟩
abbrev S104x512 : Shape := ⟨2, ![104, 512]⟩
abbrev S53248 : Shape := ⟨1, ![53248]⟩
abbrev S53248x512 : Shape := ⟨2, ![53248, 512]⟩
abbrev S53248x512x2 : Shape := ⟨3, ![53248, 512, 2]⟩
abbrev S53248x2 : Shape := ⟨2, ![53248, 2]⟩
abbrev S_ : Shape := ⟨0, ![]⟩
abbrev S53248x1x1 : Shape := ⟨3, ![53248, 1, 1]⟩
abbrev S53248x1 : Shape := ⟨2, ![53248, 1]⟩

class Facts : Prop where
  bcast_S1_S104_0 : S1.BroadcastsInDim S104 (![0] : Fin 1 → Fin S104.rank)
  bcast_S104_S104x512_0 : S104.BroadcastsInDim S104x512 (![0] : Fin 1 → Fin S104x512.rank)
  shapeCasts_S104x512_S53248 : S104x512.ShapeCasts S53248
  slices_S53248x640_S53248x512_0_0 : S53248x640.Slices ![0, 0] S53248x512
  splits_S53248x512_w32_S53248x512x2_w16 : S53248x512.SplitsWords 32 S53248x512x2 16
  bitsLt_bf16_f32 : FTy.bits .bf16 < FTy.bits .f32
  slices_S53248x640_S53248x2_0_512 : S53248x640.Slices ![0, 512] S53248x2
  bcast_S_S53248x512x2 : S_.BroadcastsInDim S53248x512x2 (![] : Fin 0 → Fin S53248x512x2.rank)
  bcast_S53248_S53248x1x1_0 : S53248.BroadcastsInDim S53248x1x1 (![0] : Fin 1 → Fin S53248x1x1.rank)
  bcast_S53248x1x1_S53248x512x2_0_1_2 : S53248x1x1.BroadcastsInDim S53248x512x2 (![0, 1, 2] : Fin 3 → Fin S53248x512x2.rank)
  bcast_S_S53248x2 : S_.BroadcastsInDim S53248x2 (![] : Fin 0 → Fin S53248x2.rank)
  bcast_S53248_S53248x1_0 : S53248.BroadcastsInDim S53248x1 (![0] : Fin 1 → Fin S53248x1.rank)
  bcast_S53248x1_S53248x2_0_1 : S53248x1.BroadcastsInDim S53248x2 (![0, 1] : Fin 2 → Fin S53248x2.rank)
  bcast_S_S16x1024x512 : S_.BroadcastsInDim S16x1024x512 (![] : Fin 0 → Fin S16x1024x512.rank)
  bcast_S_S16x512x1024 : S_.BroadcastsInDim S16x512x1024 (![] : Fin 0 → Fin S16x512x1024.rank)
  bcast_S_S104 : S_.BroadcastsInDim S104 (![] : Fin 0 → Fin S104.rank)
  bcast_S_S1 : S_.BroadcastsInDim S1 (![] : Fin 0 → Fin S1.rank)

variable [Facts]

def fn_part2 {F : FTy → Type} [FloatOps F] (main_arg1 : IVec S104 32) (main_arg2 : IVec S104 32) (main_arg3 : IVec S1 32) (main_arg6 : FVec F S16x512x1024 .f32) (main_v17 : IVec S53248x512x2 1) (main_v25 : IVec S53248x2 1) (main_v30 : IVec S16x1024x512 1) (main_v35 : IVec S16x1024x512 1) (main_v37 : IVec S16x512x1024 1) (main_cst_8 : FVec F S_ .f32) : IVec S53248x512x2 1 × IVec S53248x2 1 × IVec S16x1024x512 1 × IVec S16x1024x512 1 × IVec S16x512x1024 1 × IVec S104 1 × IVec S104 1 × IVec S1 1 :=
  let main_v38 : FVec F S16x512x1024 .f32 := broadcastInDim S16x512x1024 ![] bcast_S_S16x512x1024 main_cst_8
  let main_v39 : IVec S16x512x1024 1 := cmpf .olt main_arg6 main_v38
  let main_v40 : IVec S16x512x1024 1 := andi main_v37 main_v39
  let main_c : IVec S_ 32 := constantI S_ 32 0#32
  let main_v41 : IVec S104 32 := broadcastInDim S104 ![] bcast_S_S104 main_c
  let main_v42 : IVec S104 1 := cmpi .sge main_arg1 main_v41
  let main_c_9 : IVec S_ 32 := constantI S_ 32 16#32
  let main_v43 : IVec S104 32 := broadcastInDim S104 ![] bcast_S_S104 main_c_9
  let main_v44 : IVec S104 1 := cmpi .slt main_arg1 main_v43
  let main_v45 : IVec S104 1 := andi main_v42 main_v44
  let main_c_10 : IVec S_ 32 := constantI S_ 32 0#32
  let main_v46 : IVec S104 32 := broadcastInDim S104 ![] bcast_S_S104 main_c_10
  let main_v47 : IVec S104 1 := cmpi .sge main_arg2 main_v46
  let main_c_11 : IVec S_ 32 := constantI S_ 32 16#32
  let main_v48 : IVec S104 32 := broadcastInDim S104 ![] bcast_S_S104 main_c_11
  let main_v49 : IVec S104 1 := cmpi .slt main_arg2 main_v48
  let main_v50 : IVec S104 1 := andi main_v47 main_v49
  let main_c_12 : IVec S_ 32 := constantI S_ 32 1#32
  let main_v51 : IVec S1 32 := broadcastInDim S1 ![] bcast_S_S1 main_c_12
  let main_v52 : IVec S1 1 := cmpi .sge main_arg3 main_v51
  let main_c_13 : IVec S_ 32 := constantI S_ 32 104#32
  let main_v53 : IVec S1 32 := broadcastInDim S1 ![] bcast_S_S1 main_c_13
  let main_v54 : IVec S1 1 := cmpi .sle main_arg3 main_v53
  let main_v55 : IVec S1 1 := andi main_v52 main_v54
  (main_v17, main_v25, main_v30, main_v35, main_v40, main_v45, main_v50, main_v55)

def fn_part1 {F : FTy → Type} [FloatOps F] (main_arg1 : IVec S104 32) (main_arg2 : IVec S104 32) (main_arg3 : IVec S1 32) (main_arg4 : FVec F S16x1024x512 .f32) (main_arg5 : FVec F S16x1024x512 .f32) (main_arg6 : FVec F S16x512x1024 .f32) (main_v4 : IVec S53248 1) (main_v9 : FVec F S53248x2 .f32) (main_v17 : IVec S53248x512x2 1) (main_v19 : IVec S53248x2 1) (main_cst_2 : FVec F S_ .f32) : IVec S53248x512x2 1 × IVec S53248x2 1 × IVec S16x1024x512 1 × IVec S16x1024x512 1 × IVec S16x512x1024 1 × IVec S104 1 × IVec S104 1 × IVec S1 1 :=
  let main_v20 : FVec F S53248x2 .f32 := broadcastInDim S53248x2 ![] bcast_S_S53248x2 main_cst_2
  let main_v21 : IVec S53248x2 1 := cmpf .olt main_v9 main_v20
  let main_v22 : IVec S53248x2 1 := andi main_v19 main_v21
  let main_v23 : IVec S53248x1 1 := broadcastInDim S53248x1 ![0] bcast_S53248_S53248x1_0 main_v4
  let main_v24 : IVec S53248x2 1 := broadcastInDim S53248x2 ![0, 1] bcast_S53248x1_S53248x2_0_1 main_v23
  let main_v25 : IVec S53248x2 1 := ori main_v22 main_v24
  let main_cst_3 : FVec F S_ .f32 := constant S_ .f32 0xFF800000#32
  let main_v26 : FVec F S16x1024x512 .f32 := broadcastInDim S16x1024x512 ![] bcast_S_S16x1024x512 main_cst_3
  let main_v27 : IVec S16x1024x512 1 := cmpf .ogt main_arg4 main_v26
  let main_cst_4 : FVec F S_ .f32 := constant S_ .f32 0x7F800000#32
  let main_v28 : FVec F S16x1024x512 .f32 := broadcastInDim S16x1024x512 ![] bcast_S_S16x1024x512 main_cst_4
  let main_v29 : IVec S16x1024x512 1 := cmpf .olt main_arg4 main_v28
  let main_v30 : IVec S16x1024x512 1 := andi main_v27 main_v29
  let main_cst_5 : FVec F S_ .f32 := constant S_ .f32 0xFF800000#32
  let main_v31 : FVec F S16x1024x512 .f32 := broadcastInDim S16x1024x512 ![] bcast_S_S16x1024x512 main_cst_5
  let main_v32 : IVec S16x1024x512 1 := cmpf .ogt main_arg5 main_v31
  let main_cst_6 : FVec F S_ .f32 := constant S_ .f32 0x7F800000#32
  let main_v33 : FVec F S16x1024x512 .f32 := broadcastInDim S16x1024x512 ![] bcast_S_S16x1024x512 main_cst_6
  let main_v34 : IVec S16x1024x512 1 := cmpf .olt main_arg5 main_v33
  let main_v35 : IVec S16x1024x512 1 := andi main_v32 main_v34
  let main_cst_7 : FVec F S_ .f32 := constant S_ .f32 0xFF800000#32
  let main_v36 : FVec F S16x512x1024 .f32 := broadcastInDim S16x512x1024 ![] bcast_S_S16x512x1024 main_cst_7
  let main_v37 : IVec S16x512x1024 1 := cmpf .ogt main_arg6 main_v36
  let main_cst_8 : FVec F S_ .f32 := constant S_ .f32 0x7F800000#32
  fn_part2 (F := F) main_arg1 main_arg2 main_arg3 main_arg6 main_v17 main_v25 main_v30 main_v35 main_v37 main_cst_8

def fn {F : FTy → Type} [FloatOps F] (main_arg0 : IVec S53248x640 32) (main_arg1 : IVec S104 32) (main_arg2 : IVec S104 32) (main_arg3 : IVec S1 32) (main_arg4 : FVec F S16x1024x512 .f32) (main_arg5 : FVec F S16x1024x512 .f32) (main_arg6 : FVec F S16x512x1024 .f32) : IVec S53248x512x2 1 × IVec S53248x2 1 × IVec S16x1024x512 1 × IVec S16x1024x512 1 × IVec S16x512x1024 1 × IVec S104 1 × IVec S104 1 × IVec S1 1 :=
  let main_v0 : IVec S104 32 := iotaInDim S104 32 0
  let main_v1 : IVec S104 32 := broadcastInDim S104 ![0] bcast_S1_S104_0 main_arg3
  let main_v2 : IVec S104 1 := cmpi .sge main_v0 main_v1
  let main_v3 : IVec S104x512 1 := broadcastInDim S104x512 ![0] bcast_S104_S104x512_0 main_v2
  let main_v4 : IVec S53248 1 := shapeCast S53248 main_v3 shapeCasts_S104x512_S53248
  let main_v5 : IVec S53248x512 32 := (extractStridedSlice S53248x512 ![0, 0] · slices_S53248x640_S53248x512_0_0) main_arg0
  let main_v6 : FVec F S53248x512x2 .bf16 := (fun x => bitcastToFloat .bf16 (Host.bitcastConvertNarrow S53248x512x2 16 x splits_S53248x512_w32_S53248x512x2_w16)) main_v5
  let main_v7 : FVec F S53248x512x2 .f32 := (extf .f32 · bitsLt_bf16_f32) main_v6
  let main_v8 : IVec S53248x2 32 := (extractStridedSlice S53248x2 ![0, 512] · slices_S53248x640_S53248x2_0_512) main_arg0
  let main_v9 : FVec F S53248x2 .f32 := bitcastToFloat .f32 main_v8
  let main_cst : FVec F S_ .f32 := constant S_ .f32 0xFF800000#32
  let main_v10 : FVec F S53248x512x2 .f32 := broadcastInDim S53248x512x2 ![] bcast_S_S53248x512x2 main_cst
  let main_v11 : IVec S53248x512x2 1 := cmpf .ogt main_v7 main_v10
  let main_cst_0 : FVec F S_ .f32 := constant S_ .f32 0x7F800000#32
  let main_v12 : FVec F S53248x512x2 .f32 := broadcastInDim S53248x512x2 ![] bcast_S_S53248x512x2 main_cst_0
  let main_v13 : IVec S53248x512x2 1 := cmpf .olt main_v7 main_v12
  let main_v14 : IVec S53248x512x2 1 := andi main_v11 main_v13
  let main_v15 : IVec S53248x1x1 1 := broadcastInDim S53248x1x1 ![0] bcast_S53248_S53248x1x1_0 main_v4
  let main_v16 : IVec S53248x512x2 1 := broadcastInDim S53248x512x2 ![0, 1, 2] bcast_S53248x1x1_S53248x512x2_0_1_2 main_v15
  let main_v17 : IVec S53248x512x2 1 := ori main_v14 main_v16
  let main_cst_1 : FVec F S_ .f32 := constant S_ .f32 0xFF800000#32
  let main_v18 : FVec F S53248x2 .f32 := broadcastInDim S53248x2 ![] bcast_S_S53248x2 main_cst_1
  let main_v19 : IVec S53248x2 1 := cmpf .ogt main_v9 main_v18
  let main_cst_2 : FVec F S_ .f32 := constant S_ .f32 0x7F800000#32
  fn_part1 (F := F) main_arg1 main_arg2 main_arg3 main_arg4 main_arg5 main_arg6 main_v4 main_v9 main_v17 main_v19 main_cst_2
-- ==== Pre_rows_in_range.lean ====
abbrev S53248x512 : Shape := ⟨2, ![53248, 512]⟩
abbrev S1x40960 : Shape := ⟨2, ![1, 40960]⟩
abbrev S_ : Shape := ⟨0, ![]⟩

class Facts : Prop where
  bcast_S_S1x40960 : S_.BroadcastsInDim S1x40960 (![] : Fin 0 → Fin S1x40960.rank)

variable [Facts]

def fn {F : FTy → Type} [FloatOps F] (main_arg0 : IVec S53248x512 32) (main_arg1 : IVec S1x40960 32) : IVec S1x40960 1 :=
  let main_c : IVec S_ 32 := constantI S_ 32 0#32
  let main_v0 : IVec S1x40960 32 := broadcastInDim S1x40960 ![] bcast_S_S1x40960 main_c
  let main_v1 : IVec S1x40960 1 := cmpi .sge main_arg1 main_v0
  let main_c_0 : IVec S_ 32 := constantI S_ 32 53248#32
  let main_v2 : IVec S1x40960 32 := broadcastInDim S1x40960 ![] bcast_S_S1x40960 main_c_0
  let main_v3 : IVec S1x40960 1 := cmpi .slt main_arg1 main_v2
  let main_v4 : IVec S1x40960 1 := andi main_v1 main_v3
  main_v4
-- ==== Pre_tiles_in_range.lean ====
abbrev S53248x640 : Shape := ⟨2, ![53248, 640]⟩
abbrev S104 : Shape := ⟨1, ![104]⟩
abbrev S1 : Shape := ⟨1, ![1]⟩
abbrev S16x1024x512 : Shape := ⟨3, ![16, 1024, 512]⟩
abbrev S16x512x1024 : Shape := ⟨3, ![16, 512, 1024]⟩
abbrev S_ : Shape := ⟨0, ![]⟩

class Facts : Prop where
  bcast_S_S104 : S_.BroadcastsInDim S104 (![] : Fin 0 → Fin S104.rank)
  bcast_S_S1 : S_.BroadcastsInDim S1 (![] : Fin 0 → Fin S1.rank)

variable [Facts]

def fn {F : FTy → Type} [FloatOps F] (main_arg0 : IVec S53248x640 32) (main_arg1 : IVec S104 32) (main_arg2 : IVec S104 32) (main_arg3 : IVec S1 32) (main_arg4 : FVec F S16x1024x512 .f32) (main_arg5 : FVec F S16x1024x512 .f32) (main_arg6 : FVec F S16x512x1024 .f32) : IVec S104 1 × IVec S104 1 × IVec S1 1 :=
  let main_c : IVec S_ 32 := constantI S_ 32 0#32
  let main_v0 : IVec S104 32 := broadcastInDim S104 ![] bcast_S_S104 main_c
  let main_v1 : IVec S104 1 := cmpi .sge main_arg1 main_v0
  let main_c_0 : IVec S_ 32 := constantI S_ 32 16#32
  let main_v2 : IVec S104 32 := broadcastInDim S104 ![] bcast_S_S104 main_c_0
  let main_v3 : IVec S104 1 := cmpi .slt main_arg1 main_v2
  let main_v4 : IVec S104 1 := andi main_v1 main_v3
  let main_c_1 : IVec S_ 32 := constantI S_ 32 0#32
  let main_v5 : IVec S104 32 := broadcastInDim S104 ![] bcast_S_S104 main_c_1
  let main_v6 : IVec S104 1 := cmpi .sge main_arg2 main_v5
  let main_c_2 : IVec S_ 32 := constantI S_ 32 16#32
  let main_v7 : IVec S104 32 := broadcastInDim S104 ![] bcast_S_S104 main_c_2
  let main_v8 : IVec S104 1 := cmpi .slt main_arg2 main_v7
  let main_v9 : IVec S104 1 := andi main_v6 main_v8
  let main_c_3 : IVec S_ 32 := constantI S_ 32 1#32
  let main_v10 : IVec S1 32 := broadcastInDim S1 ![] bcast_S_S1 main_c_3
  let main_v11 : IVec S1 1 := cmpi .sge main_arg3 main_v10
  let main_c_4 : IVec S_ 32 := constantI S_ 32 104#32
  let main_v12 : IVec S1 32 := broadcastInDim S1 ![] bcast_S_S1 main_c_4
  let main_v13 : IVec S1 1 := cmpi .sle main_arg3 main_v12
  let main_v14 : IVec S1 1 := andi main_v11 main_v13
  (main_v4, main_v9, main_v14)
-- ==== Kernel.lean ====
abbrev S53248x512 : Shape := ⟨2, ![53248, 512]⟩
abbrev S1x40960 : Shape := ⟨2, ![1, 40960]⟩
abbrev S40960x512 : Shape := ⟨2, ![40960, 512]⟩
abbrev S2x1x128 : Shape := ⟨3, ![2, 1, 128]⟩
abbrev S2 : Shape := ⟨1, ![2]⟩
abbrev S2x64x512 : Shape := ⟨3, ![2, 64, 512]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S53248x128 : Shape := ⟨2, ![53248, 128]⟩

abbrev nBuf : Table → Nat
  | .hbm => 3
  | .local .scVector .vmem => 2
  | _ => 0

abbrev bufTy : (tb : Table) → Fin (nBuf tb) → BufTy
  | .hbm, ⟨0, _⟩ => ⟨S53248x512, .i32⟩
  | .hbm, ⟨1, _⟩ => ⟨S1x40960, .i32⟩
  | .hbm, ⟨2, _⟩ => ⟨S40960x512, .i32⟩
  | .local .scVector .vmem, ⟨0, _⟩ => ⟨S2x1x128, .i32⟩
  | .local .scVector .vmem, ⟨1, _⟩ => ⟨S2x64x512, .i32⟩
  | _, _ => ⟨S53248x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_26_r0 : BitVec 32 := 0#32
  let c2_i32_27_r0 : BitVec 32 := 2#32
  let v34_r0 : BitVec 32 := Scalar.remui c0_i32_26_r0 c2_i32_27_r0
  let c0_i32_28_r0 : BitVec 32 := 0#32
  let c0_i32_29_r0 : BitVec 32 := 0#32
  ![v34_r0.toNat, 0, 0]
def k0_off2 (i : grid0.Coords) : Fin 2 → Nat :=
  let c0_i32_30_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v35_r0 : BitVec 32 := Scalar.muli c128_i32_r0 v7_r0
  ![0, v35_r0.toNat]
def k0_off3 : Fin 1 → Nat :=
  let c0_i32_26_r0 : BitVec 32 := 0#32
  let c2_i32_27_r0 : BitVec 32 := 2#32
  let v34_r0 : BitVec 32 := Scalar.remui c0_i32_26_r0 c2_i32_27_r0
  ![v34_r0.toNat]
@[reducible] def k0_t1_loop : Scf.Loop 32 :=
  let c0_i32_41_r0 : BitVec 32 := 0#32
  let c20_i32_r0 : BitVec 32 := 20#32
  let v45_r0 : BitVec 32 := Scalar.addi c0_i32_41_r0 c20_i32_r0
  let c1_i32_42_r0 : BitVec 32 := 1#32
  ⟨c0_i32_41_r0, v45_r0, c1_i32_42_r0⟩
def k0_off4 (arg6_r0 : BitVec 32) : Fin 3 → Nat :=
  let c2_i32_154_r0 : BitVec 32 := 2#32
  let v209_r0 : BitVec 32 := Scalar.remui arg6_r0 c2_i32_154_r0
  let c0_i32_156_r0 : BitVec 32 := 0#32
  let c0_i32_157_r0 : BitVec 32 := 0#32
  ![v209_r0.toNat, 0, 0]
def k0_cond1 (i : grid0.Coords) (k0_t1 : Fin k0_t1_loop.trips) (arg10_r0 : BitVec 32) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let true_95_r0 : BitVec 1 := 1#1
  let c1_i32_94_r0 : BitVec 32 := 1#32
  let v113_r0 : BitVec 32 := Scalar.addi arg11_r0 c1_i32_94_r0
  let v114_r0 : BitVec 32 := Scalar.select true_95_r0 v113_r0 arg11_r0
  let c2_i32_96_r0 : BitVec 32 := 2#32
  let v115_r0 : BitVec 1 := Scalar.cmpi .eq v114_r0 c2_i32_96_r0
  let c1_i32_98_r0 : BitVec 32 := 1#32
  let v117_r0 : BitVec 32 := Scalar.addi arg10_r0 c1_i32_98_r0
  let v118_r0 : BitVec 32 := Scalar.select v115_r0 v117_r0 arg10_r0
  let c10_i32_99_r0 : BitVec 32 := 10#32
  let v119_r0 : BitVec 1 := Scalar.cmpi .eq v118_r0 c10_i32_99_r0
  let c0_i32_100_r0 : BitVec 32 := 0#32
  let v120_r0 : BitVec 32 := Scalar.select v119_r0 c0_i32_100_r0 v118_r0
  let v121_r0 : BitVec 32 := Scalar.addi v120_r0 v4
  let v133_r0 : BitVec 1 := Scalar.cmpi .ne v101_r0 v121_r0
  let c0_i32_41_r0 : BitVec 32 := 0#32
  let c1_i32_42_r0 : BitVec 32 := 1#32
  let arg5_r0 : BitVec 32 := Scf.iv c0_i32_41_r0 c1_i32_42_r0 k0_t1
  let c19_i32_110_r0 : BitVec 32 := 19#32
  let v134_r0 : BitVec 1 := Scalar.cmpi .sge arg5_r0 c19_i32_110_r0
  let true_111_r0 : BitVec 1 := 1#1
  let v135_r0 : BitVec 1 := Scalar.xori v134_r0 true_111_r0
  let v136_r0 : BitVec 1 := Scalar.andi v133_r0 v135_r0
  let true_112_r0 : BitVec 1 := 1#1
  let v137_r0 : BitVec 1 := Scalar.andi v136_r0 true_112_r0
  let v138_r0 : BitVec 32 := Scalar.extui v137_r0
  let c0_i32_113_r0 : BitVec 32 := 0#32
  let v139_r0 : BitVec 1 := Scalar.cmpi .ne v138_r0 c0_i32_113_r0
  v139_r0

def k0_off5 (i : grid0.Coords) (arg10_r0 : BitVec 32) (arg11_r0 : BitVec 32) : Fin 2 → Nat :=
  let c0_i32_158_r0 : BitVec 32 := 0#32
  let c128_i32_155_r0 : BitVec 32 := 128#32
  let true_95_r0 : BitVec 1 := 1#1
  let c1_i32_94_r0 : BitVec 32 := 1#32
  let v113_r0 : BitVec 32 := Scalar.addi arg11_r0 c1_i32_94_r0
  let v114_r0 : BitVec 32 := Scalar.select true_95_r0 v113_r0 arg11_r0
  let c2_i32_96_r0 : BitVec 32 := 2#32
  let v115_r0 : BitVec 1 := Scalar.cmpi .eq v114_r0 c2_i32_96_r0
  let c1_i32_98_r0 : BitVec 32 := 1#32
  let v117_r0 : BitVec 32 := Scalar.addi arg10_r0 c1_i32_98_r0
  let v118_r0 : BitVec 32 := Scalar.select v115_r0 v117_r0 arg10_r0
  let c10_i32_99_r0 : BitVec 32 := 10#32
  let v119_r0 : BitVec 1 := Scalar.cmpi .eq v118_r0 c10_i32_99_r0
  let c0_i32_100_r0 : BitVec 32 := 0#32
  let v120_r0 : BitVec 32 := Scalar.select v119_r0 c0_i32_100_r0 v118_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v121_r0 : BitVec 32 := Scalar.addi v120_r0 v4
  let v210_r0 : BitVec 32 := Scalar.muli c128_i32_155_r0 v121_r0
  ![0, v210_r0.toNat]
def k0_off6 (arg6_r0 : BitVec 32) : Fin 1 → Nat :=
  let c2_i32_154_r0 : BitVec 32 := 2#32
  let v209_r0 : BitVec 32 := Scalar.remui arg6_r0 c2_i32_154_r0
  ![v209_r0.toNat]
def k0_off7 (arg7_r0 : BitVec 32) : Fin 3 → Nat :=
  let c2_i32_155_r0 : BitVec 32 := 2#32
  let v210_r0 : BitVec 32 := Scalar.remui arg7_r0 c2_i32_155_r0
  let c0_i32_156_r0 : BitVec 32 := 0#32
  let c0_i32_157_r0 : BitVec 32 := 0#32
  ![v210_r0.toNat, 0, 0]
def k0_cond2 (i : grid0.Coords) (k0_t1 : Fin k0_t1_loop.trips) (arg10_r0 : BitVec 32) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let true_87_r0 : BitVec 1 := 1#1
  let c1_i32_86_r0 : BitVec 32 := 1#32
  let v103_r0 : BitVec 32 := Scalar.subi arg11_r0 c1_i32_86_r0
  let v104_r0 : BitVec 32 := Scalar.select true_87_r0 v103_r0 arg11_r0
  let c_m1_i32_88_r0 : BitVec 32 := 4294967295#32
  let v105_r0 : BitVec 1 := Scalar.cmpi .eq v104_r0 c_m1_i32_88_r0
  let c1_i32_90_r0 : BitVec 32 := 1#32
  let v107_r0 : BitVec 32 := Scalar.subi arg10_r0 c1_i32_90_r0
  let v108_r0 : BitVec 32 := Scalar.select v105_r0 v107_r0 arg10_r0
  let c_m1_i32_91_r0 : BitVec 32 := 4294967295#32
  let v109_r0 : BitVec 1 := Scalar.cmpi .eq v108_r0 c_m1_i32_91_r0
  let c9_i32_92_r0 : BitVec 32 := 9#32
  let v110_r0 : BitVec 32 := Scalar.select v109_r0 c9_i32_92_r0 v108_r0
  let v111_r0 : BitVec 32 := Scalar.addi v110_r0 v4
  let v151_r0 : BitVec 1 := Scalar.cmpi .ne v101_r0 v111_r0
  let c0_i32_41_r0 : BitVec 32 := 0#32
  let c1_i32_42_r0 : BitVec 32 := 1#32
  let arg5_r0 : BitVec 32 := Scf.iv c0_i32_41_r0 c1_i32_42_r0 k0_t1
  let c0_i32_84_r0 : BitVec 32 := 0#32
  let v99_r0 : BitVec 1 := Scalar.cmpi .eq arg5_r0 c0_i32_84_r0
  let v152_r0 : BitVec 1 := Scalar.ori v151_r0 v99_r0
  let c0_i32_120_r0 : BitVec 32 := 0#32
  let v153_r0 : BitVec 1 := Scalar.cmpi .sge arg5_r0 c0_i32_120_r0
  let v154_r0 : BitVec 1 := Scalar.andi v152_r0 v153_r0
  let v155_r0 : BitVec 32 := Scalar.extui v154_r0
  let c0_i32_121_r0 : BitVec 32 := 0#32
  let v156_r0 : BitVec 1 := Scalar.cmpi .ne v155_r0 c0_i32_121_r0
  v156_r0

def k0_off8 (i : grid0.Coords) (arg10_r0 : BitVec 32) : Fin 2 → Nat :=
  let c0_i32_158_r0 : BitVec 32 := 0#32
  let c128_i32_154_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let v209_r0 : BitVec 32 := Scalar.muli c128_i32_154_r0 v101_r0
  ![0, v209_r0.toNat]
def k0_off9 (arg7_r0 : BitVec 32) : Fin 1 → Nat :=
  let c2_i32_155_r0 : BitVec 32 := 2#32
  let v210_r0 : BitVec 32 := Scalar.remui arg7_r0 c2_i32_155_r0
  ![v210_r0.toNat]
def k0_off10 (arg8_r0 : BitVec 32) : Fin 3 → Nat :=
  let c2_i32_126_r0 : BitVec 32 := 2#32
  let v166_r0 : BitVec 32 := Scalar.remui arg8_r0 c2_i32_126_r0
  let c0_i32_154_r1 : BitVec 32 := 0#32
  let c0_i32_155_r1 : BitVec 32 := 0#32
  ![v166_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_125_r0 : BitVec 32 := 2#32
  let v165_r0 : BitVec 32 := Scalar.remui arg7_r0 c2_i32_125_r0
  let c0_i32_158_r1 : BitVec 32 := 0#32
  let c0_i32_159_r1 : BitVec 32 := 0#32
  ![v165_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg11_r0 : BitVec 32) : Fin 2 → Nat :=
  let c0_i32_128_r0 : BitVec 32 := 0#32
  let c0_i32_85_r0 : BitVec 32 := 0#32
  let v102_r0 : BitVec 32 := Scalar.addi arg11_r0 c0_i32_85_r0
  let c64_i32_127_r0 : BitVec 32 := 64#32
  let v167_r0 : BitVec 32 := Scalar.muli v102_r0 c64_i32_127_r0
  ![0, v167_r0.toNat]
def k0_off13 (arg8_r0 : BitVec 32) : Fin 3 → Nat :=
  let c2_i32_154_r0 : BitVec 32 := 2#32
  let v209_r0 : BitVec 32 := Scalar.remui arg8_r0 c2_i32_154_r0
  let c0_i32_157_r0 : BitVec 32 := 0#32
  let c0_i32_158_r0 : BitVec 32 := 0#32
  ![v209_r0.toNat, 0, 0]
def k0_cond5 (i : grid0.Coords) (k0_t1 : Fin k0_t1_loop.trips) (arg10_r0 : BitVec 32) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let c2_i32_116_r0 : BitVec 32 := 2#32
  let v143_r0 : BitVec 32 := Scalar.muli v101_r0 c2_i32_116_r0
  let c0_i32_85_r0 : BitVec 32 := 0#32
  let v102_r0 : BitVec 32 := Scalar.addi arg11_r0 c0_i32_85_r0
  let v144_r0 : BitVec 32 := Scalar.addi v143_r0 v102_r0
  let true_95_r0 : BitVec 1 := 1#1
  let c1_i32_94_r0 : BitVec 32 := 1#32
  let v113_r0 : BitVec 32 := Scalar.addi arg11_r0 c1_i32_94_r0
  let v114_r0 : BitVec 32 := Scalar.select true_95_r0 v113_r0 arg11_r0
  let c2_i32_96_r0 : BitVec 32 := 2#32
  let v115_r0 : BitVec 1 := Scalar.cmpi .eq v114_r0 c2_i32_96_r0
  let c1_i32_98_r0 : BitVec 32 := 1#32
  let v117_r0 : BitVec 32 := Scalar.addi arg10_r0 c1_i32_98_r0
  let v118_r0 : BitVec 32 := Scalar.select v115_r0 v117_r0 arg10_r0
  let c10_i32_99_r0 : BitVec 32 := 10#32
  let v119_r0 : BitVec 1 := Scalar.cmpi .eq v118_r0 c10_i32_99_r0
  let c0_i32_100_r0 : BitVec 32 := 0#32
  let v120_r0 : BitVec 32 := Scalar.select v119_r0 c0_i32_100_r0 v118_r0
  let v121_r0 : BitVec 32 := Scalar.addi v120_r0 v4
  let c2_i32_117_r0 : BitVec 32 := 2#32
  let v145_r0 : BitVec 32 := Scalar.muli v121_r0 c2_i32_117_r0
  let c0_i32_97_r0 : BitVec 32 := 0#32
  let v116_r0 : BitVec 32 := Scalar.select v115_r0 c0_i32_97_r0 v114_r0
  let c0_i32_101_r0 : BitVec 32 := 0#32
  let v122_r0 : BitVec 32 := Scalar.addi v116_r0 c0_i32_101_r0
  let v146_r0 : BitVec 32 := Scalar.addi v145_r0 v122_r0
  let v176_r0 : BitVec 1 := Scalar.cmpi .ne v144_r0 v146_r0
  let c0_i32_41_r0 : BitVec 32 := 0#32
  let c1_i32_42_r0 : BitVec 32 := 1#32
  let arg5_r0 : BitVec 32 := Scf.iv c0_i32_41_r0 c1_i32_42_r0 k0_t1
  let c19_i32_r0 : BitVec 32 := 19#32
  let v100_r0 : BitVec 1 := Scalar.cmpi .eq arg5_r0 c19_i32_r0
  let v177_r0 : BitVec 1 := Scalar.ori v176_r0 v100_r0
  let v178_r0 : BitVec 32 := Scalar.extui v177_r0
  let c0_i32_136_r0 : BitVec 32 := 0#32
  let v179_r0 : BitVec 1 := Scalar.cmpi .ne v178_r0 c0_i32_136_r0
  v179_r0

def k0_off14 (i : grid0.Coords) (arg10_r0 : BitVec 32) (arg11_r0 : BitVec 32) : Fin 2 → Nat :=
  let c64_i32_156_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let c2_i32_155_r0 : BitVec 32 := 2#32
  let v210_r0 : BitVec 32 := Scalar.muli v101_r0 c2_i32_155_r0
  let c0_i32_85_r0 : BitVec 32 := 0#32
  let v102_r0 : BitVec 32 := Scalar.addi arg11_r0 c0_i32_85_r0
  let v211_r0 : BitVec 32 := Scalar.addi v210_r0 v102_r0
  let v212_r0 : BitVec 32 := Scalar.muli c64_i32_156_r0 v211_r0
  let c0_i32_159_r0 : BitVec 32 := 0#32
  ![v212_r0.toNat, 0]
def k0_off15 (arg8_r0 : BitVec 32) : Fin 1 → Nat :=
  let c2_i32_154_r0 : BitVec 32 := 2#32
  let v209_r0 : BitVec 32 := Scalar.remui arg8_r0 c2_i32_154_r0
  ![v209_r0.toNat]
def k0_off16 (arg9_r0 : BitVec 32) : Fin 3 → Nat :=
  let c2_i32_154_r0 : BitVec 32 := 2#32
  let v209_r0 : BitVec 32 := Scalar.remui arg9_r0 c2_i32_154_r0
  let c0_i32_157_r0 : BitVec 32 := 0#32
  let c0_i32_158_r0 : BitVec 32 := 0#32
  ![v209_r0.toNat, 0, 0]
def k0_cond7 (i : grid0.Coords) (k0_t1 : Fin k0_t1_loop.trips) (arg10_r0 : BitVec 32) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v101_r0 : BitVec 32 := Scalar.addi arg10_r0 v4
  let c2_i32_116_r0 : BitVec 32 := 2#32
  let v143_r0 : BitVec 32 := Scalar.muli v101_r0 c2_i32_116_r0
  let c0_i32_85_r0 : BitVec 32 := 0#32
  let v102_r0 : BitVec 32 := Scalar.addi arg11_r0 c0_i32_85_r0
  let v144_r0 : BitVec 32 := Scalar.addi v143_r0 v102_r0
  let true_87_r0 : BitVec 1 := 1#1
  let c1_i32_86_r0 : BitVec 32 := 1#32
  let v103_r0 : BitVec 32 := Scalar.subi arg11_r0 c1_i32_86_r0
  let v104_r0 : BitVec 32 := Scalar.select true_87_r0 v103_r0 arg11_r0
  let c_m1_i32_88_r0 : BitVec 32 := 4294967295#32
  let v105_r0 : BitVec 1 := Scalar.cmpi .eq v104_r0 c_m1_i32_88_r0
  let c1_i32_90_r0 : BitVec 32 := 1#32
  let v107_r0 : BitVec 32 := Scalar.subi arg10_r0 c1_i32_90_r0
  let v108_r0 : BitVec 32 := Scalar.select v105_r0 v107_r0 arg10_r0
  let c_m1_i32_91_r0 : BitVec 32 := 4294967295#32
  let v109_r0 : BitVec 1 := Scalar.cmpi .eq v108_r0 c_m1_i32_91_r0
  let c9_i32_92_r0 : BitVec 32 := 9#32
  let v110_r0 : BitVec 32 := Scalar.select v109_r0 c9_i32_92_r0 v108_r0
  let v111_r0 : BitVec 32 := Scalar.addi v110_r0 v4
  let c2_i32_122_r0 : BitVec 32 := 2#32
  let v157_r0 : BitVec 32 := Scalar.muli v111_r0 c2_i32_122_r0
  let c1_i32_89_r0 : BitVec 32 := 1#32
  let v106_r0 : BitVec 32 := Scalar.select v105_r0 c1_i32_89_r0 v104_r0
  let c0_i32_93_r0 : BitVec 32 := 0#32
  let v112_r0 : BitVec 32 := Scalar.addi v106_r0 c0_i32_93_r0
  let v158_r0 : BitVec 32 := Scalar.addi v157_r0 v112_r0
  let v189_r0 : BitVec 1 := Scalar.cmpi .ne v144_r0 v158_r0
  let c0_i32_41_r0 : BitVec 32 := 0#32
  let c1_i32_42_r0 : BitVec 32 := 1#32
  let arg5_r0 : BitVec 32 := Scf.iv c0_i32_41_r0 c1_i32_42_r0 k0_t1
  let c0_i32_84_r0 : BitVec 32 := 0#32
  let v99_r0 : BitVec 1 := Scalar.cmpi .eq arg5_r0 c0_i32_84_r0
  let true_142_r0 : BitVec 1 := 1#1
  let v190_r0 : BitVec 1 := Scalar.xori v99_r0 true_142_r0
  let v191_r0 : BitVec 1 := Scalar.andi v189_r0 v190_r0
  let v192_r0 : BitVec 32 := Scalar.extui v191_r0
  let c0_i32_143_r0 : BitVec 32 := 0#32
  let v193_r0 : BitVec 1 := Scalar.cmpi .ne v192_r0 c0_i32_143_r0
  v193_r0

def k0_off17 (i : grid0.Coords) (arg10_r0 : BitVec 32) (arg11_r0 : BitVec 32) : Fin 2 → Nat :=
  let c64_i32_156_r0 : BitVec 32 := 64#32
  let true_87_r0 : BitVec 1 := 1#1
  let c1_i32_86_r0 : BitVec 32 := 1#32
  let v103_r0 : BitVec 32 := Scalar.subi arg11_r0 c1_i32_86_r0
  let v104_r0 : BitVec 32 := Scalar.select true_87_r0 v103_r0 arg11_r0
  let c_m1_i32_88_r0 : BitVec 32 := 4294967295#32
  let v105_r0 : BitVec 1 := Scalar.cmpi .eq v104_r0 c_m1_i32_88_r0
  let c1_i32_90_r0 : BitVec 32 := 1#32
  let v107_r0 : BitVec 32 := Scalar.subi arg10_r0 c1_i32_90_r0
  let v108_r0 : BitVec 32 := Scalar.select v105_r0 v107_r0 arg10_r0
  let c_m1_i32_91_r0 : BitVec 32 := 4294967295#32
  let v109_r0 : BitVec 1 := Scalar.cmpi .eq v108_r0 c_m1_i32_91_r0
  let c9_i32_92_r0 : BitVec 32 := 9#32
  let v110_r0 : BitVec 32 := Scalar.select v109_r0 c9_i32_92_r0 v108_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v111_r0 : BitVec 32 := Scalar.addi v110_r0 v4
  let c2_i32_155_r0 : BitVec 32 := 2#32
  let v210_r0 : BitVec 32 := Scalar.muli v111_r0 c2_i32_155_r0
  let c1_i32_89_r0 : BitVec 32 := 1#32
  let v106_r0 : BitVec 32 := Scalar.select v105_r0 c1_i32_89_r0 v104_r0
  let c0_i32_93_r0 : BitVec 32 := 0#32
  let v112_r0 : BitVec 32 := Scalar.addi v106_r0 c0_i32_93_r0
  let v211_r0 : BitVec 32 := Scalar.addi v210_r0 v112_r0
  let v212_r0 : BitVec 32 := Scalar.muli c64_i32_156_r0 v211_r0
  let c0_i32_159_r0 : BitVec 32 := 0#32
  ![v212_r0.toNat, 0]
def k0_off18 (arg9_r0 : BitVec 32) : Fin 1 → Nat :=
  let c2_i32_154_r0 : BitVec 32 := 2#32
  let v209_r0 : BitVec 32 := Scalar.remui arg9_r0 c2_i32_154_r0
  ![v209_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x128.size a ≤ S2x1x128.size a) ∧
  (∀ (k0_h1 : k0_cond1 i k0_t1 arg10_r0 arg11_r0 = 1#1), ∀ a, (k0_off5 i arg10_r0 arg11_r0) a + S1x128.size a ≤ S1x40960.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x128.size a ≤ S2x1x128.size a) ∧
  (∀ (k0_h2 : k0_cond2 i k0_t1 arg10_r0 arg11_r0 = 1#1), ∀ a, (k0_off8 i arg10_r0) a + S1x128.size a ≤ S1x40960.size a) ∧
  (∀ (k0_h2 : k0_cond2 i k0_t1 arg10_r0 arg11_r0 = 1#1), ∀ a, (k0_off9 arg7_r0) a + S1.size a ≤ S2.size a) ∧
  (∀ a, (k0_off12 arg11_r0) a + S1x64.size a ≤ S1x128.size a) ∧
  (∀ (k0_h5 : k0_cond5 i k0_t1 arg10_r0 arg11_r0 = 1#1), ∀ a, (k0_off13 arg8_r0) a + S1x64x512.size a ≤ S2x64x512.size a) ∧
  (∀ (k0_h5 : k0_cond5 i k0_t1 arg10_r0 arg11_r0 = 1#1), ∀ a, (k0_off14 i arg10_r0 arg11_r0) a + S64x512.size a ≤ S40960x512.size a) ∧
  (∀ (k0_h5 : k0_cond5 i k0_t1 arg10_r0 arg11_r0 = 1#1), ∀ a, (k0_off15 arg8_r0) a + S1.size a ≤ S2.size a) ∧
  (∀ (k0_h7 : k0_cond7 i k0_t1 arg10_r0 arg11_r0 = 1#1), ∀ a, (k0_off16 arg9_r0) a + S1x64x512.size a ≤ S2x64x512.size a) ∧
  (∀ (k0_h7 : k0_cond7 i k0_t1 arg10_r0 arg11_r0 = 1#1), ∀ a, (k0_off17 i arg10_r0 arg11_r0) a + S64x512.size a ≤ S40960x512.size a) ∧
  (∀ (k0_h7 : k0_cond7 i k0_t1 arg10_r0 arg11_r0 = 1#1), ∀ a, (k0_off18 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x128.size a ≤ S2x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x128.size a ≤ S1x40960.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x128.size a ≤ S2x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0) a + S1x128.size a ≤ S1x40960.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ a, (k0_off12 arg11_r0) a + S1x64.size a ≤ S1x128.size a := fun i k0_t1 arg6_r0 arg7_r0 arg8_r0 arg9_r0 arg10_r0 arg11_r0 k0_hw1 => k0_hw1.2.2.2.2.2.2.1
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 arg8_r0) a + S1x64x512.size a ≤ S2x64x512.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 i arg10_r0 arg11_r0) a + S64x512.size a ≤ S40960x512.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off15 arg8_r0) a + S1.size a ≤ S2.size a := fun i k0_t1 arg6_r0 arg7_r0 arg8_r0 arg9_r0 arg10_r0 arg11_r0 k0_hw1 k0_h5 => k0_hw1.2.2.2.2.2.2.2.2.2.1 k0_h5
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 arg9_r0) a + S1x64x512.size a ≤ S2x64x512.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 i arg10_r0 arg11_r0) a + S64x512.size a ≤ S40960x512.size a := fun i k0_t1 arg6_r0 arg7_r0 arg8_r0 arg9_r0 arg10_r0 arg11_r0 k0_hw1 k0_h7 => k0_hw1.2.2.2.2.2.2.2.2.2.2.2.1 k0_h7
theorem k0_off18_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off18 arg9_r0) a + S1.size a ≤ S2.size a := fun i k0_t1 arg6_r0 arg7_r0 arg8_r0 arg9_r0 arg10_r0 arg11_r0 k0_hw1 k0_h7 => k0_hw1.2.2.2.2.2.2.2.2.2.2.2.2 k0_h7

def k0_off19 (v46_3_r0 : BitVec 32) : Fin 3 → Nat :=
  let c2_i32_76_r0 : BitVec 32 := 2#32
  let v87_r0 : BitVec 32 := Scalar.remui v46_3_r0 c2_i32_76_r0
  let c0_i32_78_r0 : BitVec 32 := 0#32
  let c0_i32_79_r0 : BitVec 32 := 0#32
  ![v87_r0.toNat, 0, 0]

def k0_off20 (i : grid0.Coords) (v46_5_r0 : BitVec 32) (v46_4_r0 : BitVec 32) : Fin 2 → Nat :=
  let c64_i32_r0 : BitVec 32 := 64#32
  let true_45_r0 : BitVec 1 := 1#1
  let c1_i32_44_r0 : BitVec 32 := 1#32
  let v47_r0 : BitVec 32 := Scalar.subi v46_5_r0 c1_i32_44_r0
  let v48_r0 : BitVec 32 := Scalar.select true_45_r0 v47_r0 v46_5_r0
  let c_m1_i32_46_r0 : BitVec 32 := 4294967295#32
  let v49_r0 : BitVec 1 := Scalar.cmpi .eq v48_r0 c_m1_i32_46_r0
  let c1_i32_48_r0 : BitVec 32 := 1#32
  let v51_r0 : BitVec 32 := Scalar.subi v46_4_r0 c1_i32_48_r0
  let v52_r0 : BitVec 32 := Scalar.select v49_r0 v51_r0 v46_4_r0
  let c_m1_i32_49_r0 : BitVec 32 := 4294967295#32
  let v53_r0 : BitVec 1 := Scalar.cmpi .eq v52_r0 c_m1_i32_49_r0
  let c9_i32_50_r0 : BitVec 32 := 9#32
  let v54_r0 : BitVec 32 := Scalar.select v53_r0 c9_i32_50_r0 v52_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v55_r0 : BitVec 32 := Scalar.addi v54_r0 v4
  let c2_i32_77_r0 : BitVec 32 := 2#32
  let v88_r0 : BitVec 32 := Scalar.muli v55_r0 c2_i32_77_r0
  let c1_i32_47_r0 : BitVec 32 := 1#32
  let v50_r0 : BitVec 32 := Scalar.select v49_r0 c1_i32_47_r0 v48_r0
  let c0_i32_51_r0 : BitVec 32 := 0#32
  let v56_r0 : BitVec 32 := Scalar.addi v50_r0 c0_i32_51_r0
  let v89_r0 : BitVec 32 := Scalar.addi v88_r0 v56_r0
  let v90_r0 : BitVec 32 := Scalar.muli c64_i32_r0 v89_r0
  let c0_i32_80_r0 : BitVec 32 := 0#32
  ![v90_r0.toNat, 0]

def k0_chk5 (i : grid0.Coords) (v46_5_r0 : BitVec 32) (v46_4_r0 : BitVec 32) : Prop :=
  (∀ a, (k0_off20 i v46_5_r0 v46_4_r0) a + S64x512.size a ≤ S40960x512.size a)
theorem k0_off20_inb : ∀ (i : grid0.Coords) (v46_5_r0 : BitVec 32) (v46_4_r0 : BitVec 32) (k0_hw5 : k0_chk5 i v46_5_r0 v46_4_r0), ∀ a, (k0_off20 i v46_5_r0 v46_4_r0) a + S64x512.size a ≤ S40960x512.size a := fun i v46_5_r0 v46_4_r0 k0_hw5 => k0_hw5

def k0_off21 (v46_3_r0 : BitVec 32) : Fin 1 → Nat :=
  let c2_i32_76_r0 : BitVec 32 := 2#32
  let v87_r0 : BitVec 32 := Scalar.remui v46_3_r0 c2_i32_76_r0
  ![v87_r0.toNat]
def k0_off22 (v46_3_r0 : BitVec 32) : Fin 3 → Nat :=
  let c2_i32_76_r0 : BitVec 32 := 2#32
  let v87_r0 : BitVec 32 := Scalar.remui v46_3_r0 c2_i32_76_r0
  let c0_i32_82_r0 : BitVec 32 := 0#32
  let c0_i32_83_r0 : BitVec 32 := 0#32
  ![v87_r0.toNat, 0, 0]

def k0_chk4 (v46_3_r0 : BitVec 32) : Prop :=
  (∀ a, (k0_off19 v46_3_r0) a + S1x64x512.size a ≤ S2x64x512.size a) ∧
  (∀ a, (k0_off21 v46_3_r0) a + S1.size a ≤ S2.size a) ∧
  (∀ a, (k0_off22 v46_3_r0) a + S1x64x512.size a ≤ S2x64x512.size a)
theorem k0_off19_inb : ∀ (v46_3_r0 : BitVec 32) (k0_hw4 : k0_chk4 v46_3_r0), ∀ a, (k0_off19 v46_3_r0) a + S1x64x512.size a ≤ S2x64x512.size a := fun v46_3_r0 k0_hw4 => k0_hw4.1
theorem k0_off21_inb : ∀ (v46_3_r0 : BitVec 32) (k0_hw4 : k0_chk4 v46_3_r0), ∀ a, (k0_off21 v46_3_r0) a + S1.size a ≤ S2.size a := fun v46_3_r0 k0_hw4 => k0_hw4.2.1
theorem k0_off22_inb : ∀ (v46_3_r0 : BitVec 32) (k0_hw4 : k0_chk4 v46_3_r0), ∀ a, (k0_off22 v46_3_r0) a + S1x64x512.size a ≤ S2x64x512.size a := fun v46_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S53248x512 : Shape := ⟨2, ![53248, 512]⟩
abbrev S1x40960 : Shape := ⟨2, ![1, 40960]⟩
abbrev S40960 : Shape := ⟨1, ![40960]⟩
abbrev S_ : Shape := ⟨0, ![]⟩
abbrev S40960x1 : Shape := ⟨2, ![40960, 1]⟩
abbrev S1 : Shape := ⟨1, ![1]⟩
abbrev S1x1 : Shape := ⟨2, ![1, 1]⟩
abbrev S40960x512 : Shape := ⟨2, ![40960, 512]⟩

abbrev nBuf : Space → Nat
  | .hbm => 26
  | .vmem => 0
  | .smem => 0
  | _ => 0

abbrev bufTy : (tb : Table) → Fin (tcTables nBuf tb) → BufTy
  | .hbm, ⟨0, _⟩ => ⟨S53248x512, .i32⟩
  | .hbm, ⟨1, _⟩ => ⟨S1x40960, .i32⟩
  | .hbm, ⟨2, _⟩ => ⟨S40960, .i32⟩
  | .hbm, ⟨3, _⟩ => ⟨S_, .i32⟩
  | .hbm, ⟨4, _⟩ => ⟨S40960, .i32⟩
  | .hbm, ⟨5, _⟩ => ⟨S40960, .i1⟩
  | .hbm, ⟨6, _⟩ => ⟨S_, .i32⟩
  | .hbm, ⟨7, _⟩ => ⟨S40960, .i32⟩
  | .hbm, ⟨8, _⟩ => ⟨S40960, .i32⟩
  | .hbm, ⟨9, _⟩ => ⟨S40960, .i32⟩
  | .hbm, ⟨10, _⟩ => ⟨S40960x1, .i32⟩
  | .hbm, ⟨11, _⟩ => ⟨S1, .i32⟩
  | .hbm, ⟨12, _⟩ => ⟨S_, .i32⟩
  | .hbm, ⟨13, _⟩ => ⟨S40960x1, .i32⟩
  | .hbm, ⟨14, _⟩ => ⟨S40960x1, .i1⟩
  | .hbm, ⟨15, _⟩ => ⟨S1x1, .i32⟩
  | .hbm, ⟨16, _⟩ => ⟨S40960x1, .i32⟩
  | .hbm, ⟨17, _⟩ => ⟨S40960x1, .i1⟩
  | .hbm, ⟨18, _⟩ => ⟨S40960x1, .i1⟩
  | .hbm, ⟨19, _⟩ => ⟨S_, .i1⟩
  | .hbm, ⟨20, _⟩ => ⟨S40960, .i1⟩
  | .hbm, ⟨21, _⟩ => ⟨S40960x512, .i32⟩
  | .hbm, ⟨22, _⟩ => ⟨S40960x512, .i1⟩
  | .hbm, ⟨23, _⟩ => ⟨S_, .i32⟩
  | .hbm, ⟨24, _⟩ => ⟨S40960x512, .i32⟩
  | .hbm, ⟨25, _⟩ => ⟨S40960x512, .i32⟩
  | _, _ => ⟨S53248x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Moe.lean ====
abbrev S53248x640 : Shape := ⟨2, ![53248, 640]⟩
abbrev S104 : Shape := ⟨1, ![104]⟩
abbrev S1 : Shape := ⟨1, ![1]⟩
abbrev S16x1024x512 : Shape := ⟨3, ![16, 1024, 512]⟩
abbrev S16x512x1024 : Shape := ⟨3, ![16, 512, 1024]⟩
abbrev S_ : Shape := ⟨0, ![]⟩
abbrev S53248x1024 : Shape := ⟨2, ![53248, 1024]⟩
abbrev S512x640 : Shape := ⟨2, ![512, 640]⟩
abbrev S1x1024x512 : Shape := ⟨3, ![1, 1024, 512]⟩
abbrev S1x512x1024 : Shape := ⟨3, ![1, 512, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x512x512 : Shape := ⟨3, ![1, 512, 512]⟩
abbrev S104x512 : Shape := ⟨2, ![104, 512]⟩
abbrev S53248 : Shape := ⟨1, ![53248]⟩
abbrev S53248x1 : Shape := ⟨2, ![53248, 1]⟩

abbrev nBuf : Space → Nat
  | .hbm => 25
  | .vmem => 16
  | .smem => 4
  | _ => 0

abbrev bufTy : (tb : Table) → Fin (tcTables nBuf tb) → BufTy
  | .hbm, ⟨0, _⟩ => ⟨S53248x640, .i32⟩
  | .hbm, ⟨1, _⟩ => ⟨S1, .i32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S104, .i32⟩
  | .hbm, ⟨6, _⟩ => ⟨S104, .i32⟩
  | .hbm, ⟨7, _⟩ => ⟨S104, .i1⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S104, .i32⟩
  | .hbm, ⟨12, _⟩ => ⟨S16x1024x512, .bf16⟩
  | .hbm, ⟨13, _⟩ => ⟨S16x1024x512, .bf16⟩
  | .hbm, ⟨14, _⟩ => ⟨S16x512x1024, .bf16⟩
  | .hbm, ⟨15, _⟩ => ⟨S53248x1024, .bf16⟩
  | .hbm, ⟨16, _⟩ => ⟨S104x512, .i1⟩
  | .hbm, ⟨17, _⟩ => ⟨S53248, .i1⟩
  | .hbm, ⟨18, _⟩ => ⟨S53248x1, .i1⟩
  | .hbm, ⟨19, _⟩ => ⟨S53248x1024, .f32⟩
  | .hbm, ⟨20, _⟩ => ⟨S_, .f32⟩
  | .hbm, ⟨21, _⟩ => ⟨S_, .f32⟩
  | .hbm, ⟨22, _⟩ => ⟨S53248x1024, .i1⟩
  | .hbm, ⟨23, _⟩ => ⟨S53248x1024, .f32⟩
  | .hbm, ⟨24, _⟩ => ⟨S53248x1024, .f32⟩
  | .local _ .vmem, ⟨0, _⟩ => ⟨S512x640, .i32⟩
  | .local _ .vmem, ⟨1, _⟩ => ⟨S512x640, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .bf16⟩
  | .local _ .vmem, ⟨15, _⟩ => ⟨S512x1024, .bf16⟩
  | .local _ .smem, ⟨0, _⟩ => ⟨S104, .i32⟩
  | .local _ .smem, ⟨1, _⟩ => ⟨S104, .i32⟩
  | .local _ .smem, ⟨2, _⟩ => ⟨S104, .i32⟩
  | .local _ .smem, ⟨3, _⟩ => ⟨S104, .i32⟩
  | _, _ => ⟨S53248x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_arg1 : Ref sig .tc := ⟨.smem, 0, rfl⟩
abbrev main_arg2 : Ref sig .tc := ⟨.smem, 1, rfl⟩
abbrev main_v3 : Ref sig .tc := ⟨.smem, 2, rfl⟩
abbrev main_v7 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![104], ![false]⟩

abbrev pre0 : Pipeline.Prefetch sig := ⟨4, ![main_arg1.idx, main_arg2.idx, main_v3.idx, main_v7.idx], fun | 0 => main_arg1.names | 1 => main_arg2.names | 2 => main_v3.names | 3 => main_v7.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def cc0_transform_0 (k0_off1_inb : ∀ i : grid0.Coords, ∀ a, (k0_off1 i) a + S1.size a ≤ S104.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S104) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S104.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S104) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
abbrev S53248x640 : Shape := ⟨2, ![53248, 640]⟩
abbrev S104 : Shape := ⟨1, ![104]⟩
abbrev S1 : Shape := ⟨1, ![1]⟩
abbrev S16x1024x512 : Shape := ⟨3, ![16, 1024, 512]⟩
abbrev S16x512x1024 : Shape := ⟨3, ![16, 512, 1024]⟩
abbrev S53248x512 : Shape := ⟨2, ![53248, 512]⟩
abbrev S53248x512x2 : Shape := ⟨3, ![53248, 512, 2]⟩
abbrev S53248x512x1 : Shape := ⟨3, ![53248, 512, 1]⟩
abbrev S53248x1024 : Shape := ⟨2, ![53248, 1024]⟩
abbrev S53248x2 : Shape := ⟨2, ![53248, 2]⟩
abbrev S104x1 : Shape := ⟨2, ![104, 1]⟩
abbrev S104x2 : Shape := ⟨2, ![104, 2]⟩
abbrev S104x512x2 : Shape := ⟨3, ![104, 512, 2]⟩
abbrev S53248x2x1 : Shape := ⟨3, ![53248, 2, 1]⟩
abbrev S1x1x16 : Shape := ⟨3, ![1, 1, 16]⟩
abbrev S53248x2x16 : Shape := ⟨3, ![53248, 2, 16]⟩
abbrev S53248x16 : Shape := ⟨2, ![53248, 16]⟩
abbrev S16x512x53248 : Shape := ⟨3, ![16, 512, 53248]⟩
abbrev S16x53248x512 : Shape := ⟨3, ![16, 53248, 512]⟩
abbrev S_ : Shape := ⟨0, ![]⟩
abbrev S16x53248x1024 : Shape := ⟨3, ![16, 53248, 1024]⟩
abbrev S104x512 : Shape := ⟨2, ![104, 512]⟩
abbrev S53248 : Shape := ⟨1, ![53248]⟩
abbrev S53248x1 : Shape := ⟨2, ![53248, 1]⟩

abbrev nBuf : Space → Nat
  | .hbm => 56
  | .vmem => 0
  | .smem => 0
  | _ => 0

abbrev bufTy : (tb : Table) → Fin (tcTables nBuf tb) → BufTy
  | .hbm, ⟨0, _⟩ => ⟨S53248x640, .i32⟩
  | .hbm, ⟨1, _⟩ => ⟨S104, .i32⟩
  | .hbm, ⟨2, _⟩ => ⟨S104, .i32⟩
  | .hbm, ⟨3, _⟩ => ⟨S1, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S53248x512, .i32⟩
  | .hbm, ⟨8, _⟩ => ⟨S53248x512x2, .bf16⟩
  | .hbm, ⟨9, _⟩ => ⟨S53248x512x2, .f32⟩
  | .hbm, ⟨10, _⟩ => ⟨S53248x512x1, .f32⟩
  | .hbm, ⟨11, _⟩ => ⟨S53248x512, .f32⟩
  | .hbm, ⟨12, _⟩ => ⟨S53248x512x1, .f32⟩
  | .hbm, ⟨13, _⟩ => ⟨S53248x512, .f32⟩
  | .hbm, ⟨14, _⟩ => ⟨S53248x1024, .f32⟩
  | .hbm, ⟨15, _⟩ => ⟨S53248x2, .i32⟩
  | .hbm, ⟨16, _⟩ => ⟨S53248x2, .f32⟩
  | .hbm, ⟨17, _⟩ => ⟨S104x1, .i32⟩
  | .hbm, ⟨18, _⟩ => ⟨S104x1, .i32⟩
  | .hbm, ⟨19, _⟩ => ⟨S104x2, .i32⟩
  | .hbm, ⟨20, _⟩ => ⟨S104x512x2, .i32⟩
  | .hbm, ⟨21, _⟩ => ⟨S53248x2, .i32⟩
  | .hbm, ⟨22, _⟩ => ⟨S53248x2x1, .i32⟩
  | .hbm, ⟨23, _⟩ => ⟨S1x1x16, .i32⟩
  | .hbm, ⟨24, _⟩ => ⟨S53248x2x16, .i32⟩
  | .hbm, ⟨25, _⟩ => ⟨S53248x2x16, .i32⟩
  | .hbm, ⟨26, _⟩ => ⟨S53248x2x16, .i1⟩
  | .hbm, ⟨27, _⟩ => ⟨S53248x2x16, .f32⟩
  | .hbm, ⟨28, _⟩ => ⟨S53248x16, .f32⟩
  | .hbm, ⟨29, _⟩ => ⟨S16x512x53248, .f32⟩
  | .hbm, ⟨30, _⟩ => ⟨S16x53248x512, .f32⟩
  | .hbm, ⟨31, _⟩ => ⟨S16x53248x512, .f32⟩
  | .hbm, ⟨32, _⟩ => ⟨S16x53248x512, .f32⟩
  | .hbm, ⟨33, _⟩ => ⟨S_, .f32⟩
  | .hbm, ⟨34, _⟩ => ⟨S16x53248x512, .f32⟩
  | .hbm, ⟨35, _⟩ => ⟨S16x53248x512, .f32⟩
  | .hbm, ⟨36, _⟩ => ⟨S_, .f32⟩
  | .hbm, ⟨37, _⟩ => ⟨S16x53248x512, .f32⟩
  | .hbm, ⟨38, _⟩ => ⟨S16x53248x512, .f32⟩
  | .hbm, ⟨39, _⟩ => ⟨S16x53248x512, .f32⟩
  | .hbm, ⟨40, _⟩ => ⟨S16x512x53248, .f32⟩
  | .hbm, ⟨41, _⟩ => ⟨S16x53248x512, .f32⟩
  | .hbm, ⟨42, _⟩ => ⟨S16x53248x512, .f32⟩
  | .hbm, ⟨43, _⟩ => ⟨S16x53248x1024, .f32⟩
  | .hbm, ⟨44, _⟩ => ⟨S53248x1024, .f32⟩
  | .hbm, ⟨45, _⟩ => ⟨S104, .i32⟩
  | .hbm, ⟨46, _⟩ => ⟨S104, .i32⟩
  | .hbm, ⟨47, _⟩ => ⟨S104, .i1⟩
  | .hbm, ⟨48, _⟩ => ⟨S104x512, .i1⟩
  | .hbm, ⟨49, _⟩ => ⟨S53248, .i1⟩
  | .hbm, ⟨50, _⟩ => ⟨S53248x1, .i1⟩
  | .hbm, ⟨51, _⟩ => ⟨S_, .f32⟩
  | .hbm, ⟨52, _⟩ => ⟨S_, .f32⟩
  | .hbm, ⟨53, _⟩ => ⟨S53248x1024, .i1⟩
  | .hbm, ⟨54, _⟩ => ⟨S53248x1024, .f32⟩
  | .hbm, ⟨55, _⟩ => ⟨S53248x1024, .f32⟩
  | _, _ => ⟨S53248x640, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Final.lean ====
abbrev S20x2048x1024 : Shape := ⟨3, ![20, 2048, 1024]⟩
abbrev S20x2048x512 : Shape := ⟨3, ![20, 2048, 512]⟩
abbrev S12x2048x1024 : Shape := ⟨3, ![12, 2048, 1024]⟩
abbrev S12x2048x512 : Shape := ⟨3, ![12, 2048, 512]⟩
abbrev S32x6x1024 : Shape := ⟨3, ![32, 6, 1024]⟩
abbrev S1024 : Shape := ⟨1, ![1024]⟩
abbrev S1x1024 : Shape := ⟨2, ![1, 1024]⟩
abbrev S32x2048x1024 : Shape := ⟨3, ![32, 2048, 1024]⟩
abbrev S1x2048x1024 : Shape := ⟨3, ![1, 2048, 1024]⟩
abbrev S1x2048x512 : Shape := ⟨3, ![1, 2048, 512]⟩
abbrev S1x6x1024 : Shape := ⟨3, ![1, 6, 1024]⟩
abbrev S2048x512 : Shape := ⟨2, ![2048, 512]⟩
abbrev S1x1x1024 : Shape := ⟨3, ![1, 1, 1024]⟩
abbrev S1x512 : Shape := ⟨2, ![1, 512]⟩
abbrev S2048 : Shape := ⟨1, ![2048]⟩
abbrev S2048x1 : Shape := ⟨2, ![2048, 1]⟩

abbrev nBuf : Space → Nat
  | .hbm => 10
  | .vmem => 18
  | .smem => 0
  | _ => 0

abbrev bufTy : (tb : Table) → Fin (tcTables nBuf tb) → BufTy
  | .hbm, ⟨0, _⟩ => ⟨S20x2048x1024, .f32⟩
  | .hbm, ⟨1, _⟩ => ⟨S20x2048x512, .i32⟩
  | .hbm, ⟨2, _⟩ => ⟨S12x2048x1024, .f32⟩
  | .hbm, ⟨3, _⟩ => ⟨S12x2048x512, .i32⟩
  | .hbm, ⟨4, _⟩ => ⟨S32x6x1024, .f32⟩
  | .hbm, ⟨5, _⟩ => ⟨S1024, .f32⟩
  | .hbm, ⟨6, _⟩ => ⟨S1x1024, .f32⟩
  | .hbm, ⟨7, _⟩ => ⟨S32x2048x1024, .f32⟩
  | .hbm, ⟨8, _⟩ => ⟨S1x1024, .f32⟩
  | .hbm, ⟨9, _⟩ => ⟨S32x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x512, .i32⟩
  | .local _ .vmem, ⟨3, _⟩ => ⟨S1x2048x512, .i32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S1x2048x1024, .f32⟩
  | .local _ .vmem, ⟨11, _⟩ => ⟨S1x2048x512, .i32⟩
  | .local _ .vmem, ⟨12, _⟩ => ⟨S1x2048x512, .i32⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S1x2048x1024, .f32⟩
  | .local _ .vmem, ⟨17, _⟩ => ⟨S1x2048x1024, .f32⟩
  | _, _ => ⟨S20x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![20, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![12, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  let c0_i32_0 : BitVec 32 := 0#32
  ![v0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x6x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== NormIdeal.lean ====
abbrev S20x2048x1024 : Shape := ⟨3, ![20, 2048, 1024]⟩
abbrev S20x2048x512 : Shape := ⟨3, ![20, 2048, 512]⟩
abbrev S12x2048x1024 : Shape := ⟨3, ![12, 2048, 1024]⟩
abbrev S12x2048x512 : Shape := ⟨3, ![12, 2048, 512]⟩
abbrev S32x6x1024 : Shape := ⟨3, ![32, 6, 1024]⟩
abbrev S1024 : Shape := ⟨1, ![1024]⟩
abbrev S32x2048x1024 : Shape := ⟨3, ![32, 2048, 1024]⟩
abbrev S32x2048x512 : Shape := ⟨3, ![32, 2048, 512]⟩
abbrev S32x2048x512x2 : Shape := ⟨4, ![32, 2048, 512, 2]⟩
abbrev S32x2048x512x1 : Shape := ⟨4, ![32, 2048, 512, 1]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S20x2048x1024, .f32⟩
  | .hbm, ⟨1, _⟩ => ⟨S20x2048x512, .i32⟩
  | .hbm, ⟨2, _⟩ => ⟨S12x2048x1024, .f32⟩
  | .hbm, ⟨3, _⟩ => ⟨S12x2048x512, .i32⟩
  | .hbm, ⟨4, _⟩ => ⟨S32x6x1024, .f32⟩
  | .hbm, ⟨5, _⟩ => ⟨S1024, .f32⟩
  | .hbm, ⟨6, _⟩ => ⟨S32x2048x1024, .f32⟩
  | .hbm, ⟨7, _⟩ => ⟨S32x2048x512, .i32⟩
  | .hbm, ⟨8, _⟩ => ⟨S32x2048x512x2, .bf16⟩
  | .hbm, ⟨9, _⟩ => ⟨S32x2048x512x2, .f32⟩
  | .hbm, ⟨10, _⟩ => ⟨S32x2048x512x1, .f32⟩
  | .hbm, ⟨11, _⟩ => ⟨S32x2048x512, .f32⟩
  | .hbm, ⟨12, _⟩ => ⟨S32x2048x512x1, .f32⟩
  | .hbm, ⟨13, _⟩ => ⟨S32x2048x512, .f32⟩
  | .hbm, ⟨14, _⟩ => ⟨S32x2048x1024, .f32⟩
  | .hbm, ⟨15, _⟩ => ⟨S32x1x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S32x2048x1024, .f32⟩
  | .hbm, ⟨31, _⟩ => ⟨S32x2048x1024, .f32⟩
  | .hbm, ⟨32, _⟩ => ⟨S1x1x1024, .f32⟩
  | .hbm, ⟨33, _⟩ => ⟨S32x2048x1024, .f32⟩
  | .hbm, ⟨34, _⟩ => ⟨S32x2048x1024, .f32⟩
  | _, _ => ⟨S20x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Front.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2560 : Shape := ⟨3, ![1, 1024, 2560]⟩
abbrev S_ : Shape := ⟨0, ![]⟩
abbrev S7x1024 : Shape := ⟨2, ![7, 1024]⟩
abbrev S40x1024 : Shape := ⟨2, ![40, 1024]⟩
abbrev S1024x6144 : Shape := ⟨2, ![1024, 6144]⟩
abbrev S6144 : Shape := ⟨1, ![6144]⟩
abbrev S40x6144 : Shape := ⟨2, ![40, 6144]⟩
abbrev S1024x1024 : Shape := ⟨2, ![1024, 1024]⟩
abbrev S32x6144 : Shape := ⟨2, ![32, 6144]⟩
abbrev S32x6x1024 : Shape := ⟨3, ![32, 6, 1024]⟩
abbrev S1x6x1024 : Shape := ⟨3, ![1, 6, 1024]⟩
abbrev S1024x2560 : Shape := ⟨2, ![1024, 2560]⟩
abbrev S1024x256 : Shape := ⟨2, ![1024, 256]⟩
abbrev S32x2048x256 : Shape := ⟨3, ![32, 2048, 256]⟩
abbrev S1x2048x1024 : Shape := ⟨3, ![1, 2048, 1024]⟩
abbrev S1x2048x256 : Shape := ⟨3, ![1, 2048, 256]⟩
abbrev S2048x1024 : Shape := ⟨2, ![2048, 1024]⟩
abbrev S1x1x1024 : Shape := ⟨3, ![1, 1, 1024]⟩
abbrev S2048 : Shape := ⟨1, ![2048]⟩
abbrev S2048x1 : Shape := ⟨2, ![2048, 1]⟩
abbrev S2048x256 : Shape := ⟨2, ![2048, 256]⟩
abbrev S32x256x256 : Shape := ⟨3, ![32, 256, 256]⟩
abbrev S8x256x1024 : Shape := ⟨3, ![8, 256, 1024]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 31
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x2560, .f32⟩
  | .hbm, ⟨8, _⟩ => ⟨S1x1024, .f32⟩
  | .hbm, ⟨9, _⟩ => ⟨S_, .f32⟩
  | .hbm, ⟨10, _⟩ => ⟨S7x1024, .f32⟩
  | .hbm, ⟨11, _⟩ => ⟨S40x1024, .f32⟩
  | .hbm, ⟨12, _⟩ => ⟨S1024x6144, .f32⟩
  | .hbm, ⟨13, _⟩ => ⟨S6144, .f32⟩
  | .hbm, ⟨14, _⟩ => ⟨S1x6144, .f32⟩
  | .hbm, ⟨15, _⟩ => ⟨S40x6144, .f32⟩
  | .hbm, ⟨16, _⟩ => ⟨S32x6144, .f32⟩
  | .hbm, ⟨17, _⟩ => ⟨S32x6x1024, .f32⟩
  | .hbm, ⟨18, _⟩ => ⟨S1x6144, .f32⟩
  | .hbm, ⟨19, _⟩ => ⟨S1x6x1024, .f32⟩
  | .hbm, ⟨20, _⟩ => ⟨S1024x2560, .f32⟩
  | .hbm, ⟨21, _⟩ => ⟨S1024x2560, .bf16⟩
  | .hbm, ⟨22, _⟩ => ⟨S1024x256, .bf16⟩
  | .hbm, ⟨23, _⟩ => ⟨S1024, .f32⟩
  | .hbm, ⟨24, _⟩ => ⟨S1x1024, .f32⟩
  | .hbm, ⟨25, _⟩ => ⟨S32x2048x256, .bf16⟩
  | .hbm, ⟨26, _⟩ => ⟨S1024, .f32⟩
  | .hbm, ⟨27, _⟩ => ⟨S1x1024, .f32⟩
  | .hbm, ⟨28, _⟩ => ⟨S32x256x256, .bf16⟩
  | .hbm, ⟨29, _⟩ => ⟨S32x2048x256, .f32⟩
  | .hbm, ⟨30, _⟩ => ⟨S32x256x256, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S1024x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S8x256x1024, .f32⟩
  | .local _ .vmem, ⟨16, _⟩ => ⟨S8x256x1024, .f32⟩
  | .local _ .vmem, ⟨17, _⟩ => ⟨S1x6x1024, .f32⟩
  | .local _ .vmem, ⟨18, _⟩ => ⟨S1x1024, .f32⟩
  | .local _ .vmem, ⟨19, _⟩ => ⟨S1024x256, .bf16⟩
  | .local _ .vmem, ⟨20, _⟩ => ⟨S8x256x256, .bf16⟩
  | .local _ .vmem, ⟨21, _⟩ => ⟨S8x256x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S8x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x6x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S8x256x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ProjectIdeal.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2560 : Shape := ⟨3, ![1, 1024, 2560]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩
abbrev S32x1x6144 : Shape := ⟨3, ![32, 1, 6144]⟩
abbrev S32x1x1024 : Shape := ⟨3, ![32, 1, 1024]⟩
abbrev S1x1x6144 : Shape := ⟨3, ![1, 1, 6144]⟩
abbrev S1x1x1024 : Shape := ⟨3, ![1, 1, 1024]⟩
abbrev S32x2048 : Shape := ⟨2, ![32, 2048]⟩
abbrev S32x2048x1 : Shape := ⟨3, ![32, 2048, 1]⟩
abbrev S1024x2560 : Shape := ⟨2, ![1024, 2560]⟩
abbrev S1024x256 : Shape := ⟨2, ![1024, 256]⟩
abbrev S32x2048x256 : Shape := ⟨3, ![32, 2048, 256]⟩
abbrev S32x256 : Shape := ⟨2, ![32, 256]⟩
abbrev S32x256x1 : Shape := ⟨3, ![32, 256, 1]⟩
abbrev S32x256x256 : Shape := ⟨3, ![32, 256, 256]⟩
abbrev S32x6x1024 : Shape := ⟨3, ![32, 6, 1024]⟩
abbrev S1x6x1024 : Shape := ⟨3, ![1, 6, 1024]⟩

abbrev nBuf : Space → Nat
  | .hbm => 108
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x2560, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S1024x6144, .f32⟩
  | .hbm, ⟨18, _⟩ => ⟨S32x6144, .f32⟩
  | .hbm, ⟨19, _⟩ => ⟨S6144, .f32⟩
  | .hbm, ⟨20, _⟩ => ⟨S1x6144, .f32⟩
  | .hbm, ⟨21, _⟩ => ⟨S32x6144, .f32⟩
  | .hbm, ⟨22, _⟩ => ⟨S32x6144, .f32⟩
  | .hbm, ⟨23, _⟩ => ⟨S32x1x6144, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1024x6144, .f32⟩
  | .hbm, ⟨41, _⟩ => ⟨S1x6144, .f32⟩
  | .hbm, ⟨42, _⟩ => ⟨S6144, .f32⟩
  | .hbm, ⟨43, _⟩ => ⟨S1x6144, .f32⟩
  | .hbm, ⟨44, _⟩ => ⟨S1x6144, .f32⟩
  | .hbm, ⟨45, _⟩ => ⟨S1x1x6144, .f32⟩
  | .hbm, ⟨46, _⟩ => ⟨S1x1x1024, .f32⟩
  | .hbm, ⟨47, _⟩ => ⟨S1x1x1024, .f32⟩
  | .hbm, ⟨48, _⟩ => ⟨S1x1x1024, .f32⟩
  | .hbm, ⟨49, _⟩ => ⟨S1x1x1024, .f32⟩
  | .hbm, ⟨50, _⟩ => ⟨S1x1x1024, .f32⟩
  | .hbm, ⟨51, _⟩ => ⟨S1x1x1024, .f32⟩
  | .hbm, ⟨52, _⟩ => ⟨S32x2048x1024, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x1, .f32⟩
  | .hbm, ⟨63, _⟩ => ⟨S32x2048x1024, .f32⟩
  | .hbm, ⟨64, _⟩ => ⟨S32x2048x1024, .f32⟩
  | .hbm, ⟨65, _⟩ => ⟨S1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | .hbm, ⟨69, _⟩ => ⟨S_, .f32⟩
  | .hbm, ⟨70, _⟩ => ⟨S32x1x1024, .f32⟩
  | .hbm, ⟨71, _⟩ => ⟨S32x1x1024, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S1024x2560, .f32⟩
  | .hbm, ⟨77, _⟩ => ⟨S1024x256, .f32⟩
  | .hbm, ⟨78, _⟩ => ⟨S32x2048x256, .f32⟩
  | .hbm, ⟨79, _⟩ => ⟨S32x256x1024, .f32⟩
  | .hbm, ⟨80, _⟩ => ⟨S_, .f32⟩
  | .hbm, ⟨81, _⟩ => ⟨S32x256, .f32⟩
  | .hbm, ⟨82, _⟩ => ⟨S32x256x1, .f32⟩
  | .hbm, ⟨83, _⟩ => ⟨S_, .f32⟩
  | .hbm, ⟨84, _⟩ => ⟨S32x256x1, .f32⟩
  | .hbm, ⟨85, _⟩ => ⟨S32x256x1, .f32⟩
  | .hbm, ⟨86, _⟩ => ⟨S_, .f32⟩
  | .hbm, ⟨87, _⟩ => ⟨S32x256x1, .f32⟩
  | .hbm, ⟨88, _⟩ => ⟨S32x256x1, .f32⟩
  | .hbm, ⟨89, _⟩ => ⟨S32x256x1, .f32⟩
  | .hbm, ⟨90, _⟩ => ⟨S32x256x1024, .f32⟩
  | .hbm, ⟨91, _⟩ => ⟨S32x256x1024, .f32⟩
  | .hbm, ⟨92, _⟩ => ⟨S1024, .f32⟩
  | .hbm, ⟨93, _⟩ => ⟨S1x1x1024, .f32⟩
  | .hbm, ⟨94, _⟩ => ⟨S32x256x1024, .f32⟩
  | .hbm, ⟨95, _⟩ => ⟨S32x256x1024, .f32⟩
  | .hbm, ⟨96, _⟩ => ⟨S_, .f32⟩
  | .hbm, ⟨97, _⟩ => ⟨S1x1x1024, .f32⟩
  | .hbm, ⟨98, _⟩ => ⟨S1x1x1024, .f32⟩
  | .hbm, ⟨99, _⟩ => ⟨S32x256x1024, .f32⟩
  | .hbm, ⟨100, _⟩ => ⟨S32x256x1024, .f32⟩
  | .hbm, ⟨101, _⟩ => ⟨S32x256x1024, .f32⟩
  | .hbm, ⟨102, _⟩ => ⟨S32x256x1024, .f32⟩
  | .hbm, ⟨103, _⟩ => ⟨S1024x2560, .f32⟩
  | .hbm, ⟨104, _⟩ => ⟨S1024x256, .f32⟩
  | .hbm, ⟨105, _⟩ => ⟨S32x256x256, .f32⟩
  | .hbm, ⟨106, _⟩ => ⟨S32x6x1024, .f32⟩
  | .hbm, ⟨107, _⟩ => ⟨S1x6x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_cst_0 : Ref sig .tc := ⟨.hbm, 56, rfl⟩
abbrev main_v31 : Ref sig .tc := ⟨.hbm, 57, rfl⟩
abbrev main_v32 : Ref sig .tc := ⟨.hbm, 58, rfl⟩
abbrev main_cst_1 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_2 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_3 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== Mix.lean ====
abbrev S32x2048x1024 : Shape := ⟨3, ![32, 2048, 1024]⟩
abbrev S32x2048x128 : Shape := ⟨3, ![32, 2048, 128]⟩
abbrev S32x6x1024 : Shape := ⟨3, ![32, 6, 1024]⟩
abbrev S1x1024 : Shape := ⟨2, ![1, 1024]⟩
abbrev S1x3x768 : Shape := ⟨3, ![1, 3, 768]⟩
abbrev S1x1024x2560 : Shape := ⟨3, ![1, 1024, 2560]⟩
abbrev S1x256x256 : Shape := ⟨3, ![1, 256, 256]⟩
abbrev S1x256 : Shape := ⟨2, ![1, 256]⟩
abbrev S1x1024x1024 : Shape := ⟨3, ![1, 1024, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x512 : Shape := ⟨4, ![1, 16, 1024, 512]⟩
abbrev S1024x2560 : Shape := ⟨2, ![1024, 2560]⟩
abbrev S1024x768 : Shape := ⟨2, ![1024, 768]⟩
abbrev S1024x384 : Shape := ⟨2, ![1024, 384]⟩
abbrev S1024x2304 : Shape := ⟨2, ![1024, 2304]⟩
abbrev S1024x4 : Shape := ⟨2, ![1024, 4]⟩
abbrev S1024x16 : Shape := ⟨2, ![1024, 16]⟩
abbrev S_ : Shape := ⟨0, ![]⟩
abbrev S1024x12 : Shape := ⟨2, ![1024, 12]⟩
abbrev S1024x32 : Shape := ⟨2, ![1024, 32]⟩
abbrev S32x1024 : Shape := ⟨2, ![32, 1024]⟩
abbrev S64x1024 : Shape := ⟨2, ![64, 1024]⟩
abbrev S4 : Shape := ⟨1, ![4]⟩
abbrev S16 : Shape := ⟨1, ![16]⟩
abbrev S12 : Shape := ⟨1, ![12]⟩
abbrev S32 : Shape := ⟨1, ![32]⟩
abbrev S32x1 : Shape := ⟨2, ![32, 1]⟩
abbrev S32x512 : Shape := ⟨2, ![32, 512]⟩
abbrev S1024 : Shape := ⟨1, ![1024]⟩
abbrev S3x768 : Shape := ⟨2, ![3, 768]⟩
abbrev S256x256 : Shape := ⟨2, ![256, 256]⟩
abbrev S256 : Shape := ⟨1, ![256]⟩
abbrev S1024x1024 : Shape := ⟨2, ![1024, 1024]⟩
abbrev S16x1024x512 : Shape := ⟨3, ![16, 1024, 512]⟩
abbrev S20x2048x1024 : Shape := ⟨3, ![20, 2048, 1024]⟩
abbrev S20x2048x1152 : Shape := ⟨3, ![20, 2048, 1152]⟩
abbrev S8x40960 : Shape := ⟨2, ![8, 40960]⟩
abbrev S32x128 : Shape := ⟨2, ![32, 128]⟩
abbrev S1x64x1024 : Shape := ⟨3, ![1, 64, 1024]⟩
abbrev S1x1024x128 : Shape := ⟨3, ![1, 1024, 128]⟩
abbrev S1x6x1024 : Shape := ⟨3, ![1, 6, 1024]⟩
abbrev S1x1024x512 : Shape := ⟨3, ![1, 1024, 512]⟩
abbrev S1x1024x1152 : Shape := ⟨3, ![1, 1024, 1152]⟩
abbrev S8x1024 : Shape := ⟨2, ![8, 1024]⟩
abbrev S1x512x1024 : Shape := ⟨3, ![1, 512, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S512x256 : Shape := ⟨2, ![512, 256]⟩
abbrev S64 : Shape := ⟨1, ![64]⟩
abbrev S64x1 : Shape := ⟨2, ![64, 1]⟩
abbrev S512x768 : Shape := ⟨2, ![512, 768]⟩
abbrev S512x384 : Shape := ⟨2, ![512, 384]⟩
abbrev S64x768 : Shape := ⟨2, ![64, 768]⟩
abbrev S64x384 : Shape := ⟨2, ![64, 384]⟩
abbrev S3x384 : Shape := ⟨2, ![3, 384]⟩
abbrev S1x384 : Shape := ⟨2, ![1, 384]⟩
abbrev S448x384 : Shape := ⟨2, ![448, 384]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S64x128 : Shape := ⟨2, ![64, 128]⟩
abbrev S1x128 : Shape := ⟨2, ![1, 128]⟩
abbrev S16x128 : Shape := ⟨2, ![16, 128]⟩
abbrev S15x128 : Shape := ⟨2, ![15, 128]⟩
abbrev S14x128 : Shape := ⟨2, ![14, 128]⟩
abbrev S13x128 : Shape := ⟨2, ![13, 128]⟩
abbrev S8x128 : Shape := ⟨2, ![8, 128]⟩
abbrev S128x128 : Shape := ⟨2, ![128, 128]⟩
abbrev S1x128x128 : Shape := ⟨3, ![1, 128, 128]⟩

abbrev nBuf : Space → Nat
  | .hbm => 62
  | .vmem => 34
  | .smem => 0
  | _ => 0

abbrev bufTy : (tb : Table) → Fin (tcTables nBuf tb) → BufTy
  | .hbm, ⟨0, _⟩ => ⟨S32x2048x1024, .f32⟩
  | .hbm, ⟨1, _⟩ => ⟨S32x2048x128, .i32⟩
  | .hbm, ⟨2, _⟩ => ⟨S32x6x1024, .f32⟩
  | .hbm, ⟨3, _⟩ => ⟨S1x1024, .f32⟩
  | .hbm, ⟨4, _⟩ => ⟨S1x1024, .f32⟩
  | .hbm, ⟨5, _⟩ => ⟨S1x3x768, .f32⟩
  | .hbm, ⟨6, _⟩ => ⟨S1x1024x2560, .f32⟩
  | .hbm, ⟨7, _⟩ => ⟨S1x256x256, .f32⟩
  | .hbm, ⟨8, _⟩ => ⟨S1x256, .f32⟩
  | .hbm, ⟨9, _⟩ => ⟨S1x1024x1024, .f32⟩
  | .hbm, ⟨10, _⟩ => ⟨S1x1024x4, .f32⟩
  | .hbm, ⟨11, _⟩ => ⟨S1x4, .f32⟩
  | .hbm, ⟨12, _⟩ => ⟨S1x1024x16, .f32⟩
  | .hbm, ⟨13, _⟩ => ⟨S1x16, .f32⟩
  | .hbm, ⟨14, _⟩ => ⟨S1x16x1024x512, .f32⟩
  | .hbm, ⟨15, _⟩ => ⟨S1x16x1024x512, .f32⟩
  | .hbm, ⟨16, _⟩ => ⟨S1024x2560, .f32⟩
  | .hbm, ⟨17, _⟩ => ⟨S1024x2560, .bf16⟩
  | .hbm, ⟨18, _⟩ => ⟨S1024x768, .bf16⟩
  | .hbm, ⟨19, _⟩ => ⟨S1024x384, .bf16⟩
  | .hbm, ⟨20, _⟩ => ⟨S1024x384, .bf16⟩
  | .hbm, ⟨21, _⟩ => ⟨S1024x384, .bf16⟩
  | .hbm, ⟨22, _⟩ => ⟨S1024x384, .bf16⟩
  | .hbm, ⟨23, _⟩ => ⟨S1024x2304, .bf16⟩
  | .hbm, ⟨24, _⟩ => ⟨S1024x4, .f32⟩
  | .hbm, ⟨25, _⟩ => ⟨S1024x16, .f32⟩
  | .hbm, ⟨26, _⟩ => ⟨S_, .f32⟩
  | .hbm, ⟨27, _⟩ => ⟨S1024x12, .f32⟩
  | .hbm, ⟨28, _⟩ => ⟨S1024x32, .f32⟩
  | .hbm, ⟨29, _⟩ => ⟨S32x1024, .f32⟩
  | .hbm, ⟨30, _⟩ => ⟨S32x1024, .bf16⟩
  | .hbm, ⟨31, _⟩ => ⟨S32x1024, .f32⟩
  | .hbm, ⟨32, _⟩ => ⟨S32x1024, .f32⟩
  | .hbm, ⟨33, _⟩ => ⟨S32x1024, .bf16⟩
  | .hbm, ⟨34, _⟩ => ⟨S64x1024, .bf16⟩
  | .hbm, ⟨35, _⟩ => ⟨S4, .f32⟩
  | .hbm, ⟨36, _⟩ => ⟨S16, .f32⟩
  | .hbm, ⟨37, _⟩ => ⟨S_, .f32⟩
  | .hbm, ⟨38, _⟩ => ⟨S12, .f32⟩
  | .hbm, ⟨39, _⟩ => ⟨S32, .f32⟩
  | .hbm, ⟨40, _⟩ => ⟨S32x1, .f32⟩
  | .hbm, ⟨41, _⟩ => ⟨S32x512, .f32⟩
  | .hbm, ⟨42, _⟩ => ⟨S1024, .f32⟩
  | .hbm, ⟨43, _⟩ => ⟨S1024, .f32⟩
  | .hbm, ⟨44, _⟩ => ⟨S3x768, .f32⟩
  | .hbm, ⟨45, _⟩ => ⟨S256x256, .f32⟩
  | .hbm, ⟨46, _⟩ => ⟨S256x256, .bf16⟩
  | .hbm, ⟨47, _⟩ => ⟨S256, .f32⟩
  | .hbm, ⟨48, _⟩ => ⟨S1024x1024, .f32⟩
  | .hbm, ⟨49, _⟩ => ⟨S1024x1024, .bf16⟩
  | .hbm, ⟨50, _⟩ => ⟨S16x1024x512, .f32⟩
  | .hbm, ⟨51, _⟩ => ⟨S16x1024x512, .f32⟩
  | .hbm, ⟨52, _⟩ => ⟨S1x1024, .f32⟩
  | .hbm, ⟨53, _⟩ => ⟨S1x1024, .f32⟩
  | .hbm, ⟨54, _⟩ => ⟨S1x256, .f32⟩
  | .hbm, ⟨55, _⟩ => ⟨S20x2048x1024, .f32⟩
  | .hbm, ⟨56, _⟩ => ⟨S20x2048x1152, .f32⟩
  | .hbm, ⟨57, _⟩ => ⟨S8x40960, .f32⟩
  | .hbm, ⟨58, _⟩ => ⟨S32x128, .f32⟩
  | .hbm, ⟨59, _⟩ => ⟨S16x1024x512, .bf16⟩
  | .hbm, ⟨60, _⟩ => ⟨S16x1024x512, .bf16⟩
  | .hbm, ⟨61, _⟩ => ⟨S20x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1024x128, .i32⟩
  | .local _ .vmem, ⟨7, _⟩ => ⟨S1x1024x128, .i32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S3x768, .f32⟩
  | .local _ .vmem, ⟨13, _⟩ => ⟨S1024x2304, .bf16⟩
  | .local _ .vmem, ⟨14, _⟩ => ⟨S256x256, .bf16⟩
  | .local _ .vmem, ⟨15, _⟩ => ⟨S1x256, .f32⟩
  | .local _ .vmem, ⟨16, _⟩ => ⟨S1024x1024, .bf16⟩
  | .local _ .vmem, ⟨17, _⟩ => ⟨S64x1024, .bf16⟩
  | .local _ .vmem, ⟨18, _⟩ => ⟨S32x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | .local _ .vmem, ⟨22, _⟩ => ⟨S1x1024x512, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1152, .f32⟩
  | .local _ .vmem, ⟨26, _⟩ => ⟨S1x1024x1152, .f32⟩
  | .local _ .vmem, ⟨27, _⟩ => ⟨S8x1024, .f32⟩
  | .local _ .vmem, ⟨28, _⟩ => ⟨S8x1024, .f32⟩
  | .local _ .vmem, ⟨29, _⟩ => ⟨S32x128, .f32⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v37_3 : Ref sig .tc := ⟨.hbm, 58, rfl⟩
abbrev main_v37_4 : Ref sig .tc := ⟨.hbm, 59, rfl⟩
abbrev main_v37_5 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![20, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c16_i32 : BitVec 32 := 16#32
  let v1 : BitVec 32 := Scalar.muli arg1 c16_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let v1 : BitVec 32 := Scalar.addi arg1 c1_i32
  let c16_i32 : BitVec 32 := 16#32
  let v2 : BitVec 32 := Scalar.muli v1 c16_i32
  let c31_i32 : BitVec 32 := 31#32
  let v3 : BitVec 32 := Scalar.minsi v2 c31_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c40_i32 : BitVec 32 := 40#32
  let v3 : BitVec 32 := Scalar.divsi v2 c40_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c40_i32 c0_i32_1
  let v10 : BitVec 32 := Scalar.extui v9
  let c0_i32_2 : BitVec 32 := 0#32
  let v11 : BitVec 1 := Scalar.cmpi .slt c40_i32 c0_i32_2
  let v12 : BitVec 32 := Scalar.extui v11
  let v13 : BitVec 32 := Scalar.subi v10 v12
  let v14 : BitVec 1 := Scalar.cmpi .ne v8 v13
  let v15 : BitVec 32 := Scalar.remsi v2 c40_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c40_i32 : BitVec 32 := 40#32
  let v3 : BitVec 32 := Scalar.divsi v2 c40_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c40_i32 c0_i32_1
  let v10 : BitVec 32 := Scalar.extui v9
  let c0_i32_2 : BitVec 32 := 0#32
  let v11 : BitVec 1 := Scalar.cmpi .slt c40_i32 c0_i32_2
  let v12 : BitVec 32 := Scalar.extui v11
  let v13 : BitVec 32 := Scalar.subi v10 v12
  let v14 : BitVec 1 := Scalar.cmpi .ne v8 v13
  let v15 : BitVec 32 := Scalar.remsi v2 c40_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c40_i32 : BitVec 32 := 40#32
  let v3 : BitVec 32 := Scalar.divsi v2 c40_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c40_i32 c0_i32_1
  let v10 : BitVec 32 := Scalar.extui v9
  let c0_i32_2 : BitVec 32 := 0#32
  let v11 : BitVec 1 := Scalar.cmpi .slt c40_i32 c0_i32_2
  let v12 : BitVec 32 := Scalar.extui v11
  let v13 : BitVec 32 := Scalar.subi v10 v12
  let v14 : BitVec 1 := Scalar.cmpi .ne v8 v13
  let v15 : BitVec 32 := Scalar.remsi v2 c40_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

def cc0_transform_21 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c40_i32 : BitVec 32 := 40#32
  let v3 : BitVec 32 := Scalar.divsi v2 c40_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c40_i32 c0_i32_1
  let v10 : BitVec 32 := Scalar.extui v9
  let c0_i32_2 : BitVec 32 := 0#32
  let v11 : BitVec 1 := Scalar.cmpi .slt c40_i32 c0_i32_2
  let v12 : BitVec 32 := Scalar.extui v11
  let v13 : BitVec 32 := Scalar.subi v10 v12
  let v14 : BitVec 1 := Scalar.cmpi .ne v8 v13
  let v15 : BitVec 32 := Scalar.remsi v2 c40_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2304 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1152 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MixersIdeal.lean ====
abbrev S32x2048x1024 : Shape := ⟨3, ![32, 2048, 1024]⟩
abbrev S32x2048x128 : Shape := ⟨3, ![32, 2048, 128]⟩
abbrev S32x6x1024 : Shape := ⟨3, ![32, 6, 1024]⟩
abbrev S1x1024 : Shape := ⟨2, ![1, 1024]⟩
abbrev S1x3x768 : Shape := ⟨3, ![1, 3, 768]⟩
abbrev S1x1024x2560 : Shape := ⟨3, ![1, 1024, 2560]⟩
abbrev S1x256x256 : Shape := ⟨3, ![1, 256, 256]⟩
abbrev S1x256 : Shape := ⟨2, ![1, 256]⟩
abbrev S1x1024x1024 : Shape := ⟨3, ![1, 1024, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x512 : Shape := ⟨4, ![1, 16, 1024, 512]⟩
abbrev S20x2048x1024 : Shape := ⟨3, ![20, 2048, 1024]⟩
abbrev S20x2048x128 : Shape := ⟨3, ![20, 2048, 128]⟩
abbrev S20x6x1024 : Shape := ⟨3, ![20, 6, 1024]⟩
abbrev S20x1x1024 : Shape := ⟨3, ![20, 1, 1024]⟩
abbrev S20x2048x128x2 : Shape := ⟨4, ![20, 2048, 128, 2]⟩
abbrev S20x2048x128x1 : Shape := ⟨4, ![20, 2048, 128, 1]⟩
abbrev S20x2048x256 : Shape := ⟨3, ![20, 2048, 256]⟩
abbrev S_ : Shape := ⟨0, ![]⟩
abbrev S256x256 : Shape := ⟨2, ![256, 256]⟩
abbrev S256 : Shape := ⟨1, ![256]⟩
abbrev S1x1x256 : Shape := ⟨3, ![1, 1, 256]⟩
abbrev S1024 : Shape := ⟨1, ![1024]⟩
abbrev S20x2048 : Shape := ⟨2, ![20, 2048]⟩
abbrev S20x2048x1 : Shape := ⟨3, ![20, 2048, 1]⟩
abbrev S1x1x1024 : Shape := ⟨3, ![1, 1, 1024]⟩
abbrev S1024x2560 : Shape := ⟨2, ![1024, 2560]⟩
abbrev S1024x2304 : Shape := ⟨2, ![1024, 2304]⟩
abbrev S20x2048x2304 : Shape := ⟨3, ![20, 2048, 2304]⟩
abbrev S3x768 : Shape := ⟨2, ![3, 768]⟩
abbrev S20x2048x768 : Shape := ⟨3, ![20, 2048, 768]⟩
abbrev S20x32x64x768 : Shape := ⟨4, ![20, 32, 64, 768]⟩
abbrev S20x32x64x384 : Shape := ⟨4, ![20, 32, 64, 384]⟩
abbrev S3x384 : Shape := ⟨2, ![3, 384]⟩
abbrev S20x32x66x384 : Shape := ⟨4, ![20, 32, 66, 384]⟩
abbrev S1x384 : Shape := ⟨2, ![1, 384]⟩
abbrev S384 : Shape := ⟨1, ![384]⟩
abbrev S1x1x1x384 : Shape := ⟨4, ![1, 1, 1, 384]⟩
abbrev S20x34x64x384 : Shape := ⟨4, ![20, 34, 64, 384]⟩
abbrev S1024x1024 : Shape := ⟨2, ![1024, 1024]⟩

abbrev nBuf : Space → Nat
  | .hbm => 180
  | .vmem => 0
  | .smem => 0
  | _ => 0

abbrev hbmTy0_0 (i : Nat) : BufTy := match i % 128 with
  | 0 => ⟨S32x2048x1024, .f32⟩
  | 1 => ⟨S32x2048x128, .i32⟩
  | 2 => ⟨S32x6x1024, .f32⟩
  | 3 => ⟨S1x1024, .f32⟩
  | 4 => ⟨S1x1024, .f32⟩
  | 5 => ⟨S1x3x768, .f32⟩
  | 6 => ⟨S1x1024x2560, .f32⟩
  | 7 => ⟨S1x256x256, .f32⟩
  | 8 => ⟨S1x256, .f32⟩
  | 9 => ⟨S1x1024x1024, .f32⟩
  | 10 => ⟨S1x1024x4, .f32⟩
  | 11 => ⟨S1x4, .f32⟩
  | 12 => ⟨S1x1024x16, .f32⟩
  | 13 => ⟨S1x16, .f32⟩
  | 14 => ⟨S1x16x1024x512, .f32⟩
  | 15 => ⟨S1x16x1024x512, .f32⟩
  | 16 => ⟨S20x2048x1024, .f32⟩
  | 17 => ⟨S20x2048x128, .i32⟩
  | 18 => ⟨S20x6x1024, .f32⟩
  | 19 => ⟨S20x1x1024, .f32⟩
  | 20 => ⟨S20x1x1024, .f32⟩
  | 21 => ⟨S20x1x1024, .f32⟩
  | 22 => ⟨S20x1x1024, .f32⟩
  | 23 => ⟨S20x1x1024, .f32⟩
  | 24 => ⟨S20x1x1024, .f32⟩
  | 25 => ⟨S20x2048x128x2, .bf16⟩
  | 26 => ⟨S20x2048x128x2, .f32⟩
  | 27 => ⟨S20x2048x128x1, .f32⟩
  | 28 => ⟨S20x2048x128, .f32⟩
  | 29 => ⟨S20x2048x128x1, .f32⟩
  | 30 => ⟨S20x2048x128, .f32⟩
  | 31 => ⟨S20x2048x256, .f32⟩
  | 32 => ⟨S20x2048x256, .f32⟩
  | 33 => ⟨S20x2048x256, .f32⟩
  | 34 => ⟨S_, .f32⟩
  | 35 => ⟨S20x2048x256, .f32⟩
  | 36 => ⟨S20x2048x256, .f32⟩
  | 37 => ⟨S20x2048x256, .f32⟩
  | 38 => ⟨S_, .f32⟩
  | 39 => ⟨S20x2048x256, .f32⟩
  | 40 => ⟨S20x2048x256, .f32⟩
  | 41 => ⟨S20x2048x256, .f32⟩
  | 42 => ⟨S_, .f32⟩
  | 43 => ⟨S20x2048x256, .f32⟩
  | 44 => ⟨S20x2048x256, .f32⟩
  | 45 => ⟨S_, .f32⟩
  | 46 => ⟨S20x2048x256, .f32⟩
  | 47 => ⟨S20x2048x256, .f32⟩
  | 48 => ⟨S20x2048x256, .f32⟩
  | 49 => ⟨S256x256, .f32⟩
  | 50 => ⟨S20x2048x256, .f32⟩
  | 51 => ⟨S256, .f32⟩
  | 52 => ⟨S1x1x256, .f32⟩
  | 53 => ⟨S20x2048x256, .f32⟩
  | 54 => ⟨S20x2048x256, .f32⟩
  | 55 => ⟨S20x2048x256, .f32⟩
  | 56 => ⟨S20x2048x256, .f32⟩
  | 57 => ⟨S_, .f32⟩
  | 58 => ⟨S20x2048x256, .f32⟩
  | 59 => ⟨S20x2048x256, .f32⟩
  | 60 => ⟨S_, .f32⟩
  | 61 => ⟨S20x2048x256, .f32⟩
  | 62 => ⟨S20x2048x256, .f32⟩
  | 63 => ⟨S20x2048x256, .f32⟩
  | 64 => ⟨S1024, .f32⟩
  | 65 => ⟨S20x2048x1024, .f32⟩
  | 66 => ⟨S_, .f32⟩
  | 67 => ⟨S20x2048, .f32⟩
  | 68 => ⟨S20x2048x1, .f32⟩
  | 69 => ⟨S_, .f32⟩
  | 70 => ⟨S20x2048x1, .f32⟩
  | 71 => ⟨S20x2048x1, .f32⟩
  | 72 => ⟨S_, .f32⟩
  | 73 => ⟨S20x2048x1, .f32⟩
  | 74 => ⟨S20x2048x1, .f32⟩
  | 75 => ⟨S20x2048x1, .f32⟩
  | 76 => ⟨S20x2048x1024, .f32⟩
  | 77 => ⟨S20x2048x1024, .f32⟩
  | 78 => ⟨S1x1x1024, .f32⟩
  | 79 => ⟨S20x2048x1024, .f32⟩
  | 80 => ⟨S20x2048x1024, .f32⟩
  | 81 => ⟨S_, .f32⟩
  | 82 => ⟨S20x1x1024, .f32⟩
  | 83 => ⟨S20x1x1024, .f32⟩
  | 84 => ⟨S20x2048x1024, .f32⟩
  | 85 => ⟨S20x2048x1024, .f32⟩
  | 86 => ⟨S20x2048x1024, .f32⟩
  | 87 => ⟨S20x2048x1024, .f32⟩
  | 88 => ⟨S1024x2560, .f32⟩
  | 89 => ⟨S1024x2304, .f32⟩
  | 90 => ⟨S20x2048x2304, .f32⟩
  | 91 => ⟨S3x768, .f32⟩
  | 92 => ⟨S20x2048x768, .f32⟩
  | 93 => ⟨S20x2048x768, .f32⟩
  | 94 => ⟨S20x2048x768, .f32⟩
  | 95 => ⟨S20x2048x768, .f32⟩
  | 96 => ⟨S20x32x64x768, .f32⟩
  | 97 => ⟨S20x32x64x384, .f32⟩
  | 98 => ⟨S3x384, .f32⟩
  | 99 => ⟨S_, .i32⟩
  | 100 => ⟨S_, .f32⟩
  | 101 => ⟨S20x32x66x384, .f32⟩
  | 102 => ⟨S20x32x64x384, .f32⟩
  | 103 => ⟨S1x384, .f32⟩
  | 104 => ⟨S384, .f32⟩
  | 105 => ⟨S1x1x1x384, .f32⟩
  | 106 => ⟨S20x32x64x384, .f32⟩
  | 107 => ⟨S20x32x64x384, .f32⟩
  | 108 => ⟨S20x32x64x384, .f32⟩
  | 109 => ⟨S1x384, .f32⟩
  | 110 => ⟨S384, .f32⟩
  | 111 => ⟨S1x1x1x384, .f32⟩
  | 112 => ⟨S20x32x64x384, .f32⟩
  | 113 => ⟨S20x32x64x384, .f32⟩
  | 114 => ⟨S20x32x64x384, .f32⟩
  | 115 => ⟨S20x32x64x384, .f32⟩
  | 116 => ⟨S1x384, .f32⟩
  | 117 => ⟨S384, .f32⟩
  | 118 => ⟨S1x1x1x384, .f32⟩
  | 119 => ⟨S20x32x64x384, .f32⟩
  | 120 => ⟨S20x32x64x384, .f32⟩
  | 121 => ⟨S20x32x64x384, .f32⟩
  | 122 => ⟨S20x32x64x384, .f32⟩
  | 123 => ⟨S3x384, .f32⟩
  | 124 => ⟨S_, .i32⟩
  | 125 => ⟨S_, .f32⟩
  | 126 => ⟨S20x34x64x384, .f32⟩
  | 127 => ⟨S20x32x64x384, .f32⟩
  | _ => ⟨S32x2048x1024, .f32⟩

abbrev hbmTy0_1 (i : Nat) : BufTy := match i % 128 with
  | 0 => ⟨S1x384, .f32⟩
  | 1 => ⟨S384, .f32⟩
  | 2 => ⟨S1x1x1x384, .f32⟩
  | 3 => ⟨S20x32x64x384, .f32⟩
  | 4 => ⟨S20x32x64x384, .f32⟩
  | 5 => ⟨S20x32x64x384, .f32⟩
  | 6 => ⟨S1x384, .f32⟩
  | 7 => ⟨S384, .f32⟩
  | 8 => ⟨S1x1x1x384, .f32⟩
  | 9 => ⟨S20x32x64x384, .f32⟩
  | 10 => ⟨S20x32x64x384, .f32⟩
  | 11 => ⟨S20x32x64x384, .f32⟩
  | 12 => ⟨S20x32x64x384, .f32⟩
  | 13 => ⟨S1x384, .f32⟩
  | 14 => ⟨S384, .f32⟩
  | 15 => ⟨S1x1x1x384, .f32⟩
  | 16 => ⟨S20x32x64x384, .f32⟩
  | 17 => ⟨S20x32x64x384, .f32⟩
  | 18 => ⟨S20x32x64x384, .f32⟩
  | 19 => ⟨S20x32x64x768, .f32⟩
  | 20 => ⟨S20x2048x768, .f32⟩
  | 21 => ⟨S20x2048x768, .f32⟩
  | 22 => ⟨S20x2048x1024, .f32⟩
  | 23 => ⟨S1024x1024, .f32⟩
  | 24 => ⟨S20x2048x1024, .f32⟩
  | 25 => ⟨S20x2048x1024, .f32⟩
  | 26 => ⟨S20x2048x1024, .f32⟩
  | 27 => ⟨S20x2048x1024, .f32⟩
  | 28 => ⟨S1024, .f32⟩
  | 29 => ⟨S20x2048x1024, .f32⟩
  | 30 => ⟨S_, .f32⟩
  | 31 => ⟨S20x2048, .f32⟩
  | 32 => ⟨S20x2048x1, .f32⟩
  | 33 => ⟨S_, .f32⟩
  | 34 => ⟨S20x2048x1, .f32⟩
  | 35 => ⟨S20x2048x1, .f32⟩
  | 36 => ⟨S_, .f32⟩
  | 37 => ⟨S20x2048x1, .f32⟩
  | 38 => ⟨S20x2048x1, .f32⟩
  | 39 => ⟨S20x2048x1, .f32⟩
  | 40 => ⟨S20x2048x1024, .f32⟩
  | 41 => ⟨S20x2048x1024, .f32⟩
  | 42 => ⟨S1x1x1024, .f32⟩
  | 43 => ⟨S20x2048x1024, .f32⟩
  | 44 => ⟨S20x2048x1024, .f32⟩
  | 45 => ⟨S_, .f32⟩
  | 46 => ⟨S20x1x1024, .f32⟩
  | 47 => ⟨S20x1x1024, .f32⟩
  | 48 => ⟨S20x2048x1024, .f32⟩
  | 49 => ⟨S20x2048x1024, .f32⟩
  | 50 => ⟨S20x2048x1024, .f32⟩
  | 51 => ⟨S20x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c : Ref sig .tc := ⟨.hbm, 99, rfl⟩
abbrev main_call0_v0 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_9 : Ref sig .tc := ⟨.hbm, 124, rfl⟩
abbrev main_call1_v0 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_10 : Ref sig .tc := ⟨.hbm, 158, rfl⟩
abbrev main_v128 : Ref sig .tc := ⟨.hbm, 159, rfl⟩
abbrev main_v129 : Ref sig .tc := ⟨.hbm, 160, rfl⟩
abbrev main_cst_11 : Ref sig .tc := ⟨.hbm, 161, rfl⟩
abbrev main_v130 : Ref sig .tc := ⟨.hbm, 162, rfl⟩
abbrev main_v131 : Ref sig .tc := ⟨.hbm, 163, rfl⟩
abbrev main_cst_12 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_13 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩

abbrev nD : Nat := 1
abbrev τ : Topo := Topo.v7x

variable {F : FTy → Type} [FloatOps F]
-- ==== Proof.Front.Run.lean ====
/-
  The run of the three calls before the mixers, over any floats: every execution terminates, nothing faulting, with the four results at
  what the host's last operations leave in them, every argument as launched and every counter at zero.
-/
module

public import proofs.«01_k».proof.Proof.Gen.FrontIdeal.Frame

@[expose] public section

set_option maxRecDepth 16384

noncomputable section

namespace Cert.Proof.Front

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v8) = W7 m ρ c (Proc.devRef .tc main_v8)
      ∧ r.2.mem ((c.tc : Thread nD τ).loc main_v10) = W7 m ρ c (Proc.devRef .tc main_v10)
      ∧ r.2.mem ((c.tc : Thread nD τ).loc main_v20) = W7 m ρ c (Proc.devRef .tc main_v20)
      ∧ r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v8 (by decide)),
       h c _ (mem_uc main_v10 (by decide)),
       h c _ (mem_uc main_v20 (by decide)),
       h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩), funext fun g => hz g (.inr (no_unscoped g.2))⟩)

end Cert.Proof.Front

end
-- ==== Proof.Final.Words.lean ====
/-
  The two halves of a packed word, over the extended reals: the word with its lower half cleared, and the word's lower
  half moved up, denote as 32-bit floats what the halves denote as 16-bit floats.
-/
module

public import Idealize.ShloMosaic.PureOps.Vector
public import Idealize.ShloMosaic.PureOps.Ideal

@[expose] public section

noncomputable section

namespace Cert.Proof.Final

open Idealize.ShloMosaic

/-- A 16-bit pattern, and the 32-bit pattern with sixteen zero bits after it, denote the same number. -/
theorem ofBits_widen (v : BitVec 32) (u : BitVec 16) (h : v.toNat = u.toNat * 65536) : Ideal.ofBits .f32 v = Ideal.ofBits .bf16 u := by
  have hu := u.isLt
  have hs : v.extractLsb' 31 1 = u.extractLsb' 15 1 := by
    apply BitVec.eq_of_toNat_eq
    simp only [BitVec.extractLsb'_toNat, Nat.shiftRight_eq_div_pow, h]
    omega
  have he : v.extractLsb' 23 8 = u.extractLsb' 7 8 := by
    apply BitVec.eq_of_toNat_eq
    simp only [BitVec.extractLsb'_toNat, Nat.shiftRight_eq_div_pow, h]
    omega
  have hn : (v.extractLsb' 0 23).toNat = (u.extractLsb' 0 7).toNat * 65536 := by
    simp only [BitVec.extractLsb'_toNat, Nat.shiftRight_eq_div_pow, h]
    omega
  show Ideal.ieee 8 23 v = Ideal.ieee 8 7 u
  unfold Ideal.ieee
  dsimp only
  rw [show (8 + 23 : ℕ) = 31 from rfl, show (8 + 7 : ℕ) = 15 from rfl, hs, he, hn]
  generalize (u.extractLsb' 7 8).toNat = ex
  generalize (u.extractLsb' 0 7).toNat = fr
  generalize (if (u.extractLsb' 15 1 == 1#1) = true then (-1 : ℝ) else 1) = sgn
  have hz : (fr * 65536 = 0) = (fr = 0) := propext (by omega)
  have hp (z : ℤ) : (2 : ℝ) ^ (z - 7) = 65536 * (2 : ℝ) ^ (z - 23) := by
    rw [show z - 7 = (16 : ℤ) + (z - 23) by ring, zpow_add₀ (by norm_num : (2 : ℝ) ≠ 0)]
    norm_num
  refine ite_congr rfl (fun _ => ite_congr hz (fun _ => rfl) fun _ => rfl) fun _ => ite_congr rfl (fun _ => ?_) fun _ => ?_
  · refine congrArg _ ?_
    have e := hp (1 - (2 ^ (8 - 1) - 1))
    push_cast at e ⊢
    rw [e]
    ring
  · refine congrArg _ ?_
    have e := hp ((ex : ℤ) - (2 ^ (8 - 1) - 1))
    push_cast at e ⊢
    rw [e]
    ring

theorem mask_eq (w : BitVec 32) : w &&& 4294901760#32 = (w >>> 16) <<< 16 := by
  have hm : ∀ i : Fin 32, (4294901760#32).getLsbD i.val = decide (16 ≤ i.val) := by decide
  apply BitVec.eq_of_getLsbD_eq
  intro i hi
  rw [BitVec.getLsbD_and, hm ⟨i, hi⟩, BitVec.getLsbD_shiftLeft, BitVec.getLsbD_ushiftRight]
  by_cases h : i < 16
  · simp [h]
  · have e : 16 + (i - 16) = i := by omega
    have h' : 16 ≤ i := by omega
    simp [h, h', hi, e]

/-- The upper half: the lower bits cleared. -/
theorem upper (w : BitVec 32) : Ideal.ofBits .f32 (w &&& 4294901760#32) = Ideal.ofBits .bf16 (w.extractLsb' 16 16) := by
  refine ofBits_widen _ _ ?_
  have hw := w.isLt
  rw [mask_eq]
  simp only [BitVec.toNat_shiftLeft, BitVec.toNat_ushiftRight, BitVec.extractLsb'_toNat, Nat.shiftRight_eq_div_pow, Nat.shiftLeft_eq]
  omega

/-- The lower half: moved up. -/
theorem lower (w : BitVec 32) : Ideal.ofBits .f32 (w <<< 16) = Ideal.ofBits .bf16 (w.extractLsb' 0 16) := by
  refine ofBits_widen _ _ ?_
  have hw := w.isLt
  simp only [BitVec.toNat_shiftLeft, BitVec.extractLsb'_toNat, Nat.shiftRight_eq_div_pow, Nat.shiftLeft_eq]
  omega

end Cert.Proof.Final

end
-- ==== Proof.Final.Payload.lean ====
/-
  What the final call's two stores hold, read at an index: a row's stream plus its gated expert result, over the root
  mean square of the row, times the norm's weight.
-/
module

public import proofs.«01_k».proof.Proof.Gen.FinalIdeal.Frame
public import proofs.«01_k».proof.Proof.Final.Words
public import Idealize.ShloMosaic.Lib.Pointwise

@[expose] public section

set_option maxRecDepth 16384

noncomputable section

namespace Cert.Proof.Final

open Cert.FinalIdeal Cert.FinalIdeal.Gen Idealize.ShloMosaic Idealize.ShloMosaic.TcCoe Idealize.SL.Sem

/-- A row's expert result at a column: the upper half of the word below column 512, the lower half from there. -/
def half (w : Fin 512 → BitVec 32) (k : Fin 1024) : EReal :=
  if h : k.val < 512 then Ideal.ofBits .bf16 ((w ⟨k.val, h⟩).extractLsb' 16 16)
  else Ideal.ofBits .bf16 ((w ⟨k.val - 512, by omega⟩).extractLsb' 0 16)

/-- A row's stream after the gated expert result. -/
def mix (x : Fin 1024 → EReal) (w : Fin 512 → BitVec 32) (g : Fin 1024 → EReal) (k : Fin 1024) : EReal := x k + g k * half w k

/-- The inverse root mean square of a row. -/
def inv (y : Fin 1024 → EReal) : EReal :=
  Ideal.rsqrt (Ideal.div (∑ k, y k * y k) (Ideal.ofBits .f32 0x44800000#32) + Ideal.ofBits .f32 0x358637BD#32)

/-- A normed row. -/
def normed (x : Fin 1024 → EReal) (w : Fin 512 → BitVec 32) (g s : Fin 1024 → EReal) (k : Fin 1024) : EReal :=
  mix x w g k * inv (mix x w g) * s k

/-- A column of the left half, and of the right half. -/
abbrev lo (k : Fin 512) : Fin 1024 := ⟨k.val, by omega⟩
abbrev hi (k : Fin 512) : Fin 1024 := ⟨512 + k.val, by omega⟩

theorem half_lo (w : Fin 512 → BitVec 32) (k : Fin 512) : half w (lo k) = Ideal.ofBits .f32 (w k &&& 4294901760#32) := by
  unfold half
  rw [dif_pos k.isLt, upper]

theorem half_hi (w : Fin 512 → BitVec 32) (k : Fin 512) : half w (hi k) = Ideal.ofBits .f32 (w k <<< 16) := by
  unfold half
  rw [dif_neg (by show ¬ 512 + k.val < 512; omega), lower]
  have e : (⟨(hi k).val - 512, by omega⟩ : Fin 512) = k := Fin.ext (by show 512 + k.val - 512 = k.val; omega)
  rw [e]

theorem shl_eq (w : BitVec 32) : IntOp.shli .vector w 16#32 = w <<< 16 := by
  unfold IntOp.shli
  rw [if_pos (by decide)]
  rfl

section
variable (v0 : Vec Ideal S1x2048x512 .i32) (v8 : Vec Ideal S1x1x1024 .f32) (v10 v16 : Vec Ideal S1x2048x512 .f32) (r : Fin 2048) (k : Fin 512)

theorem pay5_apply : k0_pay5 v0 v8 v10 (ix2 r k) = v10 (ix3 0 r k) + v8 (ix3 0 0 (lo k)) * Ideal.ofBits .f32 (v0 (ix3 0 r k) &&& 4294901760#32) := by
  pointwise [k0_pay5, k0_pay3, k0_pay4]
  rfl

theorem pay6_apply : k0_pay6 v0 v8 v16 (ix2 r k) = v16 (ix3 0 r k) + v8 (ix3 0 0 (hi k)) * Ideal.ofBits .f32 (v0 (ix3 0 r k) <<< 16) := by
  pointwise [k0_pay6, k0_pay3, k0_pay4]
  rw [shl_eq]

theorem pay7_apply : k0_pay7 v0 v8 v10 v16 (ix2 r 0)
    = Ideal.rsqrt (Ideal.div ((∑ k : Fin 512, k0_pay5 v0 v8 v10 (ix2 r k) * k0_pay5 v0 v8 v10 (ix2 r k)) + ∑ k : Fin 512, k0_pay6 v0 v8 v16 (ix2 r k) * k0_pay6 v0 v8 v16 (ix2 r k))
        (Ideal.ofBits .f32 0x44800000#32) + Ideal.ofBits .f32 0x358637BD#32) := by
  pointwise [k0_pay7]

theorem pay1_apply (v36 : Vec Ideal S1x512 .f32) : k0_pay1 (k0_pay8 v0 v8 v10 v16) (k0_pay9 v36) (ix3 0 r k)
    = k0_pay5 v0 v8 v10 (ix2 r k) * k0_pay7 v0 v8 v10 v16 (ix2 r 0) * v36 (ix2 0 k) := by
  pointwise [k0_pay1, k0_pay8, k0_pay9]

theorem pay2_apply (v21 : FVec Ideal S2048x512 .f32) (v33 : FVec Ideal S2048x1 .f32) (v45 : Vec Ideal S1x512 .f32) : k0_pay2 v21 v33 v45 (ix3 0 r k)
    = v21 (ix2 r k) * v33 (ix2 r 0) * v45 (ix2 0 k) := by
  pointwise [k0_pay2]

end

/-- The two halves of the row, from the loads: the normed row. -/
theorem norm_halves (v0 : Vec Ideal S1x2048x512 .i32) (v8 : Vec Ideal S1x1x1024 .f32) (v10 v16 : Vec Ideal S1x2048x512 .f32) (r : Fin 2048)
    (x : Fin 1024 → EReal) (w : Fin 512 → BitVec 32) (g : Fin 1024 → EReal)
    (h0 : ∀ k, v0 (ix3 0 r k) = w k) (h8 : ∀ k, v8 (ix3 0 0 k) = g k) (h10 : ∀ k, v10 (ix3 0 r k) = x (lo k)) (h16 : ∀ k, v16 (ix3 0 r k) = x (hi k)) :
    (∀ k, k0_pay5 v0 v8 v10 (ix2 r k) = mix x w g (lo k)) ∧ (∀ k, k0_pay6 v0 v8 v16 (ix2 r k) = mix x w g (hi k))
      ∧ k0_pay7 v0 v8 v10 v16 (ix2 r 0) = inv (mix x w g) := by
  have a5 : ∀ k, k0_pay5 v0 v8 v10 (ix2 r k) = mix x w g (lo k) := fun k => by
    rw [pay5_apply, h0, h8, h10]; unfold mix; rw [half_lo]
  have a6 : ∀ k, k0_pay6 v0 v8 v16 (ix2 r k) = mix x w g (hi k) := fun k => by
    rw [pay6_apply, h0, h8, h16]; unfold mix; rw [half_hi]
  refine ⟨a5, a6, ?_⟩
  rw [pay7_apply]
  unfold inv
  rw [Fin.sum_univ_two_halves 512 512 (rfl : 512 + 512 = 1024)]
  simp only [a5, a6]

end Cert.Proof.Final

end
-- ==== Proof.Front.Payload.lean ====
/-
  What the bodies of the three calls before the mixers compute, read at an index: a condition's modulation, and a
  modulated row through the first columns of the input projection.
-/
module

public import proofs.«01_k».proof.Proof.Gen.FrontIdeal.Frame
public import proofs.«01_k».proof.Proof.Final.Payload
public import Idealize.ShloMosaic.Lib.Pointwise

@[expose] public section

set_option maxRecDepth 16384

noncomputable section

namespace Cert.Proof.Front

open Cert.FrontIdeal Cert.FrontIdeal.Gen Idealize.ShloMosaic Idealize.ShloMosaic.TcCoe Idealize.SL.Sem

/-- A condition through a column of the modulation's weight, plus its bias. -/
def modul (v w : Fin 1024 → EReal) (b : EReal) : EReal := (∑ k, v k * Ideal.logistic (v k) * w k) + b

/-- A row over its root mean square, scaled and shifted by its modulation. -/
def modded (x g sh sc : Fin 1024 → EReal) (k : Fin 1024) : EReal :=
  x k * Final.inv x * (g k * (Ideal.ofBits .f32 0x3F800000#32 + sc k)) + sh k

/-- That row through a column of the projection. -/
def proj (x g sh sc w : Fin 1024 → EReal) : EReal := ∑ k, modded x g sh sc k * w k

theorem mod_apply (v0 : Vec Ideal S40x1024 .f32) (v6 : Vec Ideal S1024x1024 .f32) (v8 : Vec Ideal S1x1024 .f32) (r : Fin 40) (q : Fin 1024) :
    k0_pay1 v0 v6 v8 (ix2 r q) = modul (fun k => v0 (ix2 r k)) (fun k => v6 (ix2 k q)) (v8 (ix2 0 q)) := by
  pointwise [k0_pay1, modul]

theorem row_apply (v0 : Vec Ideal S1x2048x1024 .f32) (v2 : Vec Ideal S1x1024 .f32) (v4 v6 : Vec Ideal S1x1x1024 .f32) (v26 : Vec Ideal S1024x256 .bf16) (r : Fin 2048) (n : Fin 256) :
    k1_pay1 v0 v2 v4 v6 v26 (ix3 0 r n)
      = proj (fun k => v0 (ix3 0 r k)) (fun k => v2 (ix2 0 k)) (fun k => v4 (ix3 0 0 k)) (fun k => v6 (ix3 0 0 k)) (fun k => v26 (ix2 k n)) := by
  pointwise [k1_pay1, proj, modded, Final.inv]

theorem ctx_at (v0 : Vec Ideal S8x256x1024 .f32) (v2 : Vec Ideal S1x1024 .f32) (v4 v6 : Vec Ideal S1x1x1024 .f32) (v26 : Vec Ideal S1024x256 .bf16) (n : Fin 256) (q : Fin 2048) :
    k2_pay8 v0 v2 v4 v6 v26 (ix2 q n)
      = proj (fun k => v0 (ix3 ⟨q.val / 256, by have := q.isLt; omega⟩ ⟨q.val % 256, by have := q.isLt; omega⟩ k)) (fun k => v2 (ix2 0 k)) (fun k => v4 (ix3 0 0 k)) (fun k => v6 (ix3 0 0 k)) (fun k => v26 (ix2 k n)) := by
  pointwise [k2_pay8, proj, modded, Final.inv]

/-- The rows of eight batches one after another: batch `b`'s row `r` is row `256 b + r` of them. -/
theorem ctx_apply (v0 : Vec Ideal S8x256x1024 .f32) (v2 : Vec Ideal S1x1024 .f32) (v4 v6 : Vec Ideal S1x1x1024 .f32) (v26 : Vec Ideal S1024x256 .bf16) (b : Fin 8) (r : Fin 256) (n : Fin 256) :
    k2_pay8 v0 v2 v4 v6 v26 (ix2 ⟨256 * b.val + r.val, by omega⟩ n)
      = proj (fun k => v0 (ix3 b r k)) (fun k => v2 (ix2 0 k)) (fun k => v4 (ix3 0 0 k)) (fun k => v6 (ix3 0 0 k)) (fun k => v26 (ix2 k n)) := by
  rw [ctx_at]
  have hb : (⟨(256 * b.val + r.val) / 256, by omega⟩ : Fin 8) = b := Fin.ext (by show (256 * b.val + r.val) / 256 = b.val; omega)
  have hr : (⟨(256 * b.val + r.val) % 256, by omega⟩ : Fin 256) = r := Fin.ext (by show (256 * b.val + r.val) % 256 = r.val; omega)
  simp only [hb, hr]

section
variable (z : FVec Ideal S2048x256 .bf16) (r n : Fin 256)
theorem piece1 : k2_pay1 (extractStridedSlice S256x256 ![256, 0] z slices_S2048x256_o256_0_S256x256) (ix3 0 r n) = z (ix2 ⟨256 * 1 + r.val, by omega⟩ n) := by pointwise [k2_pay1]
theorem piece2 : k2_pay2 z (ix3 0 r n) = z (ix2 ⟨256 * 2 + r.val, by omega⟩ n) := by pointwise [k2_pay2]
theorem piece3 : k2_pay3 z (ix3 0 r n) = z (ix2 ⟨256 * 3 + r.val, by omega⟩ n) := by pointwise [k2_pay3]
theorem piece4 : k2_pay4 z (ix3 0 r n) = z (ix2 ⟨256 * 4 + r.val, by omega⟩ n) := by pointwise [k2_pay4]
theorem piece5 : k2_pay5 z (ix3 0 r n) = z (ix2 ⟨256 * 5 + r.val, by omega⟩ n) := by pointwise [k2_pay5]
theorem piece6 : k2_pay6 z (ix3 0 r n) = z (ix2 ⟨256 * 6 + r.val, by omega⟩ n) := by pointwise [k2_pay6]
theorem piece7 : k2_pay7 z (ix3 0 r n) = z (ix2 ⟨256 * 7 + r.val, by omega⟩ n) := by pointwise [k2_pay7]
end
theorem piece0 (v0 : Vec Ideal S8x256x1024 .f32) (v2 : Vec Ideal S1x1024 .f32) (v4 v6 : Vec Ideal S1x1x1024 .f32) (v26 : Vec Ideal S1024x256 .bf16) (r n : Fin 256) :
    k2_pay9 v0 v2 v4 v6 v26 (ix3 0 r n) = k2_pay8 v0 v2 v4 v6 v26 (ix2 ⟨256 * 0 + r.val, by omega⟩ n) := by
  unfold k2_pay9
  generalize k2_pay8 v0 v2 v4 v6 v26 = z
  pointwise

end Cert.Proof.Front

end
-- ==== Proof.Front.Body.lean ====
/-
  A grid point's output block of each of the three calls, read at an index.
-/
module

public import proofs.«01_k».proof.Proof.Front.Payload
public import Idealize.ShloMosaic.Lib.WholeRead
public import Idealize.ShloMosaic.Lib.Writes
public import Idealize.ShloMosaic.Lib.Pipeline.Value

@[expose] public section

set_option maxRecDepth 16384

noncomputable section

namespace Cert.Proof.Front

open Cert.FrontIdeal Cert.FrontIdeal.Gen Idealize.ShloMosaic Idealize.ShloMosaic.TcCoe Idealize.ShloMosaic.Tactic Idealize.SL.Sem

/-! ## The modulation -/

section
variable (x0 : Vec Ideal S40x1024 .f32) (x1 : Vec Ideal S1024x1024 .f32) (x2 : Vec Ideal S1x1024 .f32)

def blockMod (r : Fin 40) (q : Fin 1024) : EReal := modul (fun k => x0 (ix2 r k)) (fun k => x1 (ix2 k q)) (x2 (ix2 0 q))

theorem emb_mod (y : S40x1024.Idx) : r0_0.emb y = y := funext fun a => Fin.ext (by
  match a with
  | ⟨0, _⟩ => show 0 + 1 * (y 0).val = (y 0).val; omega
  | ⟨1, _⟩ => show 0 + 1 * (y 1).val = (y 1).val; omega)

theorem ld_cond (r : Fin 40) (k : Fin 1024) : View.ld x0 r0_0 (ix2 r k) = x0 (ix2 r k) := by pointwise
theorem ld_modw (k q : Fin 1024) : View.ld x1 r0_1 (ix2 k q) = x1 (ix2 k q) := by pointwise
theorem ld_modb (q : Fin 1024) : View.ld x2 r0_2 (ix2 0 q) = x2 (ix2 0 q) := by pointwise

theorem mod_loaded (r : Fin 40) (q : Fin 1024) : k0_pay1 (View.ld x0 r0_0) (View.ld x1 r0_1) (View.ld x2 r0_2) (ix2 r q) = blockMod x0 x1 x2 r q := by
  rw [mod_apply, funext (ld_cond x0 r), funext fun k => ld_modw x1 k q, ld_modb]
  rfl

theorem canon_mod (p : Vec Ideal S40x1024 .f32) (G : Fin 40 → Fin 1024 → EReal) (h : ∀ r q, p (ix2 r q) = G r q) (y : S40x1024.Idx) :
    View.canon ([⟨r0_0, p⟩] : List (View.Piece (Elt Ideal) S40x1024 .f32)) y = G (y 0) (y 1) := by
  refine View.canon_apply_of_pieces (fun y => G (y 0) (y 1)) _ (fun q hq x => ?_) y (cover0_3 p y)
  rcases List.mem_cons.mp hq with rfl | hq
  · show p x = G ((r0_0.emb x) 0) ((r0_0.emb x) 1)
    rw [emb_mod x]
    exact (congrArg p (eq_ix2 x)).trans (h _ _)
  · exact absurd hq (List.not_mem_nil)

theorem out0_apply (y : S40x1024.Idx) : out0_3 x0 x1 x2 y = blockMod x0 x1 x2 (y 0) (y 1) := by
  have h := mod_loaded x0 x1 x2
  unfold out0_3
  generalize k0_pay1 (F := Ideal) _ _ _ = p at h ⊢
  exact canon_mod p (blockMod x0 x1 x2) h y
end

/-! ## The tokens' projection -/

section
variable (x0 : Vec Ideal S1x2048x1024 .f32) (x1 : Vec Ideal S1x6x1024 .f32) (x2 : Vec Ideal S1x1024 .f32) (x3 : Vec Ideal S1024x256 .bf16)

def blockRow (r : Fin 2048) (n : Fin 256) : EReal :=
  proj (fun k => x0 (ix3 0 r k)) (fun k => x2 (ix2 0 k)) (fun k => x1 (ix3 0 0 k)) (fun k => x1 (ix3 0 1 k)) (fun k => x3 (ix2 k n))

theorem emb_row (y : S1x2048x256.Idx) : r1_5.emb y = y := funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega)

theorem eta_row (y : S1x2048x256.Idx) : y = ix3 0 (y 1) (y 2) := funext fun a => Fin.ext (by
  match a with
  | ⟨0, _⟩ => have h : (y 0).val < 1 := (y 0).isLt; show (y 0).val = 0; omega
  | ⟨1, _⟩ => rfl
  | ⟨2, _⟩ => rfl)

theorem ld1_x (r : Fin 2048) (k : Fin 1024) : View.ld x0 r1_0 (ix3 0 r k) = x0 (ix3 0 r k) := by pointwise
theorem ld1_g (k : Fin 1024) : View.ld x2 r1_1 (ix2 0 k) = x2 (ix2 0 k) := by pointwise
theorem ld1_shift (k : Fin 1024) : View.ld x1 r1_2 (ix3 0 0 k) = x1 (ix3 0 0 k) := by pointwise
theorem ld1_scale (k : Fin 1024) : View.ld x1 r1_3 (ix3 0 0 k) = x1 (ix3 0 1 k) := by pointwise
theorem ld1_w (k : Fin 1024) (n : Fin 256) : View.ld x3 r1_4 (ix2 k n) = x3 (ix2 k n) := by pointwise

theorem row_loaded (r : Fin 2048) (n : Fin 256) :
    k1_pay1 (View.ld x0 r1_0) (View.ld x2 r1_1) (View.ld x1 r1_2) (View.ld x1 r1_3) (View.ld x3 r1_4) (ix3 0 r n) = blockRow x0 x1 x2 x3 r n := by
  rw [row_apply, funext (ld1_x x0 r), funext (ld1_g x2), funext (ld1_shift x1), funext (ld1_scale x1), funext fun k => ld1_w x3 k n]
  rfl

theorem canon_row (p : Vec Ideal S1x2048x256 .bf16) (G : Fin 2048 → Fin 256 → EReal) (h : ∀ r n, p (ix3 0 r n) = G r n) (y : S1x2048x256.Idx) :
    View.canon ([⟨r1_5, p⟩] : List (View.Piece (Elt Ideal) S1x2048x256 .bf16)) y = G (y 1) (y 2) := by
  refine View.canon_apply_of_pieces (fun y => G (y 1) (y 2)) _ (fun q hq x => ?_) y (cover1_4 p y)
  rcases List.mem_cons.mp hq with rfl | hq
  · show p x = G ((r1_5.emb x) 1) ((r1_5.emb x) 2)
    rw [emb_row x]
    exact (congrArg p (eta_row x)).trans (h _ _)
  · exact absurd hq (List.not_mem_nil)

theorem out1_apply (y : S1x2048x256.Idx) : out1_4 x0 x1 x2 x3 y = blockRow x0 x1 x2 x3 (y 1) (y 2) := by
  have h := row_loaded x0 x1 x2 x3
  unfold out1_4
  generalize k1_pay1 (F := Ideal) _ _ _ _ _ = p at h ⊢
  exact canon_row p (blockRow x0 x1 x2 x3) h y
end

/-! ## The context's projection -/

section
variable (x0 : Vec Ideal S8x256x1024 .f32) (x1 : Vec Ideal S1x6x1024 .f32) (x2 : Vec Ideal S1x1024 .f32) (x3 : Vec Ideal S1024x256 .bf16)

def blockCtx (b : Fin 8) (r : Fin 256) (n : Fin 256) : EReal :=
  proj (fun k => x0 (ix3 b r k)) (fun k => x2 (ix2 0 k)) (fun k => x1 (ix3 0 0 k)) (fun k => x1 (ix3 0 1 k)) (fun k => x3 (ix2 k n))

theorem eta_ctx (y : S1x256x256.Idx) : y = ix3 0 (y 1) (y 2) := funext fun a => Fin.ext (by
  match a with
  | ⟨0, _⟩ => have h : (y 0).val < 1 := (y 0).isLt; show (y 0).val = 0; omega
  | ⟨1, _⟩ => rfl
  | ⟨2, _⟩ => rfl)

theorem emb_ctx (b : Fin 8) (h : ∀ a, (![b.val, 0, 0] : Fin 3 → Nat) a + S1x256x256.size a ≤ S8x256x256.size a) (y : S1x256x256.Idx) :
    (Rect.unit (s := S8x256x256) ![b.val, 0, 0] S1x256x256.size h).emb y = (ix3 b (y 1) (y 2) : S8x256x256.Idx) := funext fun a => Fin.ext (by
  match a with
  | ⟨0, _⟩ => have h : (y 0).val < 1 := (y 0).isLt; show b.val + 1 * (y 0).val = b.val; omega
  | ⟨1, _⟩ => show 0 + 1 * (y 1).val = (y 1).val; omega
  | ⟨2, _⟩ => show 0 + 1 * (y 2).val = (y 2).val; omega)

theorem ld2_x (b : Fin 8) (r : Fin 256) (k : Fin 1024) : View.ld x0 r2_0 (ix3 b r k) = x0 (ix3 b r k) := by pointwise
theorem ld2_g (k : Fin 1024) : View.ld x2 r2_1 (ix2 0 k) = x2 (ix2 0 k) := by pointwise
theorem ld2_shift (k : Fin 1024) : View.ld x1 r2_2 (ix3 0 0 k) = x1 (ix3 0 0 k) := by pointwise
theorem ld2_scale (k : Fin 1024) : View.ld x1 r2_3 (ix3 0 0 k) = x1 (ix3 0 1 k) := by pointwise
theorem ld2_w (k : Fin 1024) (n : Fin 256) : View.ld x3 r2_4 (ix2 k n) = x3 (ix2 k n) := by pointwise

/-- Eight stores, one a batch, read back at an index. -/
theorem canon_eight (p0 p1 p2 p3 p4 p5 p6 p7 : Vec Ideal S1x256x256 .bf16) (G : Fin 8 → Fin 256 → Fin 256 → EReal)
    (h0 : ∀ r n, p0 (ix3 0 r n) = G 0 r n) (h1 : ∀ r n, p1 (ix3 0 r n) = G 1 r n) (h2 : ∀ r n, p2 (ix3 0 r n) = G 2 r n) (h3 : ∀ r n, p3 (ix3 0 r n) = G 3 r n)
    (h4 : ∀ r n, p4 (ix3 0 r n) = G 4 r n) (h5 : ∀ r n, p5 (ix3 0 r n) = G 5 r n) (h6 : ∀ r n, p6 (ix3 0 r n) = G 6 r n) (h7 : ∀ r n, p7 (ix3 0 r n) = G 7 r n)
    (y : S8x256x256.Idx) :
    View.canon ([⟨r2_12, p7⟩, ⟨r2_11, p6⟩, ⟨r2_10, p5⟩, ⟨r2_9, p4⟩, ⟨r2_8, p3⟩, ⟨r2_7, p2⟩, ⟨r2_6, p1⟩, ⟨r2_5, p0⟩] : List (View.Piece (Elt Ideal) S8x256x256 .bf16)) y = G (y 0) (y 1) (y 2) := by
  have step (b : Fin 8) (h : ∀ a, (![b.val, 0, 0] : Fin 3 → Nat) a + S1x256x256.size a ≤ S8x256x256.size a) (p : Vec Ideal S1x256x256 .bf16) (hp : ∀ r n, p (ix3 0 r n) = G b r n) (x : S1x256x256.Idx) :
      p x = (fun y : S8x256x256.Idx => G (y 0) (y 1) (y 2)) ((Rect.unit (s := S8x256x256) ![b.val, 0, 0] S1x256x256.size h).emb x) := by
    rw [emb_ctx b h x]
    exact (congrArg p (eta_ctx x)).trans (hp _ _)
  refine View.canon_apply_of_pieces (fun y => G (y 0) (y 1) (y 2)) _ (fun p hp x => ?_) y (cover2_4 p7 p6 p5 p4 p3 p2 p1 p0 y)
  simp only [List.mem_cons, List.not_mem_nil, or_false] at hp
  rcases hp with rfl | rfl | rfl | rfl | rfl | rfl | rfl | rfl
  · exact step 7 inb_S8x256x256_S1x256x256_7_0_0 p7 h7 x
  · exact step 6 inb_S8x256x256_S1x256x256_6_0_0 p6 h6 x
  · exact step 5 inb_S8x256x256_S1x256x256_5_0_0 p5 h5 x
  · exact step 4 inb_S8x256x256_S1x256x256_4_0_0 p4 h4 x
  · exact step 3 inb_S8x256x256_S1x256x256_3_0_0 p3 h3 x
  · exact step 2 inb_S8x256x256_S1x256x256_2_0_0 p2 h2 x
  · exact step 1 inb_S8x256x256_S1x256x256_1_0_0 p1 h1 x
  · exact step 0 inb_S8x256x256_S1x256x256_0_0_0 p0 h0 x

theorem ctx_loaded (b : Fin 8) (r : Fin 256) (n : Fin 256) :
    k2_pay8 (View.ld x0 r2_0) (View.ld x2 r2_1) (View.ld x1 r2_2) (View.ld x1 r2_3) (View.ld x3 r2_4) (ix2 ⟨256 * b.val + r.val, by omega⟩ n) = blockCtx x0 x1 x2 x3 b r n := by
  rw [ctx_apply, funext (ld2_x x0 b r), funext (ld2_g x2), funext (ld2_shift x1), funext (ld2_scale x1), funext fun k => ld2_w x3 k n]
  rfl

theorem out2_apply (y : S8x256x256.Idx) : out2_4 x0 x1 x2 x3 y = blockCtx x0 x1 x2 x3 (y 0) (y 1) (y 2) := by
  have h := ctx_loaded x0 x1 x2 x3
  unfold out2_4
  unfold k2_pay11 k2_pay10
  have q0 (r n : Fin 256) := piece0 (View.ld x0 r2_0) (View.ld x2 r2_1) (View.ld x1 r2_2) (View.ld x1 r2_3) (View.ld x3 r2_4) r n
  generalize k2_pay9 (F := Ideal) _ _ _ _ _ = p0 at q0 ⊢
  generalize k2_pay8 (F := Ideal) _ _ _ _ _ = z at h q0 ⊢
  exact canon_eight p0 _ _ _ _ _ _ _ (blockCtx x0 x1 x2 x3)
    (fun r n => (q0 r n).trans (h 0 r n)) (fun r n => (piece1 z r n).trans (h 1 r n)) (fun r n => (piece2 z r n).trans (h 2 r n)) (fun r n => (piece3 z r n).trans (h 3 r n))
    (fun r n => (piece4 z r n).trans (h 4 r n)) (fun r n => (piece5 z r n).trans (h 5 r n)) (fun r n => (piece6 z r n).trans (h 6 r n)) (fun r n => (piece7 z r n).trans (h 7 r n)) y
end

end Cert.Proof.Front

end
-- ==== Proof.Front.Reference.lean ====
/-
  The reference's four results, read at an index.
-/
module

public import proofs.«01_k».proof.Proof.Front.Payload
public import proofs.«01_k».proof.Proof.Gen.ProjectIdeal.Run

@[expose] public section

set_option maxRecDepth 16384

noncomputable section

namespace Cert.Proof.Front

open Cert.ProjectIdeal Cert.ProjectIdeal.Gen Cert.ProjectIdeal.Value Idealize.ShloMosaic Idealize.ShloMosaic.TcCoe Idealize.SL.Sem

/-- Column `k` of the `j`-th of the six modulations. -/
def col6 (j : Fin 6) (k : Fin 1024) : Fin 6144 := ⟨j.val * 1024 + k.val, by omega⟩
theorem col6_0 (k : Fin 1024) : col6 0 k = ⟨k.val, by omega⟩ := Fin.ext (by show 0 * 1024 + k.val = k.val; omega)
theorem col6_1 (k : Fin 1024) : col6 1 k = ⟨1024 + k.val, by omega⟩ := Fin.ext (by show 1 * 1024 + k.val = 1024 + k.val; omega)
theorem col6_2 (k : Fin 1024) : col6 2 k = ⟨2048 + k.val, by omega⟩ := Fin.ext (by show 2 * 1024 + k.val = 2048 + k.val; omega)
theorem col6_3 (k : Fin 1024) : col6 3 k = ⟨3072 + k.val, by omega⟩ := Fin.ext (by show 3 * 1024 + k.val = 3072 + k.val; omega)
theorem col6_4 (k : Fin 1024) : col6 4 k = ⟨4096 + k.val, by omega⟩ := Fin.ext (by show 4 * 1024 + k.val = 4096 + k.val; omega)
theorem col6_5 (k : Fin 1024) : col6 5 k = ⟨5120 + k.val, by omega⟩ := Fin.ext (by show 5 * 1024 + k.val = 5120 + k.val; omega)

section Terms
variable {F : FTy → Type} [FloatOps F]

/-- The conditions through the modulation's weight, and the context's condition. -/
def modRows (v : FVec F S32x1024 .f32) (w : FVec F S1x1024x6144 .f32) (b : FVec F S1x6144 .f32) : FVec F S32x6144 .f32 :=
  addf (Host.dotGeneral dot_S32x1024_S1024x6144_S32x6144_1_0_0_1_n_n none (mulf v (Host.divf (broadcastInDim S32x1024 ![] bcast_S_S32x1024 (constant S_ .f32 0x3F800000#32)) (addf (broadcastInDim S32x1024 ![] bcast_S_S32x1024 (constant S_ .f32 0x3F800000#32)) (Host.exp (Host.negf v))))) (shapeCast _ w shapeCasts_S1x1024x6144_S1024x6144)) (broadcastInDim S32x6144 ![0, 1] bcast_S1x6144_S32x6144_0_1 (broadcastInDim S1x6144 ![1] bcast_S6144_S1x6144_1 (shapeCast _ b shapeCasts_S1x6144_S6144)))

def modRow (v : FVec F S1024 .f32) (w : FVec F S1x1024x6144 .f32) (b : FVec F S1x6144 .f32) : FVec F S1x6144 .f32 :=
  addf (Host.dotGeneral dot_S1x1024_S1024x6144_S1x6144_1_0_0_1_n_n none (mulf (broadcastInDim S1x1024 ![1] bcast_S1024_S1x1024_1 v) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 v)))))) (shapeCast _ w shapeCasts_S1x1024x6144_S1024x6144)) (broadcastInDim S1x6144 ![1] bcast_S6144_S1x6144_1 (shapeCast _ b shapeCasts_S1x6144_S6144))

/-- Six modulations apart, of every condition, and of the context's. -/
def sixRows (M : FVec F S32x6144 .f32) : FVec F S32x6x1024 .f32 :=
  (concatenate S32x6x1024 1 [⟨S32x1x1024, ((extractStridedSlice S32x1x1024 ![0, 0, 0] (broadcastInDim S32x1x6144 ![0, 2] bcast_S32x6144_S32x1x6144_0_2 (M)) slices_S32x1x6144_S32x1x1024_0_0_0) : (⟨S32x1x1024, .f32⟩ : BufTy).Contents (Elt F))⟩, ⟨S32x1x1024, ((extractStridedSlice S32x1x1024 ![0, 0, 1024] (broadcastInDim S32x1x6144 ![0, 2] bcast_S32x6144_S32x1x6144_0_2 (M)) slices_S32x1x6144_S32x1x1024_0_0_1024) : (⟨S32x1x1024, .f32⟩ : BufTy).Contents (Elt F))⟩, ⟨S32x1x1024, ((extractStridedSlice S32x1x1024 ![0, 0, 2048] (broadcastInDim S32x1x6144 ![0, 2] bcast_S32x6144_S32x1x6144_0_2 (M)) slices_S32x1x6144_S32x1x1024_0_0_2048) : (⟨S32x1x1024, .f32⟩ : BufTy).Contents (Elt F))⟩, ⟨S32x1x1024, ((extractStridedSlice S32x1x1024 ![0, 0, 3072] (broadcastInDim S32x1x6144 ![0, 2] bcast_S32x6144_S32x1x6144_0_2 (M)) slices_S32x1x6144_S32x1x1024_0_0_3072) : (⟨S32x1x1024, .f32⟩ : BufTy).Contents (Elt F))⟩, ⟨S32x1x1024, ((extractStridedSlice S32x1x1024 ![0, 0, 4096] (broadcastInDim S32x1x6144 ![0, 2] bcast_S32x6144_S32x1x6144_0_2 (M)) slices_S32x1x6144_S32x1x1024_0_0_4096) : (⟨S32x1x1024, .f32⟩ : BufTy).Contents (Elt F))⟩, ⟨S32x1x1024, ((extractStridedSlice S32x1x1024 ![0, 0, 5120] (broadcastInDim S32x1x6144 ![0, 2] bcast_S32x6144_S32x1x6144_0_2 (M)) slices_S32x1x6144_S32x1x1024_0_0_5120) : (⟨S32x1x1024, .f32⟩ : BufTy).Contents (Elt F))⟩] concatenates_S32x1x1024_S32x1x1024_S32x1x1024_S32x1x1024_S32x1x1024_S32x1x1024_S32x6x1024_d1 : (⟨S32x6x1024, .f32⟩ : BufTy).Contents (Elt F))

def sixRow (M : FVec F S1x6144 .f32) : FVec F S1x6x1024 .f32 :=
  (concatenate S1x6x1024 1 [⟨S1x1x1024, ((extractStridedSlice S1x1x1024 ![0, 0, 0] (broadcastInDim S1x1x6144 ![0, 2] bcast_S1x6144_S1x1x6144_0_2 (M)) slices_S1x1x6144_S1x1x1024_0_0_0) : (⟨S1x1x1024, .f32⟩ : BufTy).Contents (Elt F))⟩, ⟨S1x1x1024, ((extractStridedSlice S1x1x1024 ![0, 0, 1024] (broadcastInDim S1x1x6144 ![0, 2] bcast_S1x6144_S1x1x6144_0_2 (M)) slices_S1x1x6144_S1x1x1024_0_0_1024) : (⟨S1x1x1024, .f32⟩ : BufTy).Contents (Elt F))⟩, ⟨S1x1x1024, ((extractStridedSlice S1x1x1024 ![0, 0, 2048] (broadcastInDim S1x1x6144 ![0, 2] bcast_S1x6144_S1x1x6144_0_2 (M)) slices_S1x1x6144_S1x1x1024_0_0_2048) : (⟨S1x1x1024, .f32⟩ : BufTy).Contents (Elt F))⟩, ⟨S1x1x1024, ((extractStridedSlice S1x1x1024 ![0, 0, 3072] (broadcastInDim S1x1x6144 ![0, 2] bcast_S1x6144_S1x1x6144_0_2 (M)) slices_S1x1x6144_S1x1x1024_0_0_3072) : (⟨S1x1x1024, .f32⟩ : BufTy).Contents (Elt F))⟩, ⟨S1x1x1024, ((extractStridedSlice S1x1x1024 ![0, 0, 4096] (broadcastInDim S1x1x6144 ![0, 2] bcast_S1x6144_S1x1x6144_0_2 (M)) slices_S1x1x6144_S1x1x1024_0_0_4096) : (⟨S1x1x1024, .f32⟩ : BufTy).Contents (Elt F))⟩, ⟨S1x1x1024, ((extractStridedSlice S1x1x1024 ![0, 0, 5120] (broadcastInDim S1x1x6144 ![0, 2] bcast_S1x6144_S1x1x6144_0_2 (M)) slices_S1x1x6144_S1x1x1024_0_0_5120) : (⟨S1x1x1024, .f32⟩ : BufTy).Contents (Elt F))⟩] concatenates_S1x1x1024_S1x1x1024_S1x1x1024_S1x1x1024_S1x1x1024_S1x1x1024_S1x6x1024_d1 : (⟨S1x6x1024, .f32⟩ : BufTy).Contents (Elt F))

/-- The modulated norm of the tokens, and of the context, through the projection's first columns. -/
def projRows (x : FVec F S32x2048x1024 .f32) (M : FVec F S32x6144 .f32) (g : FVec F S1x1024 .f32) (w : FVec F S1x1024x2560 .f32) : FVec F S32x2048x256 .f32 :=
  Host.dotGeneral dot_S32x2048x1024_S1024x256_S32x2048x256_2_0_01_1_n_n none (addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (extractStridedSlice S32x1x1024 ![0, 0, 1024] (broadcastInDim S32x1x6144 ![0, 2] bcast_S32x6144_S32x1x6144_0_2 (M)) slices_S32x1x6144_S32x1x1024_0_0_1024)))) (broadcastInDim S32x2048x1024 ![0, 1, 2] bcast_S32x1x1024_S32x2048x1024_0_1_2 (extractStridedSlice S32x1x1024 ![0, 0, 0] (broadcastInDim S32x1x6144 ![0, 2] bcast_S32x6144_S32x1x6144_0_2 (M)) slices_S32x1x6144_S32x1x1024_0_0_0))) (extractStridedSlice S1024x256 ![0, 0] (shapeCast _ w shapeCasts_S1x1024x2560_S1024x2560) slices_S1024x2560_S1024x256_0_0)

def projCtx (x : FVec F S32x256x1024 .f32) (M : FVec F S1x6144 .f32) (g : FVec F S1x1024 .f32) (w : FVec F S1x1024x2560 .f32) : FVec F S32x256x256 .f32 :=
  Host.dotGeneral dot_S32x256x1024_S1024x256_S32x256x256_2_0_01_1_n_n none (addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] (broadcastInDim S1x1x6144 ![0, 2] bcast_S1x6144_S1x1x6144_0_2 (M)) slices_S1x1x6144_S1x1x1024_0_0_1024)))) (broadcastInDim S32x256x1024 ![0, 1, 2] bcast_S1x1x1024_S32x256x1024_0_1_2 (extractStridedSlice S1x1x1024 ![0, 0, 0] (broadcastInDim S1x1x6144 ![0, 2] bcast_S1x6144_S1x1x6144_0_2 (M)) slices_S1x1x6144_S1x1x1024_0_0_0))) (extractStridedSlice S1024x256 ![0, 0] (shapeCast _ w shapeCasts_S1x1024x2560_S1024x2560) slices_S1024x2560_S1024x256_0_0)

/-- Every run of the reference ends at those results, its arguments unchanged. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = sixRows (modRows (m ((c.tc : Thread nD τ).loc main_arg1)) (m ((c.tc : Thread nD τ).loc main_arg4)) (m ((c.tc : Thread nD τ).loc main_arg5)))
        ∧ r.2.mem ((c.tc : Thread nD τ).loc main_v75) = sixRow (modRow (m ((c.tc : Thread nD τ).loc main_arg3)) (m ((c.tc : Thread nD τ).loc main_arg4)) (m ((c.tc : Thread nD τ).loc main_arg5)))
        ∧ r.2.mem ((c.tc : Thread nD τ).loc main_v50) = projRows (m ((c.tc : Thread nD τ).loc main_arg0)) (modRows (m ((c.tc : Thread nD τ).loc main_arg1)) (m ((c.tc : Thread nD τ).loc main_arg4)) (m ((c.tc : Thread nD τ).loc main_arg5))) (m ((c.tc : Thread nD τ).loc main_arg6)) (m ((c.tc : Thread nD τ).loc main_arg7))
        ∧ r.2.mem ((c.tc : Thread nD τ).loc main_v73) = projCtx (m ((c.tc : Thread nD τ).loc main_arg2)) (modRow (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  Cert.ProjectIdeal.Value.run m ρ

end Terms

theorem modRows_apply (v : FVec Ideal S32x1024 .f32) (w : FVec Ideal S1x1024x6144 .f32) (b : FVec Ideal S1x6144 .f32) (r : Fin 32) (q : Fin 6144) :
    modRows v w b (ix2 r q) = modul (fun k => v (ix2 r k)) (fun k => w (ix3 0 k q)) (b (ix2 0 q)) := by
  pointwise [modRows, modul, Ideal.logistic]

theorem modRow_apply (v : FVec Ideal S1024 .f32) (w : FVec Ideal S1x1024x6144 .f32) (b : FVec Ideal S1x6144 .f32) (q : Fin 6144) :
    modRow v w b (ix2 0 q) = modul (fun k => v (ix1 k)) (fun k => w (ix3 0 k q)) (b (ix2 0 q)) := by
  pointwise [modRow, modul, Ideal.logistic]

theorem sixRows_apply (M : FVec Ideal S32x6144 .f32) (b : Fin 32) (j : Fin 6) (k : Fin 1024) : sixRows M (ix3 b j k) = M (ix2 b (col6 j k)) := by
  match j with
  | 0 => rw [col6_0]; pointwise [sixRows]
  | 1 => rw [col6_1]; pointwise [sixRows]
  | 2 => rw [col6_2]; pointwise [sixRows]
  | 3 => rw [col6_3]; pointwise [sixRows]
  | 4 => rw [col6_4]; pointwise [sixRows]
  | 5 => rw [col6_5]; pointwise [sixRows]

theorem sixRow_apply (M : FVec Ideal S1x6144 .f32) (j : Fin 6) (k : Fin 1024) : sixRow M (ix3 0 j k) = M (ix2 0 (col6 j k)) := by
  match j with
  | 0 => rw [col6_0]; pointwise [sixRow]
  | 1 => rw [col6_1]; pointwise [sixRow]
  | 2 => rw [col6_2]; pointwise [sixRow]
  | 3 => rw [col6_3]; pointwise [sixRow]
  | 4 => rw [col6_4]; pointwise [sixRow]
  | 5 => rw [col6_5]; pointwise [sixRow]

theorem projRows_apply (x : FVec Ideal S32x2048x1024 .f32) (M : FVec Ideal S32x6144 .f32) (g : FVec Ideal S1x1024 .f32) (w : FVec Ideal S1x1024x2560 .f32) (b : Fin 32) (r : Fin 2048) (n : Fin 256) :
    projRows x M g w (ix3 b r n) = proj (fun k => x (ix3 b r k)) (fun k => g (ix2 0 k)) (fun k => M (ix2 b (col6 0 k))) (fun k => M (ix2 b (col6 1 k))) (fun k => w (ix3 0 k ⟨n.val, by omega⟩)) := by
  unfold proj modded
  simp only [← mul_assoc, col6_0, col6_1]
  pointwise [projRows, Final.inv]

theorem projCtx_apply (x : FVec Ideal S32x256x1024 .f32) (M : FVec Ideal S1x6144 .f32) (g : FVec Ideal S1x1024 .f32) (w : FVec Ideal S1x1024x2560 .f32) (b : Fin 32) (r : Fin 256) (n : Fin 256) :
    projCtx x M g w (ix3 b r n) = proj (fun k => x (ix3 b r k)) (fun k => g (ix2 0 k)) (fun k => M (ix2 0 (col6 0 k))) (fun k => M (ix2 0 (col6 1 k))) (fun k => w (ix3 0 k ⟨n.val, by omega⟩)) := by
  unfold proj modded
  simp only [← mul_assoc, col6_0, col6_1]
  pointwise [projCtx, Final.inv]

end Cert.Proof.Front

end
-- ==== Proof.Front.Array.lean ====
/-
  What the three calls leave: the modulations of the conditions and of the context's, and the modulated rows of the
  tokens and of the context through the first columns of the input projection.
-/
module

public import proofs.«01_k».proof.Proof.Front.Body
public import proofs.«01_k».proof.Proof.Front.Reference
public import proofs.«01_k».proof.Proof.Gen.FrontIdeal.Points
public import Idealize.ShloMosaic.Lib.Pipeline.ValueKit.Geometry

@[expose] public section

set_option maxRecDepth 16384

noncomputable section

namespace Cert.Proof.Front

open Cert.FrontIdeal Cert.FrontIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The arguments as launched. -/
abbrev aX : S32x2048x1024.Idx → EReal := m ((c : Thread nD τ).loc main_arg0)
abbrev aC : S32x1024.Idx → EReal := m ((c : Thread nD τ).loc main_arg1)
abbrev aCtx : S32x256x1024.Idx → EReal := m ((c : Thread nD τ).loc main_arg2)
abbrev aCc : S1024.Idx → EReal := m ((c : Thread nD τ).loc main_arg3)
abbrev aMw : S1x1024x6144.Idx → EReal := m ((c : Thread nD τ).loc main_arg4)
abbrev aMb : S1x6144.Idx → EReal := m ((c : Thread nD τ).loc main_arg5)
abbrev aG : S1x1024.Idx → EReal := m ((c : Thread nD τ).loc main_arg6)
abbrev aW : S1x1024x2560.Idx → EReal := m ((c : Thread nD τ).loc main_arg7)

/-- A condition's modulation at a column, and the context's. -/
def modX (b : Fin 32) (q : Fin 6144) : EReal := modul (fun k => aC m c (ix2 b k)) (fun k => aMw m c (ix3 0 k q)) (aMb m c (ix2 0 q))
def modC (q : Fin 6144) : EReal := modul (fun k => aCc m c (ix1 k)) (fun k => aMw m c (ix3 0 k q)) (aMb m c (ix2 0 q))

/-- A token's projected row at a column, and a context row's. -/
def projX (b : Fin 32) (r : Fin 2048) (n : Fin 256) : EReal :=
  proj (fun k => aX m c (ix3 b r k)) (fun k => aG m c (ix2 0 k)) (fun k => modX m c b (col6 0 k)) (fun k => modX m c b (col6 1 k)) (fun k => aW m c (ix3 0 k ⟨n.val, by omega⟩))
def projC (b : Fin 32) (r : Fin 256) (n : Fin 256) : EReal :=
  proj (fun k => aCtx m c (ix3 b r k)) (fun k => aG m c (ix2 0 k)) (fun k => modC m c (col6 0 k)) (fun k => modC m c (col6 1 k)) (fun k => aW m c (ix3 0 k ⟨n.val, by omega⟩))

/-! ## The modulation's call -/

/-- The rows of conditions: the conditions, the context's, and zeros. -/
def cond (r : Fin 40) (k : Fin 1024) : EReal := (V1 m ρ c main_v2 : S40x1024.Idx → EReal) (ix2 r k)

theorem cond_eq : (V1 m ρ c main_v2 : S40x1024.Idx → EReal) = concatenate S40x1024 0
    [⟨S32x1024, (aC m c : FVec Ideal S32x1024 .f32)⟩, ⟨S1x1024, broadcastInDim S1x1024 ![1] bcast_S1024_S1x1024_1 (aCc m c : FVec Ideal S1024 .f32)⟩,
      ⟨S7x1024, broadcastInDim S7x1024 ![] bcast_S_S7x1024 (constant (F := Ideal) S_ .f32 0x00000000#32)⟩] concatenates_S32x1024_S1x1024_S7x1024_S40x1024_d0 := by
  show StableHlo.after hostOps0 (W0 m ρ c) (Proc.devRef .tc main_v2) = _
  after_results_simp <;> rfl

theorem cond_x (b : Fin 32) (k : Fin 1024) : cond m ρ c ⟨b.val, by omega⟩ k = aC m c (ix2 b k) := by
  unfold cond
  rw [cond_eq]
  pointwise

theorem cond_c (k : Fin 1024) : cond m ρ c 32 k = aCc m c (ix1 k) := by
  unfold cond
  rw [cond_eq]
  pointwise

theorem modw_eq (k : Fin 1024) (q : Fin 6144) : (V1 m ρ c main_v3 : S1024x6144.Idx → EReal) (ix2 k q) = aMw m c (ix3 0 k q) := by
  have e : (V1 m ρ c main_v3 : S1024x6144.Idx → EReal) = shapeCast S1024x6144 (aMw m c) shapeCasts_S1x1024x6144_S1024x6144 := by
    show StableHlo.after hostOps0 (W0 m ρ c) (Proc.devRef .tc main_v3) = _
    after_results_simp <;> rfl
  rw [e]
  pointwise

theorem modb_eq (q : Fin 6144) : (V1 m ρ c main_v5 : S1x6144.Idx → EReal) (ix2 0 q) = aMb m c (ix2 0 q) := by
  have e : (V1 m ρ c main_v5 : S1x6144.Idx → EReal) = shapeCast S1x6144 (shapeCast S6144 (aMb m c) shapeCasts_S1x6144_S6144) shapeCasts_S6144_S1x6144 := by
    show StableHlo.after hostOps0 (W0 m ρ c) (Proc.devRef .tc main_v5) = _
    after_results_simp <;> rfl
  rw [e]
  pointwise

def modA (r : Fin 40) (q : Fin 6144) : EReal := modul (cond m ρ c r) (fun k => aMw m c (ix3 0 k q)) (aMb m c (ix2 0 q))
def modG (i : S40x6144.Idx) : EReal := modA m ρ c (i 0) (i 1)

theorem lt0 (t : Fin cfg0.N) : t.val < 6 := t.isLt
/-- A grid point's column. -/
abbrev cut (t : Fin cfg0.N) (q : Fin 1024) : Fin 6144 := ⟨t.val * 1024 + q.val, by have := lt0 t; omega⟩

theorem index0_0 : ∀ t : Fin cfg0.N, (cfg0.win 0).index t = ![0, 0] := (by decide +kernel : ∀ t : Fin grid0.N, win0_0.index t = ![0, 0])
theorem index0_1 : ∀ t : Fin cfg0.N, (cfg0.win 1).index t = ![0, t.val] := (by decide +kernel : ∀ t : Fin grid0.N, win0_1.index t = ![0, t.val])
theorem index0_2 : ∀ t : Fin cfg0.N, (cfg0.win 2).index t = ![0, t.val] := (by decide +kernel : ∀ t : Fin grid0.N, win0_2.index t = ![0, t.val])
theorem index0_3 : ∀ t : Fin cfg0.N, (cfg0.win 3).index t = ![0, t.val] := (by decide +kernel : ∀ t : Fin grid0.N, win0_3.index t = ![0, t.val])

theorem iblk0_c (t : Fin cfg0.N) (r : Fin 40) (k : Fin 1024) : iblk0 (V1 m ρ) c 0 t (ix2 r k) = cond m ρ c r k := by
  refine Eq.trans (congrArg (V1 m ρ c main_v2) (?_ : ((cfg0.win 0).rect t).emb (ix2 r k) = (ix2 r k : S40x1024.Idx))) (rfl)
  funext a
  refine Fin.ext ((Window.rect_emb_val _ t _ a rfl).trans ?_)
  rw [index0_0]
  match a with
  | ⟨0, _⟩ => show 0 * 40 + r.val = r.val; omega
  | ⟨1, _⟩ => show 0 * 1024 + k.val = k.val; omega

theorem iblk0_w (t : Fin cfg0.N) (k q : Fin 1024) : iblk0 (V1 m ρ) c 1 t (ix2 k q) = aMw m c (ix3 0 k (cut t q)) := by
  refine Eq.trans (congrArg (V1 m ρ c main_v3) (?_ : ((cfg0.win 1).rect t).emb (ix2 k q) = (ix2 k (cut t q) : S1024x6144.Idx))) (modw_eq m ρ c k (cut t q))
  funext a
  refine Fin.ext ((Window.rect_emb_val _ t _ a rfl).trans ?_)
  rw [index0_1]
  match a with
  | ⟨0, _⟩ => show 0 * 1024 + k.val = k.val; omega
  | ⟨1, _⟩ => show t.val * 1024 + q.val = t.val * 1024 + q.val; omega

theorem iblk0_b (t : Fin cfg0.N) (q : Fin 1024) : iblk0 (V1 m ρ) c 2 t (ix2 0 q) = aMb m c (ix2 0 (cut t q)) := by
  refine Eq.trans (congrArg (V1 m ρ c main_v5) (?_ : ((cfg0.win 2).rect t).emb (ix2 0 q) = (ix2 0 (cut t q) : S1x6144.Idx))) (modb_eq m ρ c (cut t q))
  funext a
  refine Fin.ext ((Window.rect_emb_val _ t _ a rfl).trans ?_)
  rw [index0_2]
  match a with
  | ⟨0, _⟩ => show 0 * 1 + 0 = 0; omega
  | ⟨1, _⟩ => show t.val * 1024 + q.val = t.val * 1024 + q.val; omega

theorem emb0 (t : Fin cfg0.N) (y : S40x1024.Idx) : ((cfg0.win 3).rect t).emb y = (ix2 (y 0) (cut t (y 1)) : S40x6144.Idx) := by
  funext a
  refine Fin.ext ((Window.rect_emb_val _ t _ a rfl).trans ?_)
  rw [index0_3]
  match a with
  | ⟨0, _⟩ => show 0 * 40 + (y 0).val = (y 0).val; omega
  | ⟨1, _⟩ => show t.val * 1024 + (y 1).val = t.val * 1024 + (y 1).val; omega

theorem after0_at (t : Fin cfg0.N) (y : S40x1024.Idx) : out0_3 (iblk0 (V1 m ρ) c 0 t) (iblk0 (V1 m ρ) c 1 t) (iblk0 (V1 m ρ) c 2 t) y = modG m ρ c (((cfg0.win 3).rect t).emb y) := by
  rw [emb0 t y]
  refine (out0_apply _ _ _ y).trans ?_
  show blockMod _ _ _ (y 0) (y 1) = modA m ρ c (y 0) (cut t (y 1))
  unfold blockMod modA
  rw [funext (iblk0_c m ρ c t (y 0)), funext (fun k => iblk0_w m ρ c t k (y 1)), iblk0_b m ρ c t (y 1)]

theorem mem0 (t : Fin cfg0.N) (i : S40x6144.Idx) : i ∈ ((cfg0.win 3).blk t).view.set ↔ (i 1).val / 1024 = t.val := by
  refine (Window.emb_mem_blk_iff (cfg0.win 3) t i rfl).trans ⟨fun h => ?_, fun h a => ?_⟩
  · have h1 := h 1
    rw [index0_3] at h1
    have h1' : t.val * 1024 ≤ (i 1).val ∧ (i 1).val < t.val * 1024 + 1024 := h1
    omega
  · rw [index0_3]
    match a with
    | ⟨0, _⟩ => have h0 : (i 0).val < 40 := (i 0).isLt; show 0 * 40 ≤ (i 0).val ∧ (i 0).val < 0 * 40 + 40; omega
    | ⟨1, _⟩ => show t.val * 1024 ≤ (i 1).val ∧ (i 1).val < t.val * 1024 + 1024; omega

theorem arr0 (i : S40x6144.Idx) : (dat0 (V1 m ρ) c).arrAt 3 cfg0.N i = modG m ρ c i := by
  let t : Fin cfg0.N := ⟨(i 1).val / 1024, by have h : (i 1).val < 6144 := (i 1).isLt; show (i 1).val / 1024 < 6; omega⟩
  refine (dat0 (V1 m ρ) c).arrAt_forall_of_flushed 3 (fun i v => v = modG m ρ c i) (fun s _ y => ?_)
    cfg0.N t i t.isLt (flush0_3 t) ((mem0 t i).2 rfl)
  rw [Dat.flushed_apply, after0_3 (V1 m ρ) c s]
  have ex : ((cfg0.win 3).xinj (cfg0.grid.coords s) y : S40x1024.Idx) = (y : S40x1024.Idx) := funext fun a => Fin.ext rfl
  have ec {x : EReal} (he : EReal = EReal) : _root_.cast he x = x := rfl
  exact (ec _).trans ((congrArg (out0_3 (iblk0 (V1 m ρ) c 0 s) (iblk0 (V1 m ρ) c 1 s) (iblk0 (V1 m ρ) c 2 s)) ex).trans (after0_at m ρ c s y))

/-! ## The arrays after it -/

theorem mods_eq (r : Fin 40) (q : Fin 6144) : (W2 m ρ c (Proc.devRef .tc main_v6) : S40x6144.Idx → EReal) (ix2 r q) = modA m ρ c r q :=
  (congrFun (W2_arr m ρ c 3) (ix2 r q)).trans (arr0 m ρ c (ix2 r q))

theorem mx_eq (b : Fin 32) (j : Fin 6) (k : Fin 1024) : (V3 m ρ c main_v8 : S32x6x1024.Idx → EReal) (ix3 b j k) = modX m c b (col6 j k) := by
  have e : (V3 m ρ c main_v8 : S32x6x1024.Idx → EReal) = shapeCast S32x6x1024 (extractStridedSlice S32x6144 ![0, 0] (W2 m ρ c (Proc.devRef .tc main_v6) : S40x6144.Idx → EReal) slices_S40x6144_S32x6144_0_0) shapeCasts_S32x6144_S32x6x1024 := by
    show StableHlo.after hostOps1 (W2 m ρ c) (Proc.devRef .tc main_v8) = _
    after_results_simp <;> rfl
  have h (q : Fin 6144) := mods_eq m ρ c ⟨b.val, by omega⟩ q
  rw [e]
  generalize (W2 m ρ c (Proc.devRef .tc main_v6) : S40x6144.Idx → EReal) = M at h
  refine Eq.trans (b := M (ix2 ⟨b.val, by omega⟩ (col6 j k))) ?_ ((h _).trans ?_)
  · unfold col6; pointwise
  · unfold modA modX
    rw [funext (cond_x m ρ c b)]

theorem mc_eq (j : Fin 6) (k : Fin 1024) : (V3 m ρ c main_v10 : S1x6x1024.Idx → EReal) (ix3 0 j k) = modC m c (col6 j k) := by
  have e : (V3 m ρ c main_v10 : S1x6x1024.Idx → EReal) = shapeCast S1x6x1024 (extractStridedSlice S1x6144 ![32, 0] (W2 m ρ c (Proc.devRef .tc main_v6) : S40x6144.Idx → EReal) slices_S40x6144_S1x6144_32_0) shapeCasts_S1x6144_S1x6x1024 := by
    show StableHlo.after hostOps1 (W2 m ρ c) (Proc.devRef .tc main_v10) = _
    after_results_simp <;> rfl
  have h (q : Fin 6144) := mods_eq m ρ c 32 q
  rw [e]
  generalize (W2 m ρ c (Proc.devRef .tc main_v6) : S40x6144.Idx → EReal) = M at h
  refine Eq.trans (b := M (ix2 32 (col6 j k))) ?_ ((h _).trans ?_)
  · unfold col6; pointwise
  · unfold modA modC
    rw [funext (cond_c m ρ c)]

theorem win_eq (k : Fin 1024) (n : Fin 256) : (V3 m ρ c main_v13 : S1024x256.Idx → EReal) (ix2 k n) = aW m c (ix3 0 k ⟨n.val, by omega⟩) := by
  have e : (V3 m ρ c main_v13 : S1024x256.Idx → EReal) = extractStridedSlice S1024x256 ![0, 0]
      (truncf (F := Ideal) .bf16 (shapeCast S1024x2560 (W2 m ρ c (Proc.devRef .tc main_arg7) : FVec Ideal S1x1024x2560 .f32) shapeCasts_S1x1024x2560_S1024x2560) bitsLt_bf16_f32) slices_S1024x2560_S1024x256_0_0 := by
    show StableHlo.after hostOps1 (W2 m ρ c) (Proc.devRef .tc main_v13) = _
    after_results_simp <;> rfl
  have e7 : (W2 m ρ c (Proc.devRef .tc main_arg7) : S1x1024x2560.Idx → EReal) = aW m c := W2_args m ρ c main_arg7 (by decide)
  rw [e, e7]
  pointwise

theorem g_eq (k : Fin 1024) : (V3 m ρ c main_v15 : S1x1024.Idx → EReal) (ix2 0 k) = aG m c (ix2 0 k) := by
  have e : (V3 m ρ c main_v15 : S1x1024.Idx → EReal) = shapeCast S1x1024 (shapeCast S1024 (W2 m ρ c (Proc.devRef .tc main_arg6) : S1x1024.Idx → EReal) shapeCasts_S1x1024_S1024) shapeCasts_S1024_S1x1024 := by
    show StableHlo.after hostOps1 (W2 m ρ c) (Proc.devRef .tc main_v15) = _
    after_results_simp <;> rfl
  have e6 : (W2 m ρ c (Proc.devRef .tc main_arg6) : S1x1024.Idx → EReal) = aG m c := W2_args m ρ c main_arg6 (by decide)
  rw [e, e6]
  pointwise

theorem g_ctx (k : Fin 1024) : (V5 m ρ c main_v18 : S1x1024.Idx → EReal) (ix2 0 k) = aG m c (ix2 0 k) := by
  have e : (V5 m ρ c main_v18 : S1x1024.Idx → EReal) = shapeCast S1x1024 (shapeCast S1024 (W4 m ρ c (Proc.devRef .tc main_arg6) : S1x1024.Idx → EReal) shapeCasts_S1x1024_S1024) shapeCasts_S1024_S1x1024 := by
    show StableHlo.after hostOps2 (W4 m ρ c) (Proc.devRef .tc main_v18) = _
    after_results_simp <;> rfl
  have e6 : (W4 m ρ c (Proc.devRef .tc main_arg6) : S1x1024.Idx → EReal) = aG m c := W4_args m ρ c main_arg6 (by decide)
  rw [e, e6]
  pointwise

theorem win_ctx (k : Fin 1024) (n : Fin 256) : (V5 m ρ c main_v13 : S1024x256.Idx → EReal) (ix2 k n) = aW m c (ix3 0 k ⟨n.val, by omega⟩) := by
  have e : (V5 m ρ c main_v13 : S1024x256.Idx → EReal) = V3 m ρ c main_v13 :=
    (W5_of m ρ c main_v13 (by decide)).trans (W4_of m ρ c main_v13 (by decide))
  rw [e]
  exact win_eq m ρ c k n

theorem mc_ctx (j : Fin 6) (k : Fin 1024) : (V5 m ρ c main_v10 : S1x6x1024.Idx → EReal) (ix3 0 j k) = modC m c (col6 j k) := by
  have e : (V5 m ρ c main_v10 : S1x6x1024.Idx → EReal) = V3 m ρ c main_v10 :=
    (W5_of m ρ c main_v10 (by decide)).trans (W4_of m ρ c main_v10 (by decide))
  rw [e]
  exact mc_eq m ρ c j k

/-! ## The tokens' call -/

theorem lt1 (t : Fin cfg1.N) : t.val < 32 := t.isLt
/-- The batch of a grid point. -/
abbrev bat1 (t : Fin cfg1.N) : Fin 32 := ⟨t.val, lt1 t⟩

def rowG (i : S32x2048x256.Idx) : EReal := projX m c (i 0) (i 1) (i 2)

theorem index1_0 : ∀ t : Fin cfg1.N, (cfg1.win 0).index t = ![t.val, 0, 0] := (by decide +kernel : ∀ t : Fin grid1.N, win1_0.index t = ![t.val, 0, 0])
theorem index1_1 : ∀ t : Fin cfg1.N, (cfg1.win 1).index t = ![t.val, 0, 0] := (by decide +kernel : ∀ t : Fin grid1.N, win1_1.index t = ![t.val, 0, 0])
theorem index1_2 : ∀ t : Fin cfg1.N, (cfg1.win 2).index t = ![0, 0] := (by decide +kernel : ∀ t : Fin grid1.N, win1_2.index t = ![0, 0])
theorem index1_3 : ∀ t : Fin cfg1.N, (cfg1.win 3).index t = ![0, 0] := (by decide +kernel : ∀ t : Fin grid1.N, win1_3.index t = ![0, 0])
theorem index1_4 : ∀ t : Fin cfg1.N, (cfg1.win 4).index t = ![t.val, 0, 0] := (by decide +kernel : ∀ t : Fin grid1.N, win1_4.index t = ![t.val, 0, 0])

theorem iblk1_x (t : Fin cfg1.N) (r : Fin 2048) (k : Fin 1024) : iblk1 (V3 m ρ) c 0 t (ix3 0 r k) = aX m c (ix3 (bat1 t) r k) := by
  refine Eq.trans (congrArg (V3 m ρ c main_arg0) (?_ : ((cfg1.win 0).rect t).emb (ix3 0 r k) = (ix3 (bat1 t) r k : S32x2048x1024.Idx))) (congrFun (show (V3 m ρ c main_arg0 : S32x2048x1024.Idx → EReal) = aX m c from W3_args m ρ c main_arg0 (by decide)) _)
  funext a
  refine Fin.ext ((Window.rect_emb_val _ t _ a rfl).trans ?_)
  rw [index1_0]
  match a with
  | ⟨0, _⟩ => show t.val * 1 + 0 = t.val; omega
  | ⟨1, _⟩ => show 0 * 2048 + r.val = r.val; omega
  | ⟨2, _⟩ => show 0 * 1024 + k.val = k.val; omega

theorem iblk1_m (t : Fin cfg1.N) (j : Fin 6) (k : Fin 1024) : iblk1 (V3 m ρ) c 1 t (ix3 0 j k) = modX m c (bat1 t) (col6 j k) := by
  refine Eq.trans (congrArg (V3 m ρ c main_v8) (?_ : ((cfg1.win 1).rect t).emb (ix3 0 j k) = (ix3 (bat1 t) j k : S32x6x1024.Idx))) (mx_eq m ρ c (bat1 t) j k)
  funext a
  refine Fin.ext ((Window.rect_emb_val _ t _ a rfl).trans ?_)
  rw [index1_1]
  match a with
  | ⟨0, _⟩ => show t.val * 1 + 0 = t.val; omega
  | ⟨1, _⟩ => show 0 * 6 + j.val = j.val; omega
  | ⟨2, _⟩ => show 0 * 1024 + k.val = k.val; omega

theorem iblk1_g (t : Fin cfg1.N) (k : Fin 1024) : iblk1 (V3 m ρ) c 2 t (ix2 0 k) = aG m c (ix2 0 k) := by
  refine Eq.trans (congrArg (V3 m ρ c main_v15) (?_ : ((cfg1.win 2).rect t).emb (ix2 0 k) = (ix2 0 k : S1x1024.Idx))) (g_eq m ρ c k)
  funext a
  refine Fin.ext ((Window.rect_emb_val _ t _ a rfl).trans ?_)
  rw [index1_2]
  match a with
  | ⟨0, _⟩ => show 0 * 1 + 0 = 0; omega
  | ⟨1, _⟩ => show 0 * 1024 + k.val = k.val; omega

theorem iblk1_w (t : Fin cfg1.N) (k : Fin 1024) (n : Fin 256) : iblk1 (V3 m ρ) c 3 t (ix2 k n) = aW m c (ix3 0 k ⟨n.val, by omega⟩) := by
  refine Eq.trans (congrArg (V3 m ρ c main_v13) (?_ : ((cfg1.win 3).rect t).emb (ix2 k n) = (ix2 k n : S1024x256.Idx))) (win_eq m ρ c k n)
  funext a
  refine Fin.ext ((Window.rect_emb_val _ t _ a rfl).trans ?_)
  rw [index1_3]
  match a with
  | ⟨0, _⟩ => show 0 * 1024 + k.val = k.val; omega
  | ⟨1, _⟩ => show 0 * 256 + n.val = n.val; omega

theorem emb1 (t : Fin cfg1.N) (y : S1x2048x256.Idx) : ((cfg1.win 4).rect t).emb y = (ix3 (bat1 t) (y 1) (y 2) : S32x2048x256.Idx) := by
  funext a
  refine Fin.ext ((Window.rect_emb_val _ t _ a rfl).trans ?_)
  rw [index1_4]
  match a with
  | ⟨0, _⟩ => have h : (y 0).val < 1 := (y 0).isLt; show t.val * 1 + (y 0).val = t.val; omega
  | ⟨1, _⟩ => show 0 * 2048 + (y 1).val = (y 1).val; omega
  | ⟨2, _⟩ => show 0 * 256 + (y 2).val = (y 2).val; omega

theorem after1_at (t : Fin cfg1.N) (y : S1x2048x256.Idx) : out1_4 (iblk1 (V3 m ρ) c 0 t) (iblk1 (V3 m ρ) c 1 t) (iblk1 (V3 m ρ) c 2 t) (iblk1 (V3 m ρ) c 3 t) y = rowG m c (((cfg1.win 4).rect t).emb y) := by
  rw [emb1 t y]
  refine (out1_apply _ _ _ _ y).trans ?_
  show blockRow _ _ _ _ (y 1) (y 2) = projX m c (bat1 t) (y 1) (y 2)
  unfold blockRow projX
  rw [funext (iblk1_x m ρ c t (y 1)), funext (iblk1_m m ρ c t 0), funext (iblk1_m m ρ c t 1), funext (iblk1_g m ρ c t), funext (fun k => iblk1_w m ρ c t k (y 2))]

theorem mem1 (t : Fin cfg1.N) (i : S32x2048x256.Idx) : i ∈ ((cfg1.win 4).blk t).view.set ↔ (i 0).val = t.val := by
  refine (Window.emb_mem_blk_iff (cfg1.win 4) t i rfl).trans ⟨fun h => ?_, fun h a => ?_⟩
  · have h0 := h 0
    rw [index1_4] at h0
    have h0' : t.val * 1 ≤ (i 0).val ∧ (i 0).val < t.val * 1 + 1 := h0
    omega
  · rw [index1_4]
    match a with
    | ⟨0, _⟩ => show t.val * 1 ≤ (i 0).val ∧ (i 0).val < t.val * 1 + 1; omega
    | ⟨1, _⟩ => have h1 : (i 1).val < 2048 := (i 1).isLt; show 0 * 2048 ≤ (i 1).val ∧ (i 1).val < 0 * 2048 + 2048; omega
    | ⟨2, _⟩ => have h2 : (i 2).val < 256 := (i 2).isLt; show 0 * 256 ≤ (i 2).val ∧ (i 2).val < 0 * 256 + 256; omega

theorem arr1 (i : S32x2048x256.Idx) : (dat1 (V3 m ρ) c).arrAt 4 cfg1.N i = rowG m c i := by
  let t : Fin cfg1.N := ⟨(i 0).val, (i 0).isLt⟩
  refine (dat1 (V3 m ρ) c).arrAt_forall_of_flushed 4 (fun i v => v = rowG m c i) (fun s _ y => ?_)
    cfg1.N t i t.isLt (flush1_4 t) ((mem1 t i).2 rfl)
  rw [Dat.flushed_apply, after1_4 (V3 m ρ) c s]
  have ex : ((cfg1.win 4).xinj (cfg1.grid.coords s) y : S1x2048x256.Idx) = (y : S1x2048x256.Idx) := funext fun a => Fin.ext rfl
  have ec {x : EReal} (he : EReal = EReal) : _root_.cast he x = x := rfl
  exact (ec _).trans ((congrArg (out1_4 (iblk1 (V3 m ρ) c 0 s) (iblk1 (V3 m ρ) c 1 s) (iblk1 (V3 m ρ) c 2 s) (iblk1 (V3 m ρ) c 3 s)) ex).trans (after1_at m ρ c s y))

/-! ## The context's call -/

theorem lt2 (t : Fin cfg2.N) : t.val < 4 := t.isLt
/-- The batch of a grid point's block row. -/
abbrev bat2 (t : Fin cfg2.N) (b : Fin 8) : Fin 32 := ⟨t.val * 8 + b.val, by have := lt2 t; omega⟩

def ctxG (i : S32x256x256.Idx) : EReal := projC m c (i 0) (i 1) (i 2)

theorem index2_0 : ∀ t : Fin cfg2.N, (cfg2.win 0).index t = ![t.val, 0, 0] := (by decide +kernel : ∀ t : Fin grid2.N, win2_0.index t = ![t.val, 0, 0])
theorem index2_1 : ∀ t : Fin cfg2.N, (cfg2.win 1).index t = ![0, 0, 0] := (by decide +kernel : ∀ t : Fin grid2.N, win2_1.index t = ![0, 0, 0])
theorem index2_2 : ∀ t : Fin cfg2.N, (cfg2.win 2).index t = ![0, 0] := (by decide +kernel : ∀ t : Fin grid2.N, win2_2.index t = ![0, 0])
theorem index2_3 : ∀ t : Fin cfg2.N, (cfg2.win 3).index t = ![0, 0] := (by decide +kernel : ∀ t : Fin grid2.N, win2_3.index t = ![0, 0])
theorem index2_4 : ∀ t : Fin cfg2.N, (cfg2.win 4).index t = ![t.val, 0, 0] := (by decide +kernel : ∀ t : Fin grid2.N, win2_4.index t = ![t.val, 0, 0])

theorem iblk2_x (t : Fin cfg2.N) (b : Fin 8) (r : Fin 256) (k : Fin 1024) : iblk2 (V5 m ρ) c 0 t (ix3 b r k) = aCtx m c (ix3 (bat2 t b) r k) := by
  refine Eq.trans (congrArg (V5 m ρ c main_arg2) (?_ : ((cfg2.win 0).rect t).emb (ix3 b r k) = (ix3 (bat2 t b) r k : S32x256x1024.Idx))) (congrFun (show (V5 m ρ c main_arg2 : S32x256x1024.Idx → EReal) = aCtx m c from W5_args m ρ c main_arg2 (by decide)) _)
  funext a
  refine Fin.ext ((Window.rect_emb_val _ t _ a rfl).trans ?_)
  rw [index2_0]
  match a with
  | ⟨0, _⟩ => show t.val * 8 + b.val = t.val * 8 + b.val; omega
  | ⟨1, _⟩ => show 0 * 256 + r.val = r.val; omega
  | ⟨2, _⟩ => show 0 * 1024 + k.val = k.val; omega

theorem iblk2_m (t : Fin cfg2.N) (j : Fin 6) (k : Fin 1024) : iblk2 (V5 m ρ) c 1 t (ix3 0 j k) = modC m c (col6 j k) := by
  refine Eq.trans (congrArg (V5 m ρ c main_v10) (?_ : ((cfg2.win 1).rect t).emb (ix3 0 j k) = (ix3 0 j k : S1x6x1024.Idx))) (mc_ctx m ρ c j k)
  funext a
  refine Fin.ext ((Window.rect_emb_val _ t _ a rfl).trans ?_)
  rw [index2_1]
  match a with
  | ⟨0, _⟩ => show 0 * 1 + 0 = 0; omega
  | ⟨1, _⟩ => show 0 * 6 + j.val = j.val; omega
  | ⟨2, _⟩ => show 0 * 1024 + k.val = k.val; omega

theorem iblk2_g (t : Fin cfg2.N) (k : Fin 1024) : iblk2 (V5 m ρ) c 2 t (ix2 0 k) = aG m c (ix2 0 k) := by
  refine Eq.trans (congrArg (V5 m ρ c main_v18) (?_ : ((cfg2.win 2).rect t).emb (ix2 0 k) = (ix2 0 k : S1x1024.Idx))) (g_ctx m ρ c k)
  funext a
  refine Fin.ext ((Window.rect_emb_val _ t _ a rfl).trans ?_)
  rw [index2_2]
  match a with
  | ⟨0, _⟩ => show 0 * 1 + 0 = 0; omega
  | ⟨1, _⟩ => show 0 * 1024 + k.val = k.val; omega

theorem iblk2_w (t : Fin cfg2.N) (k : Fin 1024) (n : Fin 256) : iblk2 (V5 m ρ) c 3 t (ix2 k n) = aW m c (ix3 0 k ⟨n.val, by omega⟩) := by
  refine Eq.trans (congrArg (V5 m ρ c main_v13) (?_ : ((cfg2.win 3).rect t).emb (ix2 k n) = (ix2 k n : S1024x256.Idx))) (win_ctx m ρ c k n)
  funext a
  refine Fin.ext ((Window.rect_emb_val _ t _ a rfl).trans ?_)
  rw [index2_3]
  match a with
  | ⟨0, _⟩ => show 0 * 1024 + k.val = k.val; omega
  | ⟨1, _⟩ => show 0 * 256 + n.val = n.val; omega

theorem emb2 (t : Fin cfg2.N) (y : S8x256x256.Idx) : ((cfg2.win 4).rect t).emb y = (ix3 (bat2 t (y 0)) (y 1) (y 2) : S32x256x256.Idx) := by
  funext a
  refine Fin.ext ((Window.rect_emb_val _ t _ a rfl).trans ?_)
  rw [index2_4]
  match a with
  | ⟨0, _⟩ => show t.val * 8 + (y 0).val = t.val * 8 + (y 0).val; omega
  | ⟨1, _⟩ => show 0 * 256 + (y 1).val = (y 1).val; omega
  | ⟨2, _⟩ => show 0 * 256 + (y 2).val = (y 2).val; omega

theorem after2_at (t : Fin cfg2.N) (y : S8x256x256.Idx) : out2_4 (iblk2 (V5 m ρ) c 0 t) (iblk2 (V5 m ρ) c 1 t) (iblk2 (V5 m ρ) c 2 t) (iblk2 (V5 m ρ) c 3 t) y = ctxG m c (((cfg2.win 4).rect t).emb y) := by
  rw [emb2 t y]
  refine (out2_apply _ _ _ _ y).trans ?_
  show blockCtx _ _ _ _ (y 0) (y 1) (y 2) = projC m c (bat2 t (y 0)) (y 1) (y 2)
  unfold blockCtx projC
  rw [funext (iblk2_x m ρ c t (y 0) (y 1)), funext (iblk2_m m ρ c t 0), funext (iblk2_m m ρ c t 1), funext (iblk2_g m ρ c t), funext (fun k => iblk2_w m ρ c t k (y 2))]

theorem mem2 (t : Fin cfg2.N) (i : S32x256x256.Idx) : i ∈ ((cfg2.win 4).blk t).view.set ↔ (i 0).val / 8 = t.val := by
  refine (Window.emb_mem_blk_iff (cfg2.win 4) t i rfl).trans ⟨fun h => ?_, fun h a => ?_⟩
  · have h0 := h 0
    rw [index2_4] at h0
    have h0' : t.val * 8 ≤ (i 0).val ∧ (i 0).val < t.val * 8 + 8 := h0
    omega
  · rw [index2_4]
    match a with
    | ⟨0, _⟩ => show t.val * 8 ≤ (i 0).val ∧ (i 0).val < t.val * 8 + 8; omega
    | ⟨1, _⟩ => have h1 : (i 1).val < 256 := (i 1).isLt; show 0 * 256 ≤ (i 1).val ∧ (i 1).val < 0 * 256 + 256; omega
    | ⟨2, _⟩ => have h2 : (i 2).val < 256 := (i 2).isLt; show 0 * 256 ≤ (i 2).val ∧ (i 2).val < 0 * 256 + 256; omega

theorem arr2 (i : S32x256x256.Idx) : (dat2 (V5 m ρ) c).arrAt 4 cfg2.N i = ctxG m c i := by
  let t : Fin cfg2.N := ⟨(i 0).val / 8, by have h : (i 0).val < 32 := (i 0).isLt; show (i 0).val / 8 < 4; omega⟩
  refine (dat2 (V5 m ρ) c).arrAt_forall_of_flushed 4 (fun i v => v = ctxG m c i) (fun s _ y => ?_)
    cfg2.N t i t.isLt (flush2_4 t) ((mem2 t i).2 rfl)
  rw [Dat.flushed_apply, after2_4 (V5 m ρ) c s]
  have ex : ((cfg2.win 4).xinj (cfg2.grid.coords s) y : S8x256x256.Idx) = (y : S8x256x256.Idx) := funext fun a => Fin.ext rfl
  have ec {x : EReal} (he : EReal = EReal) : _root_.cast he x = x := rfl
  exact (ec _).trans ((congrArg (out2_4 (iblk2 (V5 m ρ) c 0 s) (iblk2 (V5 m ρ) c 1 s) (iblk2 (V5 m ρ) c 2 s) (iblk2 (V5 m ρ) c 3 s)) ex).trans (after2_at m ρ c s y))

/-! ## The results -/

theorem result_mx : (W7 m ρ c (Proc.devRef .tc main_v8) : S32x6x1024.Idx → EReal) = V3 m ρ c main_v8 :=
  (W7_of m ρ c main_v8 (by decide)).trans ((W6_of m ρ c main_v8 (by decide)).trans ((W5_of m ρ c main_v8 (by decide)).trans (W4_of m ρ c main_v8 (by decide))))

theorem result_mc : (W7 m ρ c (Proc.devRef .tc main_v10) : S1x6x1024.Idx → EReal) = V3 m ρ c main_v10 :=
  (W7_of m ρ c main_v10 (by decide)).trans ((W6_of m ρ c main_v10 (by decide)).trans ((W5_of m ρ c main_v10 (by decide)).trans (W4_of m ρ c main_v10 (by decide))))

theorem result_u (b : Fin 32) (r : Fin 2048) (n : Fin 256) : (W7 m ρ c (Proc.devRef .tc main_v20) : S32x2048x256.Idx → EReal) (ix3 b r n) = projX m c b r n := by
  have e : (W7 m ρ c (Proc.devRef .tc main_v20) : S32x2048x256.Idx → EReal) = extf (F := Ideal) .f32 (W6 m ρ c (Proc.devRef .tc main_v16) : FVec Ideal S32x2048x256 .bf16) bitsLt_bf16_f32 := by
    show StableHlo.after hostOps3 (W6 m ρ c) (Proc.devRef .tc main_v20) = _
    after_results_simp <;> rfl
  have e16 : (W6 m ρ c (Proc.devRef .tc main_v16) : S32x2048x256.Idx → EReal) = (dat1 (V3 m ρ) c).arrAt 4 cfg1.N :=
    (W6_of m ρ c main_v16 (by decide)).trans ((W5_of m ρ c main_v16 (by decide)).trans (W4_arr m ρ c 4))
  rw [e]
  exact (congrFun e16 (ix3 b r n)).trans (arr1 m ρ c (ix3 b r n))

theorem result_uc (b : Fin 32) (r : Fin 256) (n : Fin 256) : (W7 m ρ c (Proc.devRef .tc main_v21) : S32x256x256.Idx → EReal) (ix3 b r n) = projC m c b r n := by
  have e : (W7 m ρ c (Proc.devRef .tc main_v21) : S32x256x256.Idx → EReal) = extf (F := Ideal) .f32 (W6 m ρ c (Proc.devRef .tc main_v19) : FVec Ideal S32x256x256 .bf16) bitsLt_bf16_f32 := by
    show StableHlo.after hostOps3 (W6 m ρ c) (Proc.devRef .tc main_v21) = _
    after_results_simp <;> rfl
  have e19 : (W6 m ρ c (Proc.devRef .tc main_v19) : S32x256x256.Idx → EReal) = (dat2 (V5 m ρ) c).arrAt 4 cfg2.N := W6_arr m ρ c 4
  rw [e]
  exact (congrFun e19 (ix3 b r n)).trans (arr2 m ρ c (ix3 b r n))

end Cert.Proof.Front

end
-- ==== Proof.Front.Same.lean ====
/-
  The reference's four results on the calls' arguments are what the calls leave.
-/
module

public import proofs.«01_k».proof.Proof.Front.Array

@[expose] public section

set_option maxRecDepth 16384

noncomputable section

namespace Cert.Proof.Front

open Cert.FrontIdeal Cert.FrontIdeal.Gen Idealize.ShloMosaic Idealize.ShloMosaic.TcCoe Idealize.SL.Sem

variable (m : (ℓ : Loc nD τ sig) → Buf (Elt Ideal) ℓ) (ρ : Dev nD → PrngReg) (c : Dev nD)

theorem rows_eq (b : Fin 32) (q : Fin 6144) : (modRows (aC m c) (aMw m c) (aMb m c) : FVec Ideal S32x6144 .f32) (ix2 b q) = modX m c b q :=
  modRows_apply _ _ _ b q

theorem row_eq (q : Fin 6144) : (modRow (aCc m c) (aMw m c) (aMb m c) : FVec Ideal S1x6144 .f32) (ix2 0 q) = modC m c q :=
  modRow_apply _ _ _ q

theorem mx_same : (sixRows (modRows (aC m c) (aMw m c) (aMb m c)) : FVec Ideal S32x6x1024 .f32) = (W7 m ρ c (Proc.devRef .tc main_v8) : S32x6x1024.Idx → EReal) := by
  rw [result_mx]
  funext i
  rw [eq_ix3 i]
  exact (sixRows_apply _ (i 0) (i 1) (i 2)).trans ((rows_eq m c (i 0) _).trans (mx_eq m ρ c (i 0) (i 1) (i 2)).symm)

theorem eta_one (i : S1x6x1024.Idx) : i = ix3 0 (i 1) (i 2) := funext fun a => Fin.ext (by
  match a with
  | ⟨0, _⟩ => have h : (i 0).val < 1 := (i 0).isLt; show (i 0).val = 0; omega
  | ⟨1, _⟩ => rfl
  | ⟨2, _⟩ => rfl)

theorem mc_same : (sixRow (modRow (aCc m c) (aMw m c) (aMb m c)) : FVec Ideal S1x6x1024 .f32) = (W7 m ρ c (Proc.devRef .tc main_v10) : S1x6x1024.Idx → EReal) := by
  rw [result_mc]
  funext i
  rw [eta_one i]
  exact (sixRow_apply _ (i 1) (i 2)).trans ((row_eq m c _).trans (mc_eq m ρ c (i 1) (i 2)).symm)

theorem u_same : (projRows (aX m c) (modRows (aC m c) (aMw m c) (aMb m c)) (aG m c) (aW m c) : FVec Ideal S32x2048x256 .f32) = (W7 m ρ c (Proc.devRef .tc main_v20) : S32x2048x256.Idx → EReal) := by
  funext i
  rw [eq_ix3 i]
  refine (projRows_apply _ _ _ _ (i 0) (i 1) (i 2)).trans (Eq.trans ?_ (result_u m ρ c (i 0) (i 1) (i 2)).symm)
  unfold projX
  exact congr (congrArg _ (funext fun k => rows_eq m c (i 0) (col6 0 k))) (funext fun k => rows_eq m c (i 0) (col6 1 k)) |> fun e => congrFun e _

theorem uc_same : (projCtx (aCtx m c) (modRow (aCc m c) (aMw m c) (aMb m c)) (aG m c) (aW m c) : FVec Ideal S32x256x256 .f32) = (W7 m ρ c (Proc.devRef .tc main_v21) : S32x256x256.Idx → EReal) := by
  funext i
  rw [eq_ix3 i]
  refine (projCtx_apply _ _ _ _ (i 0) (i 1) (i 2)).trans (Eq.trans ?_ (result_uc m ρ c (i 0) (i 1) (i 2)).symm)
  unfold projC
  exact congr (congrArg _ (funext fun k => row_eq m c (col6 0 k))) (funext fun k => row_eq m c (col6 1 k)) |> fun e => congrFun e _

end Cert.Proof.Front

end
-- ==== Proof.Mix.Payload.lean ====
/-
  What the body of the mixers' call computes, stage by stage, read at an index: the modulated rows, their products under the
  projection, the gated unit of the recurrent mixer's output, the short convolutions along the grid's rows and columns, and
  the output projection's residual.
-/
module

public import proofs.«01_k».proof.Proof.Gen.MixIdeal.Skeleton
public import proofs.«01_k».proof.Proof.Front.Payload
public import Idealize.ShloMosaic.Lib.Pointwise

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

/-! ## The modulated rows -/

abbrev eps : Ideal .f32 := Scalar.ofBits .f32 0x358637BD#32

theorem hid0 (v13 : Vec Ideal S1x512x1024 .f32) (v15 : Vec Ideal S1x1024 .f32) (v17 v19 : Vec Ideal S1x1x1024 .f32) (r : Fin 512) (k : Fin 1024) :
    k0_pay9 (k0_pay4 v13) (k0_pay5 v15) (k0_pay6 v17) (k0_pay7 v19) (k0_pay8 v13) eps (ix2 r k)
      = modded (fun k => v13 (ix3 0 r k)) (fun k => v15 (ix2 0 k)) (fun k => v17 (ix3 0 0 k)) (fun k => v19 (ix3 0 0 k)) k := by
  pointwise [k0_pay9, k0_pay4, k0_pay5, k0_pay6, k0_pay7, k0_pay8, modded, Final.inv]

theorem hid1 (v13 : Vec Ideal S1x512x1024 .f32) (v15 : Vec Ideal S1x1024 .f32) (v17 v19 : Vec Ideal S1x1x1024 .f32) (r : Fin 512) (k : Fin 1024) :
    k0_pay21 (k0_pay16 v15) (k0_pay17 v17) (k0_pay18 v19) (k0_pay19 v13) k0_pay20 (ix2 r k)
      = modded (fun k => v13 (ix3 0 r k)) (fun k => v15 (ix2 0 k)) (fun k => v17 (ix3 0 0 k)) (fun k => v19 (ix3 0 0 k)) k := by
  pointwise [k0_pay21, k0_pay15, k0_pay16, k0_pay17, k0_pay18, k0_pay19, k0_pay20, modded, Final.inv]

theorem hidUp (v61 : Vec Ideal S1x64x1024 .f32) (v63 : Vec Ideal S1x1024 .f32) (v65 v67 : Vec Ideal S1x1x1024 .f32) (r : Fin 64) (k : Fin 1024) :
    k0_pay14 (k0_pay11 v61) (k0_pay12 v63) (k0_pay13 v65) v67 (ix2 r k)
      = modded (fun k => v61 (ix3 0 r k)) (fun k => v63 (ix2 0 k)) (fun k => v65 (ix3 0 0 k)) (fun k => v67 (ix3 0 0 k)) k := by
  pointwise [k0_pay14, k0_pay11, k0_pay12, k0_pay13, modded, Final.inv]

theorem hidDn (v61 : Vec Ideal S1x64x1024 .f32) (v63 : Vec Ideal S1x1024 .f32) (v65 v67 : Vec Ideal S1x1x1024 .f32) (r : Fin 64) (k : Fin 1024) :
    k0_pay28 (k0_pay23 v61) (k0_pay24 v63) (k0_pay25 v65) (k0_pay26 v67) (k0_pay27 v61) (ix2 r k)
      = modded (fun k => v61 (ix3 0 r k)) (fun k => v63 (ix2 0 k)) (fun k => v65 (ix3 0 0 k)) (fun k => v67 (ix3 0 0 k)) k := by
  pointwise [k0_pay28, k0_pay23, k0_pay24, k0_pay25, k0_pay26, k0_pay27, modded, Final.inv]

/-! ## Their products under the projection -/

def lo (j : Fin 384) : Fin 768 := ⟨j.val, by omega⟩
def hi (j : Fin 384) : Fin 768 := ⟨384 + j.val, by omega⟩

/-- A row through a column of a weight, and the product of a row's two halves. -/
def thru {n : Nat} (h : Fin 1024 → EReal) (w : Fin 1024 → Fin n → EReal) (j : Fin n) : EReal := ∑ k, h k * w k j
def prod (h : Fin 1024 → EReal) (w : Fin 1024 → Fin 768 → EReal) (j : Fin 384) : EReal := thru h w (lo j) * thru h w (hi j)

section
variable (h : FVec Ideal S512x1024 .bf16) (hh : FVec Ideal S64x1024 .bf16) (w : Vec Ideal S1024x768 .bf16) (r : Fin 512) (j : Fin 384)
theorem prod29 : k0_pay29 h w (ix2 r j) = prod (fun k => h (ix2 r k)) (fun k q => w (ix2 k q)) j := by pointwise [k0_pay29, prod, thru, lo, hi]
theorem prod30 : k0_pay30 h w (ix2 r j) = prod (fun k => h (ix2 r k)) (fun k q => w (ix2 k q)) j := by pointwise [k0_pay30, prod, thru, lo, hi]
theorem prod31 : k0_pay31 h w (ix2 r j) = prod (fun k => h (ix2 r k)) (fun k q => w (ix2 k q)) j := by pointwise [k0_pay31, prod, thru, lo, hi]
theorem prod32 : k0_pay32 h w (ix2 r j) = prod (fun k => h (ix2 r k)) (fun k q => w (ix2 k q)) j := by pointwise [k0_pay32, prod, thru, lo, hi]
theorem gate34 (q : Fin 768) : k0_pay34 h (k0_pay33 w) (constant (F := Ideal) S512x768 .f32 0x00000000#32) (ix2 r q) = thru (fun k => h (ix2 r k)) (fun k q => w (ix2 k q)) q := by
  pointwise [k0_pay34, k0_pay33, thru]
theorem gate37 (q : Fin 768) : k0_pay37 h w (ix2 r q) = thru (fun k => h (ix2 r k)) (fun k q => w (ix2 k q)) q := by
  pointwise [k0_pay37, thru]
theorem halo35 (a : BitVec 32) (r : Fin 64) : k0_pay35 a hh w (ix2 r j) = if a = 0#32 then 0 else prod (fun k => hh (ix2 r k)) (fun k q => w (ix2 k q)) j := by
  unfold k0_pay35
  by_cases e : a = 0#32
  · subst e; pointwise
  · rw [if_neg e, show Scalar.cmpi .eq a 0#32 = 0#1 from by show BitVec.ofBool (a == 0#32) = 0#1; rw [beq_false_of_ne e]; rfl]
    pointwise [prod, thru, lo, hi]
theorem halo38 (a : BitVec 32) (r : Fin 64) : k0_pay38 a hh w (ix2 r j) = if a = 1#32 then 0 else prod (fun k => hh (ix2 r k)) (fun k q => w (ix2 k q)) j := by
  unfold k0_pay38
  by_cases e : a = 1#32
  · subst e; pointwise
  · rw [if_neg e, show Scalar.cmpi .eq a 1#32 = 0#1 from by show BitVec.ofBool (a == 1#32) = 0#1; rw [beq_false_of_ne e]; rfl]
    pointwise [prod, thru, lo, hi]
end

/-! ## The gated unit -/

/-- The smooth rectifier of a value. -/
def gel (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * (y * y))))))

/-- The two halves of a row's words. -/
def half (v : Fin 128 → BitVec 32) (j : Fin 256) : EReal :=
  if h : j.val < 128 then Ideal.ofBits .f32 (IntOp.andi (v ⟨j.val, h⟩) 0xFFFF0000#32) else Ideal.ofBits .f32 (IntOp.shli ArithUnit.vector (v ⟨j.val - 128, by omega⟩) 16#32)

theorem gel10 (v : Vec Ideal S1x512x128 .i32) (r : Fin 512) (j : Fin 256) : k0_pay10 v (ix2 r j) = gel (half (fun k => v (ix3 0 r k)) j) := by
  pointwise [k0_pay10, gel, half]

theorem gel22 (v : Vec Ideal S1x512x128 .i32) (r : Fin 512) (j : Fin 256) : k0_pay22 v (ix2 r j) = gel (half (fun k => v (ix3 0 r k)) j) := by
  pointwise [k0_pay22, gel, half]

def glu (g : Fin 256 → EReal) (w : Fin 256 → Fin 256 → EReal) (b : Fin 256 → EReal) (j : Fin 256) : EReal :=
  g j * Ideal.logistic ((∑ k, g k * w k j) + b j)

theorem glu36 (g : FVec Ideal S512x256 .f32) (w : Vec Ideal S256x256 .bf16) (b : Vec Ideal S1x256 .f32) (r : Fin 512) (j : Fin 256) :
    k0_pay36 g w b (ix2 r j) = glu (fun k => g (ix2 r k)) (fun k q => w (ix2 k q)) (fun k => b (ix2 0 k)) j := by
  pointwise [k0_pay36, glu]
theorem glu40 (g : FVec Ideal S512x256 .f32) (w : Vec Ideal S256x256 .bf16) (b : Vec Ideal S1x256 .f32) (r : Fin 512) (j : Fin 256) :
    k0_pay40 g (k0_pay39 g w) b (ix2 r j) = glu (fun k => g (ix2 r k)) (fun k q => w (ix2 k q)) (fun k => b (ix2 0 k)) j := by
  pointwise [k0_pay40, k0_pay39, glu]

/-! ## The grid's columns -/

theorem mod41 : ∀ r : Fin 512, k0_pay41 (ix2 r 0) = BitVec.ofNat 32 (r.val % 64) := by
  decide +kernel
theorem mod47 : ∀ r : Fin 512, k0_pay47 (ix2 r 0) = BitVec.ofNat 32 (r.val % 64) := by
  decide +kernel

theorem bit0 (n : Nat) (hn : n < 512) : IntOp.cmpi .eq (BitVec.ofNat 32 (n % 64)) 0#32 = BitVec.ofBool (decide (n % 64 = 0)) := by
  have : ∀ a : Fin 64, IntOp.cmpi .eq (BitVec.ofNat 32 a.val) 0#32 = BitVec.ofBool (decide (a.val = 0)) := by decide +kernel
  exact this ⟨n % 64, by omega⟩
theorem bit63 (n : Nat) (hn : n < 512) : IntOp.cmpi .eq (BitVec.ofNat 32 (n % 64)) 63#32 = BitVec.ofBool (decide (n % 64 = 63)) := by
  have : ∀ a : Fin 64, IntOp.cmpi .eq (BitVec.ofNat 32 a.val) 63#32 = BitVec.ofBool (decide (a.val = 63)) := by decide +kernel
  exact this ⟨n % 64, by omega⟩

theorem sel (c : Prop) [Decidable c] (a b : EReal) : Scalar.select (BitVec.ofBool (decide c)) a b = if c then a else b := by
  by_cases h : c
  · rw [if_pos h, decide_eq_true h]; rfl
  · rw [if_neg h, decide_eq_false h]; rfl

/-- The rows before and after a row of one sub tile, inside a row of the grid; zero outside it. -/
def before (v : Fin 512 → EReal) (r : Fin 512) : EReal := if h : r.val % 64 = 0 then 0 else v ⟨r.val - 1, by omega⟩
def behind (v : Fin 512 → EReal) (r : Fin 512) : EReal := if h : r.val % 64 = 63 then 0 else v ⟨r.val + 1, by omega⟩

theorem right42 (v : FVec Ideal S512x384 .f32) (r : Fin 512) (j : Fin 384) : k0_pay42 v (ix2 r j) = behind (fun r => v (ix2 r j)) r := by
  have e := mod41 r
  pointwise [k0_pay42, behind]
  rw [e, bit63 r.val r.isLt, sel]
  split
  · rfl
  · exact congrArg v (congrArg (ix2 · j) (Fin.ext (by show (r.val + 512 - 511) % 512 = r.val + 1; omega)))

theorem taps44 (v : FVec Ideal S512x384 .f32) (w : Vec Ideal S3x384 .f32) (r : Fin 512) (j : Fin 384) :
    k0_pay44 v w (ix2 r j) = before (fun r => v (ix2 r j)) r * w (ix2 0 j) + v (ix2 r j) * w (ix2 1 j) := by
  have e := mod41 r
  pointwise [k0_pay44, k0_pay43, before]
  rw [e, bit0 r.val r.isLt, sel]
  congr 1
  split
  · rw [zero_mul]
  · exact congrArg (· * w (ix2 0 j)) (congrArg v (congrArg (ix2 · j) (Fin.ext (by show (r.val + 512 - 1) % 512 = r.val - 1; omega))))

theorem tap45 (w : Vec Ideal S3x384 .f32) (j : Fin 384) : k0_pay45 w (ix2 0 j) = w (ix2 2 j) := by
  pointwise [k0_pay45, k0_pay43]

/-! ## The mixers' outputs side by side -/

def c0 (j : Fin 256) : Fin 1024 := ⟨j.val, by omega⟩
def c1 (j : Fin 384) : Fin 1024 := ⟨256 + j.val, by omega⟩
def c2 (j : Fin 384) : Fin 1024 := ⟨640 + j.val, by omega⟩

section
variable (v172 v184 : FVec Ideal S512x384 .f32) (v187 : FVec Ideal S512x768 .f32) (v196 : FVec Ideal S64x384 .f32)
  (v206 : FVec Ideal S512x256 .f32) (v259 v268 : FVec Ideal S512x384 .f32) (v269 : FVec Ideal S1x384 .f32) (w : Vec Ideal S3x384 .f32) (r : Fin 512)

theorem mix46_0 (j : Fin 256) : k0_pay46 v172 v184 v187 v196 v206 v259 v268 v269 w (ix2 r (c0 j)) = v206 (ix2 r j) := by
  pointwise [k0_pay46, c0]
theorem mix46_1 (j : Fin 384) : k0_pay46 v172 v184 v187 v196 v206 v259 v268 v269 w (ix2 r (c1 j))
    = v187 (ix2 r (lo j)) * (v268 (ix2 r j) + v259 (ix2 r j) * v269 (ix2 0 j)) := by
  pointwise [k0_pay46, c1, lo]
theorem mix46_2 (j : Fin 384) : k0_pay46 v172 v184 v187 v196 v206 v259 v268 v269 w (ix2 r (c2 j))
    = v187 (ix2 r (hi j)) * ((if h : r.val < 64 then v196 (ix2 ⟨r.val, h⟩ j) else v172 (ix2 ⟨r.val - 64, by omega⟩ j)) * w (ix2 0 j)
        + v172 (ix2 r j) * w (ix2 1 j) + (if h : r.val < 448 then v172 (ix2 ⟨64 + r.val, by omega⟩ j) else v184 (ix2 ⟨r.val - 448, by omega⟩ j)) * w (ix2 2 j)) := by
  pointwise [k0_pay46, c2, hi]
  have h0 : 640 + j.val - 256 - 384 = j.val := by omega
  rw [dif_neg (by omega), dif_neg (by omega)]
  simp only [h0]
end

section
variable (v172 v178 v184 : FVec Ideal S512x384 .f32) (v209 : FVec Ideal S512x768 .f32) (v218 : FVec Ideal S64x384 .f32)
  (v228 : FVec Ideal S512x256 .f32) (w w' : Vec Ideal S3x384 .f32) (r : Fin 512)

theorem mix50_0 (j : Fin 256) : k0_pay50 v172 v178 v184 v209 v218 v228 k0_pay47 k0_pay48 (k0_pay49 v178) (Scalar.ofBits .f32 0x00000000#32) w w' (ix2 r (c0 j)) = v228 (ix2 r j) := by
  pointwise [k0_pay50, c0]
theorem mix50_1 (j : Fin 384) : k0_pay50 v172 v178 v184 v209 v218 v228 k0_pay47 k0_pay48 (k0_pay49 v178) (Scalar.ofBits .f32 0x00000000#32) w w' (ix2 r (c1 j))
    = v209 (ix2 r (lo j)) * (before (fun r => v178 (ix2 r j)) r * w (ix2 0 j) + v178 (ix2 r j) * w (ix2 1 j)
        + behind (fun r => v178 (ix2 r j)) r * w (ix2 2 j)) := by
  have e := mod47 r
  pointwise [k0_pay50, k0_pay48, k0_pay49, c1, lo, before, behind]
  rw [e, bit0 r.val r.isLt, bit63 r.val r.isLt, sel, sel]
  congr 1
  congr 1
  · congr 1
    split
    · rw [zero_mul]
    · exact congrArg (· * w (ix2 0 j)) (congrArg v178 (congrArg (ix2 · j) (Fin.ext (by show (r.val + 512 - 1) % 512 = r.val - 1; omega))))
  · split
    · rw [zero_mul]
    · exact congrArg (· * w (ix2 2 j)) (congrArg v178 (congrArg (ix2 · j) (Fin.ext (by show (r.val + 512 - 511) % 512 = r.val + 1; omega))))
theorem mix50_2 (j : Fin 384) : k0_pay50 v172 v178 v184 v209 v218 v228 k0_pay47 k0_pay48 (k0_pay49 v178) (Scalar.ofBits .f32 0x00000000#32) w w' (ix2 r (c2 j))
    = v209 (ix2 r (hi j)) * ((if h : r.val < 64 then v172 (ix2 ⟨448 + r.val, by omega⟩ j) else v184 (ix2 ⟨r.val - 64, by omega⟩ j)) * w' (ix2 0 j)
        + v184 (ix2 r j) * w' (ix2 1 j) + (if h : r.val < 448 then v184 (ix2 ⟨64 + r.val, by omega⟩ j) else v218 (ix2 ⟨r.val - 448, by omega⟩ j)) * w' (ix2 2 j)) := by
  pointwise [k0_pay50, k0_pay48, k0_pay49, c2, hi]
  have h0 : 640 + j.val - 256 - 384 = j.val := by omega
  rw [dif_neg (by omega), dif_neg (by omega)]
  simp only [h0]
end

/-! ## The output projection -/

theorem out51 (v : FVec Ideal S512x1024 .bf16) (w : Vec Ideal S1024x1024 .bf16) (r : Fin 512) (n : Fin 1024) :
    k0_pay51 v w (ix2 r n) = ∑ q, v (ix2 r q) * w (ix2 q n) := by
  pointwise [k0_pay51]
theorem out52 (v : FVec Ideal S512x1024 .bf16) (w : Vec Ideal S1024x1024 .bf16) (r : Fin 512) (n : Fin 1024) :
    k0_pay52 v w (ix2 r n) = ∑ q, v (ix2 r q) * w (ix2 q n) := by
  pointwise [k0_pay52]

end Cert.Proof.Mix

end
-- ==== Proof.Mix.Body.lean ====
/-
  A tile's two sub tiles: from the loaded vectors to the mixers' outputs side by side, as a function of the tokens alone.
-/
module

public import proofs.«01_k».proof.Proof.Mix.Payload

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

/-- What one sequence's mixers depend on: the norm's gain, shift and scale, the three projections, the taps, the gated unit's
    weights, the gate, the output projection, the tokens and the recurrent mixer's words. -/
structure Par where
  g : Fin 1024 → EReal
  sh : Fin 1024 → EReal
  sc : Fin 1024 → EReal
  wb : Fin 1024 → Fin 768 → EReal
  wr : Fin 1024 → Fin 768 → EReal
  wc : Fin 1024 → Fin 768 → EReal
  tr : Fin 3 → Fin 384 → EReal
  tc : Fin 3 → Fin 384 → EReal
  wg : Fin 256 → Fin 256 → EReal
  bg : Fin 256 → EReal
  gate : Fin 1024 → EReal
  wo : Fin 1024 → Fin 1024 → EReal
  X : ℕ → Fin 1024 → EReal
  Y : ℕ → Fin 128 → BitVec 32

namespace Par
variable (P : Par) (n : ℕ)

def hid : Fin 1024 → EReal := modded (P.X n) P.g P.sh P.sc
def cr (j : Fin 384) : EReal := prod (P.hid n) P.wr j
def cc (j : Fin 384) : EReal := prod (P.hid n) P.wc j
def rowPart (j : Fin 384) : EReal :=
  (if n % 64 = 0 then 0 else P.cr (n - 1) j) * P.tr 0 j + P.cr n j * P.tr 1 j + (if n % 64 = 63 then 0 else P.cr (n + 1) j) * P.tr 2 j
def colPart (j : Fin 384) : EReal :=
  (if n < 64 then 0 else P.cc (n - 64) j) * P.tc 0 j + P.cc n j * P.tc 1 j + (if 1984 ≤ n then 0 else P.cc (n + 64) j) * P.tc 2 j
def unit (j : Fin 256) : EReal := glu (fun k => gel (half (P.Y n) k)) P.wg P.bg j
def mixed (q : Fin 1024) : EReal :=
  if h : q.val < 256 then P.unit n ⟨q.val, h⟩
  else if h' : q.val < 640 then thru (P.hid n) P.wb (lo ⟨q.val - 256, by omega⟩) * P.rowPart n ⟨q.val - 256, by omega⟩
  else thru (P.hid n) P.wb (hi ⟨q.val - 640, by omega⟩) * P.colPart n ⟨q.val - 640, by omega⟩
/-- The token after the mixers. -/
def tok (k : Fin 1024) : EReal := P.X n k + P.gate k * ∑ q, P.mixed n q * P.wo q k

theorem mixed_c0 (j : Fin 256) : P.mixed n (c0 j) = P.unit n j := by
  unfold mixed; rw [dif_pos (show (c0 j).val < 256 from j.isLt)]; rfl
theorem mixed_c1 (j : Fin 384) : P.mixed n (c1 j) = thru (P.hid n) P.wb (lo j) * P.rowPart n j := by
  have e : (⟨(c1 j).val - 256, by have := j.isLt; show 256 + j.val - 256 < 384; omega⟩ : Fin 384) = j := Fin.ext (by show 256 + j.val - 256 = j.val; omega)
  unfold mixed
  rw [dif_neg (by show ¬ 256 + j.val < 256; omega), dif_pos (by show 256 + j.val < 640; have := j.isLt; omega), e]
theorem mixed_c2 (j : Fin 384) : P.mixed n (c2 j) = thru (P.hid n) P.wb (hi j) * P.colPart n j := by
  have e : (⟨(c2 j).val - 640, by have := j.isLt; show 640 + j.val - 640 < 384; omega⟩ : Fin 384) = j := Fin.ext (by show 640 + j.val - 640 = j.val; omega)
  unfold mixed
  rw [dif_neg (by show ¬ 640 + j.val < 256; omega), dif_neg (by show ¬ 640 + j.val < 640; omega), e]
end Par

theorem col_cases (q : Fin 1024) (p : Fin 1024 → Prop) (h0 : ∀ j, p (c0 j)) (h1 : ∀ j, p (c1 j)) (h2 : ∀ j, p (c2 j)) : p q := by
  have hq := q.isLt
  by_cases a : q.val < 256
  · exact h0 ⟨q.val, a⟩
  by_cases b : q.val < 640
  · exact (show c1 ⟨q.val - 256, by omega⟩ = q from Fin.ext (by show 256 + (q.val - 256) = q.val; omega)) ▸ h1 ⟨q.val - 256, by omega⟩
  · exact (show c2 ⟨q.val - 640, by omega⟩ = q from Fin.ext (by show 640 + (q.val - 640) = q.val; omega)) ▸ h2 ⟨q.val - 640, by omega⟩

section
variable (vx0 vx1 : Vec Ideal S1x512x1024 .f32) (vup vdn : Vec Ideal S1x64x1024 .f32) (vg : Vec Ideal S1x1024 .f32) (vsh vsc vgate : Vec Ideal S1x1x1024 .f32)
  (vy0 vy1 : Vec Ideal S1x512x128 .i32) (wb wr wc : Vec Ideal S1024x768 .bf16) (tr tc : Vec Ideal S3x384 .f32) (wg : Vec Ideal S256x256 .bf16)
  (bg : Vec Ideal S1x256 .f32) (wo : Vec Ideal S1024x1024 .bf16) (a : BitVec 32)

/-! ## The chains -/

def hidden0 : FVec Ideal S512x1024 .bf16 := k0_pay9 (k0_pay4 vx0) (k0_pay5 vg) (k0_pay6 vsh) (k0_pay7 vsc) (k0_pay8 vx0) eps
def hidden1 : FVec Ideal S512x1024 .bf16 := k0_pay21 (k0_pay16 vg) (k0_pay17 vsh) (k0_pay18 vsc) (k0_pay19 vx1) k0_pay20
def hiddenUp : FVec Ideal S64x1024 .bf16 := k0_pay14 (k0_pay11 vup) (k0_pay12 vg) (k0_pay13 vsh) vsc
def hiddenDn : FVec Ideal S64x1024 .bf16 := k0_pay28 (k0_pay23 vdn) (k0_pay24 vg) (k0_pay25 vsh) (k0_pay26 vsc) (k0_pay27 vdn)

/-- The mixers' outputs of the first and of the second half of a tile. -/
def mixL0 : FVec Ideal S512x1024 .bf16 :=
  k0_pay46 (k0_pay30 (hidden0 vx0 vg vsh vsc) wc) (k0_pay32 (hidden1 vx1 vg vsh vsc) wc)
    (k0_pay34 (hidden0 vx0 vg vsh vsc) (k0_pay33 wb) (constant (F := Ideal) S512x768 .f32 0x00000000#32))
    (k0_pay35 a (hiddenUp vup vg vsh vsc) wc) (k0_pay36 (k0_pay10 vy0) wg bg) (k0_pay42 (k0_pay29 (hidden0 vx0 vg vsh vsc) wr))
    (k0_pay44 (k0_pay29 (hidden0 vx0 vg vsh vsc) wr) tr) (k0_pay45 tr) tc
def mixL1 : FVec Ideal S512x1024 .bf16 :=
  k0_pay50 (k0_pay30 (hidden0 vx0 vg vsh vsc) wc) (k0_pay31 (hidden1 vx1 vg vsh vsc) wr) (k0_pay32 (hidden1 vx1 vg vsh vsc) wc)
    (k0_pay37 (hidden1 vx1 vg vsh vsc) wb) (k0_pay38 a (hiddenDn vdn vg vsh vsc) wc) (k0_pay40 (k0_pay22 vy1) (k0_pay39 (k0_pay22 vy1) wg) bg)
    k0_pay47 k0_pay48 (k0_pay49 (k0_pay31 (hidden1 vx1 vg vsh vsc) wr)) (Scalar.ofBits .f32 0x00000000#32) tr tc

/-! ## Their values -/

/-- The dependence of a loaded tile. -/
def par (X : ℕ → Fin 1024 → EReal) (Y : ℕ → Fin 128 → BitVec 32) : Par where
  g := fun k => vg (ix2 0 k)
  sh := fun k => vsh (ix3 0 0 k)
  sc := fun k => vsc (ix3 0 0 k)
  wb := fun k q => wb (ix2 k q)
  wr := fun k q => wr (ix2 k q)
  wc := fun k q => wc (ix2 k q)
  tr := fun a j => tr (ix2 a j)
  tc := fun a j => tc (ix2 a j)
  wg := fun k q => wg (ix2 k q)
  bg := fun q => bg (ix2 0 q)
  gate := fun k => vgate (ix3 0 0 k)
  wo := fun k q => wo (ix2 k q)
  X := X
  Y := Y

variable (X : ℕ → Fin 1024 → EReal) (Y : ℕ → Fin 128 → BitVec 32) (t : ℕ) (ht : t < 2) (ha : a = BitVec.ofNat 32 t)
  (hx0 : ∀ r k, vx0 (ix3 0 r k) = X (t * 1024 + r.val) k) (hx1 : ∀ r k, vx1 (ix3 0 r k) = X (t * 1024 + 512 + r.val) k)
  (hup : t = 1 → ∀ r k, vup (ix3 0 r k) = X (960 + r.val) k) (hdn : t = 0 → ∀ r k, vdn (ix3 0 r k) = X (1024 + r.val) k)
  (hy0 : ∀ r k, vy0 (ix3 0 r k) = Y (t * 1024 + r.val) k) (hy1 : ∀ r k, vy1 (ix3 0 r k) = Y (t * 1024 + 512 + r.val) k)

include hx0 in
theorem hidden0_at (r : Fin 512) : (fun k => hidden0 vx0 vg vsh vsc (ix2 r k)) = Par.hid (par vg vsh vsc vgate wb wr wc tr tc wg bg wo X Y) (t * 1024 + r.val) := funext fun k => by
  unfold hidden0
  rw [hid0, funext (hx0 r)]; rfl
include hx1 in
theorem hidden1_at (r : Fin 512) : (fun k => hidden1 vx1 vg vsh vsc (ix2 r k)) = Par.hid (par vg vsh vsc vgate wb wr wc tr tc wg bg wo X Y) (t * 1024 + 512 + r.val) := funext fun k => by
  unfold hidden1
  rw [hid1, funext (hx1 r)]; rfl
include hup in
theorem hiddenUp_at (h : t = 1) (r : Fin 64) : (fun k => hiddenUp vup vg vsh vsc (ix2 r k)) = Par.hid (par vg vsh vsc vgate wb wr wc tr tc wg bg wo X Y) (960 + r.val) := funext fun k => by
  unfold hiddenUp
  rw [hidUp, funext (hup h r)]; rfl
include hdn in
theorem hiddenDn_at (h : t = 0) (r : Fin 64) : (fun k => hiddenDn vdn vg vsh vsc (ix2 r k)) = Par.hid (par vg vsh vsc vgate wb wr wc tr tc wg bg wo X Y) (1024 + r.val) := funext fun k => by
  unfold hiddenDn
  rw [hidDn, funext (hdn h r)]; rfl

include ht ha hx0 hx1 hup hy0 in
theorem mixL0_at (r : Fin 512) (q : Fin 1024) : mixL0 vx0 vx1 vup vg vsh vsc vy0 wb wr wc tr tc wg bg a (ix2 r q) = Par.mixed (par vg vsh vsc vgate wb wr wc tr tc wg bg wo X Y) (t * 1024 + r.val) q := by
  have H0 := hidden0_at vx0 vg vsh vsc vgate wb wr wc tr tc wg bg wo X Y t hx0
  have H1 := hidden1_at vx1 vg vsh vsc vgate wb wr wc tr tc wg bg wo X Y t hx1
  have HU := hiddenUp_at vup vg vsh vsc vgate wb wr wc tr tc wg bg wo X Y t hup
  have hr := r.isLt
  refine col_cases q (fun q => mixL0 vx0 vx1 vup vg vsh vsc vy0 wb wr wc tr tc wg bg a (ix2 r q) = Par.mixed (par vg vsh vsc vgate wb wr wc tr tc wg bg wo X Y) (t * 1024 + r.val) q) (fun j => ?_) (fun j => ?_) (fun j => ?_)
  · unfold mixL0
    rw [mix46_0, Par.mixed_c0, glu36]
    simp only [gel10, hy0]
    rfl
  · unfold mixL0
    rw [mix46_1, Par.mixed_c1, gate34, taps44, right42, tap45]
    simp only [prod29, H0]
    unfold Par.rowPart before behind
    congr 1
    congr 1
    · congr 1
      congr 1
      by_cases h : r.val % 64 = 0
      · rw [dif_pos h, if_pos (by omega)]
      · rw [dif_neg h, if_neg (by omega), show t * 1024 + r.val - 1 = t * 1024 + (r.val - 1) by omega]; rfl
    · congr 1
      by_cases h : r.val % 64 = 63
      · rw [dif_pos h, if_pos (by omega)]
      · rw [dif_neg h, if_neg (by omega)]; rfl
  · unfold mixL0
    rw [mix46_2, Par.mixed_c2, gate34]
    simp only [prod30, prod32, halo35, H0, H1]
    unfold Par.colPart
    congr 1
    congr 1
    · congr 1
      congr 1
      by_cases h : r.val < 64
      · rw [dif_pos h]
        rcases (show t = 0 ∨ t = 1 by omega) with e | e
        · subst e; rw [if_pos ha, if_pos (by omega)]
        · rw [HU e]; subst e; rw [if_neg (by rw [ha]; decide), if_neg (by omega), show 1 * 1024 + r.val - 64 = 960 + r.val by omega]; rfl
      · rw [dif_neg h, if_neg (by omega), show t * 1024 + r.val - 64 = t * 1024 + (r.val - 64) by omega]; rfl
    · congr 1
      rw [if_neg (by omega)]
      by_cases h : r.val < 448
      · rw [dif_pos h, show t * 1024 + r.val + 64 = t * 1024 + (64 + r.val) by omega]; rfl
      · rw [dif_neg h, show t * 1024 + r.val + 64 = t * 1024 + 512 + (r.val - 448) by omega]; rfl

include ht ha hx0 hx1 hdn hy1 in
theorem mixL1_at (r : Fin 512) (q : Fin 1024) : mixL1 vx0 vx1 vdn vg vsh vsc vy1 wb wr wc tr tc wg bg a (ix2 r q) = Par.mixed (par vg vsh vsc vgate wb wr wc tr tc wg bg wo X Y) (t * 1024 + 512 + r.val) q := by
  have H0 := hidden0_at vx0 vg vsh vsc vgate wb wr wc tr tc wg bg wo X Y t hx0
  have H1 := hidden1_at vx1 vg vsh vsc vgate wb wr wc tr tc wg bg wo X Y t hx1
  have HD := hiddenDn_at vdn vg vsh vsc vgate wb wr wc tr tc wg bg wo X Y t hdn
  have hr := r.isLt
  refine col_cases q (fun q => mixL1 vx0 vx1 vdn vg vsh vsc vy1 wb wr wc tr tc wg bg a (ix2 r q) = Par.mixed (par vg vsh vsc vgate wb wr wc tr tc wg bg wo X Y) (t * 1024 + 512 + r.val) q) (fun j => ?_) (fun j => ?_) (fun j => ?_)
  · unfold mixL1
    rw [mix50_0, Par.mixed_c0, glu40]
    simp only [gel22, hy1]
    rfl
  · unfold mixL1
    rw [mix50_1, Par.mixed_c1, gate37]
    simp only [prod31, H1]
    unfold Par.rowPart before behind
    congr 1
    congr 1
    · congr 1
      congr 1
      by_cases h : r.val % 64 = 0
      · rw [dif_pos h, if_pos (by omega)]
      · rw [dif_neg h, if_neg (by omega), show t * 1024 + 512 + r.val - 1 = t * 1024 + 512 + (r.val - 1) by omega]; rfl
    · congr 1
      by_cases h : r.val % 64 = 63
      · rw [dif_pos h, if_pos (by omega)]
      · rw [dif_neg h, if_neg (by omega)]; rfl
  · unfold mixL1
    rw [mix50_2, Par.mixed_c2, gate37]
    simp only [prod30, prod32, halo38, H0, H1]
    unfold Par.colPart
    congr 1
    congr 1
    · congr 1
      congr 1
      rw [if_neg (by omega)]
      by_cases h : r.val < 64
      · rw [dif_pos h, show t * 1024 + 512 + r.val - 64 = t * 1024 + (448 + r.val) by omega]; rfl
      · rw [dif_neg h, show t * 1024 + 512 + r.val - 64 = t * 1024 + 512 + (r.val - 64) by omega]; rfl
    · congr 1
      by_cases h : r.val < 448
      · rw [dif_pos h, if_neg (by omega), show t * 1024 + 512 + r.val + 64 = t * 1024 + 512 + (64 + r.val) by omega]; rfl
      · rw [dif_neg h]
        rcases (show t = 0 ∨ t = 1 by omega) with e | e
        · rw [HD e]; subst e; rw [if_neg (by rw [ha]; decide), if_neg (by omega), show 0 * 1024 + 512 + r.val + 64 = 1024 + (r.val - 448) by omega]; rfl
        · subst e; rw [if_pos ha, if_pos (by omega)]
end

end Cert.Proof.Mix

end
-- ==== Proof.Mix.Pieces.lean ====
/-
  What each store of a tile writes: a hundred and twenty-eight tokens after the mixers, and the same tokens modulated for the
  experts.
-/
module

public import proofs.«01_k».proof.Proof.Mix.Body

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

/-- A row of a half tile, `o` below its first. -/
def at0 (o : ℕ) (ho : o ≤ 384) (r : Fin 128) : Fin 512 := ⟨o + r.val, by omega⟩

section
variable (v y : FVec Ideal S512x1024 .f32) (gate : Vec Ideal S1x1x1024 .f32) (g : Vec Ideal S1x1024 .f32) (sh sc : Vec Ideal S1x1x1024 .f32)
  (m : FVec Ideal S512x1024 .bf16) (wo : Vec Ideal S1024x1024 .bf16)

def resid (r : Fin 512) (k : Fin 1024) : EReal := v (ix2 r k) + gate (ix3 0 0 k) * y (ix2 r k)
def remod (r : Fin 512) (k : Fin 1024) : EReal := modded (resid v y gate r) (fun k => g (ix2 0 k)) (fun k => sh (ix3 0 0 k)) (fun k => sc (ix3 0 0 k)) k

variable (r : Fin 128) (k : Fin 1024)

/-! ## The tokens -/

theorem row53 : k0_pay53 v m wo gate (ix2 r k) = resid v (k0_pay51 m wo) gate (at0 0 (by omega) r) k := by
  unfold k0_pay53
  generalize k0_pay51 m wo = y
  pointwise [resid, at0]
theorem row96 : k0_pay96 (k0_pay93 v) (k0_pay94 gate) (k0_pay95 y) (ix2 r k) = resid v y gate (at0 128 (by omega) r) k := by
  pointwise [k0_pay96, k0_pay93, k0_pay94, k0_pay95, resid, at0]
theorem row139 : k0_pay139 v y gate (ix2 r k) = resid v y gate (at0 256 (by omega) r) k := by pointwise [k0_pay139, resid, at0]
theorem row178 : k0_pay178 v y gate (ix2 r k) = resid v y gate (at0 384 (by omega) r) k := by pointwise [k0_pay178, resid, at0]
theorem row224 : k0_pay224 v y gate (ix2 r k) = resid v y gate (at0 0 (by omega) r) k := by pointwise [k0_pay224, resid, at0]
theorem row262 : k0_pay262 v y gate (ix2 r k) = resid v y gate (at0 128 (by omega) r) k := by pointwise [k0_pay262, resid, at0]
theorem row303 : k0_pay303 v y gate (ix2 r k) = resid v y gate (at0 256 (by omega) r) k := by pointwise [k0_pay303, resid, at0]
theorem row345 : k0_pay345 v y gate (ix2 r k) = resid v y gate (at0 384 (by omega) r) k := by pointwise [k0_pay345, resid, at0]

theorem x0_at : k0_pay54 v m wo gate (ix3 0 r k) = resid v (k0_pay51 m wo) gate (at0 0 (by omega) r) k := by
  rw [← row53]; unfold k0_pay54; generalize k0_pay53 v m wo gate = z; pointwise
theorem x1_at : k0_pay97 (k0_pay93 v) (k0_pay94 gate) (k0_pay95 y) (ix3 0 r k) = resid v y gate (at0 128 (by omega) r) k := by
  rw [← row96]; unfold k0_pay97; generalize k0_pay96 (k0_pay93 v) (k0_pay94 gate) (k0_pay95 y) = z; pointwise
theorem x2_at : k0_pay140 v y gate (ix3 0 r k) = resid v y gate (at0 256 (by omega) r) k := by
  rw [← row139]; unfold k0_pay140; generalize k0_pay139 v y gate = z; pointwise
theorem x3_at : k0_pay179 v y gate (ix3 0 r k) = resid v y gate (at0 384 (by omega) r) k := by
  rw [← row178]; unfold k0_pay179; generalize k0_pay178 v y gate = z; pointwise
theorem x4_at : k0_pay225 v y gate (ix3 0 r k) = resid v y gate (at0 0 (by omega) r) k := by
  rw [← row224]; unfold k0_pay225; generalize k0_pay224 v y gate = z; pointwise
theorem x5_at : k0_pay263 (k0_pay262 v y gate) (ix3 0 r k) = resid v y gate (at0 128 (by omega) r) k := by
  rw [← row262]; unfold k0_pay263; generalize k0_pay262 v y gate = z; pointwise
theorem x6_at : k0_pay304 v y gate (ix3 0 r k) = resid v y gate (at0 256 (by omega) r) k := by
  rw [← row303]; unfold k0_pay304; generalize k0_pay303 v y gate = z; pointwise
theorem x7_at : k0_pay346 v y gate (ix3 0 r k) = resid v y gate (at0 384 (by omega) r) k := by
  rw [← row345]; unfold k0_pay346; generalize k0_pay345 v y gate = z; pointwise

/-! ## The tokens modulated -/

/-- A row's modulation, whatever the row. -/
def again (z : FVec Ideal S128x1024 .f32) : EReal := modded (fun k => z (ix2 r k)) (fun k => g (ix2 0 k)) (fun k => sh (ix3 0 0 k)) (fun k => sc (ix3 0 0 k)) k

theorem h0_at : k0_pay90 (k0_pay57 (k0_pay55 v m wo gate g sc) (k0_pay56 sh)) (ix3 0 r k) = remod v (k0_pay51 m wo) gate g sh sc (at0 0 (by omega) r) k := by
  have e := funext (row53 v gate m wo r)
  have : k0_pay90 (k0_pay57 (k0_pay55 v m wo gate g sc) (k0_pay56 sh)) (ix3 0 r k) = again g sh sc r k (k0_pay53 v m wo gate) := by
    unfold k0_pay55
    generalize k0_pay53 v m wo gate = z
    pointwise [k0_pay90, k0_pay57, k0_pay56, again, modded, Final.inv]
  rw [this]; unfold again remod; rw [e]
theorem h1_at : k0_pay136 (k0_pay135 (k0_pay98 (k0_pay93 v) (k0_pay94 gate) (k0_pay95 y) g sh sc)) (ix3 0 r k) = remod v y gate g sh sc (at0 128 (by omega) r) k := by
  have e := funext (row96 v y gate r)
  have : k0_pay136 (k0_pay135 (k0_pay98 (k0_pay93 v) (k0_pay94 gate) (k0_pay95 y) g sh sc)) (ix3 0 r k) = again g sh sc r k (k0_pay96 (k0_pay93 v) (k0_pay94 gate) (k0_pay95 y)) := by
    unfold k0_pay98
    generalize k0_pay96 (k0_pay93 v) (k0_pay94 gate) (k0_pay95 y) = z
    pointwise [k0_pay136, k0_pay135, again, modded, Final.inv]
  rw [this]; unfold again remod; rw [e]
theorem h2_at : k0_pay175 (k0_pay142 (k0_pay139 v y gate) (k0_pay141 g) sh sc) (ix3 0 r k) = remod v y gate g sh sc (at0 256 (by omega) r) k := by
  have e := funext (row139 v y gate r)
  have : k0_pay175 (k0_pay142 (k0_pay139 v y gate) (k0_pay141 g) sh sc) (ix3 0 r k) = again g sh sc r k (k0_pay139 v y gate) := by
    generalize k0_pay139 v y gate = z
    pointwise [k0_pay175, k0_pay142, k0_pay141, again, modded, Final.inv]
  rw [this]; unfold again remod; rw [e]
theorem h3_at : k0_pay219 (k0_pay184 (k0_pay178 v y gate) (k0_pay180 g) (k0_pay181 sh) (k0_pay182 sc) (k0_pay183 v y gate) eps) (ix3 0 r k) = remod v y gate g sh sc (at0 384 (by omega) r) k := by
  have e := funext (row178 v y gate r)
  have : k0_pay219 (k0_pay184 (k0_pay178 v y gate) (k0_pay180 g) (k0_pay181 sh) (k0_pay182 sc) (k0_pay183 v y gate) eps) (ix3 0 r k) = again g sh sc r k (k0_pay178 v y gate) := by
    unfold k0_pay183
    generalize k0_pay178 v y gate = z
    pointwise [k0_pay219, k0_pay184, k0_pay180, k0_pay181, k0_pay182, again, modded, Final.inv]
  rw [this]; unfold again remod; rw [e]
theorem h4_at : k0_pay259 (k0_pay226 v y gate g sh sc) (ix3 0 r k) = remod v y gate g sh sc (at0 0 (by omega) r) k := by
  have e := funext (row224 v y gate r)
  have : k0_pay259 (k0_pay226 v y gate g sh sc) (ix3 0 r k) = again g sh sc r k (k0_pay224 v y gate) := by
    unfold k0_pay226
    generalize k0_pay224 v y gate = z
    pointwise [k0_pay259, again, modded, Final.inv]
  rw [this]; unfold again remod; rw [e]
theorem h5_at : k0_pay300 (k0_pay299 (k0_pay264 (k0_pay262 v y gate) g sh sc)) (ix3 0 r k) = remod v y gate g sh sc (at0 128 (by omega) r) k := by
  have e := funext (row262 v y gate r)
  have : k0_pay300 (k0_pay299 (k0_pay264 (k0_pay262 v y gate) g sh sc)) (ix3 0 r k) = again g sh sc r k (k0_pay262 v y gate) := by
    generalize k0_pay262 v y gate = z
    pointwise [k0_pay300, k0_pay299, k0_pay264, again, modded, Final.inv]
  rw [this]; unfold again remod; rw [e]
theorem h6_at : k0_pay341 (k0_pay307 (k0_pay303 v y gate) (k0_pay305 g) (k0_pay306 sh) sc) (ix3 0 r k) = remod v y gate g sh sc (at0 256 (by omega) r) k := by
  have e := funext (row303 v y gate r)
  have : k0_pay341 (k0_pay307 (k0_pay303 v y gate) (k0_pay305 g) (k0_pay306 sh) sc) (ix3 0 r k) = again g sh sc r k (k0_pay303 v y gate) := by
    generalize k0_pay303 v y gate = z
    pointwise [k0_pay341, k0_pay307, k0_pay305, k0_pay306, again, modded, Final.inv]
  rw [this]; unfold again remod; rw [e]
theorem h7_at : k0_pay386 (k0_pay351 (k0_pay345 v y gate) (k0_pay347 g) (k0_pay348 sh) (k0_pay349 sc) (k0_pay350 v y gate)) (ix3 0 r k) = remod v y gate g sh sc (at0 384 (by omega) r) k := by
  have e := funext (row345 v y gate r)
  have : k0_pay386 (k0_pay351 (k0_pay345 v y gate) (k0_pay347 g) (k0_pay348 sh) (k0_pay349 sc) (k0_pay350 v y gate)) (ix3 0 r k) = again g sh sc r k (k0_pay345 v y gate) := by
    unfold k0_pay350
    generalize k0_pay345 v y gate = z
    pointwise [k0_pay386, k0_pay351, k0_pay347, k0_pay348, k0_pay349, again, modded, Final.inv]
  rw [this]; unfold again remod; rw [e]
end

end Cert.Proof.Mix

end
-- ==== Proof.Mix.Tile.lean ====
/-
  A tile of the mixers' call: its loads, the list of its stores, and what they leave in the two outputs.
-/
module

public import proofs.«01_k».proof.Proof.Mix.Pieces
public import proofs.«01_k».proof.Proof.Gen.MixIdeal.Frame
public import Idealize.ShloMosaic.Lib.Pipeline.ValueKit.Geometry

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

/-- A row of the tile. -/
def at8 (o : ℕ) (ho : o ≤ 896) (r : Fin 128) : Fin 1024 := ⟨o + r.val, by omega⟩

theorem emb16 (o : ℕ) (ho : o ≤ 896) (h : ∀ a, (![0, o, 0] : Fin 3 → Nat) a + S1x128x1024.size a ≤ S1x1024x1024.size a) (x : S1x128x1024.Idx) :
    (Rect.unit (s := S1x1024x1024) ![0, o, 0] S1x128x1024.size h).emb x = ix3 0 (at8 o ho (x 1)) (x 2) := by
  funext a
  match a with
  | ⟨0, _⟩ => exact Subsingleton.elim (α := Fin 1) _ _
  | ⟨1, _⟩ => exact Fin.ext (by show o + 1 * (x 1).val = o + (x 1).val; omega)
  | ⟨2, _⟩ => exact Fin.ext (by show 0 + 1 * (x 2).val = (x 2).val; omega)

theorem eta16 (x : S1x128x1024.Idx) : x = ix3 0 (x 1) (x 2) := by
  funext a
  match a with
  | ⟨0, _⟩ => exact Subsingleton.elim (α := Fin 1) _ _
  | ⟨1, _⟩ => rfl
  | ⟨2, _⟩ => rfl

theorem emb17 (o : ℕ) (ho : o ≤ 896) (h : ∀ a, (![0, o, 0] : Fin 3 → Nat) a + S1x128x1024.size a ≤ S1x1024x1152.size a) (x : S1x128x1024.Idx) :
    (Rect.unit (s := S1x1024x1152) ![0, o, 0] S1x128x1024.size h).emb x = ix3 0 (at8 o ho (x 1)) ⟨(x 2).val, lt_trans (x 2).isLt (by decide)⟩ := by
  funext a
  match a with
  | ⟨0, _⟩ => exact Subsingleton.elim (α := Fin 1) _ _
  | ⟨1, _⟩ => exact Fin.ext (by show o + 1 * (x 1).val = o + (x 1).val; omega)
  | ⟨2, _⟩ => exact Fin.ext (by show 0 + 1 * (x 2).val = (x 2).val; omega)

theorem emb17' (o : ℕ) (ho : o ≤ 896) (h : ∀ a, (![0, o, 1024] : Fin 3 → Nat) a + S1x128x128.size a ≤ S1x1024x1152.size a) (x : S1x128x128.Idx) :
    (Rect.unit (s := S1x1024x1152) ![0, o, 1024] S1x128x128.size h).emb x = ix3 0 (at8 o ho (x 1)) ⟨1024 + (x 2).val, Nat.add_lt_add_left (x 2).isLt 1024⟩ := by
  funext a
  match a with
  | ⟨0, _⟩ => exact Subsingleton.elim (α := Fin 1) _ _
  | ⟨1, _⟩ => exact Fin.ext (by show o + 1 * (x 1).val = o + (x 1).val; omega)
  | ⟨2, _⟩ => exact Fin.ext (by show 1024 + 1 * (x 2).val = 1024 + (x 2).val; omega)

theorem eta17' (x : S1x128x128.Idx) : x = ix3 0 (x 1) (x 2) := by
  funext a
  match a with
  | ⟨0, _⟩ => exact Subsingleton.elim (α := Fin 1) _ _
  | ⟨1, _⟩ => rfl
  | ⟨2, _⟩ => rfl

/-! ## The stores as lists -/

section
variable (p0 p1 p2 p3 p4 p5 p6 p7 : Vec Ideal S1x128x1024 .f32) (e0 e1 e2 e3 e4 e5 e6 e7 : Vec Ideal S1x128x128 .f32)

def list16 : List (View.Piece (Elt Ideal) S1x1024x1024 .f32) :=
  [⟨Rect.unit (s := S1x1024x1024) ![0, 896, 0] S1x128x1024.size inb_S1x1024x1024_S1x128x1024_0_896_0, p7⟩,
    ⟨Rect.unit (s := S1x1024x1024) ![0, 768, 0] S1x128x1024.size inb_S1x1024x1024_S1x128x1024_0_768_0, p6⟩,
    ⟨Rect.unit (s := S1x1024x1024) ![0, 640, 0] S1x128x1024.size inb_S1x1024x1024_S1x128x1024_0_640_0, p5⟩,
    ⟨Rect.unit (s := S1x1024x1024) ![0, 512, 0] S1x128x1024.size inb_S1x1024x1024_S1x128x1024_0_512_0, p4⟩,
    ⟨Rect.unit (s := S1x1024x1024) ![0, 384, 0] S1x128x1024.size inb_S1x1024x1024_S1x128x1024_0_384_0, p3⟩,
    ⟨Rect.unit (s := S1x1024x1024) ![0, 256, 0] S1x128x1024.size inb_S1x1024x1024_S1x128x1024_0_256_0, p2⟩,
    ⟨Rect.unit (s := S1x1024x1024) ![0, 128, 0] S1x128x1024.size inb_S1x1024x1024_S1x128x1024_0_128_0, p1⟩,
    ⟨Rect.unit (s := S1x1024x1024) ![0, 0, 0] S1x128x1024.size inb_S1x1024x1024_S1x128x1024_0_0_0, p0⟩]

def list17 : List (View.Piece (Elt Ideal) S1x1024x1152 .f32) :=
  [⟨Rect.unit (s := S1x1024x1152) ![0, 896, 1024] S1x128x128.size inb_S1x1024x1152_S1x128x128_0_896_1024, e7⟩,
    ⟨Rect.unit (s := S1x1024x1152) ![0, 896, 0] S1x128x1024.size inb_S1x1024x1152_S1x128x1024_0_896_0, p7⟩,
    ⟨Rect.unit (s := S1x1024x1152) ![0, 768, 1024] S1x128x128.size inb_S1x1024x1152_S1x128x128_0_768_1024, e6⟩,
    ⟨Rect.unit (s := S1x1024x1152) ![0, 768, 0] S1x128x1024.size inb_S1x1024x1152_S1x128x1024_0_768_0, p6⟩,
    ⟨Rect.unit (s := S1x1024x1152) ![0, 640, 1024] S1x128x128.size inb_S1x1024x1152_S1x128x128_0_640_1024, e5⟩,
    ⟨Rect.unit (s := S1x1024x1152) ![0, 640, 0] S1x128x1024.size inb_S1x1024x1152_S1x128x1024_0_640_0, p5⟩,
    ⟨Rect.unit (s := S1x1024x1152) ![0, 512, 1024] S1x128x128.size inb_S1x1024x1152_S1x128x128_0_512_1024, e4⟩,
    ⟨Rect.unit (s := S1x1024x1152) ![0, 512, 0] S1x128x1024.size inb_S1x1024x1152_S1x128x1024_0_512_0, p4⟩,
    ⟨Rect.unit (s := S1x1024x1152) ![0, 384, 1024] S1x128x128.size inb_S1x1024x1152_S1x128x128_0_384_1024, e3⟩,
    ⟨Rect.unit (s := S1x1024x1152) ![0, 384, 0] S1x128x1024.size inb_S1x1024x1152_S1x128x1024_0_384_0, p3⟩,
    ⟨Rect.unit (s := S1x1024x1152) ![0, 256, 1024] S1x128x128.size inb_S1x1024x1152_S1x128x128_0_256_1024, e2⟩,
    ⟨Rect.unit (s := S1x1024x1152) ![0, 256, 0] S1x128x1024.size inb_S1x1024x1152_S1x128x1024_0_256_0, p2⟩,
    ⟨Rect.unit (s := S1x1024x1152) ![0, 128, 1024] S1x128x128.size inb_S1x1024x1152_S1x128x128_0_128_1024, e1⟩,
    ⟨Rect.unit (s := S1x1024x1152) ![0, 128, 0] S1x128x1024.size inb_S1x1024x1152_S1x128x1024_0_128_0, p1⟩,
    ⟨Rect.unit (s := S1x1024x1152) ![0, 0, 1024] S1x128x128.size inb_S1x1024x1152_S1x128x128_0_0_1024, e0⟩,
    ⟨Rect.unit (s := S1x1024x1152) ![0, 0, 0] S1x128x1024.size inb_S1x1024x1152_S1x128x1024_0_0_0, p0⟩]

variable (G : Fin 1024 → Fin 1024 → EReal)

theorem canon16 (h0 : ∀ r k, p0 (ix3 0 r k) = G (at8 0 (by omega) r) k) (h1 : ∀ r k, p1 (ix3 0 r k) = G (at8 128 (by omega) r) k) (h2 : ∀ r k, p2 (ix3 0 r k) = G (at8 256 (by omega) r) k) (h3 : ∀ r k, p3 (ix3 0 r k) = G (at8 384 (by omega) r) k) (h4 : ∀ r k, p4 (ix3 0 r k) = G (at8 512 (by omega) r) k) (h5 : ∀ r k, p5 (ix3 0 r k) = G (at8 640 (by omega) r) k) (h6 : ∀ r k, p6 (ix3 0 r k) = G (at8 768 (by omega) r) k) (h7 : ∀ r k, p7 (ix3 0 r k) = G (at8 896 (by omega) r) k)
    (y : S1x1024x1024.Idx) (hc : ∃ pc ∈ list16 p0 p1 p2 p3 p4 p5 p6 p7, y ∈ pc.1.set) :
    View.canon (list16 p0 p1 p2 p3 p4 p5 p6 p7) y = G (y 1) (y 2) := by
  have step (o : ℕ) (ho : o ≤ 896) (h : ∀ a, (![0, o, 0] : Fin 3 → Nat) a + S1x128x1024.size a ≤ S1x1024x1024.size a) (p : Vec Ideal S1x128x1024 .f32)
      (hp : ∀ r k, p (ix3 0 r k) = G (at8 o ho r) k) (x : S1x128x1024.Idx) :
      p x = (fun y : S1x1024x1024.Idx => G (y 1) (y 2)) ((Rect.unit (s := S1x1024x1024) ![0, o, 0] S1x128x1024.size h).emb x) := by
    rw [emb16 o ho h x]
    exact (congrArg p (eta16 x)).trans (hp _ _)
  refine View.canon_apply_of_pieces (fun y => G (y 1) (y 2)) _ (fun p hp x => ?_) y hc
  simp only [list16, List.mem_cons, List.not_mem_nil, or_false] at hp
  rcases hp with rfl | rfl | rfl | rfl | rfl | rfl | rfl | rfl
  · exact step 896 (by omega) inb_S1x1024x1024_S1x128x1024_0_896_0 p7 h7 x
  · exact step 768 (by omega) inb_S1x1024x1024_S1x128x1024_0_768_0 p6 h6 x
  · exact step 640 (by omega) inb_S1x1024x1024_S1x128x1024_0_640_0 p5 h5 x
  · exact step 512 (by omega) inb_S1x1024x1024_S1x128x1024_0_512_0 p4 h4 x
  · exact step 384 (by omega) inb_S1x1024x1024_S1x128x1024_0_384_0 p3 h3 x
  · exact step 256 (by omega) inb_S1x1024x1024_S1x128x1024_0_256_0 p2 h2 x
  · exact step 128 (by omega) inb_S1x1024x1024_S1x128x1024_0_128_0 p1 h1 x
  · exact step 0 (by omega) inb_S1x1024x1024_S1x128x1024_0_0_0 p0 h0 x

/-- The two parts of a row of the second output: the modulated token, and the columns after it. -/
def parts (y : S1x1024x1152.Idx) : EReal :=
  if h : (y 2).val < 1024 then G (y 1) ⟨(y 2).val, h⟩
  else (![e0, e1, e2, e3, e4, e5, e6, e7] : Fin 8 → Vec Ideal S1x128x128 .f32) ⟨(y 1).val / 128, by have : (y 1).val < 1024 := (y 1).isLt; omega⟩
    (ix3 0 ⟨(y 1).val % 128, Nat.mod_lt _ (by decide)⟩ ⟨(y 2).val - 1024, by have : (y 2).val < 1152 := (y 2).isLt; omega⟩)

theorem parts_first (n k : Fin 1024) : parts e0 e1 e2 e3 e4 e5 e6 e7 G (ix3 0 n ⟨k.val, by omega⟩) = G n k := by
  unfold parts
  exact dif_pos k.isLt

theorem parts_rest (j : Fin 8) (ho : 128 * j.val ≤ 896) (r k : Fin 128) :
    parts e0 e1 e2 e3 e4 e5 e6 e7 G (ix3 0 (at8 (128 * j.val) ho r) ⟨1024 + k.val, by omega⟩)
      = (![e0, e1, e2, e3, e4, e5, e6, e7] : Fin 8 → Vec Ideal S1x128x128 .f32) j (ix3 0 r k) := by
  unfold parts
  refine (dif_neg (by show ¬ 1024 + k.val < 1024; omega)).trans ?_
  have a : (⟨(at8 (128 * j.val) ho r).val / 128, by have := (at8 (128 * j.val) ho r).isLt; omega⟩ : Fin 8) = j := Fin.ext (by show (128 * j.val + r.val) / 128 = j.val; omega)
  have b : (⟨(at8 (128 * j.val) ho r).val % 128, Nat.mod_lt _ (by decide)⟩ : Fin 128) = r := Fin.ext (by show (128 * j.val + r.val) % 128 = r.val; omega)
  have d : (⟨1024 + k.val - 1024, by omega⟩ : Fin 128) = k := Fin.ext (by show 1024 + k.val - 1024 = k.val; omega)
  exact (congrArg₂ (fun (x : Fin 8) (y : S1x128x128.Idx) => (![e0, e1, e2, e3, e4, e5, e6, e7] : Fin 8 → Vec Ideal S1x128x128 .f32) x y) a
    ((congrArg₂ (fun (x y : Fin 128) => (ix3 0 x y : S1x128x128.Idx)) b d)))

theorem canon17 (h0 : ∀ r k, p0 (ix3 0 r k) = G (at8 0 (by omega) r) k) (h1 : ∀ r k, p1 (ix3 0 r k) = G (at8 128 (by omega) r) k) (h2 : ∀ r k, p2 (ix3 0 r k) = G (at8 256 (by omega) r) k) (h3 : ∀ r k, p3 (ix3 0 r k) = G (at8 384 (by omega) r) k) (h4 : ∀ r k, p4 (ix3 0 r k) = G (at8 512 (by omega) r) k) (h5 : ∀ r k, p5 (ix3 0 r k) = G (at8 640 (by omega) r) k) (h6 : ∀ r k, p6 (ix3 0 r k) = G (at8 768 (by omega) r) k) (h7 : ∀ r k, p7 (ix3 0 r k) = G (at8 896 (by omega) r) k)
    (n : Fin 1024) (k : Fin 1024) (hc : ∃ pc ∈ list17 p0 p1 p2 p3 p4 p5 p6 p7 e0 e1 e2 e3 e4 e5 e6 e7, (ix3 0 n ⟨k.val, by omega⟩ : S1x1024x1152.Idx) ∈ pc.1.set) :
    View.canon (list17 p0 p1 p2 p3 p4 p5 p6 p7 e0 e1 e2 e3 e4 e5 e6 e7) (ix3 0 n ⟨k.val, by omega⟩ : S1x1024x1152.Idx) = G n k := by
  have step (o : ℕ) (ho : o ≤ 896) (h : ∀ a, (![0, o, 0] : Fin 3 → Nat) a + S1x128x1024.size a ≤ S1x1024x1152.size a) (p : Vec Ideal S1x128x1024 .f32)
      (hp : ∀ r k, p (ix3 0 r k) = G (at8 o ho r) k) (x : S1x128x1024.Idx) :
      p x = parts e0 e1 e2 e3 e4 e5 e6 e7 G ((Rect.unit (s := S1x1024x1152) ![0, o, 0] S1x128x1024.size h).emb x) := by
    rw [emb17 o ho h x]
    exact ((congrArg p (eta16 x)).trans (hp _ _)).trans (parts_first e0 e1 e2 e3 e4 e5 e6 e7 G (at8 o ho (x 1)) (x 2)).symm
  have rest (j : Fin 8) (ho : 128 * j.val ≤ 896) (h : ∀ a, (![0, 128 * j.val, 1024] : Fin 3 → Nat) a + S1x128x128.size a ≤ S1x1024x1152.size a) (x : S1x128x128.Idx) :
      (![e0, e1, e2, e3, e4, e5, e6, e7] : Fin 8 → Vec Ideal S1x128x128 .f32) j x = parts e0 e1 e2 e3 e4 e5 e6 e7 G ((Rect.unit (s := S1x1024x1152) ![0, 128 * j.val, 1024] S1x128x128.size h).emb x) := by
    rw [emb17' (128 * j.val) ho h x]
    exact (congrArg _ (eta17' x)).trans (parts_rest e0 e1 e2 e3 e4 e5 e6 e7 G j ho (x 1) (x 2)).symm
  refine (View.canon_apply_of_pieces (parts e0 e1 e2 e3 e4 e5 e6 e7 G) _ (fun p hp x => ?_) _ hc).trans (parts_first e0 e1 e2 e3 e4 e5 e6 e7 G n k)
  simp only [list17, List.mem_cons, List.not_mem_nil, or_false] at hp
  rcases hp with rfl | rfl | rfl | rfl | rfl | rfl | rfl | rfl | rfl | rfl | rfl | rfl | rfl | rfl | rfl | rfl
  · exact rest 7 (by decide) inb_S1x1024x1152_S1x128x128_0_896_1024 x
  · exact step 896 (by omega) inb_S1x1024x1152_S1x128x1024_0_896_0 p7 h7 x
  · exact rest 6 (by decide) inb_S1x1024x1152_S1x128x128_0_768_1024 x
  · exact step 768 (by omega) inb_S1x1024x1152_S1x128x1024_0_768_0 p6 h6 x
  · exact rest 5 (by decide) inb_S1x1024x1152_S1x128x128_0_640_1024 x
  · exact step 640 (by omega) inb_S1x1024x1152_S1x128x1024_0_640_0 p5 h5 x
  · exact rest 4 (by decide) inb_S1x1024x1152_S1x128x128_0_512_1024 x
  · exact step 512 (by omega) inb_S1x1024x1152_S1x128x1024_0_512_0 p4 h4 x
  · exact rest 3 (by decide) inb_S1x1024x1152_S1x128x128_0_384_1024 x
  · exact step 384 (by omega) inb_S1x1024x1152_S1x128x1024_0_384_0 p3 h3 x
  · exact rest 2 (by decide) inb_S1x1024x1152_S1x128x128_0_256_1024 x
  · exact step 256 (by omega) inb_S1x1024x1152_S1x128x1024_0_256_0 p2 h2 x
  · exact rest 1 (by decide) inb_S1x1024x1152_S1x128x128_0_128_1024 x
  · exact step 128 (by omega) inb_S1x1024x1152_S1x128x1024_0_128_0 p1 h1 x
  · exact rest 0 (by decide) inb_S1x1024x1152_S1x128x128_0_0_1024 x
  · exact step 0 (by omega) inb_S1x1024x1152_S1x128x1024_0_0_0 p0 h0 x
end

end Cert.Proof.Mix

end
-- ==== Proof.Mix.Lists.lean ====
/-
  The stores of the mixers' call at a tile, as lists of what its loads give.
-/
module

public import proofs.«01_k».proof.Proof.Mix.Tile

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

section
variable (vx0 vx1 : Vec Ideal S1x512x1024 .f32) (vup vdn : Vec Ideal S1x64x1024 .f32) (vg vg2 : Vec Ideal S1x1024 .f32) (vsh vsc vgate vsh2 vsc2 : Vec Ideal S1x1x1024 .f32)
  (vy0 vy1 : Vec Ideal S1x512x128 .i32) (wb wr wc : Vec Ideal S1024x768 .bf16) (tr tc : Vec Ideal S3x384 .f32) (wg : Vec Ideal S256x256 .bf16)
  (bg : Vec Ideal S1x256 .f32) (wo : Vec Ideal S1024x1024 .bf16) (a : BitVec 32) (e0 e1 e2 e3 e4 e5 e6 e7 : Vec Ideal S1x128x128 .f32)

/-- The two halves through the output projection. -/
def proj0 : FVec Ideal S512x1024 .f32 := k0_pay51 (mixL0 vx0 vx1 vup vg vsh vsc vy0 wb wr wc tr tc wg bg a) wo
def proj1 : FVec Ideal S512x1024 .f32 := k0_pay52 (mixL1 vx0 vx1 vdn vg vsh vsc vy1 wb wr wc tr tc wg bg a) wo

/-- The stores into the first output. -/
def L16 : List (View.Piece (Elt Ideal) S1x1024x1024 .f32) :=
  list16 (k0_pay54 (k0_pay4 vx0) (mixL0 vx0 vx1 vup vg vsh vsc vy0 wb wr wc tr tc wg bg a) wo vgate)
    (k0_pay97 (k0_pay93 (k0_pay4 vx0)) (k0_pay94 vgate) (k0_pay95 (proj0 vx0 vx1 vup vg vsh vsc vy0 wb wr wc tr tc wg bg wo a)))
    (k0_pay140 (k0_pay4 vx0) (proj0 vx0 vx1 vup vg vsh vsc vy0 wb wr wc tr tc wg bg wo a) vgate)
    (k0_pay179 (k0_pay4 vx0) (proj0 vx0 vx1 vup vg vsh vsc vy0 wb wr wc tr tc wg bg wo a) vgate)
    (k0_pay225 (k0_pay15 vx1) (proj1 vx0 vx1 vdn vg vsh vsc vy1 wb wr wc tr tc wg bg wo a) vgate)
    (k0_pay263 (k0_pay262 (k0_pay15 vx1) (proj1 vx0 vx1 vdn vg vsh vsc vy1 wb wr wc tr tc wg bg wo a) vgate))
    (k0_pay304 (k0_pay15 vx1) (proj1 vx0 vx1 vdn vg vsh vsc vy1 wb wr wc tr tc wg bg wo a) vgate)
    (k0_pay346 (k0_pay15 vx1) (proj1 vx0 vx1 vdn vg vsh vsc vy1 wb wr wc tr tc wg bg wo a) vgate)

/-- The stores into the second output, the last hundred and twenty-eight columns whatever they are. -/
def L17 : List (View.Piece (Elt Ideal) S1x1024x1152 .f32) :=
  list17 (k0_pay90 (k0_pay57 (k0_pay55 (k0_pay4 vx0) (mixL0 vx0 vx1 vup vg vsh vsc vy0 wb wr wc tr tc wg bg a) wo vgate vg2 vsc2) (k0_pay56 vsh2)))
    (k0_pay136 (k0_pay135 (k0_pay98 (k0_pay93 (k0_pay4 vx0)) (k0_pay94 vgate) (k0_pay95 (proj0 vx0 vx1 vup vg vsh vsc vy0 wb wr wc tr tc wg bg wo a)) vg2 vsh2 vsc2)))
    (k0_pay175 (k0_pay142 (k0_pay139 (k0_pay4 vx0) (proj0 vx0 vx1 vup vg vsh vsc vy0 wb wr wc tr tc wg bg wo a) vgate) (k0_pay141 vg2) vsh2 vsc2))
    (k0_pay219 (k0_pay184 (k0_pay178 (k0_pay4 vx0) (proj0 vx0 vx1 vup vg vsh vsc vy0 wb wr wc tr tc wg bg wo a) vgate) (k0_pay180 vg2) (k0_pay181 vsh2) (k0_pay182 vsc2)
      (k0_pay183 (k0_pay4 vx0) (proj0 vx0 vx1 vup vg vsh vsc vy0 wb wr wc tr tc wg bg wo a) vgate) eps))
    (k0_pay259 (k0_pay226 (k0_pay15 vx1) (proj1 vx0 vx1 vdn vg vsh vsc vy1 wb wr wc tr tc wg bg wo a) vgate vg2 vsh2 vsc2))
    (k0_pay300 (k0_pay299 (k0_pay264 (k0_pay262 (k0_pay15 vx1) (proj1 vx0 vx1 vdn vg vsh vsc vy1 wb wr wc tr tc wg bg wo a) vgate) vg2 vsh2 vsc2)))
    (k0_pay341 (k0_pay307 (k0_pay303 (k0_pay15 vx1) (proj1 vx0 vx1 vdn vg vsh vsc vy1 wb wr wc tr tc wg bg wo a) vgate) (k0_pay305 vg2) (k0_pay306 vsh2) vsc2))
    (k0_pay386 (k0_pay351 (k0_pay345 (k0_pay15 vx1) (proj1 vx0 vx1 vdn vg vsh vsc vy1 wb wr wc tr tc wg bg wo a) vgate) (k0_pay347 vg2) (k0_pay348 vsh2) (k0_pay349 vsc2)
      (k0_pay350 (k0_pay15 vx1) (proj1 vx0 vx1 vdn vg vsh vsc vy1 wb wr wc tr tc wg bg wo a) vgate)))
    e0 e1 e2 e3 e4 e5 e6 e7
end

section
variable (c : Dev nD) (i : grid0.Coords) (arg2 : Memref sig .tc .vmem S1x1024x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x1024x128 .i32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S3x768 .f32) (harg9 : arg9.IsWhole) (arg10 : Memref sig .tc .vmem S1024x2304 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S64x1024 .bf16) (harg14 : arg14.IsWhole) (arg15 : Memref sig .tc .vmem S32x512 .f32) (harg15 : arg15.IsWhole) (arg16 : Memref sig .tc .vmem S1x1024x512 .f32) (harg16 : arg16.IsWhole) (arg17 : Memref sig .tc .vmem S1x1024x512 .f32) (harg17 : arg17.IsWhole) (arg18 : Memref sig .tc .vmem S1x1024x1024 .f32) (harg18 : arg18.IsWhole) (arg19 : Memref sig .tc .vmem S1x1024x1152 .f32) (harg19 : arg19.IsWhole) (arg20 : Memref sig .tc .vmem S8x1024 .f32) (harg20 : arg20.IsWhole) (arg21 : Memref sig .tc .vmem S32x128 .f32) (harg21 : arg21.IsWhole) (arg22 : Memref sig .tc .vmem S1x1024x512 .bf16) (harg22 : arg22.IsWhole) (arg23 : Memref sig .tc .vmem S1x1024x512 .bf16) (harg23 : arg23.IsWhole)
    (x0 : Vec Ideal S1x1024x1024 .f32) (x1 : Vec Ideal S1x64x1024 .f32) (x2 : Vec Ideal S1x64x1024 .f32) (x3 : Vec Ideal S1x1024x128 .i32) (x4 : Vec Ideal S1x6x1024 .f32) (x5 : Vec Ideal S1x1024 .f32) (x6 : Vec Ideal S1x1024 .f32) (x7 : Vec Ideal S3x768 .f32) (x8 : Vec Ideal S1024x2304 .bf16) (x9 : Vec Ideal S256x256 .bf16) (x10 : Vec Ideal S1x256 .f32) (x11 : Vec Ideal S1024x1024 .bf16) (x12 : Vec Ideal S64x1024 .bf16) (x13 : Vec Ideal S32x512 .f32) (x14 : Vec Ideal S1x1024x512 .f32) (x15 : Vec Ideal S1x1024x512 .f32)

theorem run16_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1 = L16 (View.readAt (Elt Ideal) arg2.view (Rect.unit (s := S1x1024x1024) ![0, 0, 0] S1x512x1024.size inb_S1x1024x1024_S1x512x1024_0_0_0).toLoadRect (harg2.unread x0))
      (View.readAt (Elt Ideal) arg2.view (Rect.unit (s := S1x1024x1024) ![0, 512, 0] S1x512x1024.size inb_S1x1024x1024_S1x512x1024_0_512_0).toLoadRect (harg2.unread x0))
      (View.readAt (Elt Ideal) arg3.view (Rect.unit (s := S1x64x1024) ![0, 0, 0] S1x64x1024.size inb_S1x64x1024_S1x64x1024_0_0_0).toLoadRect (harg3.unread x1))
      (View.readAt (Elt Ideal) arg4.view (Rect.unit (s := S1x64x1024) ![0, 0, 0] S1x64x1024.size inb_S1x64x1024_S1x64x1024_0_0_0).toLoadRect (harg4.unread x2))
      (View.readAt (Elt Ideal) arg7.view (Rect.unit (s := S1x1024) ![0, 0] S1x1024.size inb_S1x1024_S1x1024_0_0).toLoadRect (harg7.unread x5))
      (View.readAt (Elt Ideal) arg6.view (Rect.unit (s := S1x6x1024) ![0, 0, 0] S1x1x1024.size inb_S1x6x1024_S1x1x1024_0_0_0).toLoadRect (harg6.unread x4))
      (View.readAt (Elt Ideal) arg6.view (Rect.unit (s := S1x6x1024) ![0, 1, 0] S1x1x1024.size inb_S1x6x1024_S1x1x1024_0_1_0).toLoadRect (harg6.unread x4))
      (View.readAt (Elt Ideal) arg6.view (Rect.unit (s := S1x6x1024) ![0, 2, 0] S1x1x1024.size inb_S1x6x1024_S1x1x1024_0_2_0).toLoadRect (harg6.unread x4))
      (View.readAt (Elt Ideal) arg5.view (Rect.unit (s := S1x1024x128) ![0, 0, 0] S1x512x128.size inb_S1x1024x128_S1x512x128_0_0_0).toLoadRect (harg5.unread x3))
      (View.readAt (Elt Ideal) arg5.view (Rect.unit (s := S1x1024x128) ![0, 512, 0] S1x512x128.size inb_S1x1024x128_S1x512x128_0_512_0).toLoadRect (harg5.unread x3))
      (View.readAt (Elt Ideal) arg10.view (Rect.unit (s := S1024x2304) ![0, 0] S1024x768.size inb_S1024x2304_S1024x768_0_0).toLoadRect (harg10.unread x8))
      (View.readAt (Elt Ideal) arg10.view (Rect.unit (s := S1024x2304) ![0, 768] S1024x768.size inb_S1024x2304_S1024x768_0_768).toLoadRect (harg10.unread x8))
      (View.readAt (Elt Ideal) arg10.view (Rect.unit (s := S1024x2304) ![0, 1536] S1024x768.size inb_S1024x2304_S1024x768_0_1536).toLoadRect (harg10.unread x8))
      (View.readAt (Elt Ideal) arg9.view (Rect.unit (s := S3x768) ![0, 0] S3x384.size inb_S3x768_S3x384_0_0).toLoadRect (harg9.unread x7))
      (View.readAt (Elt Ideal) arg9.view (Rect.unit (s := S3x768) ![0, 384] S3x384.size inb_S3x768_S3x384_0_384).toLoadRect (harg9.unread x7))
      (View.readAt (Elt Ideal) arg11.view (Rect.unit (s := S256x256) ![0, 0] S256x256.size inb_S256x256_S256x256_0_0).toLoadRect (harg11.unread x9))
      (View.readAt (Elt Ideal) arg12.view (Rect.unit (s := S1x256) ![0, 0] S1x256.size inb_S1x256_S1x256_0_0).toLoadRect (harg12.unread x10))
      (View.readAt (Elt Ideal) arg13.view (Rect.unit (s := S1024x1024) ![0, 0] S1024x1024.size inb_S1024x1024_S1024x1024_0_0).toLoadRect (harg13.unread x11))
      (BitVec.ofNat 32 (i 1).val) :=
  rfl

theorem run17_A (hc0 : cond0_0 i) : ∃ e0 e1 e2 e3 e4 e5 e6 e7, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1 = L17 (View.readAt (Elt Ideal) arg2.view (Rect.unit (s := S1x1024x1024) ![0, 0, 0] S1x512x1024.size inb_S1x1024x1024_S1x512x1024_0_0_0).toLoadRect (harg2.unread x0))
      (View.readAt (Elt Ideal) arg2.view (Rect.unit (s := S1x1024x1024) ![0, 512, 0] S1x512x1024.size inb_S1x1024x1024_S1x512x1024_0_512_0).toLoadRect (harg2.unread x0))
      (View.readAt (Elt Ideal) arg3.view (Rect.unit (s := S1x64x1024) ![0, 0, 0] S1x64x1024.size inb_S1x64x1024_S1x64x1024_0_0_0).toLoadRect (harg3.unread x1))
      (View.readAt (Elt Ideal) arg4.view (Rect.unit (s := S1x64x1024) ![0, 0, 0] S1x64x1024.size inb_S1x64x1024_S1x64x1024_0_0_0).toLoadRect (harg4.unread x2))
      (View.readAt (Elt Ideal) arg7.view (Rect.unit (s := S1x1024) ![0, 0] S1x1024.size inb_S1x1024_S1x1024_0_0).toLoadRect (harg7.unread x5))
      (View.readAt (Elt Ideal) arg8.view (Rect.unit (s := S1x1024) ![0, 0] S1x1024.size inb_S1x1024_S1x1024_0_0).toLoadRect (harg8.unread x6))
      (View.readAt (Elt Ideal) arg6.view (Rect.unit (s := S1x6x1024) ![0, 0, 0] S1x1x1024.size inb_S1x6x1024_S1x1x1024_0_0_0).toLoadRect (harg6.unread x4))
      (View.readAt (Elt Ideal) arg6.view (Rect.unit (s := S1x6x1024) ![0, 1, 0] S1x1x1024.size inb_S1x6x1024_S1x1x1024_0_1_0).toLoadRect (harg6.unread x4))
      (View.readAt (Elt Ideal) arg6.view (Rect.unit (s := S1x6x1024) ![0, 2, 0] S1x1x1024.size inb_S1x6x1024_S1x1x1024_0_2_0).toLoadRect (harg6.unread x4))
      (View.readAt (Elt Ideal) arg6.view (Rect.unit (s := S1x6x1024) ![0, 3, 0] S1x1x1024.size inb_S1x6x1024_S1x1x1024_0_3_0).toLoadRect (harg6.unread x4))
      (View.readAt (Elt Ideal) arg6.view (Rect.unit (s := S1x6x1024) ![0, 4, 0] S1x1x1024.size inb_S1x6x1024_S1x1x1024_0_4_0).toLoadRect (harg6.unread x4))
      (View.readAt (Elt Ideal) arg5.view (Rect.unit (s := S1x1024x128) ![0, 0, 0] S1x512x128.size inb_S1x1024x128_S1x512x128_0_0_0).toLoadRect (harg5.unread x3))
      (View.readAt (Elt Ideal) arg5.view (Rect.unit (s := S1x1024x128) ![0, 512, 0] S1x512x128.size inb_S1x1024x128_S1x512x128_0_512_0).toLoadRect (harg5.unread x3))
      (View.readAt (Elt Ideal) arg10.view (Rect.unit (s := S1024x2304) ![0, 0] S1024x768.size inb_S1024x2304_S1024x768_0_0).toLoadRect (harg10.unread x8))
      (View.readAt (Elt Ideal) arg10.view (Rect.unit (s := S1024x2304) ![0, 768] S1024x768.size inb_S1024x2304_S1024x768_0_768).toLoadRect (harg10.unread x8))
      (View.readAt (Elt Ideal) arg10.view (Rect.unit (s := S1024x2304) ![0, 1536] S1024x768.size inb_S1024x2304_S1024x768_0_1536).toLoadRect (harg10.unread x8))
      (View.readAt (Elt Ideal) arg9.view (Rect.unit (s := S3x768) ![0, 0] S3x384.size inb_S3x768_S3x384_0_0).toLoadRect (harg9.unread x7))
      (View.readAt (Elt Ideal) arg9.view (Rect.unit (s := S3x768) ![0, 384] S3x384.size inb_S3x768_S3x384_0_384).toLoadRect (harg9.unread x7))
      (View.readAt (Elt Ideal) arg11.view (Rect.unit (s := S256x256) ![0, 0] S256x256.size inb_S256x256_S256x256_0_0).toLoadRect (harg11.unread x9))
      (View.readAt (Elt Ideal) arg12.view (Rect.unit (s := S1x256) ![0, 0] S1x256.size inb_S1x256_S1x256_0_0).toLoadRect (harg12.unread x10))
      (View.readAt (Elt Ideal) arg13.view (Rect.unit (s := S1024x1024) ![0, 0] S1024x1024.size inb_S1024x1024_S1024x1024_0_0).toLoadRect (harg13.unread x11))
      (BitVec.ofNat 32 (i 1).val) e0 e1 e2 e3 e4 e5 e6 e7 :=
  ⟨_, _, _, _, _, _, _, _, rfl⟩

theorem run16_B (hc0 : ¬cond0_0 i) (xo19 : Vec Ideal S32x128 .f32) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19).1 = L16 (View.readAt (Elt Ideal) arg2.view (Rect.unit (s := S1x1024x1024) ![0, 0, 0] S1x512x1024.size inb_S1x1024x1024_S1x512x1024_0_0_0).toLoadRect (harg2.unread x0))
      (View.readAt (Elt Ideal) arg2.view (Rect.unit (s := S1x1024x1024) ![0, 512, 0] S1x512x1024.size inb_S1x1024x1024_S1x512x1024_0_512_0).toLoadRect (harg2.unread x0))
      (View.readAt (Elt Ideal) arg3.view (Rect.unit (s := S1x64x1024) ![0, 0, 0] S1x64x1024.size inb_S1x64x1024_S1x64x1024_0_0_0).toLoadRect (harg3.unread x1))
      (View.readAt (Elt Ideal) arg4.view (Rect.unit (s := S1x64x1024) ![0, 0, 0] S1x64x1024.size inb_S1x64x1024_S1x64x1024_0_0_0).toLoadRect (harg4.unread x2))
      (View.readAt (Elt Ideal) arg7.view (Rect.unit (s := S1x1024) ![0, 0] S1x1024.size inb_S1x1024_S1x1024_0_0).toLoadRect (harg7.unread x5))
      (View.readAt (Elt Ideal) arg6.view (Rect.unit (s := S1x6x1024) ![0, 0, 0] S1x1x1024.size inb_S1x6x1024_S1x1x1024_0_0_0).toLoadRect (harg6.unread x4))
      (View.readAt (Elt Ideal) arg6.view (Rect.unit (s := S1x6x1024) ![0, 1, 0] S1x1x1024.size inb_S1x6x1024_S1x1x1024_0_1_0).toLoadRect (harg6.unread x4))
      (View.readAt (Elt Ideal) arg6.view (Rect.unit (s := S1x6x1024) ![0, 2, 0] S1x1x1024.size inb_S1x6x1024_S1x1x1024_0_2_0).toLoadRect (harg6.unread x4))
      (View.readAt (Elt Ideal) arg5.view (Rect.unit (s := S1x1024x128) ![0, 0, 0] S1x512x128.size inb_S1x1024x128_S1x512x128_0_0_0).toLoadRect (harg5.unread x3))
      (View.readAt (Elt Ideal) arg5.view (Rect.unit (s := S1x1024x128) ![0, 512, 0] S1x512x128.size inb_S1x1024x128_S1x512x128_0_512_0).toLoadRect (harg5.unread x3))
      (View.readAt (Elt Ideal) arg10.view (Rect.unit (s := S1024x2304) ![0, 0] S1024x768.size inb_S1024x2304_S1024x768_0_0).toLoadRect (harg10.unread x8))
      (View.readAt (Elt Ideal) arg10.view (Rect.unit (s := S1024x2304) ![0, 768] S1024x768.size inb_S1024x2304_S1024x768_0_768).toLoadRect (harg10.unread x8))
      (View.readAt (Elt Ideal) arg10.view (Rect.unit (s := S1024x2304) ![0, 1536] S1024x768.size inb_S1024x2304_S1024x768_0_1536).toLoadRect (harg10.unread x8))
      (View.readAt (Elt Ideal) arg9.view (Rect.unit (s := S3x768) ![0, 0] S3x384.size inb_S3x768_S3x384_0_0).toLoadRect (harg9.unread x7))
      (View.readAt (Elt Ideal) arg9.view (Rect.unit (s := S3x768) ![0, 384] S3x384.size inb_S3x768_S3x384_0_384).toLoadRect (harg9.unread x7))
      (View.readAt (Elt Ideal) arg11.view (Rect.unit (s := S256x256) ![0, 0] S256x256.size inb_S256x256_S256x256_0_0).toLoadRect (harg11.unread x9))
      (View.readAt (Elt Ideal) arg12.view (Rect.unit (s := S1x256) ![0, 0] S1x256.size inb_S1x256_S1x256_0_0).toLoadRect (harg12.unread x10))
      (View.readAt (Elt Ideal) arg13.view (Rect.unit (s := S1024x1024) ![0, 0] S1024x1024.size inb_S1024x1024_S1024x1024_0_0).toLoadRect (harg13.unread x11))
      (BitVec.ofNat 32 (i 1).val) :=
  rfl

theorem run17_B (hc0 : ¬cond0_0 i) (xo19 : Vec Ideal S32x128 .f32) : ∃ e0 e1 e2 e3 e4 e5 e6 e7, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19).2.1 = L17 (View.readAt (Elt Ideal) arg2.view (Rect.unit (s := S1x1024x1024) ![0, 0, 0] S1x512x1024.size inb_S1x1024x1024_S1x512x1024_0_0_0).toLoadRect (harg2.unread x0))
      (View.readAt (Elt Ideal) arg2.view (Rect.unit (s := S1x1024x1024) ![0, 512, 0] S1x512x1024.size inb_S1x1024x1024_S1x512x1024_0_512_0).toLoadRect (harg2.unread x0))
      (View.readAt (Elt Ideal) arg3.view (Rect.unit (s := S1x64x1024) ![0, 0, 0] S1x64x1024.size inb_S1x64x1024_S1x64x1024_0_0_0).toLoadRect (harg3.unread x1))
      (View.readAt (Elt Ideal) arg4.view (Rect.unit (s := S1x64x1024) ![0, 0, 0] S1x64x1024.size inb_S1x64x1024_S1x64x1024_0_0_0).toLoadRect (harg4.unread x2))
      (View.readAt (Elt Ideal) arg7.view (Rect.unit (s := S1x1024) ![0, 0] S1x1024.size inb_S1x1024_S1x1024_0_0).toLoadRect (harg7.unread x5))
      (View.readAt (Elt Ideal) arg8.view (Rect.unit (s := S1x1024) ![0, 0] S1x1024.size inb_S1x1024_S1x1024_0_0).toLoadRect (harg8.unread x6))
      (View.readAt (Elt Ideal) arg6.view (Rect.unit (s := S1x6x1024) ![0, 0, 0] S1x1x1024.size inb_S1x6x1024_S1x1x1024_0_0_0).toLoadRect (harg6.unread x4))
      (View.readAt (Elt Ideal) arg6.view (Rect.unit (s := S1x6x1024) ![0, 1, 0] S1x1x1024.size inb_S1x6x1024_S1x1x1024_0_1_0).toLoadRect (harg6.unread x4))
      (View.readAt (Elt Ideal) arg6.view (Rect.unit (s := S1x6x1024) ![0, 2, 0] S1x1x1024.size inb_S1x6x1024_S1x1x1024_0_2_0).toLoadRect (harg6.unread x4))
      (View.readAt (Elt Ideal) arg6.view (Rect.unit (s := S1x6x1024) ![0, 3, 0] S1x1x1024.size inb_S1x6x1024_S1x1x1024_0_3_0).toLoadRect (harg6.unread x4))
      (View.readAt (Elt Ideal) arg6.view (Rect.unit (s := S1x6x1024) ![0, 4, 0] S1x1x1024.size inb_S1x6x1024_S1x1x1024_0_4_0).toLoadRect (harg6.unread x4))
      (View.readAt (Elt Ideal) arg5.view (Rect.unit (s := S1x1024x128) ![0, 0, 0] S1x512x128.size inb_S1x1024x128_S1x512x128_0_0_0).toLoadRect (harg5.unread x3))
      (View.readAt (Elt Ideal) arg5.view (Rect.unit (s := S1x1024x128) ![0, 512, 0] S1x512x128.size inb_S1x1024x128_S1x512x128_0_512_0).toLoadRect (harg5.unread x3))
      (View.readAt (Elt Ideal) arg10.view (Rect.unit (s := S1024x2304) ![0, 0] S1024x768.size inb_S1024x2304_S1024x768_0_0).toLoadRect (harg10.unread x8))
      (View.readAt (Elt Ideal) arg10.view (Rect.unit (s := S1024x2304) ![0, 768] S1024x768.size inb_S1024x2304_S1024x768_0_768).toLoadRect (harg10.unread x8))
      (View.readAt (Elt Ideal) arg10.view (Rect.unit (s := S1024x2304) ![0, 1536] S1024x768.size inb_S1024x2304_S1024x768_0_1536).toLoadRect (harg10.unread x8))
      (View.readAt (Elt Ideal) arg9.view (Rect.unit (s := S3x768) ![0, 0] S3x384.size inb_S3x768_S3x384_0_0).toLoadRect (harg9.unread x7))
      (View.readAt (Elt Ideal) arg9.view (Rect.unit (s := S3x768) ![0, 384] S3x384.size inb_S3x768_S3x384_0_384).toLoadRect (harg9.unread x7))
      (View.readAt (Elt Ideal) arg11.view (Rect.unit (s := S256x256) ![0, 0] S256x256.size inb_S256x256_S256x256_0_0).toLoadRect (harg11.unread x9))
      (View.readAt (Elt Ideal) arg12.view (Rect.unit (s := S1x256) ![0, 0] S1x256.size inb_S1x256_S1x256_0_0).toLoadRect (harg12.unread x10))
      (View.readAt (Elt Ideal) arg13.view (Rect.unit (s := S1024x1024) ![0, 0] S1024x1024.size inb_S1024x1024_S1024x1024_0_0).toLoadRect (harg13.unread x11))
      (BitVec.ofNat 32 (i 1).val) e0 e1 e2 e3 e4 e5 e6 e7 :=
  ⟨_, _, _, _, _, _, _, _, rfl⟩

end

end Cert.Proof.Mix

end
-- ==== Proof.Mix.Values.lean ====
/-
  What the mixers' call leaves in a tile of its first two outputs: the tokens after the mixers, and the same modulated for the
  experts.
-/
module

public import proofs.«01_k».proof.Proof.Mix.Lists
public import Idealize.ShloMosaic.Lib.WholeRead

@[expose] public section

set_option maxRecDepth 16384

noncomputable section

namespace Cert.Proof.Mix

open Cert.MixIdeal Cert.MixIdeal.Gen Idealize.ShloMosaic Idealize.ShloMosaic.TcCoe Idealize.SL.Sem
open Cert.Proof.Front (modded)

section
variable (vx0 vx1 : Vec Ideal S1x512x1024 .f32) (vup vdn : Vec Ideal S1x64x1024 .f32) (vg vg2 : Vec Ideal S1x1024 .f32) (vsh vsc vgate vsh2 vsc2 : Vec Ideal S1x1x1024 .f32)
  (vy0 vy1 : Vec Ideal S1x512x128 .i32) (wb wr wc : Vec Ideal S1024x768 .bf16) (tr tc : Vec Ideal S3x384 .f32) (wg : Vec Ideal S256x256 .bf16)
  (bg : Vec Ideal S1x256 .f32) (wo : Vec Ideal S1024x1024 .bf16) (a : BitVec 32) (e0 e1 e2 e3 e4 e5 e6 e7 : Vec Ideal S1x128x128 .f32)
  (X : ℕ → Fin 1024 → EReal) (Y : ℕ → Fin 128 → BitVec 32) (t : ℕ) (ht : t < 2) (ha : a = BitVec.ofNat 32 t)
  (hx0 : ∀ r k, vx0 (ix3 0 r k) = X (t * 1024 + r.val) k) (hx1 : ∀ r k, vx1 (ix3 0 r k) = X (t * 1024 + 512 + r.val) k)
  (hup : t = 1 → ∀ r k, vup (ix3 0 r k) = X (960 + r.val) k) (hdn : t = 0 → ∀ r k, vdn (ix3 0 r k) = X (1024 + r.val) k)
  (hy0 : ∀ r k, vy0 (ix3 0 r k) = Y (t * 1024 + r.val) k) (hy1 : ∀ r k, vy1 (ix3 0 r k) = Y (t * 1024 + 512 + r.val) k)

theorem row4 (r : Fin 512) (k : Fin 1024) : k0_pay4 vx0 (ix2 r k) = vx0 (ix3 0 r k) := by pointwise [k0_pay4]
theorem row15 (r : Fin 512) (k : Fin 1024) : k0_pay15 vx1 (ix2 r k) = vx1 (ix3 0 r k) := by pointwise [k0_pay15]

include ht ha hx0 hx1 hup hy0 in
theorem resid0 (r : Fin 512) (k : Fin 1024) :
    resid (k0_pay4 vx0) (proj0 vx0 vx1 vup vg vsh vsc vy0 wb wr wc tr tc wg bg wo a) vgate r k
      = Par.tok (par vg vsh vsc vgate wb wr wc tr tc wg bg wo X Y) (t * 1024 + r.val) k := by
  unfold resid proj0
  rw [row4, hx0, out51]
  unfold Par.tok
  refine congrArg₂ (· + ·) rfl (congrArg₂ (· * ·) rfl (Finset.sum_congr rfl fun q _ => ?_))
  rw [mixL0_at vx0 vx1 vup vg vsh vsc vgate vy0 wb wr wc tr tc wg bg wo a X Y t ht ha hx0 hx1 hup hy0]
  rfl

include ht ha hx0 hx1 hdn hy1 in
theorem resid1 (r : Fin 512) (k : Fin 1024) :
    resid (k0_pay15 vx1) (proj1 vx0 vx1 vdn vg vsh vsc vy1 wb wr wc tr tc wg bg wo a) vgate r k
      = Par.tok (par vg vsh vsc vgate wb wr wc tr tc wg bg wo X Y) (t * 1024 + 512 + r.val) k := by
  unfold resid proj1
  rw [row15, hx1, out52]
  unfold Par.tok
  refine congrArg₂ (· + ·) rfl (congrArg₂ (· * ·) rfl (Finset.sum_congr rfl fun q _ => ?_))
  rw [mixL1_at vx0 vx1 vdn vg vsh vsc vgate vy1 wb wr wc tr tc wg bg wo a X Y t ht ha hx0 hx1 hdn hy1]
  rfl

/-- A token of the tile after the mixers. -/
def tokG (n k : Fin 1024) : EReal := Par.tok (par vg vsh vsc vgate wb wr wc tr tc wg bg wo X Y) (t * 1024 + n.val) k
/-- The same, modulated. -/
def modG (n k : Fin 1024) : EReal :=
  modded (tokG vg vsh vsc vgate wb wr wc tr tc wg bg wo X Y t n) (fun k => vg2 (ix2 0 k)) (fun k => vsh2 (ix3 0 0 k)) (fun k => vsc2 (ix3 0 0 k)) k

include ht ha hx0 hx1 hup hy0 in
theorem resid0' (o : ℕ) (ho : o ≤ 384) (r : Fin 128) (k : Fin 1024) :
    resid (k0_pay4 vx0) (proj0 vx0 vx1 vup vg vsh vsc vy0 wb wr wc tr tc wg bg wo a) vgate (at0 o ho r) k
      = tokG vg vsh vsc vgate wb wr wc tr tc wg bg wo X Y t (at8 o (by omega) r) k :=
  resid0 vx0 vx1 vup vg vsh vsc vgate vy0 wb wr wc tr tc wg bg wo a X Y t ht ha hx0 hx1 hup hy0 (at0 o ho r) k

include ht ha hx0 hx1 hdn hy1 in
theorem resid1' (o : ℕ) (ho : o ≤ 384) (r : Fin 128) (k : Fin 1024) :
    resid (k0_pay15 vx1) (proj1 vx0 vx1 vdn vg vsh vsc vy1 wb wr wc tr tc wg bg wo a) vgate (at0 o ho r) k
      = tokG vg vsh vsc vgate wb wr wc tr tc wg bg wo X Y t (at8 (512 + o) (by omega) r) k :=
  (resid1 vx0 vx1 vdn vg vsh vsc vgate vy1 wb wr wc tr tc wg bg wo a X Y t ht ha hx0 hx1 hdn hy1 (at0 o ho r) k).trans
    (congrArg (fun n => Par.tok (par vg vsh vsc vgate wb wr wc tr tc wg bg wo X Y) n k) (by show t * 1024 + 512 + (o + r.val) = t * 1024 + (512 + o + r.val); omega))

include ht ha hx0 hx1 hup hy0 in
theorem remod0' (o : ℕ) (ho : o ≤ 384) (r : Fin 128) (k : Fin 1024) :
    remod (k0_pay4 vx0) (proj0 vx0 vx1 vup vg vsh vsc vy0 wb wr wc tr tc wg bg wo a) vgate vg2 vsh2 vsc2 (at0 o ho r) k
      = modG vg vg2 vsh vsc vgate vsh2 vsc2 wb wr wc tr tc wg bg wo X Y t (at8 o (by omega) r) k := by
  unfold remod modG
  rw [funext (resid0' vx0 vx1 vup vg vsh vsc vgate vy0 wb wr wc tr tc wg bg wo a X Y t ht ha hx0 hx1 hup hy0 o ho r)]

include ht ha hx0 hx1 hdn hy1 in
theorem remod1' (o : ℕ) (ho : o ≤ 384) (r : Fin 128) (k : Fin 1024) :
    remod (k0_pay15 vx1) (proj1 vx0 vx1 vdn vg vsh vsc vy1 wb wr wc tr tc wg bg wo a) vgate vg2 vsh2 vsc2 (at0 o ho r) k
      = modG vg vg2 vsh vsc vgate vsh2 vsc2 wb wr wc tr tc wg bg wo X Y t (at8 (512 + o) (by omega) r) k := by
  unfold remod modG
  rw [funext (resid1' vx0 vx1 vdn vg vsh vsc vgate vy1 wb wr wc tr tc wg bg wo a X Y t ht ha hx0 hx1 hdn hy1 o ho r)]

include ht ha hx0 hx1 hup hdn hy0 hy1 in
theorem L16_at (y : S1x1024x1024.Idx) (hc : ∃ pc ∈ L16 vx0 vx1 vup vdn vg vsh vsc vgate vy0 vy1 wb wr wc tr tc wg bg wo a, y ∈ pc.1.set) :
    View.canon (L16 vx0 vx1 vup vdn vg vsh vsc vgate vy0 vy1 wb wr wc tr tc wg bg wo a) y = tokG vg vsh vsc vgate wb wr wc tr tc wg bg wo X Y t (y 1) (y 2) := by
  have A := resid0' vx0 vx1 vup vg vsh vsc vgate vy0 wb wr wc tr tc wg bg wo a X Y t ht ha hx0 hx1 hup hy0
  have B := resid1' vx0 vx1 vdn vg vsh vsc vgate vy1 wb wr wc tr tc wg bg wo a X Y t ht ha hx0 hx1 hdn hy1
  exact canon16 _ _ _ _ _ _ _ _ (tokG vg vsh vsc vgate wb wr wc tr tc wg bg wo X Y t)
    (fun r k => (x0_at _ _ _ _ r k).trans (A 0 (by omega) r k)) (fun r k => (x1_at _ _ _ r k).trans (A 128 (by omega) r k))
    (fun r k => (x2_at _ _ _ r k).trans (A 256 (by omega) r k)) (fun r k => (x3_at _ _ _ r k).trans (A 384 (by omega) r k))
    (fun r k => (x4_at _ _ _ r k).trans (B 0 (by omega) r k)) (fun r k => (x5_at _ _ _ r k).trans (B 128 (by omega) r k))
    (fun r k => (x6_at _ _ _ r k).trans (B 256 (by omega) r k)) (fun r k => (x7_at _ _ _ r k).trans (B 384 (by omega) r k)) y hc

include ht ha hx0 hx1 hup hdn hy0 hy1 in
theorem L17_at (n k : Fin 1024) (hc : ∃ pc ∈ L17 vx0 vx1 vup vdn vg vg2 vsh vsc vgate vsh2 vsc2 vy0 vy1 wb wr wc tr tc wg bg wo a e0 e1 e2 e3 e4 e5 e6 e7, (ix3 0 n ⟨k.val, by omega⟩ : S1x1024x1152.Idx) ∈ pc.1.set) :
    View.canon (L17 vx0 vx1 vup vdn vg vg2 vsh vsc vgate vsh2 vsc2 vy0 vy1 wb wr wc tr tc wg bg wo a e0 e1 e2 e3 e4 e5 e6 e7) (ix3 0 n ⟨k.val, by omega⟩ : S1x1024x1152.Idx)
      = modG vg vg2 vsh vsc vgate vsh2 vsc2 wb wr wc tr tc wg bg wo X Y t n k := by
  have A := remod0' vx0 vx1 vup vg vg2 vsh vsc vgate vsh2 vsc2 vy0 wb wr wc tr tc wg bg wo a X Y t ht ha hx0 hx1 hup hy0
  have B := remod1' vx0 vx1 vdn vg vg2 vsh vsc vgate vsh2 vsc2 vy1 wb wr wc tr tc wg bg wo a X Y t ht ha hx0 hx1 hdn hy1
  exact canon17 _ _ _ _ _ _ _ _ e0 e1 e2 e3 e4 e5 e6 e7 (modG vg vg2 vsh vsc vgate vsh2 vsc2 wb wr wc tr tc wg bg wo X Y t)
    (fun r k => (h0_at _ _ _ _ _ _ _ r k).trans (A 0 (by omega) r k)) (fun r k => (h1_at _ _ _ _ _ _ r k).trans (A 128 (by omega) r k))
    (fun r k => (h2_at _ _ _ _ _ _ r k).trans (A 256 (by omega) r k)) (fun r k => (h3_at _ _ _ _ _ _ r k).trans (A 384 (by omega) r k))
    (fun r k => (h4_at _ _ _ _ _ _ r k).trans (B 0 (by omega) r k)) (fun r k => (h5_at _ _ _ _ _ _ r k).trans (B 128 (by omega) r k))
    (fun r k => (h6_at _ _ _ _ _ _ r k).trans (B 256 (by omega) r k)) (fun r k => (h7_at _ _ _ _ _ _ r k).trans (B 384 (by omega) r k)) n k hc
end

section
variable (x0 : Vec Ideal S1x1024x1024 .f32) (x1 x2 : Vec Ideal S1x64x1024 .f32) (x3 : Vec Ideal S1x1024x128 .i32) (x4 : Vec Ideal S1x6x1024 .f32) (x5 x6 : Vec Ideal S1x1024 .f32)
  (x7 : Vec Ideal S3x768 .f32) (x8 : Vec Ideal S1024x2304 .bf16) (x9 : Vec Ideal S256x256 .bf16) (x10 : Vec Ideal S1x256 .f32) (x11 : Vec Ideal S1024x1024 .bf16)
  (X : ℕ → Fin 1024 → EReal) (Y : ℕ → Fin 128 → BitVec 32) (t : ℕ) (n k : Fin 1024)

/-- What a sequence's mixers depend on, of the blocks. -/
def blockPar : Par where
  g := fun k => x5 (ix2 0 k)
  sh := fun k => x4 (ix3 0 0 k)
  sc := fun k => x4 (ix3 0 1 k)
  wb := fun k q => x8 (ix2 k ⟨q.val, by omega⟩)
  wr := fun k q => x8 (ix2 k ⟨768 + q.val, by omega⟩)
  wc := fun k q => x8 (ix2 k ⟨1536 + q.val, by omega⟩)
  tr := fun a j => x7 (ix2 a ⟨j.val, by omega⟩)
  tc := fun a j => x7 (ix2 a ⟨384 + j.val, by omega⟩)
  wg := fun k q => x9 (ix2 k q)
  bg := fun q => x10 (ix2 0 q)
  gate := fun k => x4 (ix3 0 2 k)
  wo := fun k q => x11 (ix2 k q)
  X := X
  Y := Y

def blockTok : EReal := Par.tok (blockPar x4 x5 x7 x8 x9 x10 x11 X Y) (t * 1024 + n.val) k
def blockMod : EReal := modded (blockTok x4 x5 x7 x8 x9 x10 x11 X Y t n) (fun k => x6 (ix2 0 k)) (fun k => x4 (ix3 0 3 k)) (fun k => x4 (ix3 0 4 k)) k

theorem par_loads : par (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) X Y = blockPar x4 x5 x7 x8 x9 x10 x11 X Y := by
  unfold par blockPar
  congr 1
  · funext k; pointwise
  · funext k; pointwise
  · funext k; pointwise
  · funext k q; pointwise
  · funext k q; pointwise
  · funext k q; pointwise
  · funext a j; pointwise
  · funext a j; pointwise
  · funext k q; pointwise
  · funext q; pointwise
  · funext k; pointwise
  · funext k q; pointwise

theorem tokG_loads : tokG (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) X Y t n k = blockTok x4 x5 x7 x8 x9 x10 x11 X Y t n k := by
  unfold tokG blockTok
  rw [par_loads]

theorem modG_loads : modG (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) X Y t n k = blockMod x4 x5 x6 x7 x8 x9 x10 x11 X Y t n k := by
  unfold modG blockMod
  rw [funext (tokG_loads x4 x5 x7 x8 x9 x10 x11 X Y t n)]
  refine congrFun (congr (congr (congrArg _ (funext fun k => ?_)) (funext fun k => ?_)) (funext fun k => ?_)) k <;> pointwise
end

section
variable (c : Dev nD) (i : grid0.Coords) (arg2 : Memref sig .tc .vmem S1x1024x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x1024x128 .i32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S3x768 .f32) (harg9 : arg9.IsWhole) (arg10 : Memref sig .tc .vmem S1024x2304 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S64x1024 .bf16) (harg14 : arg14.IsWhole) (arg15 : Memref sig .tc .vmem S32x512 .f32) (harg15 : arg15.IsWhole) (arg16 : Memref sig .tc .vmem S1x1024x512 .f32) (harg16 : arg16.IsWhole) (arg17 : Memref sig .tc .vmem S1x1024x512 .f32) (harg17 : arg17.IsWhole) (arg18 : Memref sig .tc .vmem S1x1024x1024 .f32) (harg18 : arg18.IsWhole) (arg19 : Memref sig .tc .vmem S1x1024x1152 .f32) (harg19 : arg19.IsWhole) (arg20 : Memref sig .tc .vmem S8x1024 .f32) (harg20 : arg20.IsWhole) (arg21 : Memref sig .tc .vmem S32x128 .f32) (harg21 : arg21.IsWhole) (arg22 : Memref sig .tc .vmem S1x1024x512 .bf16) (harg22 : arg22.IsWhole) (arg23 : Memref sig .tc .vmem S1x1024x512 .bf16) (harg23 : arg23.IsWhole)
    (x0 : Vec Ideal S1x1024x1024 .f32) (x1 : Vec Ideal S1x64x1024 .f32) (x2 : Vec Ideal S1x64x1024 .f32) (x3 : Vec Ideal S1x1024x128 .i32) (x4 : Vec Ideal S1x6x1024 .f32) (x5 : Vec Ideal S1x1024 .f32) (x6 : Vec Ideal S1x1024 .f32) (x7 : Vec Ideal S3x768 .f32) (x8 : Vec Ideal S1024x2304 .bf16) (x9 : Vec Ideal S256x256 .bf16) (x10 : Vec Ideal S1x256 .f32) (x11 : Vec Ideal S1024x1024 .bf16) (x12 : Vec Ideal S64x1024 .bf16) (x13 : Vec Ideal S32x512 .f32) (x14 : Vec Ideal S1x1024x512 .f32) (x15 : Vec Ideal S1x1024x512 .f32)
  (X : ℕ → Fin 1024 → EReal) (Y : ℕ → Fin 128 → BitVec 32) (t : ℕ) (ht : t < 2) (ha : (i 1).val = t)
  (hx : ∀ r k, x0 (ix3 0 r k) = X (t * 1024 + r.val) k)
  (hup : t = 1 → ∀ r k, x1 (ix3 0 r k) = X (960 + r.val) k) (hdn : t = 0 → ∀ r k, x2 (ix3 0 r k) = X (1024 + r.val) k)
  (hy : ∀ r k, x3 (ix3 0 r k) = Y (t * 1024 + r.val) k)

theorem load_vx0 : (View.readAt (Elt Ideal) arg2.view (Rect.unit (s := S1x1024x1024) ![0, 0, 0] S1x512x1024.size inb_S1x1024x1024_S1x512x1024_0_0_0).toLoadRect (harg2.unread x0)) = (View.ld x0 (Rect.unit (s := S1x1024x1024) ![0, 0, 0] S1x512x1024.size inb_S1x1024x1024_S1x512x1024_0_0_0)) := funext fun j => harg2.readAt_unread _ _ j
theorem load_vx1 : (View.readAt (Elt Ideal) arg2.view (Rect.unit (s := S1x1024x1024) ![0, 512, 0] S1x512x1024.size inb_S1x1024x1024_S1x512x1024_0_512_0).toLoadRect (harg2.unread x0)) = (View.ld x0 (Rect.unit (s := S1x1024x1024) ![0, 512, 0] S1x512x1024.size inb_S1x1024x1024_S1x512x1024_0_512_0)) := funext fun j => harg2.readAt_unread _ _ j
theorem load_vup : (View.readAt (Elt Ideal) arg3.view (Rect.unit (s := S1x64x1024) ![0, 0, 0] S1x64x1024.size inb_S1x64x1024_S1x64x1024_0_0_0).toLoadRect (harg3.unread x1)) = (View.ld x1 (Rect.unit (s := S1x64x1024) ![0, 0, 0] S1x64x1024.size inb_S1x64x1024_S1x64x1024_0_0_0)) := funext fun j => harg3.readAt_unread _ _ j
theorem load_vdn : (View.readAt (Elt Ideal) arg4.view (Rect.unit (s := S1x64x1024) ![0, 0, 0] S1x64x1024.size inb_S1x64x1024_S1x64x1024_0_0_0).toLoadRect (harg4.unread x2)) = (View.ld x2 (Rect.unit (s := S1x64x1024) ![0, 0, 0] S1x64x1024.size inb_S1x64x1024_S1x64x1024_0_0_0)) := funext fun j => harg4.readAt_unread _ _ j
theorem load_vg : (View.readAt (Elt Ideal) arg7.view (Rect.unit (s := S1x1024) ![0, 0] S1x1024.size inb_S1x1024_S1x1024_0_0).toLoadRect (harg7.unread x5)) = (View.ld x5 (Rect.unit (s := S1x1024) ![0, 0] S1x1024.size inb_S1x1024_S1x1024_0_0)) := funext fun j => harg7.readAt_unread _ _ j
theorem load_vg2 : (View.readAt (Elt Ideal) arg8.view (Rect.unit (s := S1x1024) ![0, 0] S1x1024.size inb_S1x1024_S1x1024_0_0).toLoadRect (harg8.unread x6)) = (View.ld x6 (Rect.unit (s := S1x1024) ![0, 0] S1x1024.size inb_S1x1024_S1x1024_0_0)) := funext fun j => harg8.readAt_unread _ _ j
theorem load_vsh : (View.readAt (Elt Ideal) arg6.view (Rect.unit (s := S1x6x1024) ![0, 0, 0] S1x1x1024.size inb_S1x6x1024_S1x1x1024_0_0_0).toLoadRect (harg6.unread x4)) = (View.ld x4 (Rect.unit (s := S1x6x1024) ![0, 0, 0] S1x1x1024.size inb_S1x6x1024_S1x1x1024_0_0_0)) := funext fun j => harg6.readAt_unread _ _ j
theorem load_vsc : (View.readAt (Elt Ideal) arg6.view (Rect.unit (s := S1x6x1024) ![0, 1, 0] S1x1x1024.size inb_S1x6x1024_S1x1x1024_0_1_0).toLoadRect (harg6.unread x4)) = (View.ld x4 (Rect.unit (s := S1x6x1024) ![0, 1, 0] S1x1x1024.size inb_S1x6x1024_S1x1x1024_0_1_0)) := funext fun j => harg6.readAt_unread _ _ j
theorem load_vgate : (View.readAt (Elt Ideal) arg6.view (Rect.unit (s := S1x6x1024) ![0, 2, 0] S1x1x1024.size inb_S1x6x1024_S1x1x1024_0_2_0).toLoadRect (harg6.unread x4)) = (View.ld x4 (Rect.unit (s := S1x6x1024) ![0, 2, 0] S1x1x1024.size inb_S1x6x1024_S1x1x1024_0_2_0)) := funext fun j => harg6.readAt_unread _ _ j
theorem load_vsh2 : (View.readAt (Elt Ideal) arg6.view (Rect.unit (s := S1x6x1024) ![0, 3, 0] S1x1x1024.size inb_S1x6x1024_S1x1x1024_0_3_0).toLoadRect (harg6.unread x4)) = (View.ld x4 (Rect.unit (s := S1x6x1024) ![0, 3, 0] S1x1x1024.size inb_S1x6x1024_S1x1x1024_0_3_0)) := funext fun j => harg6.readAt_unread _ _ j
theorem load_vsc2 : (View.readAt (Elt Ideal) arg6.view (Rect.unit (s := S1x6x1024) ![0, 4, 0] S1x1x1024.size inb_S1x6x1024_S1x1x1024_0_4_0).toLoadRect (harg6.unread x4)) = (View.ld x4 (Rect.unit (s := S1x6x1024) ![0, 4, 0] S1x1x1024.size inb_S1x6x1024_S1x1x1024_0_4_0)) := funext fun j => harg6.readAt_unread _ _ j
theorem load_vy0 : (View.readAt (Elt Ideal) arg5.view (Rect.unit (s := S1x1024x128) ![0, 0, 0] S1x512x128.size inb_S1x1024x128_S1x512x128_0_0_0).toLoadRect (harg5.unread x3)) = (View.ld x3 (Rect.unit (s := S1x1024x128) ![0, 0, 0] S1x512x128.size inb_S1x1024x128_S1x512x128_0_0_0)) := funext fun j => harg5.readAt_unread _ _ j
theorem load_vy1 : (View.readAt (Elt Ideal) arg5.view (Rect.unit (s := S1x1024x128) ![0, 512, 0] S1x512x128.size inb_S1x1024x128_S1x512x128_0_512_0).toLoadRect (harg5.unread x3)) = (View.ld x3 (Rect.unit (s := S1x1024x128) ![0, 512, 0] S1x512x128.size inb_S1x1024x128_S1x512x128_0_512_0)) := funext fun j => harg5.readAt_unread _ _ j
theorem load_wb : (View.readAt (Elt Ideal) arg10.view (Rect.unit (s := S1024x2304) ![0, 0] S1024x768.size inb_S1024x2304_S1024x768_0_0).toLoadRect (harg10.unread x8)) = (View.ld x8 (Rect.unit (s := S1024x2304) ![0, 0] S1024x768.size inb_S1024x2304_S1024x768_0_0)) := funext fun j => harg10.readAt_unread _ _ j
theorem load_wr : (View.readAt (Elt Ideal) arg10.view (Rect.unit (s := S1024x2304) ![0, 768] S1024x768.size inb_S1024x2304_S1024x768_0_768).toLoadRect (harg10.unread x8)) = (View.ld x8 (Rect.unit (s := S1024x2304) ![0, 768] S1024x768.size inb_S1024x2304_S1024x768_0_768)) := funext fun j => harg10.readAt_unread _ _ j
theorem load_wc : (View.readAt (Elt Ideal) arg10.view (Rect.unit (s := S1024x2304) ![0, 1536] S1024x768.size inb_S1024x2304_S1024x768_0_1536).toLoadRect (harg10.unread x8)) = (View.ld x8 (Rect.unit (s := S1024x2304) ![0, 1536] S1024x768.size inb_S1024x2304_S1024x768_0_1536)) := funext fun j => harg10.readAt_unread _ _ j
theorem load_tr : (View.readAt (Elt Ideal) arg9.view (Rect.unit (s := S3x768) ![0, 0] S3x384.size inb_S3x768_S3x384_0_0).toLoadRect (harg9.unread x7)) = (View.ld x7 (Rect.unit (s := S3x768) ![0, 0] S3x384.size inb_S3x768_S3x384_0_0)) := funext fun j => harg9.readAt_unread _ _ j
theorem load_tc : (View.readAt (Elt Ideal) arg9.view (Rect.unit (s := S3x768) ![0, 384] S3x384.size inb_S3x768_S3x384_0_384).toLoadRect (harg9.unread x7)) = (View.ld x7 (Rect.unit (s := S3x768) ![0, 384] S3x384.size inb_S3x768_S3x384_0_384)) := funext fun j => harg9.readAt_unread _ _ j
theorem load_wg : (View.readAt (Elt Ideal) arg11.view (Rect.unit (s := S256x256) ![0, 0] S256x256.size inb_S256x256_S256x256_0_0).toLoadRect (harg11.unread x9)) = (View.ld x9 (Rect.unit (s := S256x256) ![0, 0] S256x256.size inb_S256x256_S256x256_0_0)) := funext fun j => harg11.readAt_unread _ _ j
theorem load_bg : (View.readAt (Elt Ideal) arg12.view (Rect.unit (s := S1x256) ![0, 0] S1x256.size inb_S1x256_S1x256_0_0).toLoadRect (harg12.unread x10)) = (View.ld x10 (Rect.unit (s := S1x256) ![0, 0] S1x256.size inb_S1x256_S1x256_0_0)) := funext fun j => harg12.readAt_unread _ _ j
theorem load_wo : (View.readAt (Elt Ideal) arg13.view (Rect.unit (s := S1024x1024) ![0, 0] S1024x1024.size inb_S1024x1024_S1024x1024_0_0).toLoadRect (harg13.unread x11)) = (View.ld x11 (Rect.unit (s := S1024x1024) ![0, 0] S1024x1024.size inb_S1024x1024_S1024x1024_0_0)) := funext fun j => harg13.readAt_unread _ _ j

include ht ha hx hup hdn hy in
theorem canon16_ld (y : S1x1024x1024.Idx) (hc : ∃ pc ∈ L16 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val), y ∈ pc.1.set) :
    View.canon (L16 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val)) y = blockTok x4 x5 x7 x8 x9 x10 x11 X Y t (y 1) (y 2) :=
  (L16_at (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) X Y t (by omega) (congrArg (BitVec.ofNat 32) ha)
    (fun r k => Eq.trans (by pointwise) (hx ⟨r.val, by omega⟩ k)) (fun r k => (Eq.trans (by pointwise) (hx ⟨512 + r.val, by omega⟩ k)).trans (congrArg (fun n => X n k) (Nat.add_assoc (t * 1024) 512 r.val).symm))
    (fun h r k => Eq.trans (by pointwise) (hup h r k)) (fun h r k => Eq.trans (by pointwise) (hdn h r k))
    (fun r k => Eq.trans (by pointwise) (hy ⟨r.val, by omega⟩ k)) (fun r k => (Eq.trans (by pointwise) (hy ⟨512 + r.val, by omega⟩ k)).trans (congrArg (fun n => Y n k) (Nat.add_assoc (t * 1024) 512 r.val).symm)) y hc).trans (tokG_loads x4 x5 x7 x8 x9 x10 x11 X Y t (y 1) (y 2))

include ht ha hx hup hdn hy in
theorem canon17_ld (e0 e1 e2 e3 e4 e5 e6 e7 : Vec Ideal S1x128x128 .f32) (n k : Fin 1024)
    (hc : ∃ pc ∈ L17 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) e0 e1 e2 e3 e4 e5 e6 e7, (ix3 0 n ⟨k.val, by omega⟩ : S1x1024x1152.Idx) ∈ pc.1.set) :
    View.canon (L17 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) e0 e1 e2 e3 e4 e5 e6 e7) (ix3 0 n ⟨k.val, by omega⟩ : S1x1024x1152.Idx) = blockMod x4 x5 x6 x7 x8 x9 x10 x11 X Y t n k :=
  (L17_at (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) e0 e1 e2 e3 e4 e5 e6 e7 X Y t (by omega) (congrArg (BitVec.ofNat 32) ha)
    (fun r k => Eq.trans (by pointwise) (hx ⟨r.val, by omega⟩ k)) (fun r k => (Eq.trans (by pointwise) (hx ⟨512 + r.val, by omega⟩ k)).trans (congrArg (fun n => X n k) (Nat.add_assoc (t * 1024) 512 r.val).symm))
    (fun h r k => Eq.trans (by pointwise) (hup h r k)) (fun h r k => Eq.trans (by pointwise) (hdn h r k))
    (fun r k => Eq.trans (by pointwise) (hy ⟨r.val, by omega⟩ k)) (fun r k => (Eq.trans (by pointwise) (hy ⟨512 + r.val, by omega⟩ k)).trans (congrArg (fun n => Y n k) (Nat.add_assoc (t * 1024) 512 r.val).symm)) n k hc).trans (modG_loads x4 x5 x6 x7 x8 x9 x10 x11 X Y t n k)

theorem list16_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1 = L16 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) := by
  refine (run16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0).trans ?_
  rw [load_vx0 arg2 harg2 x0, load_vx1 arg2 harg2 x0, load_vup arg3 harg3 x1, load_vdn arg4 harg4 x2, load_vg arg7 harg7 x5, load_vsh arg6 harg6 x4, load_vsc arg6 harg6 x4, load_vgate arg6 harg6 x4, load_vy0 arg5 harg5 x3, load_vy1 arg5 harg5 x3, load_wb arg10 harg10 x8, load_wr arg10 harg10 x8, load_wc arg10 harg10 x8, load_tr arg9 harg9 x7, load_tc arg9 harg9 x7, load_wg arg11 harg11 x9, load_bg arg12 harg12 x10, load_wo arg13 harg13 x11]

theorem list17_A (hc0 : cond0_0 i) : ∃ e0 e1 e2 e3 e4 e5 e6 e7, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1 = L17 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) e0 e1 e2 e3 e4 e5 e6 e7 := by
  obtain ⟨e0, e1, e2, e3, e4, e5, e6, e7, h⟩ := run17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0
  refine ⟨e0, e1, e2, e3, e4, e5, e6, e7, h.trans ?_⟩
  rw [load_vx0 arg2 harg2 x0, load_vx1 arg2 harg2 x0, load_vup arg3 harg3 x1, load_vdn arg4 harg4 x2, load_vg arg7 harg7 x5, load_vg2 arg8 harg8 x6, load_vsh arg6 harg6 x4, load_vsc arg6 harg6 x4, load_vgate arg6 harg6 x4, load_vsh2 arg6 harg6 x4, load_vsc2 arg6 harg6 x4, load_vy0 arg5 harg5 x3, load_vy1 arg5 harg5 x3, load_wb arg10 harg10 x8, load_wr arg10 harg10 x8, load_wc arg10 harg10 x8, load_tr arg9 harg9 x7, load_tc arg9 harg9 x7, load_wg arg11 harg11 x9, load_bg arg12 harg12 x10, load_wo arg13 harg13 x11]

include ht ha hx hup hdn hy in
theorem out16_A (hc0 : cond0_0 i) (y : S1x1024x1024.Idx) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y = blockTok x4 x5 x7 x8 x9 x10 x11 X Y t (y 1) (y 2) := by
  have hc := cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y
  unfold out0_A_16
  rw [View.read_writes_junk_eq_canon]
  have e := list16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0
  revert hc
  rw [e]
  intro hc
  exact canon16_ld i x0 x1 x2 x3 x4 x5 x7 x8 x9 x10 x11 X Y t ht ha hx hup hdn hy y hc

include ht ha hx hup hdn hy in
theorem out17_A (hc0 : cond0_0 i) (n k : Fin 1024) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 (ix3 0 n ⟨k.val, by omega⟩) = blockMod x4 x5 x6 x7 x8 x9 x10 x11 X Y t n k := by
  have hc := cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 (ix3 0 n ⟨k.val, by omega⟩ : S1x1024x1152.Idx)
  unfold out0_A_17
  rw [View.read_writes_junk_eq_canon]
  obtain ⟨e0, e1, e2, e3, e4, e5, e6, e7, e⟩ := list17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0
  revert hc
  rw [e]
  intro hc
  exact canon17_ld i x0 x1 x2 x3 x4 x5 x6 x7 x8 x9 x10 x11 X Y t ht ha hx hup hdn hy e0 e1 e2 e3 e4 e5 e6 e7 n k hc

theorem list16_B (hc0 : ¬cond0_0 i) (xo19 : Vec Ideal S32x128 .f32) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19).1 = L16 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) := by
  refine (run16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0 xo19).trans ?_
  rw [load_vx0 arg2 harg2 x0, load_vx1 arg2 harg2 x0, load_vup arg3 harg3 x1, load_vdn arg4 harg4 x2, load_vg arg7 harg7 x5, load_vsh arg6 harg6 x4, load_vsc arg6 harg6 x4, load_vgate arg6 harg6 x4, load_vy0 arg5 harg5 x3, load_vy1 arg5 harg5 x3, load_wb arg10 harg10 x8, load_wr arg10 harg10 x8, load_wc arg10 harg10 x8, load_tr arg9 harg9 x7, load_tc arg9 harg9 x7, load_wg arg11 harg11 x9, load_bg arg12 harg12 x10, load_wo arg13 harg13 x11]

theorem list17_B (hc0 : ¬cond0_0 i) (xo19 : Vec Ideal S32x128 .f32) : ∃ e0 e1 e2 e3 e4 e5 e6 e7, (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19).2.1 = L17 (View.ld x0 (Rect.unit (s := S1x1024x1024) ![0, 0, 0] S1x512x1024.size inb_S1x1024x1024_S1x512x1024_0_0_0)) (View.ld x0 (Rect.unit (s := S1x1024x1024) ![0, 512, 0] S1x512x1024.size inb_S1x1024x1024_S1x512x1024_0_512_0)) (View.ld x1 (Rect.unit (s := S1x64x1024) ![0, 0, 0] S1x64x1024.size inb_S1x64x1024_S1x64x1024_0_0_0)) (View.ld x2 (Rect.unit (s := S1x64x1024) ![0, 0, 0] S1x64x1024.size inb_S1x64x1024_S1x64x1024_0_0_0)) (View.ld x5 (Rect.unit (s := S1x1024) ![0, 0] S1x1024.size inb_S1x1024_S1x1024_0_0)) (View.ld x6 (Rect.unit (s := S1x1024) ![0, 0] S1x1024.size inb_S1x1024_S1x1024_0_0)) (View.ld x4 (Rect.unit (s := S1x6x1024) ![0, 0, 0] S1x1x1024.size inb_S1x6x1024_S1x1x1024_0_0_0)) (View.ld x4 (Rect.unit (s := S1x6x1024) ![0, 1, 0] S1x1x1024.size inb_S1x6x1024_S1x1x1024_0_1_0)) (View.ld x4 (Rect.unit (s := S1x6x1024) ![0, 2, 0] S1x1x1024.size inb_S1x6x1024_S1x1x1024_0_2_0)) (View.ld x4 (Rect.unit (s := S1x6x1024) ![0, 3, 0] S1x1x1024.size inb_S1x6x1024_S1x1x1024_0_3_0)) (View.ld x4 (Rect.unit (s := S1x6x1024) ![0, 4, 0] S1x1x1024.size inb_S1x6x1024_S1x1x1024_0_4_0)) (View.ld x3 (Rect.unit (s := S1x1024x128) ![0, 0, 0] S1x512x128.size inb_S1x1024x128_S1x512x128_0_0_0)) (View.ld x3 (Rect.unit (s := S1x1024x128) ![0, 512, 0] S1x512x128.size inb_S1x1024x128_S1x512x128_0_512_0)) (View.ld x8 (Rect.unit (s := S1024x2304) ![0, 0] S1024x768.size inb_S1024x2304_S1024x768_0_0)) (View.ld x8 (Rect.unit (s := S1024x2304) ![0, 768] S1024x768.size inb_S1024x2304_S1024x768_0_768)) (View.ld x8 (Rect.unit (s := S1024x2304) ![0, 1536] S1024x768.size inb_S1024x2304_S1024x768_0_1536)) (View.ld x7 (Rect.unit (s := S3x768) ![0, 0] S3x384.size inb_S3x768_S3x384_0_0)) (View.ld x7 (Rect.unit (s := S3x768) ![0, 384] S3x384.size inb_S3x768_S3x384_0_384)) (View.ld x9 (Rect.unit (s := S256x256) ![0, 0] S256x256.size inb_S256x256_S256x256_0_0)) (View.ld x10 (Rect.unit (s := S1x256) ![0, 0] S1x256.size inb_S1x256_S1x256_0_0)) (View.ld x11 (Rect.unit (s := S1024x1024) ![0, 0] S1024x1024.size inb_S1024x1024_S1024x1024_0_0)) (BitVec.ofNat 32 (i 1).val) e0 e1 e2 e3 e4 e5 e6 e7 := by
  obtain ⟨e0, e1, e2, e3, e4, e5, e6, e7, h⟩ := run17_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0 xo19
  refine ⟨e0, e1, e2, e3, e4, e5, e6, e7, h.trans ?_⟩
  rw [load_vx0 arg2 harg2 x0, load_vx1 arg2 harg2 x0, load_vup arg3 harg3 x1, load_vdn arg4 harg4 x2, load_vg arg7 harg7 x5, load_vg2 arg8 harg8 x6, load_vsh arg6 harg6 x4, load_vsc arg6 harg6 x4, load_vgate arg6 harg6 x4, load_vsh2 arg6 harg6 x4, load_vsc2 arg6 harg6 x4, load_vy0 arg5 harg5 x3, load_vy1 arg5 harg5 x3, load_wb arg10 harg10 x8, load_wr arg10 harg10 x8, load_wc arg10 harg10 x8, load_tr arg9 harg9 x7, load_tc arg9 harg9 x7, load_wg arg11 harg11 x9, load_bg arg12 harg12 x10, load_wo arg13 harg13 x11]

include ht ha hx hup hdn hy in
theorem out16_B (hc0 : ¬cond0_0 i) (xo19 : Vec Ideal S32x128 .f32) (y : S1x1024x1024.Idx) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19 y = blockTok x4 x5 x7 x8 x9 x10 x11 X Y t (y 1) (y 2) := by
  have hc := cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19 y
  unfold out0_B_16
  rw [View.read_writes_junk_eq_canon]
  have e := list16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0 xo19
  revert hc
  rw [e]
  intro hc
  exact canon16_ld i x0 x1 x2 x3 x4 x5 x7 x8 x9 x10 x11 X Y t ht ha hx hup hdn hy y hc

include ht ha hx hup hdn hy in
theorem out17_B (hc0 : ¬cond0_0 i) (xo19 : Vec Ideal S32x128 .f32) (n k : Fin 1024) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19 (ix3 0 n ⟨k.val, by omega⟩) = blockMod x4 x5 x6 x7 x8 x9 x10 x11 X Y t n k := by
  have hc := cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xo19 (ix3 0 n ⟨k.val, by omega⟩ : S1x1024x1152.Idx)
  unfold out0_B_17
  rw [View.read_writes_junk_eq_canon]
  obtain ⟨e0, e1, e2, e3, e4, e5, e6, e7, e⟩ := list17_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 hc0 xo19
  revert hc
  rw [e]
  intro hc
  exact canon17_ld i x0 x1 x2 x3 x4 x5 x6 x7 x8 x9 x10 x11 X Y t ht ha hx hup hdn hy e0 e1 e2 e3 e4 e5 e6 e7 n k hc
end

end Cert.Proof.Mix

end
-- ==== Proof.Mix.Host.lean ====
/-
  The mixers' call over its grid: what its blocks are of the arguments.
-/
module

public import proofs.«01_k».proof.Proof.Mix.Values
public import proofs.«01_k».proof.Proof.Gen.MixIdeal.Points
public import Idealize.ShloMosaic.Lib.Pipeline.ValueKit.Geometry

@[expose] public section

set_option maxRecDepth 16384

noncomputable section

namespace Cert.Proof.Mix

open Cert.MixIdeal Cert.MixIdeal.Gen Idealize.ShloMosaic Idealize.ShloMosaic.TcCoe Idealize.SL.Sem
open Idealize.ShloMosaic.Pipeline (Dat Cfg Window)
open Cert.Proof.Front (modded)

variable (m : (ℓ : Loc nD τ sig) → Buf (Elt Ideal) ℓ) (ρ : Dev nD → PrngReg) (c : Dev nD)

/-- The arguments as launched. -/
abbrev aX : S32x2048x1024.Idx → EReal := m ((c : Thread nD τ).loc main_arg0)
abbrev aY : S32x2048x128.Idx → BitVec 32 := m ((c : Thread nD τ).loc main_arg1)
abbrev aM : S32x6x1024.Idx → EReal := m ((c : Thread nD τ).loc main_arg2)
abbrev aG : S1x1024.Idx → EReal := m ((c : Thread nD τ).loc main_arg3)
abbrev aG2 : S1x1024.Idx → EReal := m ((c : Thread nD τ).loc main_arg4)
abbrev aT : S1x3x768.Idx → EReal := m ((c : Thread nD τ).loc main_arg5)
abbrev aW : S1x1024x2560.Idx → EReal := m ((c : Thread nD τ).loc main_arg6)
abbrev aU : S1x256x256.Idx → EReal := m ((c : Thread nD τ).loc main_arg7)
abbrev aB : S1x256.Idx → EReal := m ((c : Thread nD τ).loc main_arg8)
abbrev aO : S1x1024x1024.Idx → EReal := m ((c : Thread nD τ).loc main_arg9)

/-- A column of the gates, of the values multiplied along rows and along columns, in the input projection. -/
def colR (q : Fin 768) : Fin 2560 := if h : q.val < 384 then ⟨1024 + q.val, by omega⟩ else ⟨1792 + (q.val - 384), by omega⟩
def colC (q : Fin 768) : Fin 2560 := if h : q.val < 384 then ⟨1408 + q.val, by omega⟩ else ⟨2176 + (q.val - 384), by omega⟩

/-- A sequence's token and packed word, nothing past its end. -/
def seqX (b : Fin 32) (n : ℕ) (k : Fin 1024) : EReal := if h : n < 2048 then aX m c (ix3 b ⟨n, h⟩ k) else 0
def seqY (b : Fin 32) (n : ℕ) (k : Fin 128) : BitVec 32 := if h : n < 2048 then aY m c (ix3 b ⟨n, h⟩ k) else 0

/-- What a sequence's mixers depend on, of the arguments. -/
def seqPar (b : Fin 32) : Par where
  g := fun k => aG m c (ix2 0 k)
  sh := fun k => aM m c (ix3 b 0 k)
  sc := fun k => aM m c (ix3 b 1 k)
  wb := fun k q => aW m c (ix3 0 k ⟨256 + q.val, by omega⟩)
  wr := fun k q => aW m c (ix3 0 k (colR q))
  wc := fun k q => aW m c (ix3 0 k (colC q))
  tr := fun a j => aT m c (ix3 0 a ⟨j.val, by omega⟩)
  tc := fun a j => aT m c (ix3 0 a ⟨384 + j.val, by omega⟩)
  wg := fun k q => aU m c (ix3 0 k q)
  bg := fun q => aB m c (ix2 0 q)
  gate := fun k => aM m c (ix3 b 2 k)
  wo := fun k q => aO m c (ix3 0 k q)
  X := seqX m c b
  Y := seqY m c b

/-- A token after the mixers, and the same modulated for the experts. -/
def tokR (b : Fin 32) (n : Fin 2048) (k : Fin 1024) : EReal := (seqPar m c b).tok n.val k
def modR (b : Fin 32) (n : Fin 2048) (k : Fin 1024) : EReal :=
  modded (tokR m c b n) (fun k => aG2 m c (ix2 0 k)) (fun k => aM m c (ix3 b 3 k)) (fun k => aM m c (ix3 b 4 k)) k

/-! ## The arrays at the call -/

theorem v_w : (V m c main_v7 : S1024x2304.Idx → EReal) =
    (concatenate S1024x2304 1 [⟨S1024x768, extractStridedSlice S1024x768 ![0, 256] (truncf .bf16 (shapeCast S1024x2560 (aW m c : FVec Ideal S1x1024x2560 .f32) shapeCasts_S1x1024x2560_S1024x2560) bitsLt_bf16_f32) slices_S1024x2560_S1024x768_0_256⟩,
      ⟨S1024x384, extractStridedSlice S1024x384 ![0, 1024] (truncf .bf16 (shapeCast S1024x2560 (aW m c : FVec Ideal S1x1024x2560 .f32) shapeCasts_S1x1024x2560_S1024x2560) bitsLt_bf16_f32) slices_S1024x2560_S1024x384_0_1024⟩,
      ⟨S1024x384, extractStridedSlice S1024x384 ![0, 1792] (truncf .bf16 (shapeCast S1024x2560 (aW m c : FVec Ideal S1x1024x2560 .f32) shapeCasts_S1x1024x2560_S1024x2560) bitsLt_bf16_f32) slices_S1024x2560_S1024x384_0_1792⟩,
      ⟨S1024x384, extractStridedSlice S1024x384 ![0, 1408] (truncf .bf16 (shapeCast S1024x2560 (aW m c : FVec Ideal S1x1024x2560 .f32) shapeCasts_S1x1024x2560_S1024x2560) bitsLt_bf16_f32) slices_S1024x2560_S1024x384_0_1408⟩,
      ⟨S1024x384, extractStridedSlice S1024x384 ![0, 2176] (truncf .bf16 (shapeCast S1024x2560 (aW m c : FVec Ideal S1x1024x2560 .f32) shapeCasts_S1x1024x2560_S1024x2560) bitsLt_bf16_f32) slices_S1024x2560_S1024x384_0_2176⟩]
      concatenates_S1024x768_S1024x384_S1024x384_S1024x384_S1024x384_S1024x2304_d1 : FVec Ideal S1024x2304 .bf16) := by
  show StableHlo.after hostOps0 (fun b => m (c, b)) (Proc.devRef .tc main_v7) = _
  after_results_simp <;> rfl

theorem w_b (k : Fin 1024) (q : Fin 768) : (V m c main_v7 : S1024x2304.Idx → EReal) (ix2 k ⟨q.val, by omega⟩) = aW m c (ix3 0 k ⟨256 + q.val, by omega⟩) := by
  rw [v_w]
  pointwise
theorem w_768 (k : Fin 1024) (j : Fin 384) : (V m c main_v7 : S1024x2304.Idx → EReal) (ix2 k ⟨768 + j.val, by omega⟩) = aW m c (ix3 0 k ⟨1024 + j.val, by omega⟩) := by
  rw [v_w]
  pointwise
theorem w_1152 (k : Fin 1024) (j : Fin 384) : (V m c main_v7 : S1024x2304.Idx → EReal) (ix2 k ⟨1152 + j.val, by omega⟩) = aW m c (ix3 0 k ⟨1792 + j.val, by omega⟩) := by
  rw [v_w]
  pointwise
  rw [dif_neg (by omega), dif_neg (by omega), dif_pos (by omega)] <;>
  exact congrArg (fun q => aW m c (ix3 0 k q)) (Fin.ext (by simp only; omega))
theorem w_r (k : Fin 1024) (q : Fin 768) : (V m c main_v7 : S1024x2304.Idx → EReal) (ix2 k ⟨768 + q.val, by omega⟩) = aW m c (ix3 0 k (colR q)) := by
  unfold colR
  by_cases h : q.val < 384
  · rw [dif_pos h]
    exact w_768 m c k ⟨q.val, h⟩
  · rw [dif_neg h]
    have e' : (⟨768 + q.val, by omega⟩ : Fin 2304) = ⟨1152 + (⟨q.val - 384, by omega⟩ : Fin 384).val, by show 1152 + (q.val - 384) < 2304; omega⟩ := Fin.ext (by show 768 + q.val = 1152 + (q.val - 384); omega)
    exact (congrArg (fun q => (V m c main_v7 : S1024x2304.Idx → EReal) (ix2 k q)) e').trans (w_1152 m c k ⟨q.val - 384, by omega⟩)
theorem w_1536 (k : Fin 1024) (j : Fin 384) : (V m c main_v7 : S1024x2304.Idx → EReal) (ix2 k ⟨1536 + j.val, by omega⟩) = aW m c (ix3 0 k ⟨1408 + j.val, by omega⟩) := by
  rw [v_w]
  pointwise
  rw [dif_neg (by omega), dif_neg (by omega), dif_neg (by omega), dif_pos (by omega)] <;>
  exact congrArg (fun q => aW m c (ix3 0 k q)) (Fin.ext (by simp only; omega))
theorem w_1920 (k : Fin 1024) (j : Fin 384) : (V m c main_v7 : S1024x2304.Idx → EReal) (ix2 k ⟨1920 + j.val, by omega⟩) = aW m c (ix3 0 k ⟨2176 + j.val, by omega⟩) := by
  rw [v_w]
  pointwise
  rw [dif_neg (by omega), dif_neg (by omega), dif_neg (by omega), dif_neg (by omega)] <;>
  exact congrArg (fun q => aW m c (ix3 0 k q)) (Fin.ext (by simp only; omega))
theorem w_c (k : Fin 1024) (q : Fin 768) : (V m c main_v7 : S1024x2304.Idx → EReal) (ix2 k ⟨1536 + q.val, by omega⟩) = aW m c (ix3 0 k (colC q)) := by
  unfold colC
  by_cases h : q.val < 384
  · rw [dif_pos h]
    exact w_1536 m c k ⟨q.val, h⟩
  · rw [dif_neg h]
    have e' : (⟨1536 + q.val, by omega⟩ : Fin 2304) = ⟨1920 + (⟨q.val - 384, by omega⟩ : Fin 384).val, by show 1920 + (q.val - 384) < 2304; omega⟩ := Fin.ext (by show 1536 + q.val = 1920 + (q.val - 384); omega)
    exact (congrArg (fun q => (V m c main_v7 : S1024x2304.Idx → EReal) (ix2 k q)) e').trans (w_1920 m c k ⟨q.val - 384, by omega⟩)
theorem v_g (k : Fin 1024) : (V m c main_v34 : S1x1024.Idx → EReal) (ix2 0 k) = aG m c (ix2 0 k) := by
  have e : (V m c main_v34 : S1x1024.Idx → EReal) = shapeCast S1x1024 (shapeCast S1024 (aG m c) shapeCasts_S1x1024_S1024) shapeCasts_S1024_S1x1024 := by
    show StableHlo.after hostOps0 (fun b => m (c, b)) (Proc.devRef .tc main_v34) = _
    after_results_simp <;> rfl
  rw [e]
  pointwise

theorem v_g2 (k : Fin 1024) : (V m c main_v35 : S1x1024.Idx → EReal) (ix2 0 k) = aG2 m c (ix2 0 k) := by
  have e : (V m c main_v35 : S1x1024.Idx → EReal) = shapeCast S1x1024 (shapeCast S1024 (aG2 m c) shapeCasts_S1x1024_S1024) shapeCasts_S1024_S1x1024 := by
    show StableHlo.after hostOps0 (fun b => m (c, b)) (Proc.devRef .tc main_v35) = _
    after_results_simp <;> rfl
  rw [e]
  pointwise

theorem v_t (a : Fin 3) (j : Fin 768) : (V m c main_v26 : S3x768.Idx → EReal) (ix2 a j) = aT m c (ix3 0 a j) := by
  have e : (V m c main_v26 : S3x768.Idx → EReal) = shapeCast S3x768 (aT m c) shapeCasts_S1x3x768_S3x768 := by
    show StableHlo.after hostOps0 (fun b => m (c, b)) (Proc.devRef .tc main_v26) = _
    after_results_simp <;> rfl
  rw [e]
  pointwise

theorem v_u (k q : Fin 256) : (V m c main_v28 : S256x256.Idx → EReal) (ix2 k q) = aU m c (ix3 0 k q) := by
  have e : (V m c main_v28 : S256x256.Idx → EReal) = (truncf .bf16 (shapeCast S256x256 (aU m c : FVec Ideal S1x256x256 .f32) shapeCasts_S1x256x256_S256x256) bitsLt_bf16_f32 : FVec Ideal S256x256 .bf16) := by
    show StableHlo.after hostOps0 (fun b => m (c, b)) (Proc.devRef .tc main_v28) = _
    after_results_simp <;> rfl
  rw [e]
  pointwise

theorem v_b (q : Fin 256) : (V m c main_v36 : S1x256.Idx → EReal) (ix2 0 q) = aB m c (ix2 0 q) := by
  have e : (V m c main_v36 : S1x256.Idx → EReal) = shapeCast S1x256 (shapeCast S256 (aB m c) shapeCasts_S1x256_S256) shapeCasts_S256_S1x256 := by
    show StableHlo.after hostOps0 (fun b => m (c, b)) (Proc.devRef .tc main_v36) = _
    after_results_simp <;> rfl
  rw [e]
  pointwise

theorem v_o (k q : Fin 1024) : (V m c main_v31 : S1024x1024.Idx → EReal) (ix2 k q) = aO m c (ix3 0 k q) := by
  have e : (V m c main_v31 : S1024x1024.Idx → EReal) = (truncf .bf16 (shapeCast S1024x1024 (aO m c : FVec Ideal S1x1024x1024 .f32) shapeCasts_S1x1024x1024_S1024x1024) bitsLt_bf16_f32 : FVec Ideal S1024x1024 .bf16) := by
    show StableHlo.after hostOps0 (fun b => m (c, b)) (Proc.devRef .tc main_v31) = _
    after_results_simp <;> rfl
  rw [e]
  pointwise

theorem v_x : (V m c main_arg0 : S32x2048x1024.Idx → EReal) = aX m c := by
  show StableHlo.after hostOps0 (fun b => m (c, b)) (Proc.devRef .tc main_arg0) = _
  after_results_simp <;> rfl

theorem v_y : (V m c main_arg1 : S32x2048x128.Idx → BitVec 32) = aY m c := by
  show StableHlo.after hostOps0 (fun b => m (c, b)) (Proc.devRef .tc main_arg1) = _
  after_results_simp <;> rfl

theorem v_m : (V m c main_arg2 : S32x6x1024.Idx → EReal) = aM m c := by
  show StableHlo.after hostOps0 (fun b => m (c, b)) (Proc.devRef .tc main_arg2) = _
  after_results_simp <;> rfl

/-! ## The grid -/

theorem lt40 (t : Fin cfg0.N) : t.val < 40 := t.isLt
/-- A point's batch and its half of the sequence. -/
abbrev bat (t : Fin cfg0.N) : Fin 32 := ⟨t.val / 2, by have := lt40 t; omega⟩
abbrev half' (t : Fin cfg0.N) : ℕ := t.val % 2
abbrev tokAt (t : Fin cfg0.N) (r : Fin 1024) : Fin 2048 := ⟨t.val % 2 * 1024 + r.val, by omega⟩

theorem coord1 : ∀ t : Fin cfg0.N, ((grid0.coords t) 1).val = t.val % 2 := (by decide +kernel : ∀ t : Fin grid0.N, ((grid0.coords t) 1).val = t.val % 2)
theorem index_0 : ∀ t : Fin cfg0.N, (cfg0.win 0).index t = ![t.val / 2, t.val % 2, 0] := (by decide +kernel : ∀ t : Fin grid0.N, win0_0.index t = ![t.val / 2, t.val % 2, 0])
theorem index_1 : ∀ t : Fin cfg0.N, (cfg0.win 1).index t = ![t.val / 2, t.val % 2 * 15, 0] := (by decide +kernel : ∀ t : Fin grid0.N, win0_1.index t = ![t.val / 2, t.val % 2 * 15, 0])
theorem index_2 : ∀ t : Fin cfg0.N, (cfg0.win 2).index t = ![t.val / 2, 16 + t.val % 2 * 15, 0] := (by decide +kernel : ∀ t : Fin grid0.N, win0_2.index t = ![t.val / 2, 16 + t.val % 2 * 15, 0])
theorem index_3 : ∀ t : Fin cfg0.N, (cfg0.win 3).index t = ![t.val / 2, t.val % 2, 0] := (by decide +kernel : ∀ t : Fin grid0.N, win0_3.index t = ![t.val / 2, t.val % 2, 0])
theorem index_4 : ∀ t : Fin cfg0.N, (cfg0.win 4).index t = ![t.val / 2, 0, 0] := (by decide +kernel : ∀ t : Fin grid0.N, win0_4.index t = ![t.val / 2, 0, 0])
theorem index_5 : ∀ t : Fin cfg0.N, (cfg0.win 5).index t = ![0, 0] := (by decide +kernel : ∀ t : Fin grid0.N, win0_5.index t = ![0, 0])
theorem index_6 : ∀ t : Fin cfg0.N, (cfg0.win 6).index t = ![0, 0] := (by decide +kernel : ∀ t : Fin grid0.N, win0_6.index t = ![0, 0])
theorem index_7 : ∀ t : Fin cfg0.N, (cfg0.win 7).index t = ![0, 0] := (by decide +kernel : ∀ t : Fin grid0.N, win0_7.index t = ![0, 0])
theorem index_8 : ∀ t : Fin cfg0.N, (cfg0.win 8).index t = ![0, 0] := (by decide +kernel : ∀ t : Fin grid0.N, win0_8.index t = ![0, 0])
theorem index_9 : ∀ t : Fin cfg0.N, (cfg0.win 9).index t = ![0, 0] := (by decide +kernel : ∀ t : Fin grid0.N, win0_9.index t = ![0, 0])
theorem index_10 : ∀ t : Fin cfg0.N, (cfg0.win 10).index t = ![0, 0] := (by decide +kernel : ∀ t : Fin grid0.N, win0_10.index t = ![0, 0])
theorem index_11 : ∀ t : Fin cfg0.N, (cfg0.win 11).index t = ![0, 0] := (by decide +kernel : ∀ t : Fin grid0.N, win0_11.index t = ![0, 0])
theorem index_16 : ∀ t : Fin cfg0.N, (cfg0.win 16).index t = ![t.val / 2, t.val % 2, 0] := (by decide +kernel : ∀ t : Fin grid0.N, win0_16.index t = ![t.val / 2, t.val % 2, 0])
theorem index_17 : ∀ t : Fin cfg0.N, (cfg0.win 17).index t = ![t.val / 2, t.val % 2, 0] := (by decide +kernel : ∀ t : Fin grid0.N, win0_17.index t = ![t.val / 2, t.val % 2, 0])

theorem b_x (t : Fin cfg0.N) (r k : Fin 1024) : iblk m c 0 t (ix3 0 r k) = aX m c (ix3 (bat t) (tokAt t r) k) := by
  refine Eq.trans (congrArg (V m c main_arg0) (?_ : ((cfg0.win 0).rect t).emb (ix3 0 r k) = (ix3 (bat t) (tokAt t r) k : S32x2048x1024.Idx))) (congrFun (v_x m c) _)
  funext a
  refine Fin.ext ((Window.rect_emb_val _ t _ a rfl).trans ?_)
  rw [index_0]
  match a with
  | ⟨0, _⟩ => show t.val / 2 * 1 + 0 = t.val / 2; omega
  | ⟨1, _⟩ => show t.val % 2 * 1024 + r.val = t.val % 2 * 1024 + r.val; omega
  | ⟨2, _⟩ => show 0 * 1024 + k.val = k.val; omega

theorem b_up (t : Fin cfg0.N) (h : t.val % 2 = 1) (r : Fin 64) (k : Fin 1024) : iblk m c 1 t (ix3 0 r k) = aX m c (ix3 (bat t) ⟨960 + r.val, by omega⟩ k) := by
  refine Eq.trans (congrArg (V m c main_arg0) (?_ : ((cfg0.win 1).rect t).emb (ix3 0 r k) = (ix3 (bat t) ⟨960 + r.val, by omega⟩ k : S32x2048x1024.Idx))) (congrFun (v_x m c) _)
  funext a
  refine Fin.ext ((Window.rect_emb_val _ t _ a rfl).trans ?_)
  rw [index_1]
  match a with
  | ⟨0, _⟩ => show t.val / 2 * 1 + 0 = t.val / 2; omega
  | ⟨1, _⟩ => show t.val % 2 * 15 * 64 + r.val = 960 + r.val; omega
  | ⟨2, _⟩ => show 0 * 1024 + k.val = k.val; omega

theorem b_dn (t : Fin cfg0.N) (h : t.val % 2 = 0) (r : Fin 64) (k : Fin 1024) : iblk m c 2 t (ix3 0 r k) = aX m c (ix3 (bat t) ⟨1024 + r.val, by omega⟩ k) := by
  refine Eq.trans (congrArg (V m c main_arg0) (?_ : ((cfg0.win 2).rect t).emb (ix3 0 r k) = (ix3 (bat t) ⟨1024 + r.val, by omega⟩ k : S32x2048x1024.Idx))) (congrFun (v_x m c) _)
  funext a
  refine Fin.ext ((Window.rect_emb_val _ t _ a rfl).trans ?_)
  rw [index_2]
  match a with
  | ⟨0, _⟩ => show t.val / 2 * 1 + 0 = t.val / 2; omega
  | ⟨1, _⟩ => show (16 + t.val % 2 * 15) * 64 + r.val = 1024 + r.val; omega
  | ⟨2, _⟩ => show 0 * 1024 + k.val = k.val; omega

theorem b_y (t : Fin cfg0.N) (r : Fin 1024) (k : Fin 128) : iblk m c 3 t (ix3 0 r k) = aY m c (ix3 (bat t) (tokAt t r) k) := by
  refine Eq.trans (congrArg (V m c main_arg1) (?_ : ((cfg0.win 3).rect t).emb (ix3 0 r k) = (ix3 (bat t) (tokAt t r) k : S32x2048x128.Idx))) (congrFun (v_y m c) _)
  funext a
  refine Fin.ext ((Window.rect_emb_val _ t _ a rfl).trans ?_)
  rw [index_3]
  match a with
  | ⟨0, _⟩ => show t.val / 2 * 1 + 0 = t.val / 2; omega
  | ⟨1, _⟩ => show t.val % 2 * 1024 + r.val = t.val % 2 * 1024 + r.val; omega
  | ⟨2, _⟩ => show 0 * 128 + k.val = k.val; omega

theorem b_m (t : Fin cfg0.N) (j : Fin 6) (k : Fin 1024) : iblk m c 4 t (ix3 0 j k) = aM m c (ix3 (bat t) j k) := by
  refine Eq.trans (congrArg (V m c main_arg2) (?_ : ((cfg0.win 4).rect t).emb (ix3 0 j k) = (ix3 (bat t) j k : S32x6x1024.Idx))) (congrFun (v_m m c) _)
  funext a
  refine Fin.ext ((Window.rect_emb_val _ t _ a rfl).trans ?_)
  rw [index_4]
  match a with
  | ⟨0, _⟩ => show t.val / 2 * 1 + 0 = t.val / 2; omega
  | ⟨1, _⟩ => show 0 * 6 + j.val = j.val; omega
  | ⟨2, _⟩ => show 0 * 1024 + k.val = k.val; omega

theorem b_g (t : Fin cfg0.N) (k : Fin 1024) : iblk m c 5 t (ix2 0 k) = aG m c (ix2 0 k) := by
  refine Eq.trans (congrArg (V m c main_v34) (?_ : ((cfg0.win 5).rect t).emb (ix2 0 k) = (ix2 0 k : S1x1024.Idx))) (v_g m c k)
  funext a
  refine Fin.ext ((Window.rect_emb_val _ t _ a rfl).trans ?_)
  rw [index_5]
  match a with
  | ⟨0, _⟩ => show 0 * 1 + 0 = 0; omega
  | ⟨1, _⟩ => show 0 * 1024 + k.val = k.val; omega

theorem b_g2 (t : Fin cfg0.N) (k : Fin 1024) : iblk m c 6 t (ix2 0 k) = aG2 m c (ix2 0 k) := by
  refine Eq.trans (congrArg (V m c main_v35) (?_ : ((cfg0.win 6).rect t).emb (ix2 0 k) = (ix2 0 k : S1x1024.Idx))) (v_g2 m c k)
  funext a
  refine Fin.ext ((Window.rect_emb_val _ t _ a rfl).trans ?_)
  rw [index_6]
  match a with
  | ⟨0, _⟩ => show 0 * 1 + 0 = 0; omega
  | ⟨1, _⟩ => show 0 * 1024 + k.val = k.val; omega

theorem b_t (t : Fin cfg0.N) (i : Fin 3) (j : Fin 768) : iblk m c 7 t (ix2 i j) = aT m c (ix3 0 i j) := by
  refine Eq.trans (congrArg (V m c main_v26) (?_ : ((cfg0.win 7).rect t).emb (ix2 i j) = (ix2 i j : S3x768.Idx))) (v_t m c i j)
  funext a
  refine Fin.ext ((Window.rect_emb_val _ t _ a rfl).trans ?_)
  rw [index_7]
  match a with
  | ⟨0, _⟩ => show 0 * 3 + i.val = i.val; omega
  | ⟨1, _⟩ => show 0 * 768 + j.val = j.val; omega

theorem b_w (t : Fin cfg0.N) (k : Fin 1024) (q : Fin 2304) : iblk m c 8 t (ix2 k q) = (V m c main_v7 : S1024x2304.Idx → EReal) (ix2 k q) := by
  refine Eq.trans (congrArg (V m c main_v7) (?_ : ((cfg0.win 8).rect t).emb (ix2 k q) = (ix2 k q : S1024x2304.Idx))) rfl
  funext a
  refine Fin.ext ((Window.rect_emb_val _ t _ a rfl).trans ?_)
  rw [index_8]
  match a with
  | ⟨0, _⟩ => show 0 * 1024 + k.val = k.val; omega
  | ⟨1, _⟩ => show 0 * 2304 + q.val = q.val; omega

theorem b_u (t : Fin cfg0.N) (k q : Fin 256) : iblk m c 9 t (ix2 k q) = aU m c (ix3 0 k q) := by
  refine Eq.trans (congrArg (V m c main_v28) (?_ : ((cfg0.win 9).rect t).emb (ix2 k q) = (ix2 k q : S256x256.Idx))) (v_u m c k q)
  funext a
  refine Fin.ext ((Window.rect_emb_val _ t _ a rfl).trans ?_)
  rw [index_9]
  match a with
  | ⟨0, _⟩ => show 0 * 256 + k.val = k.val; omega
  | ⟨1, _⟩ => show 0 * 256 + q.val = q.val; omega

theorem b_b (t : Fin cfg0.N) (q : Fin 256) : iblk m c 10 t (ix2 0 q) = aB m c (ix2 0 q) := by
  refine Eq.trans (congrArg (V m c main_v36) (?_ : ((cfg0.win 10).rect t).emb (ix2 0 q) = (ix2 0 q : S1x256.Idx))) (v_b m c q)
  funext a
  refine Fin.ext ((Window.rect_emb_val _ t _ a rfl).trans ?_)
  rw [index_10]
  match a with
  | ⟨0, _⟩ => show 0 * 1 + 0 = 0; omega
  | ⟨1, _⟩ => show 0 * 256 + q.val = q.val; omega

theorem b_o (t : Fin cfg0.N) (k q : Fin 1024) : iblk m c 11 t (ix2 k q) = aO m c (ix3 0 k q) := by
  refine Eq.trans (congrArg (V m c main_v31) (?_ : ((cfg0.win 11).rect t).emb (ix2 k q) = (ix2 k q : S1024x1024.Idx))) (v_o m c k q)
  funext a
  refine Fin.ext ((Window.rect_emb_val _ t _ a rfl).trans ?_)
  rw [index_11]
  match a with
  | ⟨0, _⟩ => show 0 * 1024 + k.val = k.val; omega
  | ⟨1, _⟩ => show 0 * 1024 + q.val = q.val; omega

theorem seqX_at (b : Fin 32) (n : Fin 2048) (k : Fin 1024) : seqX m c b n.val k = aX m c (ix3 b n k) := dif_pos n.isLt
theorem seqY_at (b : Fin 32) (n : Fin 2048) (k : Fin 128) : seqY m c b n.val k = aY m c (ix3 b n k) := dif_pos n.isLt

theorem blockPar_eq (t : Fin cfg0.N) :
    blockPar (iblk m c 4 t) (iblk m c 5 t) (iblk m c 7 t) (iblk m c 8 t) (iblk m c 9 t) (iblk m c 10 t) (iblk m c 11 t) (seqX m c (bat t)) (seqY m c (bat t)) = seqPar m c (bat t) := by
  unfold blockPar seqPar
  congr 1
  · funext k; exact b_g m c t k
  · funext k; exact b_m m c t 0 k
  · funext k; exact b_m m c t 1 k
  · funext k q; exact (b_w m c t k _).trans (w_b m c k q)
  · funext k q; exact (b_w m c t k _).trans (w_r m c k q)
  · funext k q; exact (b_w m c t k _).trans (w_c m c k q)
  · funext a j; exact b_t m c t a _
  · funext a j; exact b_t m c t a _
  · funext k q; exact b_u m c t k q
  · funext q; exact b_b m c t q
  · funext k; exact b_m m c t 2 k
  · funext k q; exact b_o m c t k q

theorem blockTok_eq (t : Fin cfg0.N) (n k : Fin 1024) :
    blockTok (iblk m c 4 t) (iblk m c 5 t) (iblk m c 7 t) (iblk m c 8 t) (iblk m c 9 t) (iblk m c 10 t) (iblk m c 11 t) (seqX m c (bat t)) (seqY m c (bat t)) (t.val % 2) n k
      = tokR m c (bat t) (tokAt t n) k := by
  unfold blockTok
  rw [blockPar_eq]
  rfl

theorem blockMod_eq (t : Fin cfg0.N) (n k : Fin 1024) :
    blockMod (iblk m c 4 t) (iblk m c 5 t) (iblk m c 6 t) (iblk m c 7 t) (iblk m c 8 t) (iblk m c 9 t) (iblk m c 10 t) (iblk m c 11 t) (seqX m c (bat t)) (seqY m c (bat t)) (t.val % 2) n k
      = modR m c (bat t) (tokAt t n) k := by
  unfold blockMod modR
  rw [funext (blockTok_eq m c t n), funext (b_g2 m c t), funext (b_m m c t 3), funext (b_m m c t 4)]

theorem hx' (t : Fin cfg0.N) (r k : Fin 1024) : iblk m c 0 t (ix3 0 r k) = seqX m c (bat t) (t.val % 2 * 1024 + r.val) k := (b_x m c t r k).trans (seqX_at m c (bat t) (tokAt t r) k).symm
theorem hup' (t : Fin cfg0.N) (h : t.val % 2 = 1) (r : Fin 64) (k : Fin 1024) : iblk m c 1 t (ix3 0 r k) = seqX m c (bat t) (960 + r.val) k :=
  (b_up m c t h r k).trans (seqX_at m c (bat t) ⟨960 + r.val, by omega⟩ k).symm
theorem hdn' (t : Fin cfg0.N) (h : t.val % 2 = 0) (r : Fin 64) (k : Fin 1024) : iblk m c 2 t (ix3 0 r k) = seqX m c (bat t) (1024 + r.val) k :=
  (b_dn m c t h r k).trans (seqX_at m c (bat t) ⟨1024 + r.val, by omega⟩ k).symm
theorem hy' (t : Fin cfg0.N) (r : Fin 1024) (k : Fin 128) : iblk m c 3 t (ix3 0 r k) = seqY m c (bat t) (t.val % 2 * 1024 + r.val) k := (b_y m c t r k).trans (seqY_at m c (bat t) (tokAt t r) k).symm

end Cert.Proof.Mix

end
-- ==== Proof.Mix.Point.lean ====
/-
  The mixers' call over its grid: what a point leaves of the first two results.
-/
module

public import proofs.«01_k».proof.Proof.Mix.Host
public import proofs.«01_k».proof.Proof.Gen.MixIdeal.Points
public import Idealize.ShloMosaic.Lib.Pipeline.ValueKit.Geometry

@[expose] public section

set_option maxRecDepth 16384

noncomputable section

namespace Cert.Proof.Mix

open Cert.MixIdeal Cert.MixIdeal.Gen Idealize.ShloMosaic Idealize.ShloMosaic.TcCoe Idealize.SL.Sem
open Idealize.ShloMosaic.Pipeline (Dat Cfg Window)
open Cert.Proof.Front (modded)

variable (m : (ℓ : Loc nD τ sig) → Buf (Elt Ideal) ℓ) (ρ : Dev nD → PrngReg) (c : Dev nD)

theorem fst_at {I E B : Type} {p : (I → E) × B} {a : I → E} {b : B} (h : p = (a, b)) (y : I) : p.1 y = a y := by rw [h]
theorem snd_at {A I E B : Type} {p : A × (I → E) × B} {x : A} {a : I → E} {b : B} (h : p = (x, a, b)) (y : I) : p.2.1 y = a y := by rw [h]

theorem outs16 (t : Fin cfg0.N) (y : S1x1024x1024.Idx) : (outsAt0 m c t.val t.isLt).1 y = tokR m c (bat t) (tokAt t (y 1)) (y 2) := by
  refine Eq.trans ?_ (blockTok_eq m c t (y 1) (y 2))
  by_cases h : t.val % 40 = 0
  · refine (fst_at (outsAt0_A m c t h) y).trans ?_
    have e := out16_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (seqX m c (bat t)) (seqY m c (bat t)) (t.val % 2) (by omega) (coord1 t) (hx' m c t) (hup' m c t) (hdn' m c t) (hy' m c t) ((hcond0_0 t).mpr h) y
    exact e
  · refine (fst_at (outsAt0_B m c t h) y).trans ?_
    have e := out16_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (seqX m c (bat t)) (seqY m c (bat t)) (t.val % 2) (by omega) (coord1 t) (hx' m c t) (hup' m c t) (hdn' m c t) (hy' m c t) (fun hn => h ((hcond0_0 t).mp hn)) (outsAt0 m c (t.val - 1) (Nat.lt_of_le_of_lt (Nat.sub_le _ _) t.isLt)).2.2.2.1 y
    exact e

theorem outs17 (t : Fin cfg0.N) (n k : Fin 1024) : (outsAt0 m c t.val t.isLt).2.1 (ix3 0 n ⟨k.val, by omega⟩) = modR m c (bat t) (tokAt t n) k := by
  refine Eq.trans ?_ (blockMod_eq m c t n k)
  by_cases h : t.val % 40 = 0
  · refine (snd_at (outsAt0_A m c t h) (ix3 0 n ⟨k.val, by omega⟩ : S1x1024x1152.Idx)).trans ?_
    have e := out17_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (seqX m c (bat t)) (seqY m c (bat t)) (t.val % 2) (by omega) (coord1 t) (hx' m c t) (hup' m c t) (hdn' m c t) (hy' m c t) ((hcond0_0 t).mpr h) n k
    exact e
  · refine (snd_at (outsAt0_B m c t h) (ix3 0 n ⟨k.val, by omega⟩ : S1x1024x1152.Idx)).trans ?_
    have e := out17_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (seqX m c (bat t)) (seqY m c (bat t)) (t.val % 2) (by omega) (coord1 t) (hx' m c t) (hup' m c t) (hdn' m c t) (hy' m c t) (fun hn => h ((hcond0_0 t).mp hn)) (outsAt0 m c (t.val - 1) (Nat.lt_of_le_of_lt (Nat.sub_le _ _) t.isLt)).2.2.2.1 n k
    exact e

end Cert.Proof.Mix

end
-- ==== Proof.Mix.Array.lean ====
/-
  The mixers' call over its grid: its first two results' arrays.
-/
module

public import proofs.«01_k».proof.Proof.Mix.Point
public import proofs.«01_k».proof.Proof.Gen.MixIdeal.Points
public import Idealize.ShloMosaic.Lib.Pipeline.ValueKit.Geometry

@[expose] public section

set_option maxRecDepth 16384

noncomputable section

namespace Cert.Proof.Mix

open Cert.MixIdeal Cert.MixIdeal.Gen Idealize.ShloMosaic Idealize.ShloMosaic.TcCoe Idealize.SL.Sem
open Idealize.ShloMosaic.Pipeline (Dat Cfg Window)
open Cert.Proof.Front (modded)

variable (m : (ℓ : Loc nD τ sig) → Buf (Elt Ideal) ℓ) (ρ : Dev nD → PrngReg) (c : Dev nD)

theorem emb_16 (t : Fin cfg0.N) (y : S1x1024x1024.Idx) : ((cfg0.win 16).rect t).emb y = (ix3 ⟨t.val / 2, by have := lt40 t; omega⟩ (tokAt t (y 1)) (y 2) : S20x2048x1024.Idx) := by
  funext a
  refine Fin.ext ((Window.rect_emb_val _ t _ a rfl).trans ?_)
  rw [index_16]
  match a with
  | ⟨0, _⟩ => have h : (y 0).val < 1 := (y 0).isLt; show t.val / 2 * 1 + (y 0).val = t.val / 2; omega
  | ⟨1, _⟩ => show t.val % 2 * 1024 + (y 1).val = t.val % 2 * 1024 + (y 1).val; rfl
  | ⟨2, _⟩ => show 0 * 1024 + (y 2).val = (y 2).val; omega

theorem mem_16 (t : Fin cfg0.N) (i : S20x2048x1024.Idx) : i ∈ ((cfg0.win 16).blk t).view.set ↔ (i 0).val = t.val / 2 ∧ (i 1).val / 1024 = t.val % 2 := by
  refine (Window.emb_mem_blk_iff (cfg0.win 16) t i rfl).trans ⟨fun h => ?_, fun h a => ?_⟩
  · have h0 := h 0
    have h1 := h 1
    rw [index_16] at h0 h1
    have h0' : t.val / 2 * 1 ≤ (i 0).val ∧ (i 0).val < t.val / 2 * 1 + 1 := h0
    have h1' : t.val % 2 * 1024 ≤ (i 1).val ∧ (i 1).val < t.val % 2 * 1024 + 1024 := h1
    omega
  · rw [index_16]
    match a with
    | ⟨0, _⟩ => show t.val / 2 * 1 ≤ (i 0).val ∧ (i 0).val < t.val / 2 * 1 + 1; omega
    | ⟨1, _⟩ => show t.val % 2 * 1024 ≤ (i 1).val ∧ (i 1).val < t.val % 2 * 1024 + 1024; omega
    | ⟨2, _⟩ => have h2 : (i 2).val < 1024 := (i 2).isLt; show 0 * 1024 ≤ (i 2).val ∧ (i 2).val < 0 * 1024 + 1024; omega

theorem emb_17 (t : Fin cfg0.N) (y : S1x1024x1152.Idx) : ((cfg0.win 17).rect t).emb y = (ix3 ⟨t.val / 2, by have := lt40 t; omega⟩ (tokAt t (y 1)) (y 2) : S20x2048x1152.Idx) := by
  funext a
  refine Fin.ext ((Window.rect_emb_val _ t _ a rfl).trans ?_)
  rw [index_17]
  match a with
  | ⟨0, _⟩ => have h : (y 0).val < 1 := (y 0).isLt; show t.val / 2 * 1 + (y 0).val = t.val / 2; omega
  | ⟨1, _⟩ => show t.val % 2 * 1024 + (y 1).val = t.val % 2 * 1024 + (y 1).val; rfl
  | ⟨2, _⟩ => show 0 * 1152 + (y 2).val = (y 2).val; omega

theorem mem_17 (t : Fin cfg0.N) (i : S20x2048x1152.Idx) : i ∈ ((cfg0.win 17).blk t).view.set ↔ (i 0).val = t.val / 2 ∧ (i 1).val / 1024 = t.val % 2 := by
  refine (Window.emb_mem_blk_iff (cfg0.win 17) t i rfl).trans ⟨fun h => ?_, fun h a => ?_⟩
  · have h0 := h 0
    have h1 := h 1
    rw [index_17] at h0 h1
    have h0' : t.val / 2 * 1 ≤ (i 0).val ∧ (i 0).val < t.val / 2 * 1 + 1 := h0
    have h1' : t.val % 2 * 1024 ≤ (i 1).val ∧ (i 1).val < t.val % 2 * 1024 + 1024 := h1
    omega
  · rw [index_17]
    match a with
    | ⟨0, _⟩ => show t.val / 2 * 1 ≤ (i 0).val ∧ (i 0).val < t.val / 2 * 1 + 1; omega
    | ⟨1, _⟩ => show t.val % 2 * 1024 ≤ (i 1).val ∧ (i 1).val < t.val % 2 * 1024 + 1024; omega
    | ⟨2, _⟩ => have h2 : (i 2).val < 1152 := (i 2).isLt; show 0 * 1152 ≤ (i 2).val ∧ (i 2).val < 0 * 1152 + 1152; omega

theorem point (b : Fin 20) (n : Fin 2048) : b.val * 2 + n.val / 1024 < 40 := by omega
theorem point_tok (b : Fin 20) (n : Fin 2048) : (b.val * 2 + n.val / 1024) / 2 = b.val ∧ (b.val * 2 + n.val / 1024) % 2 = n.val / 1024 := by omega

/-- The two arrays' contents. -/
def arrG (i : S20x2048x1024.Idx) : EReal := tokR m c ⟨(i 0).val, lt_trans (i 0).isLt (by decide)⟩ (i 1) (i 2)
def arrM (i : S20x2048x1024.Idx) : EReal := modR m c ⟨(i 0).val, lt_trans (i 0).isLt (by decide)⟩ (i 1) (i 2)

theorem arr16 (i : S20x2048x1024.Idx) : (dats m 0 c).arrAt 16 cfg0.N i = arrG m c i := by
  let t : Fin cfg0.N := ⟨(i 0).val * 2 + (i 1).val / 1024, point (i 0) (i 1)⟩
  refine (dats m 0 c).arrAt_forall_of_flushed 16 (fun i v => v = arrG m c i) (fun s _ y => ?_)
    cfg0.N t i t.isLt (flush0_16 t) ((mem_16 t i).2 ⟨(point_tok (i 0) (i 1)).1.symm, (point_tok (i 0) (i 1)).2.symm⟩)
  rw [Dat.flushed_apply, after0_16 m c s]
  have ex : ((cfg0.win 16).xinj (cfg0.grid.coords s) y : S1x1024x1024.Idx) = (y : S1x1024x1024.Idx) := funext fun a => Fin.ext rfl
  have ec {x : EReal} (he : EReal = EReal) : _root_.cast he x = x := rfl
  refine (ec _).trans ((congrArg (outsAt0 m c s.val s.isLt).1 ex).trans ((outs16 m c s y).trans ?_))
  show _ = arrG m c (((cfg0.win 16).rect s).emb y)
  rw [emb_16 s y]
  rfl

theorem arr17 (b : Fin 20) (n : Fin 2048) (k : Fin 1024) : (dats m 0 c).arrAt 17 cfg0.N (ix3 b n ⟨k.val, by omega⟩ : S20x2048x1152.Idx) = arrM m c (ix3 b n k) := by
  let i : S20x2048x1152.Idx := ix3 b n ⟨k.val, by omega⟩
  let t : Fin cfg0.N := ⟨b.val * 2 + n.val / 1024, point b n⟩
  refine (dats m 0 c).arrAt_forall_of_flushed 17 (fun i v => ∀ h : (i 2).val < 1024, v = arrM m c (ix3 (i 0) (i 1) ⟨(i 2).val, h⟩)) (fun s _ y h => ?_)
    cfg0.N t i t.isLt (flush0_17 t) ((mem_17 t i).2 ⟨(point_tok b n).1.symm, (point_tok b n).2.symm⟩) k.isLt
  rw [Dat.flushed_apply, after0_17 m c s]
  have ex : ((cfg0.win 17).xinj (cfg0.grid.coords s) y : S1x1024x1152.Idx) = (y : S1x1024x1152.Idx) := funext fun a => Fin.ext rfl
  have ec {x : EReal} (he : EReal = EReal) : _root_.cast he x = x := rfl
  have h' : ∀ z : S20x2048x1152.Idx, ((cfg0.win 17).rect s).emb y = z → (z 2).val < 1024 := fun z hz => hz ▸ h
  have h2 : ((y : S1x1024x1152.Idx) 2).val < 1024 := h' _ (emb_17 s y)
  have ey : (y : S1x1024x1152.Idx) = ix3 0 ((y : S1x1024x1152.Idx) 1) ⟨((y : S1x1024x1152.Idx) 2).val, lt_trans h2 (by decide)⟩ := by
    funext a
    match a with
    | ⟨0, _⟩ => exact Subsingleton.elim (α := Fin 1) _ _
    | ⟨1, _⟩ => rfl
    | ⟨2, _⟩ => rfl
  refine (ec _).trans ((congrArg (outsAt0 m c s.val s.isLt).2.1 (ex.trans ey)).trans ((outs17 m c s ((y : S1x1024x1152.Idx) 1) ⟨((y : S1x1024x1152.Idx) 2).val, h2⟩).trans ?_))
  have key : ∀ z : S20x2048x1152.Idx, ((cfg0.win 17).rect s).emb y = z → ∀ hz : (z 2).val < 1024,
      arrM m c (ix3 ((((cfg0.win 17).rect s).emb y : S20x2048x1152.Idx) 0) ((((cfg0.win 17).rect s).emb y : S20x2048x1152.Idx) 1) ⟨((((cfg0.win 17).rect s).emb y : S20x2048x1152.Idx) 2).val, h⟩) = arrM m c (ix3 (z 0) (z 1) ⟨(z 2).val, hz⟩) := by
    intro z hz hz'
    subst hz
    rfl
  exact (key _ (emb_17 s y) h2).symm

end Cert.Proof.Mix

end
-- ==== Proof.Mix.Result.lean ====
/-
  The mixers' call run: its two results and its arguments.
-/
module

public import proofs.«01_k».proof.Proof.Mix.Array
public import proofs.«01_k».proof.Proof.Gen.MixIdeal.Frame

@[expose] public section

set_option maxRecDepth 100000

noncomputable section

namespace Cert.Proof.Mix

open Cert.MixIdeal Cert.MixIdeal.Gen Idealize.ShloMosaic Idealize.ShloMosaic.TcCoe Idealize.ShloMosaic.Tactic Idealize.SL.Sem Idealize.ShloMosaic.Pipeline

variable (m : (ℓ : Loc nD τ sig) → Buf (Elt Ideal) ℓ)

/-- The second result's cut, at an index. -/
theorem cut_apply (y : FVec Ideal S20x2048x1152 .f32) (b : Fin 20) (n : Fin 2048) (k : Fin 1024) :
    (extractStridedSlice S20x2048x1024 ![0, 0, 0] y slices_S20x2048x1152_S20x2048x1024_0_0_0 : FVec Ideal S20x2048x1024 .f32) (ix3 b n k) = y (ix3 b n ⟨k.val, by omega⟩) := by
  pointwise

theorem tail_eq (V : Valuation τ sig (Elt Ideal)) :
    (StableHlo.after ([hostOps1] : List (List (HloOp τ sig (Elt Ideal)))).flatten V (Proc.devRef .tc main_v38) : FVec Ideal S20x2048x1024 .f32)
      = extractStridedSlice S20x2048x1024 ![0, 0, 0] (V (Proc.devRef .tc main_v37_1)) slices_S20x2048x1152_S20x2048x1024_0_0_0 := by
  simp only [List.flatten_cons, List.flatten_nil, List.append_nil]
  after_results_simp

theorem tail_arr (c : Dev nD) : (Pipeline.afterTail₀ cfgs (dats m) 0 (V0 m) [hostOps1] c main_v38 : S20x2048x1024.Idx → EReal) = arrM m c := by
  unfold Pipeline.afterTail₀
  refine (tail_eq _).trans ?_
  have e : Pipeline.withArrays (cfgs 0).spec c (V0 m c) (fun w => (dats m 0 c).arrAt w (cfgs 0).N) (Proc.devRef .tc main_v37_1)
      = (dats m 0 c).arrAt 17 (cfgs 0).N :=
    Dat.withArrays_arrAt (dats m 0 c) sharedIn0 (V0 m c) (A_eq m c) 17
  rw [e]
  funext i
  rw [eq_ix3 i]
  exact (cut_apply _ (i 0) (i 1) (i 2)).trans (arr17 m c (i 0) (i 1) (i 2))

/-- The call's results, its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37_0) = arrG m c
      ∧ r.2.mem ((c.tc : Thread nD τ).loc main_v38) = arrM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h.1.1 c).1 16).trans (funext (arr16 m c)), ((h.1.1 c).2 main_v38 (by decide)).trans (tail_arr m c), h.2.1 c⟩)
    (θ_run_and (run_main_quiescent m ρ) (frame m ρ))

end Cert.Proof.Mix

end
-- ==== Proof.Mix.Reference.lean ====
/-
  The mixers of the reference, read at an index.
-/
module

public import proofs.«01_k».proof.Proof.Mix.Body
public import proofs.«01_k».proof.Proof.Gen.MixersIdeal.Run

@[expose] public section

set_option maxRecDepth 16384

noncomputable section

namespace Cert.Proof.Mix

open Cert.MixersIdeal Cert.MixersIdeal.Gen Cert.MixersIdeal.Value Idealize.ShloMosaic Idealize.ShloMosaic.TcCoe Idealize.SL.Sem
open Cert.Proof.Front (modded)

variable (V0 : Valuation τ sig (Elt Ideal))

/-- The reference's arguments. -/
abbrev rX : S32x2048x1024.Idx → EReal := V0 (Proc.devRef .tc main_arg0)
abbrev rY : S32x2048x128.Idx → BitVec 32 := V0 (Proc.devRef .tc main_arg1)
abbrev rM : S32x6x1024.Idx → EReal := V0 (Proc.devRef .tc main_arg2)
abbrev rG : S1x1024.Idx → EReal := V0 (Proc.devRef .tc main_arg3)
abbrev rG2 : S1x1024.Idx → EReal := V0 (Proc.devRef .tc main_arg4)
abbrev rT : S1x3x768.Idx → EReal := V0 (Proc.devRef .tc main_arg5)
abbrev rW : S1x1024x2560.Idx → EReal := V0 (Proc.devRef .tc main_arg6)
abbrev rU : S1x256x256.Idx → EReal := V0 (Proc.devRef .tc main_arg7)
abbrev rB : S1x256.Idx → EReal := V0 (Proc.devRef .tc main_arg8)
abbrev rO : S1x1024x1024.Idx → EReal := V0 (Proc.devRef .tc main_arg9)

/-- A batch of the twenty, of the thirty-two. -/
abbrev up (b : Fin 20) : Fin 32 := ⟨b.val, by omega⟩

theorem r0_at (b : Fin 20) (n : Fin 2048) (k : Fin 1024) : (res_main_v0 V0 : FVec Ideal S20x2048x1024 .f32) (ix3 b n k) = rX V0 (ix3 (up b) n k) := by
  pointwise [res_main_v0]
theorem r2_at (b : Fin 20) (j : Fin 6) (k : Fin 1024) : (res_main_v2 V0 : FVec Ideal S20x6x1024 .f32) (ix3 b j k) = rM V0 (ix3 (up b) j k) := by
  pointwise [res_main_v2]

/-- The reference's modulated norm. -/
theorem r64_at (b : Fin 20) (n : Fin 2048) (q : Fin 2304) : (res_main_v64 V0 : FVec Ideal S20x2048x2304 .f32) (ix3 b n q)
    = ∑ k, modded (fun k => rX V0 (ix3 (up b) n k)) (fun k => rG V0 (ix2 0 k)) (fun k => rM V0 (ix3 (up b) 0 k)) (fun k => rM V0 (ix3 (up b) 1 k)) k * rW V0 (ix3 0 k ⟨256 + q.val, by omega⟩) := by
  unfold res_main_v64
  have e0 := r0_at V0 b n
  have e2 := r2_at V0 b
  generalize res_main_v0 V0 = x at e0 ⊢
  generalize res_main_v2 V0 = mm at e2 ⊢
  pointwise [modded, Final.inv, e0, e2, mul_assoc]

theorem r65_at (i : Fin 3) (j : Fin 768) : (res_main_v65 V0 : FVec Ideal S3x768 .f32) (ix2 i j) = rT V0 (ix3 0 i j) := by
  pointwise [res_main_v65]

theorem r28_at (b : Fin 20) (n : Fin 2048) (j : Fin 256) : (res_main_v28 V0 : FVec Ideal S20x2048x256 .f32) (ix3 b n j)
    = gel ((res_main_v15 V0 : FVec Ideal S20x2048x256 .f32) (ix3 b n j)) := by
  unfold res_main_v28
  generalize res_main_v15 V0 = y
  pointwise [gel, mul_assoc]

theorem ideal_bits (h : BitVec 16) (w : BitVec 32) (e1 : h.extractLsb' 15 1 = w.extractLsb' 31 1) (e2 : h.extractLsb' 7 8 = w.extractLsb' 23 8)
    (e3 : (w.extractLsb' 0 23).toNat = (h.extractLsb' 0 7).toNat * 65536) : Ideal.ieee 8 7 h = Ideal.ieee 8 23 w := by
  unfold Ideal.ieee
  show (if (h.extractLsb' 7 8).toNat = _ then _ else _) = _
  simp only [show 8 + 7 = 15 from rfl, show 8 + 23 = 31 from rfl, e1, e2, e3]
  generalize (h.extractLsb' 0 7).toNat = f
  generalize (w.extractLsb' 23 8).toNat = x
  generalize (if (w.extractLsb' 31 1 == 1#1) = true then (-1 : ℝ) else 1) = g
  have hf : (f * 65536 = 0) = (f = 0) := by simp
  simp only [hf]
  have p16 : ((65536 : ℕ) : ℝ) = (2 : ℝ) ^ (16 : ℤ) := by norm_num
  by_cases h1 : x = 2 ^ 8 - 1
  · rw [if_pos h1, if_pos h1]
  rw [if_neg h1, if_neg h1]
  by_cases h2 : x = 0
  · rw [if_pos h2, if_pos h2]
    congr 1
    rw [Nat.cast_mul, p16, mul_assoc, mul_assoc, mul_assoc, ← zpow_add₀ (two_ne_zero' ℝ)]
    congr 3
  · rw [if_neg h2, if_neg h2]
    congr 1
    rw [show 2 ^ 23 + f * 65536 = (2 ^ 7 + f) * 65536 by ring, Nat.cast_mul (2 ^ 7 + f), p16, mul_assoc, mul_assoc, mul_assoc, ← zpow_add₀ (two_ne_zero' ℝ)]
    congr 3
    push_cast
    ring

theorem bits_eq (h : BitVec 16) (w : BitVec 32) (e1 : h.extractLsb' 15 1 = w.extractLsb' 31 1) (e2 : h.extractLsb' 7 8 = w.extractLsb' 23 8)
    (e3 : (w.extractLsb' 0 23).toNat = (h.extractLsb' 0 7).toNat * 65536) : Ideal.ofBits .bf16 h = Ideal.ofBits .f32 w := ideal_bits h w e1 e2 e3

/-- A number of sixteen bits is the number of its bits at the top of a word. -/
theorem upper_bits (w : BitVec 32) : Ideal.ofBits .bf16 (w.extractLsb' 16 16) = Ideal.ofBits .f32 (IntOp.andi w 0xFFFF0000#32) := by
  have e1 : (w.extractLsb' 16 16).extractLsb' 15 1 = (IntOp.andi w 0xFFFF0000#32).extractLsb' 31 1 := by
    apply BitVec.eq_of_getLsbD_eq; intro i hi; obtain rfl : i = 0 := by omega
    simp [IntOp.andi]
  have e2 : (w.extractLsb' 16 16).extractLsb' 7 8 = (IntOp.andi w 0xFFFF0000#32).extractLsb' 23 8 := by
    apply BitVec.eq_of_getLsbD_eq; intro i hi
    interval_cases i <;> simp [IntOp.andi]
  have e3 : ((IntOp.andi w 0xFFFF0000#32).extractLsb' 0 23).toNat = ((w.extractLsb' 16 16).extractLsb' 0 7).toNat * 65536 := by
    have e : IntOp.andi w 0xFFFF0000#32 = (w >>> 16) <<< 16 := by
      apply BitVec.eq_of_getLsbD_eq; intro i hi
      interval_cases i <;> simp [IntOp.andi]
    rw [e]
    simp only [BitVec.extractLsb'_toNat, BitVec.toNat_shiftLeft, BitVec.toNat_ushiftRight, Nat.shiftLeft_eq, Nat.shiftRight_eq_div_pow]
    omega
  exact bits_eq _ _ e1 e2 e3

theorem lower_bits (w : BitVec 32) : Ideal.ofBits .bf16 (w.extractLsb' 0 16) = Ideal.ofBits .f32 (IntOp.shli ArithUnit.vector w 16#32) := by
  have es : IntOp.shli ArithUnit.vector w 16#32 = w <<< 16 := by
    rfl
  rw [es]
  have e1 : (w.extractLsb' 0 16).extractLsb' 15 1 = (w <<< 16).extractLsb' 31 1 := by
    apply BitVec.eq_of_getLsbD_eq; intro i hi; obtain rfl : i = 0 := by omega
    simp
  have e2 : (w.extractLsb' 0 16).extractLsb' 7 8 = (w <<< 16).extractLsb' 23 8 := by
    apply BitVec.eq_of_getLsbD_eq; intro i hi
    interval_cases i <;> simp
  have e3 : ((w <<< 16).extractLsb' 0 23).toNat = ((w.extractLsb' 0 16).extractLsb' 0 7).toNat * 65536 := by
    simp only [BitVec.extractLsb'_toNat, BitVec.toNat_shiftLeft, Nat.shiftLeft_eq, Nat.shiftRight_eq_div_pow]
    omega
  exact bits_eq _ _ e1 e2 e3

theorem r10_at (b : Fin 20) (n : Fin 2048) (l : Fin 128) (p : Fin 2) : (res_main_v10 V0 : FVec Ideal S20x2048x128x2 .f32) (ix4 b n l p)
    = Ideal.ofBits .bf16 ((rY V0 (ix3 (up b) n l)).extractLsb' (p.val * 16) 16) := by
  have d : splits_S20x2048x128_w32_S20x2048x128x2_w16.drop (ix4 b n l p : S20x2048x128x2.Idx) = (ix3 b n l : S20x2048x128.Idx) := funext fun a => Fin.ext (by
    match a with
    | ⟨0, _⟩ => rfl
    | ⟨1, _⟩ => rfl
    | ⟨2, _⟩ => rfl)
  have e : (extractStridedSlice S20x2048x128 ![0, 0, 0] (rY V0) slices_S32x2048x128_S20x2048x128_0_0_0 : IVec S20x2048x128 32) (ix3 b n l) = rY V0 (ix3 (up b) n l) := by pointwise
  refine Eq.trans (congrArg (fun i => Ideal.ofBits .bf16 (((extractStridedSlice S20x2048x128 ![0, 0, 0] (rY V0) slices_S32x2048x128_S20x2048x128_0_0_0 : IVec S20x2048x128 32) i).extractLsb' (p.val * 16) 16)) d) ?_
  exact congrArg (fun w : BitVec 32 => Ideal.ofBits .bf16 (w.extractLsb' (p.val * 16) 16)) e

theorem r15_at (b : Fin 20) (n : Fin 2048) (j : Fin 256) : (res_main_v15 V0 : FVec Ideal S20x2048x256 .f32) (ix3 b n j)
    = half (fun k => rY V0 (ix3 (up b) n k)) j := by
  have e : (res_main_v15 V0 : FVec Ideal S20x2048x256 .f32) (ix3 b n j) = if h : j.val < 128 then Ideal.ofBits .bf16 (((rY V0 (ix3 (up b) n ⟨j.val, h⟩)).extractLsb' 16 16)) else Ideal.ofBits .bf16 (((rY V0 (ix3 (up b) n ⟨j.val - 128, by omega⟩)).extractLsb' 0 16)) := by
    unfold res_main_v15
    have e := r10_at V0 b n
    generalize res_main_v10 V0 = y at e ⊢
    pointwise [e]
  rw [e]
  unfold half
  by_cases h : j.val < 128
  · rw [dif_pos h, dif_pos h]; exact upper_bits _
  · rw [dif_neg h, dif_neg h]; exact lower_bits _

/-- The reference's projection, its gates apart. -/
def pz (b : Fin 20) (n : Fin 2048) (q : Fin 2304) : EReal := (res_main_v64 V0 : FVec Ideal S20x2048x2304 .f32) (ix3 b n q)

/-- The values along rows and columns, as products of the projection's columns. -/
def pv (b : Fin 20) (n : Fin 2048) (q : Fin 768) : EReal := pz V0 b n ⟨768 + q.val, by omega⟩ * pz V0 b n ⟨1536 + q.val, by omega⟩

theorem r70_at (b : Fin 20) (r : Fin 32) (s : Fin 64) (q : Fin 768) : (res_main_v70 V0 : FVec Ideal S20x32x64x768 .f32) (ix4 b r s q) = pv V0 b ⟨r.val * 64 + s.val, by omega⟩ q := by
  unfold res_main_v70 pv pz
  generalize res_main_v64 V0 = y
  pointwise

theorem zero_i : (FloatOps.sitofp .f32 (0#32 : BitVec 32) : Ideal .f32) = (0 : EReal) := by
  show (((0#32 : BitVec 32).toInt : ℝ) : EReal) = 0
  simp

theorem r73_at (b : Fin 20) (r : Fin 32) (s : Fin 66) (j : Fin 384) : (res_main_v73 V0 : FVec Ideal S20x32x66x384 .f32) (ix4 b r s j)
    = if h : 1 ≤ s.val ∧ s.val - 1 < 64 then pv V0 b ⟨r.val * 64 + (s.val - 1), by omega⟩ ⟨j.val, by omega⟩ else (0 : EReal) := by
  unfold res_main_v73
  have e := r70_at V0 b
  generalize res_main_v70 V0 = y at e ⊢
  pointwise [e, zero_i]

theorem r96_at (b : Fin 20) (r : Fin 34) (s : Fin 64) (j : Fin 384) : (res_main_v96 V0 : FVec Ideal S20x34x64x384 .f32) (ix4 b r s j)
    = if h : 1 ≤ r.val ∧ r.val - 1 < 32 then pv V0 b ⟨(r.val - 1) * 64 + s.val, by omega⟩ ⟨384 + j.val, by omega⟩ else (0 : EReal) := by
  unfold res_main_v96
  have e := r70_at V0 b
  generalize res_main_v70 V0 = y at e ⊢
  pointwise [e, zero_i]

/-- The reference's convolution of each half of the grid's channels, before the gate. -/
def convR (b : Fin 20) (n : Fin 2048) (j : Fin 384) : EReal :=
  (if h : 1 ≤ n.val % 64 ∧ n.val % 64 - 1 < 64 then pv V0 b ⟨n.val / 64 * 64 + (n.val % 64 - 1), by omega⟩ ⟨j.val, by omega⟩ else 0) * rT V0 (ix3 0 0 ⟨j.val, by omega⟩)
    + (if h : n.val % 64 < 64 then pv V0 b ⟨n.val / 64 * 64 + n.val % 64, by omega⟩ ⟨j.val, by omega⟩ else 0) * rT V0 (ix3 0 1 ⟨j.val, by omega⟩)
    + (if h : 1 ≤ 2 + n.val % 64 ∧ 2 + n.val % 64 - 1 < 64 then pv V0 b ⟨n.val / 64 * 64 + (2 + n.val % 64 - 1), by omega⟩ ⟨j.val, by omega⟩ else 0) * rT V0 (ix3 0 2 ⟨j.val, by omega⟩)
def convC (b : Fin 20) (n : Fin 2048) (j : Fin 384) : EReal :=
  (if h : 1 ≤ n.val / 64 ∧ n.val / 64 - 1 < 32 then pv V0 b ⟨(n.val / 64 - 1) * 64 + n.val % 64, by omega⟩ ⟨384 + j.val, by omega⟩ else 0) * rT V0 (ix3 0 0 ⟨384 + j.val, by omega⟩)
    + (if h : n.val / 64 < 32 then pv V0 b ⟨n.val / 64 * 64 + n.val % 64, by omega⟩ ⟨384 + j.val, by omega⟩ else 0) * rT V0 (ix3 0 1 ⟨384 + j.val, by omega⟩)
    + (if h : 1 ≤ 2 + n.val / 64 ∧ 2 + n.val / 64 - 1 < 32 then pv V0 b ⟨(2 + n.val / 64 - 1) * 64 + n.val % 64, by omega⟩ ⟨384 + j.val, by omega⟩ else 0) * rT V0 (ix3 0 2 ⟨384 + j.val, by omega⟩)

/-- The reference's mixed columns. -/
def mixR (b : Fin 20) (n : Fin 2048) (q : Fin 1024) : EReal :=
  if h : q.val < 256 then glu (fun j => gel (half (fun k => rY V0 (ix3 (up b) n k)) j)) (fun k q => rU V0 (ix3 0 k q)) (fun q => rB V0 (ix2 0 q)) ⟨q.val, h⟩
  else pz V0 b n ⟨q.val - 256, by omega⟩ * (if h' : q.val - 256 < 384 then convR V0 b n ⟨q.val - 256, h'⟩ else convC V0 b n ⟨q.val - 256 - 384, by omega⟩)

theorem r125_at (b : Fin 20) (n : Fin 2048) (k : Fin 1024) : (res_main_v125 V0 : FVec Ideal S20x2048x1024 .f32) (ix3 b n k)
    = rX V0 (ix3 (up b) n k) + rM V0 (ix3 (up b) 2 k) * ∑ q, mixR V0 b n q * rO V0 (ix3 0 q k) := by
  unfold res_main_v125 res_main_v72 res_main_v95
  have e0 := r0_at V0 b n
  have e2 := r2_at V0 b
  have e28 : ∀ j, (res_main_v28 V0 : FVec Ideal S20x2048x256 .f32) (ix3 b n j) = gel (half (fun k => rY V0 (ix3 (up b) n k)) j) := fun j => (r28_at V0 b n j).trans (congrArg gel (r15_at V0 b n j))
  have e64 : ∀ q, (res_main_v64 V0 : FVec Ideal S20x2048x2304 .f32) (ix3 b n q) = pz V0 b n q := fun q => rfl
  have e65 := r65_at V0
  have e73 := r73_at V0 b
  have e96 := r96_at V0 b
  generalize res_main_v0 V0 = x0 at e0 ⊢
  generalize res_main_v2 V0 = x2 at e2 ⊢
  generalize res_main_v28 V0 = x28 at e28 ⊢
  generalize res_main_v64 V0 = x64 at e64 ⊢
  generalize res_main_v65 V0 = x65 at e65 ⊢
  generalize res_main_v73 V0 = x73 at e73 ⊢
  generalize res_main_v96 V0 = x96 at e96 ⊢
  pointwise [e0, e2, e28, e64, e65, e73, e96, mixR, glu, Ideal.logistic, convR, convC]

/-- The reference's second result, of its first. -/
def h2R (x : FVec Ideal S20x2048x1024 .f32) : FVec Ideal S20x2048x1024 .f32 :=
  addf (mulf (mulf (mulf x (broadcastInDim S20x2048x1024 ![0, 1, 2] bcast_S20x2048x1_S20x2048x1024_0_1_2 (Host.rsqrt (addf (Host.divf (broadcastInDim S20x2048x1 ![0, 1] bcast_S20x2048_S20x2048x1_0_1 (Host.reduceAdd (mulf x x) (constant S_ .f32 0x00000000#32) reducesTo_S20x2048x1024_S20x2048_d2 h_S_)) (broadcastInDim S20x2048x1 ![] bcast_S_S20x2048x1 (constant S_ .f32 0x44800000#32))) (broadcastInDim S20x2048x1 ![] bcast_S_S20x2048x1 (constant S_ .f32 0x358637BD#32)))))) (broadcastInDim S20x2048x1024 ![0, 1, 2] bcast_S1x1x1024_S20x2048x1024_0_1_2 (broadcastInDim S1x1x1024 ![2] bcast_S1024_S1x1x1024_2 (shapeCast _ (V0 (Proc.devRef .tc main_arg4)) shapeCasts_S1x1024_S1024)))) (broadcastInDim S20x2048x1024 ![0, 1, 2] bcast_S20x1x1024_S20x2048x1024_0_1_2 (addf (broadcastInDim S20x1x1024 ![] bcast_S_S20x1x1024 (constant S_ .f32 0x3F800000#32)) (extractStridedSlice S20x1x1024 ![0, 4, 0] (res_main_v2 V0) slices_S20x6x1024_S20x1x1024_0_4_0)))) (broadcastInDim S20x2048x1024 ![0, 1, 2] bcast_S20x1x1024_S20x2048x1024_0_1_2 (extractStridedSlice S20x1x1024 ![0, 3, 0] (res_main_v2 V0) slices_S20x6x1024_S20x1x1024_0_3_0))

theorem h2R_at (x : FVec Ideal S20x2048x1024 .f32) (b : Fin 20) (n : Fin 2048) (k : Fin 1024) : h2R V0 x (ix3 b n k)
    = modded (fun k => x (ix3 b n k)) (fun k => rG2 V0 (ix2 0 k)) (fun k => rM V0 (ix3 (up b) 3 k)) (fun k => rM V0 (ix3 (up b) 4 k)) k := by
  unfold h2R
  have e2 := r2_at V0 b
  generalize res_main_v2 V0 = mm at e2 ⊢
  pointwise [modded, Final.inv, e2, mul_assoc]
  first | done | rfl

end Cert.Proof.Mix

end
-- ==== Proof.Mix.Same.lean ====
/-
  The reference's mixers on the call's arguments are what the call leaves.
-/
module

public import proofs.«01_k».proof.Proof.Mix.Host
public import proofs.«01_k».proof.Proof.Mix.Reference

@[expose] public section

set_option maxRecDepth 16384

noncomputable section

namespace Cert.Proof.Mix

open Idealize.ShloMosaic Idealize.ShloMosaic.TcCoe Idealize.SL.Sem
open Cert.Proof.Front (modded)

variable (m : (ℓ : Loc Cert.MixIdeal.nD Cert.MixIdeal.τ Cert.MixIdeal.sig) → Buf (Elt Ideal) ℓ) (c : Dev Cert.MixIdeal.nD)
variable (V0 : Valuation Cert.MixersIdeal.τ Cert.MixersIdeal.sig (Elt Ideal))
variable (h0 : rX V0 = aX m c) (h1 : rY V0 = aY m c) (h2 : rM V0 = aM m c) (h3 : rG V0 = aG m c) (h4 : rG2 V0 = aG2 m c)
  (h5 : rT V0 = aT m c) (h6 : rW V0 = aW m c) (h7 : rU V0 = aU m c) (h8 : rB V0 = aB m c) (h9 : rO V0 = aO m c)

theorem colR_lo (j : Fin 384) : (colR (lo j)).val = 1024 + j.val := congrArg Fin.val (dif_pos (c := (lo j).val < 384) j.isLt)
theorem colC_lo (j : Fin 384) : (colC (lo j)).val = 1408 + j.val := congrArg Fin.val (dif_pos (c := (lo j).val < 384) j.isLt)
theorem colR_hi (j : Fin 384) : (colR (hi j)).val = 1792 + j.val :=
  (congrArg Fin.val (dif_neg (c := (hi j).val < 384) (by show ¬ 384 + j.val < 384; omega))).trans (by show 1792 + (384 + j.val - 384) = 1792 + j.val; omega)
theorem colC_hi (j : Fin 384) : (colC (hi j)).val = 2176 + j.val :=
  (congrArg Fin.val (dif_neg (c := (hi j).val < 384) (by show ¬ 384 + j.val < 384; omega))).trans (by show 2176 + (384 + j.val - 384) = 2176 + j.val; omega)

section
variable (b : Fin 20) (n : Fin 2048)

include h0 h2 h3 in
theorem hid_eq : modded (fun k => rX V0 (ix3 (up b) n k)) (fun k => rG V0 (ix2 0 k)) (fun k => rM V0 (ix3 (up b) 0 k)) (fun k => rM V0 (ix3 (up b) 1 k))
    = (seqPar m c (up b)).hid n.val := by
  rw [h0, h2, h3]
  show _ = modded (seqX m c (up b) n.val) (fun k => aG m c (ix2 0 k)) (fun k => aM m c (ix3 (up b) 0 k)) (fun k => aM m c (ix3 (up b) 1 k))
  rw [funext (seqX_at m c (up b) n)]

include h0 h2 h3 h6 in
theorem pz_at (q : Fin 2304) : pz V0 b n q = ∑ k, (seqPar m c (up b)).hid n.val k * aW m c (ix3 0 k ⟨256 + q.val, by omega⟩) := by
  refine (r64_at V0 b n q).trans ?_
  rw [hid_eq m c V0 h0 h2 h3 b n, h6]

include h0 h2 h3 h6 in
theorem pz_to (q : Fin 2304) (q' : Fin 2560) (e : 256 + q.val = q'.val) : pz V0 b n q = ∑ k, (seqPar m c (up b)).hid n.val k * aW m c (ix3 0 k q') :=
  (pz_at m c V0 h0 h2 h3 h6 b n q).trans (congrArg (fun q => ∑ k, (seqPar m c (up b)).hid n.val k * aW m c (ix3 0 k q)) (Fin.ext e))

include h0 h2 h3 h6 in
theorem pv_lo (j : Fin 384) : pv V0 b n ⟨j.val, by omega⟩ = (seqPar m c (up b)).cr n.val j := by
  unfold pv
  rw [pz_to m c V0 h0 h2 h3 h6 b n _ (colR (lo j)) (by rw [colR_lo]; show 256 + (768 + j.val) = _; omega),
    pz_to m c V0 h0 h2 h3 h6 b n _ (colR (hi j)) (by rw [colR_hi]; show 256 + (1536 + j.val) = _; omega)]
  rfl

include h0 h2 h3 h6 in
theorem pv_hi (j : Fin 384) : pv V0 b n ⟨384 + j.val, by omega⟩ = (seqPar m c (up b)).cc n.val j := by
  unfold pv
  rw [pz_to m c V0 h0 h2 h3 h6 b n _ (colC (lo j)) (by rw [colC_lo]; show 256 + (768 + (384 + j.val)) = _; omega),
    pz_to m c V0 h0 h2 h3 h6 b n _ (colC (hi j)) (by rw [colC_hi]; show 256 + (1536 + (384 + j.val)) = _; omega)]
  rfl

theorem sum3 {a b c a' b' c' x y z x' y' z' : EReal} (ha : a = a') (hx : x = x') (hb : b = b') (hy : y = y') (hc : c = c') (hz : z = z') :
    a * x + b * y + c * z = a' * x' + b' * y' + c' * z' := by rw [ha, hb, hc, hx, hy, hz]

include h0 h2 h3 h5 h6 in
theorem convR_eq (j : Fin 384) : convR V0 b n j = (seqPar m c (up b)).rowPart n.val j := by
  unfold convR Par.rowPart
  refine sum3 ?_ (congrFun h5 _) ?_ (congrFun h5 _) ?_ (congrFun h5 _)
  · by_cases h : n.val % 64 = 0
    · rw [dif_neg (by omega), if_pos h]
    · rw [dif_pos (by omega), if_neg h, pv_lo m c V0 h0 h2 h3 h6]
      exact congrArg (fun n => (seqPar m c (up b)).cr n j) (by show n.val / 64 * 64 + (n.val % 64 - 1) = n.val - 1; omega)
  · rw [dif_pos (by omega), pv_lo m c V0 h0 h2 h3 h6]
    exact congrArg (fun n => (seqPar m c (up b)).cr n j) (by show n.val / 64 * 64 + n.val % 64 = n.val; omega)
  · by_cases h : n.val % 64 = 63
    · rw [dif_neg (by omega), if_pos h]
    · rw [dif_pos (by omega), if_neg h, pv_lo m c V0 h0 h2 h3 h6]
      exact congrArg (fun n => (seqPar m c (up b)).cr n j) (by show n.val / 64 * 64 + (2 + n.val % 64 - 1) = n.val + 1; omega)

include h0 h2 h3 h5 h6 in
theorem convC_eq (j : Fin 384) : convC V0 b n j = (seqPar m c (up b)).colPart n.val j := by
  unfold convC Par.colPart
  refine sum3 ?_ (congrFun h5 _) ?_ (congrFun h5 _) ?_ (congrFun h5 _)
  · by_cases h : n.val < 64
    · rw [dif_neg (by omega), if_pos h]
    · rw [dif_pos (by omega), if_neg h, pv_hi m c V0 h0 h2 h3 h6]
      exact congrArg (fun n => (seqPar m c (up b)).cc n j) (by show (n.val / 64 - 1) * 64 + n.val % 64 = n.val - 64; omega)
  · rw [dif_pos (by omega), pv_hi m c V0 h0 h2 h3 h6]
    exact congrArg (fun n => (seqPar m c (up b)).cc n j) (by show n.val / 64 * 64 + n.val % 64 = n.val; omega)
  · by_cases h : 1984 ≤ n.val
    · rw [dif_neg (by omega), if_pos h]
    · rw [dif_pos (by omega), if_neg h, pv_hi m c V0 h0 h2 h3 h6]
      exact congrArg (fun n => (seqPar m c (up b)).cc n j) (by show (2 + n.val / 64 - 1) * 64 + n.val % 64 = n.val + 64; omega)

include h1 h7 h8 in
theorem unit_eq (j : Fin 256) : glu (fun j => gel (half (fun k => rY V0 (ix3 (up b) n k)) j)) (fun k q => rU V0 (ix3 0 k q)) (fun q => rB V0 (ix2 0 q)) j
    = (seqPar m c (up b)).unit n.val j := by
  rw [h1, h7, h8]
  show _ = glu (fun k => gel (half (seqY m c (up b) n.val) k)) (fun k q => aU m c (ix3 0 k q)) (fun q => aB m c (ix2 0 q)) j
  rw [funext (seqY_at m c (up b) n)]

include h0 h1 h2 h3 h5 h6 h7 h8 in
theorem mixR_eq (q : Fin 1024) : mixR V0 b n q = (seqPar m c (up b)).mixed n.val q := by
  unfold mixR Par.mixed
  by_cases h : q.val < 256
  · rw [dif_pos h, dif_pos h]
    exact unit_eq m c V0 h1 h7 h8 b n ⟨q.val, h⟩
  rw [dif_neg h, dif_neg h]
  by_cases h' : q.val < 640
  · rw [dif_pos (by omega), dif_pos h', convR_eq m c V0 h0 h2 h3 h5 h6]
    exact congrArg (fun x => x * (seqPar m c (up b)).rowPart n.val ⟨q.val - 256, by omega⟩) (pz_to m c V0 h0 h2 h3 h6 b n _ ⟨256 + (q.val - 256), by omega⟩ rfl)
  · rw [dif_neg (by omega), dif_neg h', convC_eq m c V0 h0 h2 h3 h5 h6]
    have e : (⟨q.val - 256 - 384, by omega⟩ : Fin 384) = ⟨q.val - 640, by omega⟩ := Fin.ext (by show q.val - 256 - 384 = q.val - 640; omega)
    rw [e]
    exact congrArg (fun x => x * (seqPar m c (up b)).colPart n.val ⟨q.val - 640, by omega⟩) (pz_to m c V0 h0 h2 h3 h6 b n _ ⟨256 + (384 + (q.val - 640)), by omega⟩ (by show 256 + (q.val - 256) = 256 + (384 + (q.val - 640)); omega))

include h0 h1 h2 h3 h5 h6 h7 h8 h9 in
theorem x1_same (k : Fin 1024) : (Cert.MixersIdeal.Value.res_main_v125 V0 : FVec Ideal Cert.MixersIdeal.S20x2048x1024 .f32) (ix3 b n k) = tokR m c (up b) n k := by
  refine (r125_at V0 b n k).trans ?_
  rw [funext (mixR_eq m c V0 h0 h1 h2 h3 h5 h6 h7 h8 b n), h0, h2, h9]
  show _ = seqX m c (up b) n.val k + aM m c (ix3 (up b) 2 k) * ∑ q, (seqPar m c (up b)).mixed n.val q * aO m c (ix3 0 q k)
  rw [seqX_at]

include h0 h1 h2 h3 h4 h5 h6 h7 h8 h9 in
theorem h2_same (k : Fin 1024) : h2R V0 (Cert.MixersIdeal.Value.res_main_v125 V0) (ix3 b n k) = modR m c (up b) n k := by
  refine (h2R_at V0 _ b n k).trans ?_
  rw [funext (x1_same m c V0 h0 h1 h2 h3 h5 h6 h7 h8 h9 b n), h2, h4]
  rfl

end

end Cert.Proof.Mix

end
-- ==== Proof.Moe.Kit.lean ====
/-
  The experts' call: what its proof is stated over. The contents of the buffers when the region is entered, the host
  lines around the region, the four tables read off the launch memory, each window's block at a grid point, and the
  memrefs the pipeline hands the body there. Nothing here depends on whether the body computes at a point.
-/
module

public import proofs.«01_k».proof.Proof.Gen.MoeIdeal
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1].map StableHlo.seq)) :=
  Pipeline.hmainP_around pcfgs 0 defs₀ 𝒱₀ m main [hostOps0] [hostOps1, hostOps1_1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1, hostOps1_1] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline (each writes only its own result buffer, which is no array). -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S104 .i32 := Memref.whole main_arg1
abbrev htbM0_0 : tbM0_0.IsWhole := Memref.isWhole_whole _
abbrev tbM0_1 : Memref sig .tc .smem S104 .i32 := Memref.whole main_arg2
abbrev htbM0_1 : tbM0_1.IsWhole := Memref.isWhole_whole _
abbrev tbM0_2 : Memref sig .tc .smem S104 .i32 := Memref.whole main_v3
abbrev htbM0_2 : tbM0_2.IsWhole := Memref.isWhole_whole _
abbrev tbM0_3 : Memref sig .tc .smem S104 .i32 := Memref.whole main_v7
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg4 = m ((c : Thread nD τ).loc main_arg4) := by
  unfold Pipeline.afterTail
  rw [StableHlo.after_of_forall_not_mem (b := Proc.devRef .tc main_arg4) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg5 = m ((c : Thread nD τ).loc main_arg5) := by
  unfold Pipeline.afterTail
  rw [StableHlo.after_of_forall_not_mem (b := Proc.devRef .tc main_arg5) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg6 = m ((c : Thread nD τ).loc main_arg6) := by
  unfold Pipeline.afterTail
  rw [StableHlo.after_of_forall_not_mem (b := Proc.devRef .tc main_arg6) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_MoeIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c))⟩) h

/-! ## The kernel body on any staging memrefs: a subtype the run finds -/

/-- One staging buffer of output window 7, through which its contents are stated (`View.read_writes_of_cover`: the
    choice does not matter). -/
abbrev VO0_7 : View sig .tc .vmem S512x1024 .bf16 := (Memref.whole cc0_stg7_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x640 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1024 .bf16 := spec0_7.stage ((cfgM m hO).slots t 7)
abbrev hs0_7 (hO : Ok m) (t : Fin (cfgM m hO).N) : (ms0_7 m hO t).IsWhole := hstage0_7 (((cfgM m hO).slots t 7).cast nbuf0_7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe (grid0.coords t) (Memref.whole main_arg1) (Memref.isWhole_whole _) (Memref.whole main_arg2) (Memref.isWhole_whole _) (Memref.whole main_v3) (Memref.isWhole_whole _) (Memref.whole main_v7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end Cert.Proof.Moe

end
-- ==== Proof.Moe.Used.lean ====
/-
  The experts' body at one grid point, run once with its condition true and once with it false. At a used tile it reads
  its inputs' blocks and stores the two column halves of the output block; at an unused tile it stores nothing.
-/
module

public import proofs.«01_k».proof.Proof.Moe.Kit

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the third table at a grid point, as the body loads it. -/
abbrev tabWord (c : Dev nD) (i : grid0.Coords) (xt2 : TbBuf0 (F := F) c tbM0_2) : BitVec 32 :=
  xt2 ((Rect.unit (s := S104) (k0_off1 i) S1.size (k0_off1_inb i)).emb (Shape.Idx.first (numel1_S1.symm ▸ Nat.one_pos)))

set_option maxHeartbeats 1000000 in
/-- At a used tile, whatever the output's buffer held: the body runs to the end, hands every input's buffer back as it
    was, and leaves the output's buffer with the pieces its stores wrote. The pieces are found by the run. -/
noncomputable def runUsed (c : Dev nD) (i : grid0.Coords) (arg5 : Memref sig .tc .vmem S512x640 .i32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .bf16) (harg12 : arg12.IsWhole)
    (x0 : Vec F S512x640 .i32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3)
    (hc : k0_cond1 (tabWord c i xt2) = 1#1) :
    { L7 : List (View.Piece (Elt F) S512x1024 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    simp only [cc0_moe_eq_skeleton]; unfold cc0_moe_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HT0]; · iexact HT0
    isplitl [HT1]; · iexact HT1
    isplitl [HT2]; · iexact HT2
    iexact HT3

end Cert.Proof.Moe

end
-- ==== Proof.Moe.Unused.lean ====
/-
  The experts' body at a grid point whose tile is unused: it stores nothing.
-/
module

public import proofs.«01_k».proof.Proof.Moe.Used

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At an unused tile the body reads its word of the third table and stops. -/
theorem runUnused (c : Dev nD) (i : grid0.Coords) (arg5 : Memref sig .tc .vmem S512x640 .i32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .bf16) (harg12 : arg12.IsWhole)
    (xt2 : TbBuf0 (F := F) c tbM0_2) (hc : ¬ k0_cond1 (tabWord c i xt2) = 1#1) (E : Set ℕ) (K : PUnit → sProp 𝕄) :
    iprop(tbPt0 c tbM0_2 xt2 ∗ (tbPt0 c tbM0_2 xt2 -∗ K ⟨⟩))
      ⊢ wp frame (wpE (defs₀ (F := F)) Variants.none c none) E (cc0_moe i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0_moe_eq_skeleton]; unfold cc0_moe_skel
  iintro ⟨HT2, Hk⟩
  sl_exec
  sl_step
  iapply Hk
  iexact HT2

end Cert.Proof.Moe

end
-- ==== Proof.Moe.Launch.lean ====
/-
  The experts' launch. The tables say which tiles are used and which block each grid point reads and writes; over the
  used tiles the body computes its block, over the others it does nothing and the output's buffer keeps the last used
  tile's block until the pipeline writes it back. So every run terminates, with the arguments unchanged, and the output
  array ends at the blocks the used tiles computed.
-/
module

public import proofs.«01_k».proof.Proof.Moe.Unused
public import Idealize.ShloMosaic.Lib.Claim

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two column halves a used tile's run stores cover the output block. -/
theorem used_cover (c : Dev nD) (i : grid0.Coords) (arg5 : Memref sig .tc .vmem S512x640 .i32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .bf16) (harg12 : arg12.IsWhole)
    (x0 : Vec F S512x640 .i32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc : k0_cond1 (tabWord c i xt2) = 1#1) (y : S512x1024.Idx) :
    ∃ pc ∈ (runUsed c i arg5 harg5 arg6 harg6 arg7 harg7 arg8 harg8 arg9 harg9 arg10 harg10 arg11 harg11 arg12 harg12 x0 x1 x2 x3 x4 x5 x6 xt0 xt1 xt2 xt3 hc).1, y ∈ pc.1.set :=
  View.cover_of_tiledL (runUsed c i arg5 harg5 arg6 harg6 arg7 harg7 arg8 harg8 arg9 harg9 arg10 harg10 arg11 harg11 arg12 harg12 x0 x1 x2 x3 x4 x5 x6 xt0 xt1 xt2 xt3 hc).1 S512x512.size (by sl_kernel_rfl) y

/-- The output block a used tile's run leaves at grid point `t`. At an unused tile nothing is said of it. -/
def outAt (hO : Ok m) (c : Dev nD) (t : Fin (cfgM m hO).N) : Vec F S512x1024 .bf16 :=
  if hc : k0_cond1 (tabWord c (grid0.coords t) (tbl m 2)) = 1#1 then
    VO0_7.read (Elt F) (VO0_7.writes (Elt F) VO0_7.junk (runUsed c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) hc).1)
  else VO0_7.read (Elt F) VO0_7.junk

/-- The last used tile at or before grid point `t`, of `nv` used tiles. -/
abbrev lastUsed (hO : Ok m) (nv : ℕ) (t : Fin (cfgM m hO).N) : Fin (cfgM m hO).N :=
  ⟨min t.val (nv - 1), lt_of_le_of_lt (min_le_left _ _) t.isLt⟩

/-- What the tables say, of `nv` used tiles: the third marks exactly the first `nv`, and the output's block at a grid
    point is that of the last used tile. -/
structure Plan (hO : Ok m) (nv : ℕ) : Prop where
  pos : 0 < nv
  le : nv ≤ (cfgM m hO).N
  used : ∀ (c : Dev nD) (t : Fin (cfgM m hO).N), k0_cond1 (tabWord (F := F) c (grid0.coords t) (tbl m 2)) = 1#1 ↔ t.val < nv
  blk : ∀ t : Fin (cfgM m hO).N, ((cfgM m hO).win 7).index t = ![min t.val (nv - 1), 0]

/-- The pipeline's proof data: an input's buffer holds its block at every point, the output's that of the last used
    tile. -/
def dats (hO : Ok m) (nv : ℕ) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c (lastUsed m hO nv t)
  Φ _ := iprop(Pipeline.ΦA spec0 c ∗ Pipeline.ΦT pre0 (tbl m) c)
  q w := Pipeline.shareOf spec0 w
  owed _ := 0

theorem A_eq (hO : Ok m) (nv : ℕ) (c : Dev nD) (w : Fin (cfgM m hO).W) : (dats m hO nv 0 c).A w = V m c (Pipeline.arrRef spec0 w) := by
  dsimp only [dats]

theorem after0_0 (hO : Ok m) (nv : ℕ) (c : Dev nD) (t : Fin (cfgM m hO).N) : (dats m hO nv 0 c).after 0 t = iblk m hO c 0 t := by dsimp only [dats]; try rfl
theorem after0_1 (hO : Ok m) (nv : ℕ) (c : Dev nD) (t : Fin (cfgM m hO).N) : (dats m hO nv 0 c).after 1 t = iblk m hO c 1 t := by dsimp only [dats]; try rfl
theorem after0_2 (hO : Ok m) (nv : ℕ) (c : Dev nD) (t : Fin (cfgM m hO).N) : (dats m hO nv 0 c).after 2 t = iblk m hO c 2 t := by dsimp only [dats]; try rfl
theorem after0_3 (hO : Ok m) (nv : ℕ) (c : Dev nD) (t : Fin (cfgM m hO).N) : (dats m hO nv 0 c).after 3 t = iblk m hO c 3 t := by dsimp only [dats]; try rfl
theorem after0_4 (hO : Ok m) (nv : ℕ) (c : Dev nD) (t : Fin (cfgM m hO).N) : (dats m hO nv 0 c).after 4 t = iblk m hO c 4 t := by dsimp only [dats]; try rfl
theorem after0_5 (hO : Ok m) (nv : ℕ) (c : Dev nD) (t : Fin (cfgM m hO).N) : (dats m hO nv 0 c).after 5 t = iblk m hO c 5 t := by dsimp only [dats]; try rfl
theorem after0_6 (hO : Ok m) (nv : ℕ) (c : Dev nD) (t : Fin (cfgM m hO).N) : (dats m hO nv 0 c).after 6 t = iblk m hO c 6 t := by dsimp only [dats]; try rfl
theorem after0_7 (hO : Ok m) (nv : ℕ) (c : Dev nD) (t : Fin (cfgM m hO).N) : (dats m hO nv 0 c).after 7 t = outAt m hO c (lastUsed m hO nv t) := by dsimp only [dats]; try rfl

theorem before0_0 (hO : Ok m) (nv : ℕ) (c : Dev nD) (t : Fin (cfgM m hO).N) (d) : (dats m hO nv 0 c).before 0 t d = iblk m hO c 0 t :=
  before0_0_of m hO (dats m hO nv 0 c) (A_eq m hO nv c 0) (after0_0 m hO nv c) t d
theorem before0_1 (hO : Ok m) (nv : ℕ) (c : Dev nD) (t : Fin (cfgM m hO).N) (d) : (dats m hO nv 0 c).before 1 t d = iblk m hO c 1 t :=
  before0_1_of m hO (dats m hO nv 0 c) (A_eq m hO nv c 1) (after0_1 m hO nv c) t d
theorem before0_2 (hO : Ok m) (nv : ℕ) (c : Dev nD) (t : Fin (cfgM m hO).N) (d) : (dats m hO nv 0 c).before 2 t d = iblk m hO c 2 t :=
  before0_2_of m hO (dats m hO nv 0 c) (A_eq m hO nv c 2) (after0_2 m hO nv c) t d
theorem before0_3 (hO : Ok m) (nv : ℕ) (c : Dev nD) (t : Fin (cfgM m hO).N) (d) : (dats m hO nv 0 c).before 3 t d = iblk m hO c 3 t :=
  before0_3_of m hO (dats m hO nv 0 c) (A_eq m hO nv c 3) (after0_3 m hO nv c) t d
theorem before0_4 (hO : Ok m) (nv : ℕ) (c : Dev nD) (t : Fin (cfgM m hO).N) (d) : (dats m hO nv 0 c).before 4 t d = iblk m hO c 4 t :=
  before0_4_of m hO (dats m hO nv 0 c) (A_eq m hO nv c 4) (after0_4 m hO nv c) t d
theorem before0_5 (hO : Ok m) (nv : ℕ) (c : Dev nD) (t : Fin (cfgM m hO).N) (d) : (dats m hO nv 0 c).before 5 t d = iblk m hO c 5 t :=
  before0_5_of m hO (dats m hO nv 0 c) (A_eq m hO nv c 5) (after0_5 m hO nv c) t d
theorem before0_6 (hO : Ok m) (nv : ℕ) (c : Dev nD) (t : Fin (cfgM m hO).N) (d) : (dats m hO nv 0 c).before 6 t d = iblk m hO c 6 t :=
  before0_6_of m hO (dats m hO nv 0 c) (A_eq m hO nv c 6) (after0_6 m hO nv c) t d

/-! ## The output's buffer over the grid -/

theorem atD_eq (i : grid0.Coords) : (tbl m).atD 2 (k0_off1 i) = tabWord (F := F) (0 : Dev nD) i (tbl m 2) :=
  have h : ∀ a, k0_off1 i a + 1 ≤ S104.size a := fun a => by fin_cases a; exact k0_off1_inb i 0
  (dif_pos h).trans (congrArg (tbl m 2) (funext fun a => Fin.ext (by
    show k0_off1 i a = k0_off1 i a + 1 * 0
    omega)))

/-- The body computes at a point exactly when its tile is used. -/
theorem idle_eq (hO : Ok m) (t : Fin (cfgM m hO).N) :
    (cfgM m hO).idle 7 ((cfgM m hO).grid.coords t) = !(k0_cond1 (tabWord (F := F) (0 : Dev nD) (grid0.coords t) (tbl m 2)) == 1#1) := by
  show (!(k0_cond1 ((tbl m).atD 2 (k0_off1 (grid0.coords t))) == 1#1)) = _
  rw [atD_eq]

theorem idle_used {hO : Ok m} {nv : ℕ} (P : Plan m hO nv) (t : Fin (cfgM m hO).N) (h : t.val < nv) :
    (cfgM m hO).idle 7 ((cfgM m hO).grid.coords t) = false := by
  rw [idle_eq, (P.used 0 t).2 h]; rfl

theorem idle_unused {hO : Ok m} {nv : ℕ} (P : Plan m hO nv) (t : Fin (cfgM m hO).N) (h : ¬ t.val < nv) :
    (cfgM m hO).idle 7 ((cfgM m hO).grid.coords t) = true := by
  rw [idle_eq]
  simp only [Bool.not_eq_true', beq_eq_false_iff_ne, ne_eq]
  exact fun e => h ((P.used 0 t).1 e)

/-- Once the used tiles are over, every later point finds the last one's block in the output's buffer: none of them
    stores into it, and it is not written back before the last. -/
theorem before_unused {hO : Ok m} {nv : ℕ} (P : Plan m hO nv) (c : Dev nD) (d) :
    ∀ (n : ℕ) (hn : n < (cfgM m hO).N), nv ≤ n →
      (dats m hO nv 0 c).before 7 ⟨n, hn⟩ d = (dats m hO nv 0 c).after 7 ⟨n, hn⟩ := by
  intro n
  induction n with
  | zero => intro hn h; have := P.pos; omega
  | succ n ih =>
    intro hn h
    have hn' : n < (cfgM m hO).N := Nat.lt_of_succ_lt hn
    have hfl : ((cfgM m hO).win 7).flush ⟨n, hn'⟩ = false := by
      unfold Pipeline.Window.flush
      have hi : ((cfgM m hO).win 7).index ⟨n + 1, hn⟩ = ((cfgM m hO).win 7).index ⟨n, hn'⟩ := by
        rw [P.blk, P.blk]
        have e : min (n + 1) (nv - 1) = min n (nv - 1) := by omega
        show (![min (n + 1) (nv - 1), 0] : Fin 2 → ℕ) = ![min n (nv - 1), 0]
        rw [e]
      simp only [Bool.and_eq_false_iff, Bool.or_eq_false_iff, decide_eq_false_iff_not]
      right
      refine ⟨by show ¬ n + 1 = (cfgM m hO).N; omega, ?_⟩
      rintro ⟨_, hne⟩; exact hne hi
    have e7 : (dats m hO nv 0 c).after 7 ⟨n + 1, hn⟩ = (dats m hO nv 0 c).after 7 ⟨n, hn'⟩ := by
      rw [after0_7, after0_7]; congr 1; apply Fin.ext
      show min (n + 1) (nv - 1) = min n (nv - 1); omega
    rw [Pipeline.Dat.before_of_pos _ 7 ⟨n + 1, hn⟩ (Nat.succ_ne_zero n) rfl d, e7]
    show (if ((cfgM m hO).win 7).flush ⟨n, _⟩ then d else (dats m hO nv 0 c).left 7 ⟨n, _⟩ d) = _
    rw [if_neg (by rw [hfl]; exact Bool.false_ne_true)]
    unfold Pipeline.Dat.left
    by_cases hu : n < nv
    · rw [idle_used m P ⟨n, hn'⟩ hu]; rfl
    · rw [idle_unused m P ⟨n, hn'⟩ hu]; exact ih hn' (by omega)

/-! ## The body obligation -/

/-- What the body is called with at point `t`, window by window, -/
def bodyPre (hO : Ok m) (nv : ℕ) (c : Dev nD) (t : Fin (cfgM m hO).N) : sProp 𝕄 :=
  iprop((dats m hO nv 0 c).Φ t.castSucc ∗ (dats m hO nv 0 c).owesAt () t.castSucc
    ∗ (∃ d, owns (c : Thread nD τ) (ms0_0 m hO t) fullShare ((dats m hO nv 0 c).before 0 t d))
    ∗ (∃ d, owns (c : Thread nD τ) (ms0_1 m hO t) fullShare ((dats m hO nv 0 c).before 1 t d))
    ∗ (∃ d, owns (c : Thread nD τ) (ms0_2 m hO t) fullShare ((dats m hO nv 0 c).before 2 t d))
    ∗ (∃ d, owns (c : Thread nD τ) (ms0_3 m hO t) fullShare ((dats m hO nv 0 c).before 3 t d))
    ∗ (∃ d, owns (c : Thread nD τ) (ms0_4 m hO t) fullShare ((dats m hO nv 0 c).before 4 t d))
    ∗ (∃ d, owns (c : Thread nD τ) (ms0_5 m hO t) fullShare ((dats m hO nv 0 c).before 5 t d))
    ∗ (∃ d, owns (c : Thread nD τ) (ms0_6 m hO t) fullShare ((dats m hO nv 0 c).before 6 t d))
    ∗ (∃ d, owns (c : Thread nD τ) (ms0_7 m hO t) fullShare ((dats m hO nv 0 c).before 7 t d)))

/-- and what it returns: the output's buffer as the schedule asks of it there. -/
def bodyPost (hO : Ok m) (nv : ℕ) (c : Dev nD) (t : Fin (cfgM m hO).N) : sProp 𝕄 :=
  iprop((dats m hO nv 0 c).Φ t.succ ∗ (dats m hO nv 0 c).owesAt () t.succ
    ∗ owns (c : Thread nD τ) (ms0_0 m hO t) fullShare ((dats m hO nv 0 c).after 0 t)
    ∗ owns (c : Thread nD τ) (ms0_1 m hO t) fullShare ((dats m hO nv 0 c).after 1 t)
    ∗ owns (c : Thread nD τ) (ms0_2 m hO t) fullShare ((dats m hO nv 0 c).after 2 t)
    ∗ owns (c : Thread nD τ) (ms0_3 m hO t) fullShare ((dats m hO nv 0 c).after 3 t)
    ∗ owns (c : Thread nD τ) (ms0_4 m hO t) fullShare ((dats m hO nv 0 c).after 4 t)
    ∗ owns (c : Thread nD τ) (ms0_5 m hO t) fullShare ((dats m hO nv 0 c).after 5 t)
    ∗ owns (c : Thread nD τ) (ms0_6 m hO t) fullShare ((dats m hO nv 0 c).after 6 t)
    ∗ (dats m hO nv 0 c).leavesExact 7 t)

set_option maxHeartbeats 1600000 in
/-- The body at a used tile. -/
theorem body_used {hO : Ok m} {nv : ℕ} (P : Plan m hO nv) (c : Dev nD) (t : Fin (cfgM m hO).N) (h : t.val < nv) :
    bodyPre m hO nv c t ⊢ wp frame (wpE (defs₀ (F := F)) Variants.none c none) Set.univ (bodyAt0 (adm m hO) t) (fun _ => bodyPost m hO nv c t) := by
  have hc := (P.used c t).2 h
  have hl : (dats m hO nv 0 c).leavesExact 7 t = owns (c : Thread nD τ) (ms0_7 m hO t) fullShare (outAt m hO c t) := by
    unfold Pipeline.Dat.leavesExact
    rw [idle_used m P t h]
    show owns (c : Thread nD τ) (ms0_7 m hO t) fullShare ((dats m hO nv 0 c).after 7 t) = _
    rw [after0_7, show lastUsed m hO nv t = t from Fin.ext (by show min t.val (nv - 1) = t.val; omega)]
  unfold bodyPre bodyPost bodyAt0
  rw [hl]
  simp only [before0_0, before0_1, before0_2, before0_3, before0_4, before0_5, before0_6]
  rw [show (dats m hO nv 0 c).Φ t.succ = (dats m hO nv 0 c).Φ t.castSucc from rfl,
    show (dats m hO nv 0 c).owesAt () t.succ = (dats m hO nv 0 c).owesAt () t.castSucc from rfl,
    after0_0, after0_1, after0_2, after0_3, after0_4, after0_5, after0_6]
  rw [show (dats m hO nv 0 c).Φ t.castSucc = iprop(Pipeline.ΦA spec0 c ∗ Pipeline.ΦT pre0 (tbl m) c) from rfl, PhiT0_eq]
  rw [outAt, dif_pos hc]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runUsed c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (tbl m 3) hc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  isplitl [HT3]; · iexact HT3
  iintro ⟨H0, H1, H2, H3, H4, H5, H6, ⟨%e7, H7⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (used_cover c _ _ _ _ _ _ _ _ _ _ _ _ _ _ _ _ _ _ _ _ _ _ _ _ _ _ _ _ hc)

set_option maxHeartbeats 1600000 in
/-- The body at an unused tile: every buffer is handed back as it was found. -/
theorem body_unused {hO : Ok m} {nv : ℕ} (P : Plan m hO nv) (c : Dev nD) (t : Fin (cfgM m hO).N) (h : ¬ t.val < nv) :
    bodyPre m hO nv c t ⊢ wp frame (wpE (defs₀ (F := F)) Variants.none c none) Set.univ (bodyAt0 (adm m hO) t) (fun _ => bodyPost m hO nv c t) := by
  have hc : ¬ k0_cond1 (tabWord (F := F) c (grid0.coords t) (tbl m 2)) = 1#1 := fun e => h ((P.used c t).1 e)
  have hl : ∀ d7, (owns (c : Thread nD τ) (ms0_7 m hO t) fullShare ((dats m hO nv 0 c).before 7 t d7) : sProp 𝕄) ⊢ (dats m hO nv 0 c).leavesExact 7 t := by
    intro d7
    unfold Pipeline.Dat.leavesExact
    rw [idle_unused m P t h]
    cases hf : ((cfgM m hO).win 7).flush t
    · show (owns (c : Thread nD τ) (ms0_7 m hO t) fullShare ((dats m hO nv 0 c).before 7 t d7) : sProp 𝕄)
        ⊢ iprop(∃ d, owns (c : Thread nD τ) (ms0_7 m hO t) fullShare ((dats m hO nv 0 c).before 7 t d))
      iintro H; iexists d7; iexact H
    · show (owns (c : Thread nD τ) (ms0_7 m hO t) fullShare ((dats m hO nv 0 c).before 7 t d7) : sProp 𝕄)
        ⊢ owns (c : Thread nD τ) (ms0_7 m hO t) fullShare ((dats m hO nv 0 c).after 7 t)
      rw [before_unused m P c d7 t.val t.isLt (by omega)]
  unfold bodyPre bodyPost bodyAt0
  simp only [before0_0, before0_1, before0_2, before0_3, before0_4, before0_5, before0_6]
  rw [show (dats m hO nv 0 c).Φ t.succ = (dats m hO nv 0 c).Φ t.castSucc from rfl,
    show (dats m hO nv 0 c).owesAt () t.succ = (dats m hO nv 0 c).owesAt () t.castSucc from rfl,
    after0_0, after0_1, after0_2, after0_3, after0_4, after0_5, after0_6]
  rw [show (dats m hO nv 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runUnused c (grid0.coords t) _ _ _ _ _ _ _ _ _ _ _ _ _ _ _ _ (tbl m 2) hc Set.univ _)
  isplitl [HT2]; · iexact HT2
  iintro HT2
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  ihave H7 := (hl d7) $$ H7
  iexact H7

/-- The pipeline's body entry at point `t` is the body on the point's memrefs. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation {hO : Ok m} {nv : ℕ} (P : Plan m hO nv) (c : Dev nD) :
    BodyObligation (dats (F := F) m hO nv 0 c) (defs₀ (F := F)) Variants.none () Set.univ := fun t => by
  rw [bigSep_W0, bigSep_W0, defs₀_row m hO]
  by_cases h : t.val < nv
  · exact triple_restated (body_used m P c t h) rfl .rfl fun _ => .rfl
  · exact triple_restated (body_unused m P c t h) rfl .rfl fun _ => .rfl

/-! ## The run -/

set_option backward.isDefEq.respectTransparency.types false in
set_option maxHeartbeats 800000 in
/-- Every run of the program terminates with the pipeline's arrays at what the proof data says, every other buffer as
    the host lines after the call leave it, and every semaphore at zero. -/
theorem run_main {hO : Ok m} {nv : ℕ} (P : Plan m hO nv) : θ_run defs (onTc (τ := τ) (main (F := F))) (s₀ m ρ) (fun r => (Pipeline.FramePost (Pipeline.pin pcfgs fun _ => adm m hO) (dats m hO nv) 0 (Pipeline.afterTail pcfgs (fun _ => adm m hO) (dats m hO nv) 0 (V0 m) [hostOps1, hostOps1_1])) r ∧ r.2.sem = fun _ => 0) :=
  Pipeline.θ_run_frameP_around_shared (Q' := _) pcfgs (fun _ => adm m hO) (dats m hO nv) (0 : Fin 1) launch₀0 defs₀ Variants.none m ρ main
    (hbody := fun c => (body_obligation m P c).loose) (hq := fun _ _ _ => rfl)
    (howed := fun _ _ => rfl) (V₀ := V0 m) (opss := [hostOps1, hostOps1_1]) (hsub := sfx_sub) (hfresh := sfx_fresh) (hkeep := sfx_keeps)
    (hmain := hmain m Variants.none) (hA := A_eq m hO nv) (hpf := V_pre m) (hΦ := fun _ _ => rfl)

/-- Every run terminates with the arguments unchanged and every semaphore at zero. -/
theorem frame {hO : Ok m} {nv : ℕ} (P : Plan m hO nv) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO nv) (A_eq m hO nv) ((θ_run defs _ _).mono (fun _ h => h.1) (run_main m ρ P))) ((θ_run defs _ _).mono (fun _ h => h.2) (run_main m ρ P))

end Cert.Proof.Moe

end
-- ==== Proof.Moe.Host.lean ====
/-
  The experts' program around its call: what the host lines before it compute from the arguments, and the result from
  what the call leaves.
-/
module

public import proofs.«01_k».proof.Proof.Moe.Kit
public import Idealize.ShloMosaic.Lib.StableHlo.Run

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the call -/

/-- Which tiles are used: the tile's number is below the count. -/
def usedBits (c : Dev nD) : IVec S104 1 :=
  cmpi .slt (iotaInDim S104 32 0) (broadcastInDim S104 ![0] bcast_S1_S104_0 (m ((c : Thread nD τ).loc main_arg3)))

/-- Which block a tile's grid point reads and writes: its own, or past the used tiles the last used one's. -/
def blockWords (c : Dev nD) : IVec S104 32 :=
  minsi (iotaInDim S104 32 0) (broadcastInDim S104 ![0] bcast_S1_S104_0 (subi (m ((c : Thread nD τ).loc main_arg3))
    (broadcastInDim S1 ![] bcast_S_S1 (constantI S_ 32 1#32))))

theorem V_v2 (c : Dev nD) : V m c main_v2 = usedBits m c := by
  unfold V V0 usedBits
  simp only [hostOps0, List.flatten_cons, List.flatten_nil, List.append_nil]
  after_results_simp <;> rfl

theorem V_v3 (c : Dev nD) : V m c main_v3 = extui 32 (usedBits m c) natLt_1_32 := by
  unfold V V0 usedBits
  simp only [hostOps0, List.flatten_cons, List.flatten_nil, List.append_nil]
  after_results_simp <;> rfl

theorem V_v7 (c : Dev nD) : V m c main_v7 = blockWords m c := by
  unfold V V0 blockWords
  simp only [hostOps0, List.flatten_cons, List.flatten_nil, List.append_nil]
  after_results_simp <;> rfl

theorem V_v8 (c : Dev nD) : V m c main_v8 = truncf .bf16 (m ((c : Thread nD τ).loc main_arg4)) bitsLt_bf16_f32 := by
  unfold V V0
  simp only [hostOps0, List.flatten_cons, List.flatten_nil, List.append_nil]
  after_results_simp <;> rfl

theorem V_v9 (c : Dev nD) : V m c main_v9 = truncf .bf16 (m ((c : Thread nD τ).loc main_arg5)) bitsLt_bf16_f32 := by
  unfold V V0
  simp only [hostOps0, List.flatten_cons, List.flatten_nil, List.append_nil]
  after_results_simp <;> rfl

theorem V_v10 (c : Dev nD) : V m c main_v10 = truncf .bf16 (m ((c : Thread nD τ).loc main_arg6)) bitsLt_bf16_f32 := by
  unfold V V0
  simp only [hostOps0, List.flatten_cons, List.flatten_nil, List.append_nil]
  after_results_simp <;> rfl

/-! ## After it -/

/-- The result of the lines after the call, from the tiles' marks and the call's output array. -/
def finish (used : IVec S104 1) (y : FVec F S53248x1024 .bf16) : FVec F S53248x1024 .f32 :=
  select (broadcastInDim S53248x1024 ![0, 1] bcast_S53248x1_S53248x1024_0_1 (broadcastInDim S53248x1 ![0] bcast_S53248_S53248x1_0
      (shapeCast _ (broadcastInDim S104x512 ![0] bcast_S104_S104x512_0 used) shapeCasts_S104x512_S53248)))
    (extf .f32 y bitsLt_bf16_f32)
    (broadcastInDim S53248x1024 ![] bcast_S_S53248x1024 (constant S_ .f32 0x00000000#32))

theorem finish_eq (W : Valuation τ sig (Elt F)) :
    StableHlo.after (List.flatten [hostOps1, hostOps1_1]) W (Proc.devRef .tc main_v16)
      = finish (W (Proc.devRef .tc main_v2)) (W (Proc.devRef .tc main_v11)) := by
  unfold finish
  simp only [hostOps1, hostOps1_1, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.Proof.Moe

end
-- ==== Proof.Moe.Tables.lean ====
/-
  The experts' tables under the precondition: the expert numbers lie inside the weights, the first tiles up to the count
  are marked used, and every grid point's block is its own tile's or the last used tile's. So the blocks lie inside the
  arrays, and the launch runs as planned.
-/
module

public import proofs.«01_k».proof.Proof.Moe.Launch
public import proofs.«01_k».proof.Proof.Moe.Host
public import Idealize.ShloMosaic.Lib.StableHlo.Predicate

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three integer arguments -/

/-- Every tile's first expert, its second, and the number of used tiles, as launched. -/
abbrev eaW : IVec S104 32 := m (((0 : Dev nD) : Thread nD τ).loc main_arg1)
abbrev ebW : IVec S104 32 := m (((0 : Dev nD) : Thread nD τ).loc main_arg2)
abbrev nvW : IVec S1 32 := m (((0 : Dev nD) : Thread nD τ).loc main_arg3)

/-- The one index of the count. -/
abbrev one0 : S1.Idx := fun | ⟨0, _⟩ => ⟨0, Nat.one_pos⟩
/-- Tile `t` as an index of a table. -/
abbrev tix (t : Fin 104) : S104.Idx := fun | ⟨0, _⟩ => t

theorem one0_eq (i : S1.Idx) : i = one0 := by
  funext a; match a with
  | ⟨0, _⟩ => exact Fin.ext (by have := (i 0).isLt; change (i 0).val < 1 at this; change (i 0).val = 0; omega)
theorem tix_eq (i : S104.Idx) : i = tix (i 0) := by
  funext a; match a with | ⟨0, _⟩ => rfl

/-- The number of used tiles. -/
abbrev nv : ℕ := (nvW m one0).toNat

/-- What the precondition says of them. -/
structure InRange : Prop where
  ea : ∀ j, (eaW m j).toNat < 16
  eb : ∀ j, (ebW m j).toNat < 16
  pos : 0 < nv m
  le : nv m ≤ 104

/-! ## The tables' words -/

theorem usedBits_iff (h : InRange m) (j : S104.Idx) : usedBits m 0 j = 1#1 ↔ (j 0).val < nv m := by
  have hj : (j 0).val < 104 := (j 0).isLt
  have hn := h.le
  have e : usedBits m 0 j = IntOp.cmpi .slt (BitVec.ofNat 32 (j 0).val) (nvW m one0) := by
    unfold usedBits
    exact congrArg (fun i => IntOp.cmpi .slt (BitVec.ofNat 32 (j 0).val) (nvW m i)) (one0_eq _)
  have hl : (BitVec.ofNat 32 (j 0).val).toNat = (j 0).val := by rw [BitVec.toNat_ofNat]; exact Nat.mod_eq_of_lt (by omega)
  rw [e, Idealize.ShloMosaic.StableHlo.Predicate.slt_iff_toNat (by rw [hl]; omega) (by change nv m < _; omega), hl]

theorem blockWords_toNat (h : InRange m) (j : S104.Idx) : (blockWords m 0 j).toNat = min (j 0).val (nv m - 1) := by
  have hj : (j 0).val < 104 := (j 0).isLt
  have hn := h.le
  have hp := h.pos
  have e : blockWords m 0 j = IntOp.minsi (BitVec.ofNat 32 (j 0).val) (nvW m one0 - 1#32) := by
    unfold blockWords
    exact congrArg (fun i => IntOp.minsi (BitVec.ofNat 32 (j 0).val) (nvW m i - 1#32)) (one0_eq _)
  have hl : (BitVec.ofNat 32 (j 0).val).toNat = (j 0).val := by rw [BitVec.toNat_ofNat]; exact Nat.mod_eq_of_lt (by omega)
  have hr : (nvW m one0 - 1#32).toNat = nv m - 1 := by
    rw [BitVec.toNat_sub]; change (2 ^ 32 - 1 + nv m) % 2 ^ 32 = _; omega
  rw [e]
  have hs := Idealize.ShloMosaic.StableHlo.Predicate.slt_bool_iff_toNat (a := BitVec.ofNat 32 (j 0).val) (b := nvW m one0 - 1#32)
    (by rw [hl]; omega) (by rw [hr]; omega)
  rw [Idealize.ShloMosaic.StableHlo.Predicate.ofBool_eq_one_iff, hl, hr] at hs
  unfold IntOp.minsi
  split <;> rename_i hc
  · rw [hl]; have := hs.1 hc; omega
  · rw [hr]; have : ¬ (j 0).val < nv m - 1 := fun h' => hc (hs.2 h'); omega

theorem off1_val (i : grid0.Coords) : k0_off1 i 0 = (i 0).val := by
  have hi : (i 0).val < 104 := (i 0).isLt
  change (BitVec.ofNat 32 (i 0).val).toNat = _
  rw [BitVec.toNat_ofNat]; exact Nat.mod_eq_of_lt (by omega)

/-- The one element of a table a grid point reads is its own tile's. -/
theorem word_ix (i : grid0.Coords) (off : Fin 1 → ℕ) (ho : off = k0_off1 i) (hb : ∀ a, off a + S1.size a ≤ S104.size a) (h1 : 0 < (Rect.unit (s := S104) off S1.size hb).shape.numel) :
    (Rect.unit (s := S104) off S1.size hb).emb (Shape.Idx.first h1) = tix (i 0) := by
  subst ho
  funext a; match a with
  | ⟨0, _⟩ =>
    refine Fin.ext ?_
    change k0_off1 i 0 + 1 * (Shape.Idx.first h1 0).val = (i 0).val
    have h0 : (Shape.Idx.first h1 0).val < 1 := (Shape.Idx.first h1 0).isLt
    rw [off1_val]; omega

theorem tbl0 : (tbl m 0 : IVec S104 32) = eaW m := V_main_arg1 m 0
theorem tbl1 : (tbl m 1 : IVec S104 32) = ebW m := V_main_arg2 m 0
theorem tbl2 : (tbl m 2 : IVec S104 32) = extui 32 (usedBits m 0) natLt_1_32 := V_v3 m 0
theorem tbl3 : (tbl m 3 : IVec S104 32) = blockWords m 0 := V_v7 m 0

/-! ## The windows' blocks -/

theorem cc0_row0 (h : InRange m) (i : grid0.Coords) : cc0_transform_0 k0_off1_inb numel1_S1 (tbl m) i = ![min (i 0).val (nv m - 1), 0] := by
  have e : cc0_transform_0 k0_off1_inb numel1_S1 (tbl m) i = ![((tbl m 3 : IVec S104 32) (tix (i 0))).toNat, 0] := by
    unfold cc0_transform_0
    exact congrArg (fun x => ![((tbl m 3 : IVec S104 32) x).toNat, 0]) (word_ix i _ rfl _ _)
  rw [e, tbl3, blockWords_toNat m h]
theorem cc0_row7 (h : InRange m) (i : grid0.Coords) : cc0_transform_7 k0_off1_inb numel1_S1 (tbl m) i = ![min (i 0).val (nv m - 1), 0] := cc0_row0 m h i
theorem cc0_row1 (i : grid0.Coords) : cc0_transform_1 k0_off1_inb numel1_S1 (tbl m) i = ![(eaW m (tix (i 0))).toNat, 0, 0] := by
  have e : cc0_transform_1 k0_off1_inb numel1_S1 (tbl m) i = ![((tbl m 0 : IVec S104 32) (tix (i 0))).toNat, 0, 0] := by
    unfold cc0_transform_1
    exact congrArg (fun x => ![((tbl m 0 : IVec S104 32) x).toNat, 0, 0]) (word_ix i _ rfl _ _)
  rw [e, tbl0]
theorem cc0_row2 (i : grid0.Coords) : cc0_transform_2 k0_off1_inb numel1_S1 (tbl m) i = ![(eaW m (tix (i 0))).toNat, 0, 0] := cc0_row1 m i
theorem cc0_row3 (i : grid0.Coords) : cc0_transform_3 k0_off1_inb numel1_S1 (tbl m) i = ![(eaW m (tix (i 0))).toNat, 0, 0] := cc0_row1 m i
theorem cc0_row4 (i : grid0.Coords) : cc0_transform_4 k0_off1_inb numel1_S1 (tbl m) i = ![(ebW m (tix (i 0))).toNat, 0, 0] := by
  have e : cc0_transform_4 k0_off1_inb numel1_S1 (tbl m) i = ![((tbl m 1 : IVec S104 32) (tix (i 0))).toNat, 0, 0] := by
    unfold cc0_transform_4
    exact congrArg (fun x => ![((tbl m 1 : IVec S104 32) x).toNat, 0, 0]) (word_ix i _ rfl _ _)
  rw [e, tbl1]
theorem cc0_row5 (i : grid0.Coords) : cc0_transform_5 k0_off1_inb numel1_S1 (tbl m) i = ![(ebW m (tix (i 0))).toNat, 0, 0] := cc0_row4 m i
theorem cc0_row6 (i : grid0.Coords) : cc0_transform_6 k0_off1_inb numel1_S1 (tbl m) i = ![(ebW m (tix (i 0))).toNat, 0, 0] := cc0_row4 m i

/-! ## The blocks lie inside the arrays, and move in whole words -/

theorem whole2 (s : Shape) (hs : 2 ≤ s.rank) (size ix : Fin s.rank → ℕ) (hix : ∀ a, (ix a + 1) * size a ≤ s.size a) (p : ℕ)
    (h : p ∣ size (s.rowAx hs)) : (Rect.block (s := s) size ix hix).WholeWords p :=
  Or.inl (Or.inr ⟨hs, rfl, Or.inl ⟨Dvd.dvd.mul_left h _, h⟩⟩)

theorem ok (h : InRange m) : Ok m := by
  have hp := h.pos
  have hle := h.le
  have rowB (i : grid0.Coords) (n0 n1 b0 b1 : ℕ) (h0 : 104 * b0 ≤ n0) (h1 : b1 ≤ n1) :
      ∀ a : Fin 2, ((![min (i 0).val (nv m - 1), 0] : Fin 2 → ℕ) a + 1) * (![b0, b1] : Fin 2 → ℕ) a ≤ (![n0, n1] : Fin 2 → ℕ) a := by
    intro a
    have hi : (i 0).val < 104 := (i 0).isLt
    match a with
    | ⟨0, _⟩ => exact le_trans (Nat.mul_le_mul_right b0 (show min (i 0).val (nv m - 1) + 1 ≤ 104 by omega)) h0
    | ⟨1, _⟩ => change (0 + 1) * b1 ≤ n1; omega
  have exB (e n1 n2 : ℕ) (he : e < 16) :
      ∀ a : Fin 3, ((![e, 0, 0] : Fin 3 → ℕ) a + 1) * (![1, n1, n2] : Fin 3 → ℕ) a ≤ (![16, n1, n2] : Fin 3 → ℕ) a := by
    intro a
    match a with
    | ⟨0, _⟩ => change (e + 1) * 1 ≤ 16; omega
    | ⟨1, _⟩ => change (0 + 1) * n1 ≤ n1; omega
    | ⟨2, _⟩ => change (0 + 1) * n2 ≤ n2; omega
  refine ⟨fun i => ⟨?_, Or.inl rfl⟩, fun i => ⟨?_, Or.inr (whole2 _ (by decide) _ _ _ _ ?_)⟩,
    fun i => ⟨?_, Or.inr (whole2 _ (by decide) _ _ _ _ ?_)⟩, fun i => ⟨?_, Or.inr (whole2 _ (by decide) _ _ _ _ ?_)⟩,
    fun i => ⟨?_, Or.inr (whole2 _ (by decide) _ _ _ _ ?_)⟩, fun i => ⟨?_, Or.inr (whole2 _ (by decide) _ _ _ _ ?_)⟩,
    fun i => ⟨?_, Or.inr (whole2 _ (by decide) _ _ _ _ ?_)⟩, fun i => ⟨?_, Or.inr (whole2 _ (by decide) _ _ _ _ ?_)⟩⟩
  · rw [cc0_row0 m h]; exact rowB i 53248 640 512 640 (by decide) le_rfl
  · rw [cc0_row1 m]; exact exB _ 1024 512 (h.ea _)
  · decide
  · rw [cc0_row2 m]; exact exB _ 1024 512 (h.ea _)
  · decide
  · rw [cc0_row3 m]; exact exB _ 512 1024 (h.ea _)
  · decide
  · rw [cc0_row4 m]; exact exB _ 1024 512 (h.eb _)
  · decide
  · rw [cc0_row5 m]; exact exB _ 1024 512 (h.eb _)
  · decide
  · rw [cc0_row6 m]; exact exB _ 512 1024 (h.eb _)
  · decide
  · rw [cc0_row7 m h]; exact rowB i 53248 1024 512 1024 (by decide) le_rfl
  · decide

/-! ## The plan -/

theorem coords_val (t : Fin grid0.N) : (grid0.coords t 0).val = t.val := by
  have ht : t.val < 104 := lt_of_lt_of_eq t.isLt rfl
  change t.val / 1 % 104 = t.val
  rw [Nat.div_one, Nat.mod_eq_of_lt ht]

theorem tabWord_iff (h : InRange m) (c : Dev nD) (i : grid0.Coords) : k0_cond1 (tabWord (F := F) c i (tbl m 2)) = 1#1 ↔ (i 0).val < nv m := by
  have e : tabWord (F := F) c i (tbl m 2) = (tbl m 2 : IVec S104 32) (tix (i 0)) :=
    congrArg (fun x => (tbl m 2 : IVec S104 32) x) (word_ix i _ rfl _ _)
  rw [e, tbl2]
  have hk : ∀ b : BitVec 1, (k0_cond1 (b.setWidth 32) = 1#1 ↔ b = 1#1) := by decide
  exact (hk (usedBits m 0 (tix (i 0)))).trans (usedBits_iff m h _)

theorem plan (h : InRange m) : Plan m (ok m h) (nv m) where
  pos := h.pos
  le := h.le
  used c t := (tabWord_iff m h c _).trans (by rw [coords_val t])
  blk t := (cc0_row7 m h (grid0.coords t)).trans (by rw [coords_val t])

end Cert.Proof.Moe

end
-- ==== Proof.Moe.Payload.lean ====
/-
  What a used tile's stores hold, read at an index: for each of the tile's two experts the sum over the hidden values,
  each times the row's gate, of their products with the last weight. The contraction over the row's 1024 values is in
  two halves, as the body cuts it.
-/
module

public import proofs.«01_k».proof.Proof.Moe.Launch
public import proofs.«01_k».proof.Proof.Final.Words
public import Idealize.ShloMosaic.Lib.Pointwise

@[expose] public section

set_option maxRecDepth 16384

noncomputable section

namespace Cert.Proof.Moe

open Cert.MoeIdeal Cert.MoeIdeal.Gen Idealize.ShloMosaic Idealize.ShloMosaic.TcCoe Idealize.SL.Sem

/-- A row block times an expert's weight, in two halves. -/
def upK (v5 v7 : Vec Ideal S512x512 .bf16) (v11 v14 : Vec Ideal S1x512x512 .bf16) (r f : Fin 512) : EReal :=
  (∑ k : Fin 512, v5 (ix2 r k) * v11 (ix3 0 k f)) + ∑ k : Fin 512, v7 (ix2 r k) * v14 (ix3 0 k f)

/-- One expert's weighted result. -/
def oneK (v5 v7 : Vec Ideal S512x512 .bf16) (g : EReal) (v11 v14 v20 v23 : Vec Ideal S1x512x512 .bf16) (v31 : Vec Ideal S1x512x1024 .bf16) (r : Fin 512) (n : Fin 1024) : EReal :=
  ∑ f : Fin 512, (upK v5 v7 v11 v14 r f * Ideal.logistic (upK v5 v7 v11 v14 r f) * upK v5 v7 v20 v23 r f * g) * v31 (ix3 0 f n)

/-- The upper half of every packed word, and the lower, as numbers. -/
def upperOf (v5 : Vec Ideal S512x512 .i32) : S512x512.Idx → EReal := fun i => Ideal.ofBits .bf16 ((v5 i : BitVec 32).extractLsb' 16 16)
def lowerOf (v5 : Vec Ideal S512x512 .i32) : S512x512.Idx → EReal := fun i => Ideal.ofBits .bf16 ((v5 i : BitVec 32).extractLsb' 0 16)

theorem pay4_eq (v5 : Vec Ideal S512x512 .i32) : (k0_pay4 v5 : S512x512.Idx → EReal) = upperOf v5 := funext fun i => Final.upper (v5 i)
theorem pay5_eq (v5 : Vec Ideal S512x512 .i32) : (k0_pay5 v5 : S512x512.Idx → EReal) = lowerOf v5 := funext fun i => Final.lower (v5 i)

theorem pay7_apply (v5 : Vec Ideal S512x512 .i32) (v14 : Vec Ideal S512x128 .i32) (v17 v20 v26 v29 : Vec Ideal S1x512x512 .bf16) (r f : Fin 512) :
    k0_pay7 v5 v14 v17 v20 v26 v29 (ix2 r f)
      = upK (k0_pay4 v5) (k0_pay5 v5) v17 v20 r f * Ideal.logistic (upK (k0_pay4 v5) (k0_pay5 v5) v17 v20 r f) * upK (k0_pay4 v5) (k0_pay5 v5) v26 v29 r f * Ideal.ofBits .f32 (v14 (ix2 r 0)) := by
  pointwise [k0_pay7, k0_pay6, upK]

theorem pay1_apply (v12 v13 : FVec Ideal S512x512 .bf16) (v14 : Vec Ideal S512x128 .i32) (v36 : FVec Ideal S512x512 .bf16) (v37 : Vec Ideal S1x512x1024 .bf16)
    (v41 v44 v50 v53 : Vec Ideal S1x512x512 .bf16) (v61 : Vec Ideal S1x512x1024 .bf16) (r : Fin 512) (n : Fin 1024) :
    k0_pay1 v12 v13 (k0_pay6 v14) v36 (k0_pay8 v37) (constant S512x1024 .f32 0x00000000#32) v41 v44 v50 v53 v61 (ix2 r n)
      = (∑ f : Fin 512, v36 (ix2 r f) * v37 (ix3 0 f n)) + oneK v12 v13 (Ideal.ofBits .f32 (v14 (ix2 r 1))) v41 v44 v50 v53 v61 r n := by
  pointwise [k0_pay1, k0_pay6, k0_pay8, oneK, upK]

/-- The first expert's hidden values, weighted, times its third weight. -/
theorem first_eq (v5 : Vec Ideal S512x512 .i32) (v14 : Vec Ideal S512x128 .i32) (v17 v20 v26 v29 : Vec Ideal S1x512x512 .bf16) (v37 : Vec Ideal S1x512x1024 .bf16) (r : Fin 512) (n : Fin 1024) :
    (∑ f : Fin 512, (k0_pay7 v5 v14 v17 v20 v26 v29 : S512x512.Idx → EReal) (ix2 r f) * (v37 (ix3 0 f n) : EReal))
      = oneK (k0_pay4 v5) (k0_pay5 v5) (Ideal.ofBits .f32 (v14 (ix2 r 0))) v17 v20 v26 v29 v37 r n := by
  unfold oneK
  exact Finset.sum_congr rfl fun f _ => congrArg (· * (v37 (ix3 0 f n) : EReal)) (pay7_apply v5 v14 v17 v20 v26 v29 r f)

end Cert.Proof.Moe

end
-- ==== Proof.Moe.Output.lean ====
/-
  A used tile's output block, read at an index: for each of the tile's two experts, the row's up-projections through the
  first two weights, the gated activation of their hidden values and its product with the third weight.
-/
module

public import proofs.«01_k».proof.Proof.Moe.Payload
public import Idealize.ShloMosaic.Lib.WholeRead
public import Idealize.ShloMosaic.Lib.Writes

@[expose] public section

set_option maxRecDepth 16384

noncomputable section

namespace Cert.Proof.Moe

open Cert.MoeIdeal Cert.MoeIdeal.Gen Idealize.ShloMosaic Idealize.ShloMosaic.TcCoe Idealize.SL.Sem

/-- A row of a block times a column of an expert's weight block. -/
def upB (x : S512x1024.Idx → EReal) (w : S1x1024x512.Idx → EReal) (r f : Fin 512) : EReal :=
  ∑ k : Fin 1024, x (ix2 r k) * w (ix3 0 k f)

/-- One expert's weighted result at a row and column of the block. -/
def oneB (x : S512x1024.Idx → EReal) (g : EReal) (w1 w3 : S1x1024x512.Idx → EReal) (w2 : S1x512x1024.Idx → EReal) (r : Fin 512) (n : Fin 1024) : EReal :=
  ∑ f : Fin 512, (upB x w1 r f * Ideal.logistic (upB x w1 r f) * upB x w3 r f * g) * w2 (ix3 0 f n)

/-- A row's number at a column: the upper half of the column's word below column 512, the lower half of the word 512 before
    from there. -/
def rowNum (w : Fin 640 → BitVec 32) (k : Fin 1024) : EReal :=
  if h : k.val < 512 then Ideal.ofBits .bf16 ((w ⟨k.val, by omega⟩).extractLsb' 16 16)
  else Ideal.ofBits .bf16 ((w ⟨k.val - 512, by omega⟩).extractLsb' 0 16)

theorem rowNum_up (w : Fin 640 → BitVec 32) (k : Fin 1024) (h : k.val < 512) :
    rowNum w k = Ideal.ofBits .bf16 ((w ⟨k.val, by omega⟩).extractLsb' 16 16) := dif_pos h
theorem rowNum_low (w : Fin 640 → BitVec 32) (k : Fin 1024) (h : ¬ k.val < 512) :
    rowNum w k = Ideal.ofBits .bf16 ((w ⟨k.val - 512, by omega⟩).extractLsb' 0 16) := dif_neg h

/-- A row's gate: a word after its first 512. -/
def gateNum (w : Fin 640 → BitVec 32) (c : Fin 2) : EReal := Ideal.ofBits .f32 (w ⟨512 + c.val, by omega⟩)

/-- A block of packed words, as numbers. -/
def rowB (x : S512x640.Idx → BitVec 32) (i : S512x1024.Idx) : EReal := rowNum (fun j => x (ix2 (i 0) j)) (i 1)

/-! ## Loads of a whole buffer's parts -/

section Loads
variable {κ : Kind} {sp : Space}

theorem rd_rows (m : Memref sig κ sp S512x640 .i32) (h : m.IsWhole) (X : S512x640.Idx → Elt Ideal .i32)
    (inb : ∀ a, (![0, 0] : Fin 2 → ℕ) a + S512x512.size a ≤ S512x640.size a) (r k : Fin 512) :
    View.readAt (Elt Ideal) m.view (Rect.unit (s := S512x640) ![0, 0] S512x512.size inb).toLoadRect (h.unread X) (ix2 r k) = X (ix2 r ⟨k.val, by omega⟩) := by
  refine (h.readAt_unread X _ _).trans (congrArg X (funext fun a => Fin.ext ?_))
  match a with
  | ⟨0, _⟩ => show 0 + 1 * r.val = r.val; omega
  | ⟨1, _⟩ => show 0 + 1 * k.val = k.val; omega

theorem rd_weight (m : Memref sig κ sp S1x1024x512 .bf16) (h : m.IsWhole) (X : S1x1024x512.Idx → Elt Ideal .bf16) (o : ℕ)
    (inb : ∀ a, (![0, o, 0] : Fin 3 → ℕ) a + S1x512x512.size a ≤ S1x1024x512.size a) (k f : Fin 512) (ho : o + k.val < 1024) :
    View.readAt (Elt Ideal) m.view (Rect.unit (s := S1x1024x512) ![0, o, 0] S1x512x512.size inb).toLoadRect (h.unread X) (ix3 0 k f) = X (ix3 0 ⟨o + k.val, ho⟩ f) := by
  refine (h.readAt_unread X _ _).trans (congrArg X (funext fun a => Fin.ext ?_))
  match a with
  | ⟨0, _⟩ => show 0 + 1 * 0 = 0; omega
  | ⟨1, _⟩ => show o + 1 * k.val = o + k.val; omega
  | ⟨2, _⟩ => show 0 + 1 * f.val = f.val; omega

theorem rd_down (m : Memref sig κ sp S1x512x1024 .bf16) (h : m.IsWhole) (X : S1x512x1024.Idx → Elt Ideal .bf16)
    (inb : ∀ a, (![0, 0, 0] : Fin 3 → ℕ) a + S1x512x1024.size a ≤ S1x512x1024.size a) (f : Fin 512) (n : Fin 1024) :
    View.readAt (Elt Ideal) m.view (Rect.unit (s := S1x512x1024) ![0, 0, 0] S1x512x1024.size inb).toLoadRect (h.unread X) (ix3 0 f n) = X (ix3 0 f n) := by
  refine (h.readAt_unread X _ _).trans (congrArg X (funext fun a => Fin.ext ?_))
  match a with
  | ⟨0, _⟩ => show 0 + 1 * 0 = 0; omega
  | ⟨1, _⟩ => show 0 + 1 * f.val = f.val; omega
  | ⟨2, _⟩ => show 0 + 1 * n.val = n.val; omega

theorem rd_gate (m : Memref sig κ sp S512x640 .i32) (h : m.IsWhole) (X : S512x640.Idx → Elt Ideal .i32)
    (inb : ∀ a, (![0, 512] : Fin 2 → ℕ) a + S512x128.size a ≤ S512x640.size a) (r : Fin 512) (c : Fin 128) (c' : Fin 2) (e : c.val = c'.val) :
    Ideal.ofBits .f32 (View.readAt (Elt Ideal) m.view (Rect.unit (s := S512x640) ![0, 512] S512x128.size inb).toLoadRect (h.unread X) (ix2 r c))
      = gateNum (fun j => X (ix2 r j)) c' := by
  refine congrArg (Ideal.ofBits .f32) ((h.readAt_unread X _ _).trans (congrArg X (funext fun a => Fin.ext ?_)))
  match a with
  | ⟨0, _⟩ => show 0 + 1 * r.val = r.val; omega
  | ⟨1, _⟩ => show 512 + 1 * c.val = 512 + c'.val; omega

end Loads

/-- The words' upper halves are the first 512 columns, -/
theorem up_word (x : S512x640.Idx → BitVec 32) (v5 : Vec Ideal S512x512 .i32) (h : ∀ r k : Fin 512, v5 (ix2 r k) = x (ix2 r ⟨k.val, by omega⟩)) (r k : Fin 512) :
    (k0_pay4 v5 : S512x512.Idx → EReal) (ix2 r k) = rowB x (ix2 r ⟨0 + k.val, by omega⟩) := by
  have e : (⟨k.val, by omega⟩ : Fin 640) = ⟨0 + k.val, by omega⟩ := Fin.ext (Nat.zero_add _).symm
  rw [pay4_eq]
  exact (congrArg (fun w : BitVec 32 => Ideal.ofBits .bf16 (w.extractLsb' 16 16)) ((h r k).trans (congrArg (fun j => x (ix2 r j)) e))).trans
    (rowNum_up (fun j => x (ix2 r j)) ⟨0 + k.val, by omega⟩ (show 0 + k.val < 512 by omega)).symm

/-- their lower halves the last 512. -/
theorem low_word (x : S512x640.Idx → BitVec 32) (v5 : Vec Ideal S512x512 .i32) (h : ∀ r k : Fin 512, v5 (ix2 r k) = x (ix2 r ⟨k.val, by omega⟩)) (r k : Fin 512) :
    (k0_pay5 v5 : S512x512.Idx → EReal) (ix2 r k) = rowB x (ix2 r ⟨512 + k.val, by omega⟩) := by
  have e : (⟨k.val, by omega⟩ : Fin 640) = ⟨512 + k.val - 512, by omega⟩ := Fin.ext (Nat.add_sub_cancel_left ..).symm
  rw [pay5_eq]
  exact (congrArg (fun w : BitVec 32 => Ideal.ofBits .bf16 (w.extractLsb' 0 16)) ((h r k).trans (congrArg (fun j => x (ix2 r j)) e))).trans
    (rowNum_low (fun j => x (ix2 r j)) ⟨512 + k.val, by omega⟩ (show ¬ 512 + k.val < 512 by omega)).symm

/-- The body's two half contractions are the whole one. -/
theorem upK_eq (x : S512x1024.Idx → EReal) (w : S1x1024x512.Idx → EReal) (v5 v7 : Vec Ideal S512x512 .bf16) (v11 v14 : Vec Ideal S1x512x512 .bf16)
    (h5 : ∀ r k : Fin 512, v5 (ix2 r k) = x (ix2 r ⟨0 + k.val, by omega⟩)) (h7 : ∀ r k : Fin 512, v7 (ix2 r k) = x (ix2 r ⟨512 + k.val, by omega⟩))
    (h11 : ∀ k f : Fin 512, v11 (ix3 0 k f) = w (ix3 0 ⟨0 + k.val, by omega⟩ f)) (h14 : ∀ k f : Fin 512, v14 (ix3 0 k f) = w (ix3 0 ⟨512 + k.val, by omega⟩ f))
    (r f : Fin 512) : upK v5 v7 v11 v14 r f = upB x w r f := by
  unfold upK upB
  rw [Fin.sum_univ_two_halves 512 512 (rfl : 512 + 512 = 1024)]
  refine congrArg₂ (· + ·) (Finset.sum_congr rfl fun k _ => ?_) (Finset.sum_congr rfl fun k _ => ?_)
  · rw [h5, h11]
    have e : (⟨0 + k.val, by omega⟩ : Fin 1024) = ⟨k.val, by omega⟩ := Fin.ext (Nat.zero_add _)
    rw [e]
  · rw [h7, h14]

theorem oneK_eq (x : S512x1024.Idx → EReal) (w1 w3 : S1x1024x512.Idx → EReal) (w2 : S1x512x1024.Idx → EReal) (g g' : EReal)
    (v5 v7 : Vec Ideal S512x512 .bf16) (v11 v14 v20 v23 : Vec Ideal S1x512x512 .bf16) (v31 : Vec Ideal S1x512x1024 .bf16) (hg : g' = g)
    (h5 : ∀ r k : Fin 512, v5 (ix2 r k) = x (ix2 r ⟨0 + k.val, by omega⟩)) (h7 : ∀ r k : Fin 512, v7 (ix2 r k) = x (ix2 r ⟨512 + k.val, by omega⟩))
    (h11 : ∀ k f : Fin 512, v11 (ix3 0 k f) = w1 (ix3 0 ⟨0 + k.val, by omega⟩ f)) (h14 : ∀ k f : Fin 512, v14 (ix3 0 k f) = w1 (ix3 0 ⟨512 + k.val, by omega⟩ f))
    (h20 : ∀ k f : Fin 512, v20 (ix3 0 k f) = w3 (ix3 0 ⟨0 + k.val, by omega⟩ f)) (h23 : ∀ k f : Fin 512, v23 (ix3 0 k f) = w3 (ix3 0 ⟨512 + k.val, by omega⟩ f))
    (h31 : ∀ (f : Fin 512) (n : Fin 1024), v31 (ix3 0 f n) = w2 (ix3 0 f n)) (r : Fin 512) (n : Fin 1024) :
    oneK v5 v7 g' v11 v14 v20 v23 v31 r n = oneB x g w1 w3 w2 r n := by
  unfold oneK oneB
  refine Finset.sum_congr rfl fun f _ => ?_
  rw [upK_eq x w1 v5 v7 v11 v14 h5 h7 h11 h14, upK_eq x w3 v5 v7 v20 v23 h5 h7 h20 h23, h31, hg]

theorem pay2_apply (v12 v13 : FVec Ideal S512x512 .bf16) (v15 : FVec Ideal S512x128 .f32) (v36 : FVec Ideal S512x512 .bf16) (v38 : FVec Ideal S512x1024 .bf16) (z : FVec Ideal S512x1024 .f32) (v41 v44 v50 v53 : Vec Ideal S1x512x512 .bf16) (v61 : Vec Ideal S1x512x1024 .bf16) (r : Fin 512) (n : Fin 1024) (hn : n.val < 512) :
    k0_pay2 v12 v13 v15 v36 v38 z v41 v44 v50 v53 v61 (ix2 r ⟨n.val, hn⟩) = k0_pay1 v12 v13 v15 v36 v38 z v41 v44 v50 v53 v61 (ix2 r n) :=
  congrArg (k0_pay1 v12 v13 v15 v36 v38 z v41 v44 v50 v53 v61) (funext fun a => Fin.ext (by
    match a with
    | ⟨0, _⟩ => show 0 + r.val = r.val; omega
    | ⟨1, _⟩ => show 0 + n.val = n.val; omega))

theorem pay3_apply (v12 v13 : FVec Ideal S512x512 .bf16) (v15 : FVec Ideal S512x128 .f32) (v36 : FVec Ideal S512x512 .bf16) (v38 : FVec Ideal S512x1024 .bf16) (z : FVec Ideal S512x1024 .f32) (v41 v44 v50 v53 : Vec Ideal S1x512x512 .bf16) (v61 : Vec Ideal S1x512x1024 .bf16) (r : Fin 512) (n : Fin 1024) (hn : ¬ n.val < 512) :
    k0_pay3 v12 v13 v15 v36 v38 z v41 v44 v50 v53 v61 (ix2 r ⟨n.val - 512, by omega⟩) = k0_pay1 v12 v13 v15 v36 v38 z v41 v44 v50 v53 v61 (ix2 r n) :=
  congrArg (k0_pay1 v12 v13 v15 v36 v38 z v41 v44 v50 v53 v61) (funext fun a => Fin.ext (by
    match a with
    | ⟨0, _⟩ => show 0 + r.val = r.val; omega
    | ⟨1, _⟩ => show 512 + (n.val - 512) = n.val; omega))

variable (m : (ℓ : Loc nD τ sig) → Buf (Elt Ideal) ℓ)

theorem outAt_apply (hO : Ok m) (c : Dev nD) (t : Fin (cfgM m hO).N) (hc : k0_cond1 (tabWord (F := Ideal) c (grid0.coords t) (tbl m 2)) = 1#1)
    (r : Fin 512) (n : Fin 1024) :
    outAt m hO c t (ix2 r n) = oneB (rowB (iblk m hO c 0 t)) (gateNum (fun j => iblk m hO c 0 t (ix2 r j)) 0) (iblk m hO c 1 t) (iblk m hO c 2 t) (iblk m hO c 3 t) r n
      + oneB (rowB (iblk m hO c 0 t)) (gateNum (fun j => iblk m hO c 0 t (ix2 r j)) 1) (iblk m hO c 4 t) (iblk m hO c 5 t) (iblk m hO c 6 t) r n := by
  unfold outAt
  rw [dif_pos hc]
  unfold runUsed
  dsimp only
  by_cases hn : n.val < 512
  · rw [View.read_writes_cons_miss_of_axis _ _ _ _ _ 1 512 512 rfl rfl rfl (Or.inl hn),
      View.read_writes_cons_hit _ _ _ _ _ (ix2 r ⟨n.val, hn⟩) _ (Rect.emb_eq_of_coords _ _ _ fun a => by
        match a with
        | ⟨0, _⟩ => show r.val = 0 + 1 * r.val; omega
        | ⟨1, _⟩ => show n.val = 0 + 1 * n.val; omega)]
    rw [pay2_apply _ _ _ _ _ _ _ _ _ _ _ r n hn]
    refine (pay1_apply _ _ _ _ _ _ _ _ _ _ r n).trans (congrArg₂ (· + ·) ((first_eq _ _ _ _ _ _ _ r n).trans ?_) ?_)
    · exact oneK_eq _ _ _ _ _ _ _ _ _ _ _ _ _ (rd_gate _ _ _ _ r 0 0 rfl) (up_word _ _ fun r k => rd_rows _ _ _ _ r k) (low_word _ _ fun r k => rd_rows _ _ _ _ r k)
        (fun k f => rd_weight _ _ _ _ _ _ _ _) (fun k f => rd_weight _ _ _ _ _ _ _ _) (fun k f => rd_weight _ _ _ _ _ _ _ _) (fun k f => rd_weight _ _ _ _ _ _ _ _)
        (fun f n => rd_down _ _ _ _ _ _) r n
    · exact oneK_eq _ _ _ _ _ _ _ _ _ _ _ _ _ (rd_gate _ _ _ _ r 1 1 rfl) (up_word _ _ fun r k => rd_rows _ _ _ _ r k) (low_word _ _ fun r k => rd_rows _ _ _ _ r k)
        (fun k f => rd_weight _ _ _ _ _ _ _ _) (fun k f => rd_weight _ _ _ _ _ _ _ _) (fun k f => rd_weight _ _ _ _ _ _ _ _) (fun k f => rd_weight _ _ _ _ _ _ _ _)
        (fun f n => rd_down _ _ _ _ _ _) r n
  · rw [View.read_writes_cons_hit _ _ _ _ _ (ix2 r ⟨n.val - 512, by omega⟩) _ (Rect.emb_eq_of_coords _ _ _ fun a => by
        match a with
        | ⟨0, _⟩ => show r.val = 0 + 1 * r.val; omega
        | ⟨1, _⟩ => show n.val = 512 + 1 * (n.val - 512); omega)]
    rw [pay3_apply _ _ _ _ _ _ _ _ _ _ _ r n hn]
    refine (pay1_apply _ _ _ _ _ _ _ _ _ _ r n).trans (congrArg₂ (· + ·) ((first_eq _ _ _ _ _ _ _ r n).trans ?_) ?_)
    · exact oneK_eq _ _ _ _ _ _ _ _ _ _ _ _ _ (rd_gate _ _ _ _ r 0 0 rfl) (up_word _ _ fun r k => rd_rows _ _ _ _ r k) (low_word _ _ fun r k => rd_rows _ _ _ _ r k)
        (fun k f => rd_weight _ _ _ _ _ _ _ _) (fun k f => rd_weight _ _ _ _ _ _ _ _) (fun k f => rd_weight _ _ _ _ _ _ _ _) (fun k f => rd_weight _ _ _ _ _ _ _ _)
        (fun f n => rd_down _ _ _ _ _ _) r n
    · exact oneK_eq _ _ _ _ _ _ _ _ _ _ _ _ _ (rd_gate _ _ _ _ r 1 1 rfl) (up_word _ _ fun r k => rd_rows _ _ _ _ r k) (low_word _ _ fun r k => rd_rows _ _ _ _ r k)
        (fun k f => rd_weight _ _ _ _ _ _ _ _) (fun k f => rd_weight _ _ _ _ _ _ _ _) (fun k f => rd_weight _ _ _ _ _ _ _ _) (fun k f => rd_weight _ _ _ _ _ _ _ _)
        (fun f n => rd_down _ _ _ _ _ _) r n

end Cert.Proof.Moe

end
-- ==== Proof.Moe.Blocks.lean ====
/-
  The windows' blocks read off the arguments: at a used tile the rows' block is the tile's own rows, their packed words
  read as numbers, and the weights' blocks are the whole weights of the tile's two experts.
-/
module

public import proofs.«01_k».proof.Proof.Moe.Tables
public import proofs.«01_k».proof.Proof.Moe.Output

@[expose] public section

set_option maxRecDepth 16384

noncomputable section

namespace Cert.Proof.Moe

open Cert.MoeIdeal Cert.MoeIdeal.Gen Idealize.ShloMosaic Idealize.ShloMosaic.TcCoe Idealize.SL.Sem

variable (m : (ℓ : Loc nD τ sig) → Buf (Elt Ideal) ℓ)

/-- The packed rows and the weights as launched. -/
abbrev wordsW (c : Dev nD) : S53248x640.Idx → BitVec 32 := m ((c : Thread nD τ).loc main_arg0)
abbrev w1W (c : Dev nD) : S16x1024x512.Idx → EReal := m ((c : Thread nD τ).loc main_arg4)
abbrev w3W (c : Dev nD) : S16x1024x512.Idx → EReal := m ((c : Thread nD τ).loc main_arg5)
abbrev w2W (c : Dev nD) : S16x512x1024.Idx → EReal := m ((c : Thread nD τ).loc main_arg6)

/-- The rows' numbers, and a row's gates. -/
def rowsW (c : Dev nD) (i : S53248x1024.Idx) : EReal := rowNum (fun j => wordsW m c (ix2 (i 0) j)) (i 1)
def gatesW (c : Dev nD) (p : Fin 53248) (j : Fin 2) : EReal := gateNum (fun j => wordsW m c (ix2 p j)) j

theorem arg0_eq (c : Dev nD) : (V m c main_arg0 : S53248x640.Idx → BitVec 32) = wordsW m c := V_main_arg0 m c
theorem v8_eq (c : Dev nD) : (V m c main_v8 : S16x1024x512.Idx → EReal) = w1W m c := V_v8 m c
theorem v9_eq (c : Dev nD) : (V m c main_v9 : S16x1024x512.Idx → EReal) = w3W m c := V_v9 m c
theorem v10_eq (c : Dev nD) : (V m c main_v10 : S16x512x1024.Idx → EReal) = w2W m c := V_v10 m c

/-- A tile's two experts. -/
abbrev exA (h : InRange m) (t : Fin 104) : Fin 16 := ⟨(eaW m (tix t)).toNat, h.ea _⟩
abbrev exB (h : InRange m) (t : Fin 104) : Fin 16 := ⟨(ebW m (tix t)).toNat, h.eb _⟩

variable (h : InRange m) (c : Dev nD)

/-- Row `r` of tile `t`. -/
abbrev rowOf (t : Fin 104) (r : Fin 512) : Fin 53248 := ⟨512 * t.val + r.val, by omega⟩

theorem coords_tile (t : Fin (cfgM m (ok m h)).N) : (grid0.coords t 0 : Fin 104) = (⟨t.val, t.isLt⟩ : Fin 104) := Fin.ext (coords_val t)

theorem iblk_words (t : Fin (cfgM m (ok m h)).N) (ht : t.val < nv m) (r : Fin 512) (k : Fin 640) :
    iblk m (ok m h) c 0 t (ix2 r k) = wordsW m c (ix2 (rowOf ⟨t.val, t.isLt⟩ r) k) := by
  have e : ((cfgM m (ok m h)).win 0).index t = ![min t.val (nv m - 1), 0] := (cc0_row0 m h (grid0.coords t)).trans (by rw [coords_val t])
  refine Eq.trans (congrArg (V m c main_arg0) (?_ : (((cfgM m (ok m h)).win 0).rect t).emb (ix2 r k) = ix2 (rowOf ⟨t.val, t.isLt⟩ r) k)) (congrFun (arg0_eq m c) _)
  funext a
  refine Fin.ext ((Pipeline.Window.rect_emb_val _ t _ a rfl).trans ?_)
  rw [e]
  match a with
  | ⟨0, _⟩ => show min t.val (nv m - 1) * 512 + r.val = 512 * t.val + r.val; omega
  | ⟨1, _⟩ => show 0 * 640 + k.val = k.val; omega

theorem iblk_rows (t : Fin (cfgM m (ok m h)).N) (ht : t.val < nv m) (r : Fin 512) (k : Fin 1024) :
    rowB (iblk m (ok m h) c 0 t) (ix2 r k) = rowsW m c (ix2 (rowOf ⟨t.val, t.isLt⟩ r) k) :=
  congrArg (rowNum · k) (funext (iblk_words m h c t ht r))

theorem iblk_gates (t : Fin (cfgM m (ok m h)).N) (ht : t.val < nv m) (r : Fin 512) (j : Fin 2) :
    gateNum (fun k => iblk m (ok m h) c 0 t (ix2 r k)) j = gatesW m c (rowOf ⟨t.val, t.isLt⟩ r) j :=
  congrArg (gateNum · j) (funext (iblk_words m h c t ht r))

theorem iblk_w1a (t : Fin (cfgM m (ok m h)).N) (k : Fin 1024) (f : Fin 512) :
    iblk m (ok m h) c 1 t (ix3 0 k f) = w1W m c (ix3 (exA m h ⟨t.val, t.isLt⟩) k f) := by
  have e : ((cfgM m (ok m h)).win 1).index t = ![(eaW m (tix ⟨t.val, t.isLt⟩)).toNat, 0, 0] := (cc0_row1 m (grid0.coords t)).trans (by rw [coords_tile m h t])
  refine Eq.trans (congrArg (V m c main_v8) (?_ : (((cfgM m (ok m h)).win 1).rect t).emb (ix3 0 k f) = ix3 (exA m h ⟨t.val, t.isLt⟩) k f)) (congrFun (v8_eq m c) _)
  funext a
  refine Fin.ext ((Pipeline.Window.rect_emb_val _ t _ a rfl).trans ?_)
  rw [e]
  match a with
  | ⟨0, _⟩ => show (eaW m (tix ⟨t.val, t.isLt⟩)).toNat * 1 + 0 = (eaW m (tix ⟨t.val, t.isLt⟩)).toNat; omega
  | ⟨1, _⟩ => show 0 * 1024 + k.val = k.val; omega
  | ⟨2, _⟩ => show 0 * 512 + f.val = f.val; omega

theorem iblk_w3a (t : Fin (cfgM m (ok m h)).N) (k : Fin 1024) (f : Fin 512) :
    iblk m (ok m h) c 2 t (ix3 0 k f) = w3W m c (ix3 (exA m h ⟨t.val, t.isLt⟩) k f) := by
  have e : ((cfgM m (ok m h)).win 2).index t = ![(eaW m (tix ⟨t.val, t.isLt⟩)).toNat, 0, 0] := (cc0_row2 m (grid0.coords t)).trans (by rw [coords_tile m h t])
  refine Eq.trans (congrArg (V m c main_v9) (?_ : (((cfgM m (ok m h)).win 2).rect t).emb (ix3 0 k f) = ix3 (exA m h ⟨t.val, t.isLt⟩) k f)) (congrFun (v9_eq m c) _)
  funext a
  refine Fin.ext ((Pipeline.Window.rect_emb_val _ t _ a rfl).trans ?_)
  rw [e]
  match a with
  | ⟨0, _⟩ => show (eaW m (tix ⟨t.val, t.isLt⟩)).toNat * 1 + 0 = (eaW m (tix ⟨t.val, t.isLt⟩)).toNat; omega
  | ⟨1, _⟩ => show 0 * 1024 + k.val = k.val; omega
  | ⟨2, _⟩ => show 0 * 512 + f.val = f.val; omega

theorem iblk_w2a (t : Fin (cfgM m (ok m h)).N) (k : Fin 512) (f : Fin 1024) :
    iblk m (ok m h) c 3 t (ix3 0 k f) = w2W m c (ix3 (exA m h ⟨t.val, t.isLt⟩) k f) := by
  have e : ((cfgM m (ok m h)).win 3).index t = ![(eaW m (tix ⟨t.val, t.isLt⟩)).toNat, 0, 0] := (cc0_row3 m (grid0.coords t)).trans (by rw [coords_tile m h t])
  refine Eq.trans (congrArg (V m c main_v10) (?_ : (((cfgM m (ok m h)).win 3).rect t).emb (ix3 0 k f) = ix3 (exA m h ⟨t.val, t.isLt⟩) k f)) (congrFun (v10_eq m c) _)
  funext a
  refine Fin.ext ((Pipeline.Window.rect_emb_val _ t _ a rfl).trans ?_)
  rw [e]
  match a with
  | ⟨0, _⟩ => show (eaW m (tix ⟨t.val, t.isLt⟩)).toNat * 1 + 0 = (eaW m (tix ⟨t.val, t.isLt⟩)).toNat; omega
  | ⟨1, _⟩ => show 0 * 512 + k.val = k.val; omega
  | ⟨2, _⟩ => show 0 * 1024 + f.val = f.val; omega

theorem iblk_w1b (t : Fin (cfgM m (ok m h)).N) (k : Fin 1024) (f : Fin 512) :
    iblk m (ok m h) c 4 t (ix3 0 k f) = w1W m c (ix3 (exB m h ⟨t.val, t.isLt⟩) k f) := by
  have e : ((cfgM m (ok m h)).win 4).index t = ![(ebW m (tix ⟨t.val, t.isLt⟩)).toNat, 0, 0] := (cc0_row4 m (grid0.coords t)).trans (by rw [coords_tile m h t])
  refine Eq.trans (congrArg (V m c main_v8) (?_ : (((cfgM m (ok m h)).win 4).rect t).emb (ix3 0 k f) = ix3 (exB m h ⟨t.val, t.isLt⟩) k f)) (congrFun (v8_eq m c) _)
  funext a
  refine Fin.ext ((Pipeline.Window.rect_emb_val _ t _ a rfl).trans ?_)
  rw [e]
  match a with
  | ⟨0, _⟩ => show (ebW m (tix ⟨t.val, t.isLt⟩)).toNat * 1 + 0 = (ebW m (tix ⟨t.val, t.isLt⟩)).toNat; omega
  | ⟨1, _⟩ => show 0 * 1024 + k.val = k.val; omega
  | ⟨2, _⟩ => show 0 * 512 + f.val = f.val; omega

theorem iblk_w3b (t : Fin (cfgM m (ok m h)).N) (k : Fin 1024) (f : Fin 512) :
    iblk m (ok m h) c 5 t (ix3 0 k f) = w3W m c (ix3 (exB m h ⟨t.val, t.isLt⟩) k f) := by
  have e : ((cfgM m (ok m h)).win 5).index t = ![(ebW m (tix ⟨t.val, t.isLt⟩)).toNat, 0, 0] := (cc0_row5 m (grid0.coords t)).trans (by rw [coords_tile m h t])
  refine Eq.trans (congrArg (V m c main_v9) (?_ : (((cfgM m (ok m h)).win 5).rect t).emb (ix3 0 k f) = ix3 (exB m h ⟨t.val, t.isLt⟩) k f)) (congrFun (v9_eq m c) _)
  funext a
  refine Fin.ext ((Pipeline.Window.rect_emb_val _ t _ a rfl).trans ?_)
  rw [e]
  match a with
  | ⟨0, _⟩ => show (ebW m (tix ⟨t.val, t.isLt⟩)).toNat * 1 + 0 = (ebW m (tix ⟨t.val, t.isLt⟩)).toNat; omega
  | ⟨1, _⟩ => show 0 * 1024 + k.val = k.val; omega
  | ⟨2, _⟩ => show 0 * 512 + f.val = f.val; omega

theorem iblk_w2b (t : Fin (cfgM m (ok m h)).N) (k : Fin 512) (f : Fin 1024) :
    iblk m (ok m h) c 6 t (ix3 0 k f) = w2W m c (ix3 (exB m h ⟨t.val, t.isLt⟩) k f) := by
  have e : ((cfgM m (ok m h)).win 6).index t = ![(ebW m (tix ⟨t.val, t.isLt⟩)).toNat, 0, 0] := (cc0_row6 m (grid0.coords t)).trans (by rw [coords_tile m h t])
  refine Eq.trans (congrArg (V m c main_v10) (?_ : (((cfgM m (ok m h)).win 6).rect t).emb (ix3 0 k f) = ix3 (exB m h ⟨t.val, t.isLt⟩) k f)) (congrFun (v10_eq m c) _)
  funext a
  refine Fin.ext ((Pipeline.Window.rect_emb_val _ t _ a rfl).trans ?_)
  rw [e]
  match a with
  | ⟨0, _⟩ => show (ebW m (tix ⟨t.val, t.isLt⟩)).toNat * 1 + 0 = (ebW m (tix ⟨t.val, t.isLt⟩)).toNat; omega
  | ⟨1, _⟩ => show 0 * 512 + k.val = k.val; omega
  | ⟨2, _⟩ => show 0 * 1024 + f.val = f.val; omega

/-! ## The output block over the arguments -/

/-- A row times a column of an expert's weight. -/
def upA (x : S53248x1024.Idx → EReal) (w : S16x1024x512.Idx → EReal) (p : Fin 53248) (e : Fin 16) (f : Fin 512) : EReal :=
  ∑ k : Fin 1024, x (ix2 p k) * w (ix3 e k f)

/-- One expert's result for a row, weighted by `g`. -/
def oneA (x : S53248x1024.Idx → EReal) (g : EReal) (w1 w3 : S16x1024x512.Idx → EReal) (w2 : S16x512x1024.Idx → EReal) (p : Fin 53248) (e : Fin 16) (n : Fin 1024) : EReal :=
  ∑ f : Fin 512, (upA x w1 p e f * Ideal.logistic (upA x w1 p e f) * upA x w3 p e f * g) * w2 (ix3 e f n)

/-- What the output array holds at row `p`, column `n`, for a used tile's row. -/
def resA (p : Fin 53248) (n : Fin 1024) : EReal :=
  oneA (rowsW m c) (gatesW m c p 0) (w1W m c) (w3W m c) (w2W m c) p (exA m h ⟨p.val / 512, by omega⟩) n
    + oneA (rowsW m c) (gatesW m c p 1) (w1W m c) (w3W m c) (w2W m c) p (exB m h ⟨p.val / 512, by omega⟩) n

theorem oneB_eq (x : S512x1024.Idx → EReal) (g g' : EReal) (w1 w3 : S1x1024x512.Idx → EReal) (w2 : S1x512x1024.Idx → EReal)
    (X : S53248x1024.Idx → EReal) (W1 W3 : S16x1024x512.Idx → EReal) (W2 : S16x512x1024.Idx → EReal) (p : Fin 53248) (e : Fin 16) (r : Fin 512) (n : Fin 1024)
    (hx : ∀ k : Fin 1024, x (ix2 r k) = X (ix2 p k)) (hg : g = g') (h1 : ∀ (k : Fin 1024) (f : Fin 512), w1 (ix3 0 k f) = W1 (ix3 e k f))
    (h3 : ∀ (k : Fin 1024) (f : Fin 512), w3 (ix3 0 k f) = W3 (ix3 e k f)) (h2 : ∀ (f : Fin 512) (n : Fin 1024), w2 (ix3 0 f n) = W2 (ix3 e f n)) :
    oneB x g w1 w3 w2 r n = oneA X g' W1 W3 W2 p e n := by
  have e1 (f : Fin 512) : upB x w1 r f = upA X W1 p e f := Finset.sum_congr rfl fun k _ => by rw [hx, h1]
  have e2 (f : Fin 512) : upB x w3 r f = upA X W3 p e f := Finset.sum_congr rfl fun k _ => by rw [hx, h3]
  unfold oneB oneA
  exact Finset.sum_congr rfl fun f _ => by rw [e1, e2, h2, hg]

theorem outAt_eq (t : Fin (cfgM m (ok m h)).N) (ht : t.val < nv m) (r : Fin 512) (n : Fin 1024) :
    outAt m (ok m h) c t (ix2 r n) = resA m h c (rowOf ⟨t.val, t.isLt⟩ r) n := by
  have hd : (512 * t.val + r.val) / 512 = t.val := by omega
  have ed : (⟨(512 * t.val + r.val) / 512, by have : t.val < 104 := t.isLt; omega⟩ : Fin 104) = ⟨t.val, t.isLt⟩ := Fin.ext hd
  rw [outAt_apply m (ok m h) c t (((plan m h).used c t).2 ht)]
  unfold resA
  refine congrArg₂ (· + ·) ?_ ?_
  · rw [show (⟨(rowOf ⟨t.val, t.isLt⟩ r).val / 512, by omega⟩ : Fin 104) = ⟨t.val, t.isLt⟩ from ed]
    exact oneB_eq _ _ _ _ _ _ _ _ _ _ _ _ _ _ (iblk_rows m h c t ht r) (iblk_gates m h c t ht r 0) (iblk_w1a m h c t) (iblk_w3a m h c t) (iblk_w2a m h c t)
  · rw [show (⟨(rowOf ⟨t.val, t.isLt⟩ r).val / 512, by omega⟩ : Fin 104) = ⟨t.val, t.isLt⟩ from ed]
    exact oneB_eq _ _ _ _ _ _ _ _ _ _ _ _ _ _ (iblk_rows m h c t ht r) (iblk_gates m h c t ht r 1) (iblk_w1b m h c t) (iblk_w3b m h c t) (iblk_w2b m h c t)

end Cert.Proof.Moe

end
-- ==== Proof.Moe.Array.lean ====
/-
  The experts' output array after the run, and the program's result: a used tile's row holds the two experts' weighted
  results, any other row zero.
-/
module

public import proofs.«01_k».proof.Proof.Moe.Blocks
public import Idealize.ShloMosaic.Lib.Pipeline.Value
public import Idealize.ShloMosaic.Lib.Pipeline.ValueKit.Geometry

@[expose] public section

set_option maxRecDepth 16384

noncomputable section

namespace Cert.Proof.Moe

open Cert.MoeIdeal Cert.MoeIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (h : InRange m) (c : Dev nD)

/-- The output window's block index at a grid point. -/
theorem index7 (t : Fin (cfgM m (ok m h)).N) : ((cfgM m (ok m h)).win 7).index t = ![min t.val (nv m - 1), 0] := (plan m h).blk t

theorem isOut7 : ((cfgM m (ok m h)).win 7).isOut = true := rfl

/-- A tile before the last used one is written back at its own grid point, -/
theorem flush_own (t : Fin (cfgM m (ok m h)).N) (ht : t.val + 1 < nv m) : ((cfgM m (ok m h)).win 7).flush t = true := by
  have hN : (cfgM m (ok m h)).N = 104 := rfl
  have hle := h.le
  unfold Window.flush
  rw [isOut7 m h, Bool.true_and, Bool.or_eq_true]
  right
  refine decide_eq_true ⟨by change t.val + 1 < 104; omega, fun e => ?_⟩
  rw [index7 m h, index7 m h] at e
  have e0 : min (t.val + 1) (nv m - 1) = min t.val (nv m - 1) := congrFun e 0
  omega

/-- the last used one at the last grid point. -/
theorem flush_last (t : Fin (cfgM m (ok m h)).N) (ht : t.val = 103) : ((cfgM m (ok m h)).win 7).flush t = true := by
  unfold Window.flush
  rw [isOut7 m h, Bool.true_and, Bool.or_eq_true]
  left
  exact decide_eq_true (show t.val + 1 = 104 by omega)

theorem emb7 (t : Fin (cfgM m (ok m h)).N) (r : Fin 512) (n : Fin 1024) (hl : min t.val (nv m - 1) < 104) :
    (((cfgM m (ok m h)).win 7).rect t).emb (ix2 r n) = ix2 (rowOf ⟨min t.val (nv m - 1), hl⟩ r) n := by
  funext a
  refine Fin.ext ((Window.rect_emb_val _ t _ a rfl).trans ?_)
  rw [index7 m h]
  match a with
  | ⟨0, _⟩ => show min t.val (nv m - 1) * 512 + r.val = 512 * min t.val (nv m - 1) + r.val; omega
  | ⟨1, _⟩ => show 0 * 1024 + n.val = n.val; omega

/-- The array's contents over the used tiles. -/
def resG (i : S53248x1024.Idx) : EReal := resA m h c (i 0) (i 1)

/-- What a grid point leaves in the output's buffer, at the place of the array it is written back to. -/
theorem after_at' (s : Fin (cfgM m (ok m h)).N) (r : Fin 512) (k : Fin 1024) :
    outAt m (ok m h) c (lastUsed m (ok m h) (nv m) s) (ix2 r k) = resG m h c ((((cfgM m (ok m h)).win 7).rect s).emb (ix2 r k)) := by
  have hsl : min s.val (nv m - 1) < 104 := by have := h.le; have := h.pos; omega
  have hlt : min s.val (nv m - 1) < nv m := by have := h.pos; omega
  rw [emb7 m h s r k hsl]
  exact outAt_eq m h c (lastUsed m (ok m h) (nv m) s) hlt r k

theorem ix2_of (y : S512x1024.Idx) : y = ix2 (y 0) (y 1) := funext fun a => by match a with | ⟨0, _⟩ => rfl | ⟨1, _⟩ => rfl

theorem after_at (s : Fin (cfgM m (ok m h)).N) (y : S512x1024.Idx) :
    outAt m (ok m h) c (lastUsed m (ok m h) (nv m) s) y = resG m h c ((((cfgM m (ok m h)).win 7).rect s).emb y) := by
  rw [ix2_of y]
  exact after_at' m h c s (y 0) (y 1)

/-- A used tile's block is written back at some grid point. -/
theorem cover (q : ℕ) (hq : q < nv m) : ∃ t : Fin (cfgM m (ok m h)).N, ((cfgM m (ok m h)).win 7).flush t = true ∧ min t.val (nv m - 1) = q := by
  have hle := h.le
  have hpos := h.pos
  by_cases hq' : q + 1 < nv m
  · exact ⟨⟨q, by change q < 104; omega⟩, flush_own m h _ hq', by change min q (nv m - 1) = q; omega⟩
  · exact ⟨⟨103, by change 103 < 104; omega⟩, flush_last m h _ rfl, by change min 103 (nv m - 1) = q; omega⟩

theorem mem7 (t : Fin (cfgM m (ok m h)).N) (p : Fin 53248) (n : Fin 1024) (ht : min t.val (nv m - 1) = p.val / 512) :
    (ix2 p n : S53248x1024.Idx) ∈ (((cfgM m (ok m h)).win 7).blk t).view.set := by
  refine (Window.emb_mem_blk_iff ((cfgM m (ok m h)).win 7) t (ix2 p n) rfl).2 fun a => ?_
  rw [index7 m h]
  match a with
  | ⟨0, _⟩ => show min t.val (nv m - 1) * 512 ≤ p.val ∧ p.val < min t.val (nv m - 1) * 512 + 512; omega
  | ⟨1, _⟩ => show 0 * 1024 ≤ n.val ∧ n.val < 0 * 1024 + 1024; omega

theorem arr_eq (p : Fin 53248) (n : Fin 1024) (hp : p.val / 512 < nv m) :
    (dats m (ok m h) (nv m) 0 c).arrAt 7 (cfgM m (ok m h)).N (ix2 p n) = resG m h c (ix2 p n) := by
  obtain ⟨t, hf, ht⟩ := cover m h (p.val / 512) hp
  refine (dats m (ok m h) (nv m) 0 c).arrAt_forall_of_flushed 7 (fun i v => v = resG m h c i) (fun s _ y => ?_)
    (cfgM m (ok m h)).N t (ix2 p n) t.isLt hf (mem7 m h t p n ht)
  rw [Dat.flushed_apply, after0_7 m (ok m h) (nv m) c s]
  have ex : (((cfgM m (ok m h)).win 7).xinj ((cfgM m (ok m h)).grid.coords s) y : S512x1024.Idx) = (y : S512x1024.Idx) := funext fun a => Fin.ext rfl
  have ec {x : EReal} (he : EReal = EReal) : _root_.cast he x = x := rfl
  exact (ec _).trans ((congrArg (outAt m (ok m h) c (lastUsed m (ok m h) (nv m) s)) ex).trans (after_at m h c s y))

/-! ## The program's result -/

/-- The result at an index. -/
def resOut (p : Fin 53248) (n : Fin 1024) : EReal := if p.val / 512 < nv m then resA m h c p n else 0

theorem finish_apply (used : IVec S104 1) (y : FVec Ideal S53248x1024 .bf16) (p : Fin 53248) (n : Fin 1024) :
    finish used y (ix2 p n) = if used (tix ⟨p.val / 512, by omega⟩) = 1#1 then y (ix2 p n) else 0 := by
  have e : (ix1 ⟨p.val / 512, by omega⟩ : S104.Idx) = tix ⟨p.val / 512, by omega⟩ := tix_eq _
  pointwise [finish]
  rw [← e]
  rfl

theorem result_eq (p : Fin 53248) (n : Fin 1024) :
    (Pipeline.afterTail pcfgs (fun _ => adm m (ok m h)) (dats m (ok m h) (nv m)) 0 (V0 m) [hostOps1, hostOps1_1] c main_v16 : S53248x1024.Idx → EReal) (ix2 p n)
      = resOut m h c p n := by
  have hc : c = 0 := Subsingleton.elim _ _
  subst hc
  unfold Pipeline.afterTail
  rw [finish_eq, finish_apply]
  have e1 : Pipeline.withArrays (cfgM m (ok m h)).spec 0 (V0 m 0) (fun w => (dats m (ok m h) (nv m) 0 0).arrAt w (cfgM m (ok m h)).N) (Proc.devRef .tc main_v2) = usedBits m 0 :=
    (Pipeline.withArrays_of_ne _ 0 (V0 m 0) _ main_v2 (by exact (by decide : ∀ w, Pipeline.arrRef spec0 w ≠ main_v2))).trans (V_v2 m 0)
  have e11 : Pipeline.withArrays (cfgM m (ok m h)).spec 0 (V0 m 0) (fun w => (dats m (ok m h) (nv m) 0 0).arrAt w (cfgM m (ok m h)).N) (Proc.devRef .tc main_v11)
      = (dats m (ok m h) (nv m) 0 0).arrAt 7 (cfgM m (ok m h)).N :=
    Dat.withArrays_arrAt (dats m (ok m h) (nv m) 0 0) sharedIn0 (V0 m 0) (A_eq m (ok m h) (nv m) 0) 7
  refine Eq.trans (congrArg₂ (fun (u : IVec S104 1) (y : S53248x1024.Idx → EReal) => if u (tix ⟨p.val / 512, by omega⟩) = 1#1 then y (ix2 p n) else 0) e1 e11) ?_
  unfold resOut
  exact ite_congr (propext (usedBits_iff m h _)) (fun hp => arr_eq m h 0 p n hp) (fun _ => rfl)

end Cert.Proof.Moe

end
-- ==== Proof.Moe.Experts.lean ====
/-
  The reference of the experts read at an index: each tile's two experts weighted by the row's two gates, the experts'
  products written as sums over the extended reals, and zero past the used tiles.
-/
module

public import proofs.«01_k».proof.Proof.Gen.ExpertsIdeal.Run
public import proofs.«01_k».proof.Proof.Moe.Output
public import Idealize.ShloMosaic.Lib.Pointwise
public import Idealize.ShloMosaic.Lib.BitcastConvert

@[expose] public section

set_option maxRecDepth 16384

noncomputable section

namespace Cert.Proof.Experts

open Cert.ExpertsIdeal Cert.ExpertsIdeal.Gen Idealize.ShloMosaic Idealize.ShloMosaic.TcCoe Idealize.SL.Sem

section Terms
variable {F : FTy → Type} [FloatOps F]

/-- Each packed word's two halves as numbers, along a last axis: the lower half first. -/
def halvesOf (x : IVec S53248x640 32) : FVec F S53248x512x2 .f32 :=
  extf .f32 (bitcastToFloat (F := F) .bf16 (Host.bitcastConvertNarrow S53248x512x2 16
    (extractStridedSlice S53248x512 ![0, 0] x slices_S53248x640_S53248x512_0_0) splits_S53248x512_w32_S53248x512x2_w16)) bitsLt_bf16_f32

/-- The rows' numbers: the words' upper halves before their lower ones. -/
def rowsOf (x : IVec S53248x640 32) : FVec F S53248x1024 .f32 :=
  concatenate S53248x1024 1
    [⟨S53248x512, shapeCast _ (extractStridedSlice S53248x512x1 ![0, 0, 1] (halvesOf x) slices_S53248x512x2_S53248x512x1_0_0_1) shapeCasts_S53248x512x1_S53248x512⟩,
      ⟨S53248x512, shapeCast _ (extractStridedSlice S53248x512x1 ![0, 0, 0] (halvesOf x) slices_S53248x512x2_S53248x512x1_0_0_0) shapeCasts_S53248x512x1_S53248x512⟩]
    concatenates_S53248x512_S53248x512_S53248x1024_d1

/-- The rows' two gates. -/
def weightsOf (x : IVec S53248x640 32) : FVec F S53248x2 .f32 :=
  bitcastToFloat (F := F) .f32 (extractStridedSlice S53248x2 ![0, 512] x slices_S53248x640_S53248x2_0_512)

/-- Every row's two expert numbers: its tile's. -/
def rowExperts (ea eb : IVec S104 32) : IVec S53248x2 32 :=
  shapeCast _ (broadcastInDim S104x512x2 ![0, 2] bcast_S104x2_S104x512x2_0_2 (concatenate S104x2 1
    [⟨S104x1, broadcastInDim S104x1 ![0] bcast_S104_S104x1_0 ea⟩, ⟨S104x1, broadcastInDim S104x1 ![0] bcast_S104_S104x1_0 eb⟩]
    concatenates_S104x1_S104x1_S104x2_d1)) shapeCasts_S104x512x2_S53248x2

/-- The row's weight of every expert, from its two gates. -/
def gateOf (g : FVec F S53248x2 .f32) (E : IVec S53248x2 32) : FVec F S53248x16 .f32 :=
  Host.dotGeneral dot_S53248x2_S53248x2x16_S53248x16_1_1_n_2_0_0 none g
    (uitofp .f32 (cmpi .eq (broadcastInDim S53248x2x16 ![0, 1, 2] bcast_S53248x2x1_S53248x2x16_0_1_2 (broadcastInDim S53248x2x1 ![0, 1] bcast_S53248x2_S53248x2x1_0_1 E))
      (broadcastInDim S53248x2x16 ![0, 1, 2] bcast_S1x1x16_S53248x2x16_0_1_2 (iotaInDim S1x1x16 32 2))))

/-- The rows through one of the first two weights, for every expert. -/
def upOf (x : FVec F S53248x1024 .f32) (w : FVec F S16x1024x512 .f32) : FVec F S16x53248x512 .f32 :=
  transpose S16x53248x512 [0, 2, 1] (Host.dotGeneral dot_S16x1024x512_S53248x1024_S16x512x53248_1_1_02_0_n_n none w x) transposes_S16x512x53248_S16x53248x512_0_2_1

/-- Every expert's hidden values. -/
def hidOf (u v : FVec F S16x53248x512 .f32) : FVec F S16x53248x512 .f32 :=
  mulf (mulf u (Host.divf (broadcastInDim S16x53248x512 ![] bcast_S_S16x53248x512 (constant S_ .f32 0x3F800000#32))
    (addf (broadcastInDim S16x53248x512 ![] bcast_S_S16x53248x512 (constant S_ .f32 0x3F800000#32)) (Host.exp (Host.negf u))))) v

/-- Every expert's result rows. -/
def downOf (h : FVec F S16x53248x512 .f32) (w : FVec F S16x512x1024 .f32) : FVec F S16x53248x1024 .f32 :=
  Host.dotGeneral dot_S16x53248x512_S16x512x1024_S16x53248x1024_2_1_1_2_0_0 none h w

/-- The experts' results weighted and added. -/
def mixOf (G : FVec F S53248x16 .f32) (y : FVec F S16x53248x1024 .f32) : FVec F S53248x1024 .f32 :=
  Host.dotGeneral dot_S53248x16_S16x53248x1024_S53248x1024_1_0_n_2_0_1 none G y

/-- Which rows belong to used tiles. -/
def rowUsed (n : IVec S1 32) : IVec S53248x1024 1 :=
  broadcastInDim S53248x1024 ![0, 1] bcast_S53248x1_S53248x1024_0_1 (broadcastInDim S53248x1 ![0] bcast_S53248_S53248x1_0
    (shapeCast _ (broadcastInDim S104x512 ![0] bcast_S104_S104x512_0 (cmpi .slt (iotaInDim S104 32 0) (broadcastInDim S104 ![0] bcast_S1_S104_0 n)))
      shapeCasts_S104x512_S53248))

/-- The reference's result. -/
def out (x : IVec S53248x640 32) (ea eb : IVec S104 32) (n : IVec S1 32)
    (w1 w3 : FVec F S16x1024x512 .f32) (w2 : FVec F S16x512x1024 .f32) : FVec F S53248x1024 .f32 :=
  select (rowUsed n) (mixOf (gateOf (weightsOf x) (rowExperts ea eb)) (downOf (hidOf (upOf (rowsOf x) w1) (upOf (rowsOf x) w3)) w2))
    (broadcastInDim S53248x1024 ![] bcast_S_S53248x1024 (constant S_ .f32 0x00000000#32))

/-- Every run of the reference ends at that result, its arguments unchanged, and no semaphore held. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v31) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 :=
  (θ_run defs _ _).mono (fun r h => ⟨fun c => ⟨(h c).1, (h c).2⟩, sem_eq_zero_of_no_sems (by decide) r.2⟩) (Cert.ExpertsIdeal.Value.run m ρ)
end Terms

/-! ## At an index -/

theorem rowsOf_apply (x : IVec S53248x640 32) (p : Fin 53248) (k : Fin 1024) :
    (rowsOf x : FVec Ideal S53248x1024 .f32) (ix2 p k) = Moe.rowNum (fun j => x (ix2 p j)) k := by
  pointwise [rowsOf, halvesOf, Moe.rowNum]

theorem weightsOf_apply (x : IVec S53248x640 32) (p : Fin 53248) (c : Fin 2) :
    (weightsOf x : FVec Ideal S53248x2 .f32) (ix2 p c) = Moe.gateNum (fun j => x (ix2 p j)) c := by
  pointwise [weightsOf, Moe.gateNum]

theorem rowExperts_zero (ea eb : IVec S104 32) (p : Fin 53248) :
    rowExperts ea eb (ix2 p 0) = ea (ix1 ⟨p.val / 512, by have := p.isLt; omega⟩) := by
  pointwise [rowExperts]

theorem rowExperts_one (ea eb : IVec S104 32) (p : Fin 53248) :
    rowExperts ea eb (ix2 p 1) = eb (ix1 ⟨p.val / 512, by have := p.isLt; omega⟩) := by
  pointwise [rowExperts]

theorem gateOf_apply (g : FVec Ideal S53248x2 .f32) (E : IVec S53248x2 32) (p : Fin 53248) (e : Fin 16) :
    gateOf g E (ix2 p e) = ∑ c : Fin 2, g (ix2 p c) * (((IntOp.cmpi .eq (E (ix2 p c)) (BitVec.ofNat 32 e.val)).toNat : ℝ) : EReal) := by
  pointwise [gateOf]
  rfl

theorem upOf_apply (x : FVec Ideal S53248x1024 .f32) (w : FVec Ideal S16x1024x512 .f32) (e : Fin 16) (p : Fin 53248) (f : Fin 512) :
    upOf x w (ix3 e p f) = ∑ k : Fin 1024, w (ix3 e k f) * x (ix2 p k) := by
  pointwise [upOf]

theorem hidOf_apply (u v : FVec Ideal S16x53248x512 .f32) (e : Fin 16) (p : Fin 53248) (f : Fin 512) :
    hidOf u v (ix3 e p f) = u (ix3 e p f) * Ideal.logistic (u (ix3 e p f)) * v (ix3 e p f) := by
  pointwise [hidOf, Ideal.logistic]

theorem downOf_apply (h : FVec Ideal S16x53248x512 .f32) (w : FVec Ideal S16x512x1024 .f32) (e : Fin 16) (p : Fin 53248) (n : Fin 1024) :
    downOf h w (ix3 e p n) = ∑ f : Fin 512, h (ix3 e p f) * w (ix3 e f n) := by
  pointwise [downOf]

theorem mixOf_apply (G : FVec Ideal S53248x16 .f32) (y : FVec Ideal S16x53248x1024 .f32) (p : Fin 53248) (n : Fin 1024) :
    mixOf G y (ix2 p n) = ∑ e : Fin 16, G (ix2 p e) * y (ix3 e p n) := by
  pointwise [mixOf]

theorem rowUsed_apply (k : IVec S1 32) (p : Fin 53248) (n : Fin 1024) :
    rowUsed k (ix2 p n) = IntOp.cmpi .slt (BitVec.ofNat 32 (p.val / 512)) (k (ix1 0)) := by
  pointwise [rowUsed]

end Cert.Proof.Experts

end
-- ==== Proof.Moe.Algebra.lean ====
/-
  The kernel's result and the reference's are one sum of reals: over finite arguments, weighting the hidden values of a
  row's two experts before the third weight and adding is the same as adding every expert's result, each weighted by the
  gates of those of the row's two experts that are it.
-/
module

public import proofs.«01_k».proof.Proof.Moe.Array
public import proofs.«01_k».proof.Proof.Moe.Experts

@[expose] public section

set_option maxRecDepth 16384

noncomputable section

namespace Cert.Proof.Moe

open Cert.MoeIdeal Cert.MoeIdeal.Gen Idealize.ShloMosaic Idealize.ShloMosaic.TcCoe Idealize.SL.Sem

/-! ## Sums of reals -/

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- An array of finite values is one of reals. -/
theorem reals {ι : Type} (x : ι → EReal) (h : ∀ i, x i ≠ ⊥ ∧ x i ≠ ⊤) : ∃ X : ι → ℝ, x = fun i => (X i : EReal) :=
  ⟨fun i => (x i).toReal, funext fun i => (EReal.coe_toReal (h i).2 (h i).1).symm⟩

/-- A row through one of the first two weights, over the reals. -/
def upR (X : Fin 1024 → ℝ) (W : S16x1024x512.Idx → ℝ) (e : Fin 16) (f : Fin 512) : ℝ :=
  ∑ k : Fin 1024, X k * W (ix3 e k f)

/-- One expert's result, over the reals. -/
def oneR (X : Fin 1024 → ℝ) (W1 W3 : S16x1024x512.Idx → ℝ) (W2 : S16x512x1024.Idx → ℝ) (e : Fin 16) (n : Fin 1024) : ℝ :=
  ∑ f : Fin 512, (upR X W1 e f * (1 + Real.exp (-upR X W1 e f))⁻¹ * upR X W3 e f) * W2 (ix3 e f n)

theorem upA_coe (x : S53248x1024.Idx → EReal) (X : Fin 1024 → ℝ) (W : S16x1024x512.Idx → ℝ) (p : Fin 53248) (hX : ∀ k : Fin 1024, x (ix2 p k) = (X k : EReal)) (e : Fin 16) (f : Fin 512) :
    upA x (fun i => (W i : EReal)) p e f = (upR X W e f : EReal) := by
  unfold upA upR
  rw [← coe_sum]
  exact Finset.sum_congr rfl fun k _ => (congrArg (· * (W (ix3 e k f) : EReal)) (hX k)).trans (EReal.coe_mul _ _).symm

theorem oneA_coe (x : S53248x1024.Idx → EReal) (X : Fin 1024 → ℝ) (g : ℝ) (W1 W3 : S16x1024x512.Idx → ℝ) (W2 : S16x512x1024.Idx → ℝ) (p : Fin 53248)
    (hX : ∀ k : Fin 1024, x (ix2 p k) = (X k : EReal)) (e : Fin 16) (n : Fin 1024) :
    oneA x (g : EReal) (fun i => (W1 i : EReal)) (fun i => (W3 i : EReal)) (fun i => (W2 i : EReal)) p e n = ((g * oneR X W1 W3 W2 e n : ℝ) : EReal) := by
  unfold oneA oneR
  rw [Finset.mul_sum, ← coe_sum]
  refine Finset.sum_congr rfl fun f _ => ?_
  rw [upA_coe x X W1 p hX, upA_coe x X W3 p hX, Ideal.logistic_coe, ← EReal.coe_mul, ← EReal.coe_mul, ← EReal.coe_mul, ← EReal.coe_mul]
  exact congrArg _ (by ring)

/-! ## The reference's sum over the reals -/

theorem down_coe (x : S53248x1024.Idx → EReal) (X : Fin 1024 → ℝ) (W1 W3 : S16x1024x512.Idx → ℝ) (W2 : S16x512x1024.Idx → ℝ) (p : Fin 53248)
    (hX : ∀ k : Fin 1024, x (ix2 p k) = (X k : EReal)) (e : Fin 16) (n : Fin 1024) :
    Experts.downOf (F := Ideal) (Experts.hidOf (Experts.upOf x (fun i => (W1 i : EReal))) (Experts.upOf x (fun i => (W3 i : EReal))))
      (fun i => (W2 i : EReal)) (ix3 e p n) = (oneR X W1 W3 W2 e n : EReal) := by
  have up (W : S16x1024x512.Idx → ℝ) (f : Fin 512) : Experts.upOf (F := Ideal) x (fun i => (W i : EReal)) (ix3 e p f) = (upR X W e f : EReal) := by
    rw [Experts.upOf_apply]
    unfold upR
    rw [← coe_sum]
    exact Finset.sum_congr rfl fun k _ => ((mul_comm _ _).trans (congrArg (· * (W (ix3 e k f) : EReal)) (hX k))).trans (EReal.coe_mul _ _).symm
  rw [Experts.downOf_apply]
  unfold oneR
  rw [← coe_sum]
  refine Finset.sum_congr rfl fun f _ => ?_
  rw [Experts.hidOf_apply, up, up, Ideal.logistic_coe, ← EReal.coe_mul, ← EReal.coe_mul, ← EReal.coe_mul]

/-- Whether an expert number is expert `e`'s, as the factor 1 or 0. -/
theorem eq_toNat (a : BitVec 32) (ha : a.toNat < 16) (e : Fin 16) :
    ((IntOp.cmpi .eq a (BitVec.ofNat 32 e.val)).toNat : ℝ) = if (⟨a.toNat, ha⟩ : Fin 16) = e then 1 else 0 := by
  have hb : (a == BitVec.ofNat 32 e.val) = decide ((⟨a.toNat, ha⟩ : Fin 16) = e) := by
    rw [Bool.eq_iff_iff, beq_iff_eq, decide_eq_true_iff]
    have he := e.isLt
    constructor
    · intro h; refine Fin.ext ?_; show a.toNat = e.val; rw [h, BitVec.toNat_ofNat]; exact Nat.mod_eq_of_lt (by omega)
    · intro h; refine BitVec.eq_of_toNat_eq ?_; rw [BitVec.toNat_ofNat, Nat.mod_eq_of_lt (by omega)]; exact congrArg Fin.val h
  show ((BitVec.ofBool (a == BitVec.ofNat 32 e.val)).toNat : ℝ) = _
  rw [hb]
  by_cases h : (⟨a.toNat, ha⟩ : Fin 16) = e
  · rw [if_pos h, decide_eq_true h]; exact Nat.cast_one
  · rw [if_neg h, decide_eq_false h]; exact Nat.cast_zero

/-- A sum over the experts in which two are weighted. -/
theorem sum_two (a b : Fin 16) (g₀ g₁ : ℝ) (Y : Fin 16 → ℝ) :
    ∑ e : Fin 16, (g₀ * (if a = e then 1 else 0) + g₁ * (if b = e then 1 else 0)) * Y e = g₀ * Y a + g₁ * Y b := by
  simp only [add_mul, Finset.sum_add_distrib, mul_ite, mul_one, mul_zero, ite_mul, zero_mul, Finset.sum_ite_eq, Finset.mem_univ, if_true]

/-- The reference's weighted sum is the kernel's two terms. -/
theorem mix_eq (x : S53248x1024.Idx → EReal) (g : Cert.ExpertsIdeal.S53248x2.Idx → EReal) (ea eb : IVec S104 32) (w1 w3 : S16x1024x512.Idx → EReal) (w2 : S16x512x1024.Idx → EReal)
    (p : Fin 53248) (hx : ∀ k : Fin 1024, x (ix2 p k) ≠ ⊥ ∧ x (ix2 p k) ≠ ⊤) (hg : ∀ c : Fin 2, g (ix2 p c) ≠ ⊥ ∧ g (ix2 p c) ≠ ⊤)
    (h1 : ∀ i, w1 i ≠ ⊥ ∧ w1 i ≠ ⊤) (h3 : ∀ i, w3 i ≠ ⊥ ∧ w3 i ≠ ⊤) (h2 : ∀ i, w2 i ≠ ⊥ ∧ w2 i ≠ ⊤)
    (ha : ∀ j, (ea j).toNat < 16) (hb : ∀ j, (eb j).toNat < 16) (n : Fin 1024) (t : Fin 104) (ht : t.val = p.val / 512) :
    Experts.mixOf (F := Ideal) (Experts.gateOf g (Experts.rowExperts ea eb)) (Experts.downOf (Experts.hidOf (Experts.upOf x w1) (Experts.upOf x w3)) w2) (ix2 p n)
      = oneA x (g (ix2 p 0)) w1 w3 w2 p ⟨(ea (tix t)).toNat, ha _⟩ n + oneA x (g (ix2 p 1)) w1 w3 w2 p ⟨(eb (tix t)).toNat, hb _⟩ n := by
  obtain ⟨X, hX'⟩ := reals (fun k : Fin 1024 => x (ix2 p k)) hx
  have hX (k : Fin 1024) : x (ix2 p k) = (X k : EReal) := congrFun hX' k
  obtain ⟨W1, rfl⟩ := reals w1 h1
  obtain ⟨W3, rfl⟩ := reals w3 h3
  obtain ⟨W2, rfl⟩ := reals w2 h2
  have e0 : g (ix2 p 0) = ((g (ix2 p 0)).toReal : EReal) := (EReal.coe_toReal (hg 0).2 (hg 0).1).symm
  have e1 : g (ix2 p 1) = ((g (ix2 p 1)).toReal : EReal) := (EReal.coe_toReal (hg 1).2 (hg 1).1).symm
  have et : (ix1 ⟨p.val / 512, by omega⟩ : S104.Idx) = tix t := (tix_eq _).trans (congrArg tix (Fin.ext ht.symm))
  generalize (g (ix2 p 0)).toReal = g₀ at e0
  generalize (g (ix2 p 1)).toReal = g₁ at e1
  rw [e0, e1, oneA_coe x X _ W1 W3 W2 p hX, oneA_coe x X _ W1 W3 W2 p hX, ← EReal.coe_add, ← sum_two _ _ g₀ g₁ (fun e => oneR X W1 W3 W2 e n), ← coe_sum, Experts.mixOf_apply]
  refine Finset.sum_congr rfl fun e _ => ?_
  rw [down_coe x X W1 W3 W2 p hX, Experts.gateOf_apply, Fin.sum_univ_two]
  have r0 : Experts.rowExperts ea eb (ix2 p 0) = ea (tix t) := (Experts.rowExperts_zero ea eb p).trans (congrArg ea et)
  have r1 : Experts.rowExperts ea eb (ix2 p 1) = eb (tix t) := (Experts.rowExperts_one ea eb p).trans (congrArg eb et)
  rw [r0, r1, eq_toNat _ (ha _), eq_toNat _ (hb _)]
  refine (congrArg₂ (fun u v : EReal => (u * ((if (⟨(ea (tix t)).toNat, ha _⟩ : Fin 16) = e then (1 : ℝ) else 0 : ℝ) : EReal)
    + v * ((if (⟨(eb (tix t)).toNat, hb _⟩ : Fin 16) = e then (1 : ℝ) else 0 : ℝ) : EReal)) * (oneR X W1 W3 W2 e n : EReal)) e0 e1).trans ?_
  rw [← EReal.coe_mul, ← EReal.coe_mul, ← EReal.coe_add, ← EReal.coe_mul]

end Cert.Proof.Moe

end
-- ==== Proof.Moe.Result.lean ====
/-
  What the preconditions say of the experts' arguments, and the equality of the two results. The integers' precondition
  gives the bounds the tables need; the floats' gives that every row, gate and weight entering the result is a real
  number. Then the launch's result is the reference's, entry by entry.
-/
module

public import proofs.«01_k».proof.Pre_tiles_in_range
public import proofs.«01_k».proof.Pre_finite_tiles_in_range
public import proofs.«01_k».proof.Proof.Moe.Algebra

@[expose] public section

set_option maxRecDepth 16384

noncomputable section

namespace Cert.Proof.Moe

open Cert.MoeIdeal Cert.MoeIdeal.Gen Idealize.ShloMosaic Idealize.ShloMosaic.TcCoe Idealize.SL.Sem

instance tilesFacts : Cert.Pre_tiles_in_range.Facts where
  bcast_S_S104 := by decide
  bcast_S_S1 := by decide

instance finiteFacts : Cert.Pre_finite_tiles_in_range.Facts where
  bcast_S1_S104_0 := by decide
  bcast_S104_S104x512_0 := by decide
  shapeCasts_S104x512_S53248 := by decide
  slices_S53248x640_S53248x512_0_0 := by decide
  splits_S53248x512_w32_S53248x512x2_w16 := by decide
  bitsLt_bf16_f32 := by decide
  slices_S53248x640_S53248x2_0_512 := by decide
  bcast_S_S53248x512x2 := by decide
  bcast_S53248_S53248x1x1_0 := by decide
  bcast_S53248x1x1_S53248x512x2_0_1_2 := by decide
  bcast_S_S53248x2 := by decide
  bcast_S53248_S53248x1_0 := by decide
  bcast_S53248x1_S53248x2_0_1 := by decide
  bcast_S_S16x1024x512 := by decide
  bcast_S_S16x512x1024 := by decide
  bcast_S_S104 := by decide
  bcast_S_S1 := by decide

/-! ## One entry's condition -/

theorem both {p q : Bool} (e : IntOp.andi (BitVec.ofBool p) (BitVec.ofBool q) = 1#1) : p = true ∧ q = true := by
  cases p <;> cases q <;> first | exact ⟨rfl, rfl⟩ | exact absurd e (by decide)

theorem expert_lt {x : BitVec 32} (e : IntOp.andi (IntOp.cmpi .sge x 0#32) (IntOp.cmpi .slt x 16#32) = 1#1) : x.toNat < 16 := by
  obtain ⟨hl, hu⟩ := both e
  have hn := x.isLt
  simp only [BitVec.sle_eq_decide, BitVec.slt_eq_decide, decide_eq_true_eq, BitVec.toInt_eq_toNat_cond, BitVec.toNat_ofNat,
    Nat.reducePow, Nat.reduceMod] at hl hu
  omega

theorem count_le {x : BitVec 32} (e : IntOp.andi (IntOp.cmpi .sge x 1#32) (IntOp.cmpi .sle x 104#32) = 1#1) : 0 < x.toNat ∧ x.toNat ≤ 104 := by
  obtain ⟨hl, hu⟩ := both e
  have hn := x.isLt
  simp only [BitVec.sle_eq_decide, BitVec.slt_eq_decide, decide_eq_true_eq, BitVec.toInt_eq_toNat_cond, BitVec.toNat_ofNat,
    Nat.reducePow, Nat.reduceMod] at hl hu
  omega

theorem real_of {x l u : EReal} (e : IntOp.andi (Ideal.cmp .ogt x l) (Ideal.cmp .olt x u) = 1#1) : x ≠ ⊥ ∧ x ≠ ⊤ := by
  obtain ⟨hl, hu⟩ := both e
  exact ⟨ne_bot_of_gt (of_decide_eq_true hl), ne_top_of_lt (of_decide_eq_true hu)⟩

theorem real_or {x l u : EReal} {b : BitVec 1} (e : IntOp.ori (IntOp.andi (Ideal.cmp .ogt x l) (Ideal.cmp .olt x u)) b = 1#1) (hb : b ≠ 1#1) :
    x ≠ ⊥ ∧ x ≠ ⊤ := by
  refine real_of (l := l) (u := u) ?_
  have hk : ∀ a b : BitVec 1, IntOp.ori a b = 1#1 → b ≠ 1#1 → a = 1#1 := by decide
  exact hk _ b e hb

/-! ## The preconditions -/

/-- The integers' precondition gives the tables' bounds. -/
theorem inRange_of {F : FTy → Type} [FloatOps F] (m : (ℓ : Loc nD τ sig) → Buf (Elt F) ℓ)
    (ha : ∀ j, IntOp.andi (IntOp.cmpi .sge (eaW m j) 0#32) (IntOp.cmpi .slt (eaW m j) 16#32) = 1#1)
    (hb : ∀ j, IntOp.andi (IntOp.cmpi .sge (ebW m j) 0#32) (IntOp.cmpi .slt (ebW m j) 16#32) = 1#1)
    (hn : ∀ j, IntOp.andi (IntOp.cmpi .sge (nvW m j) 1#32) (IntOp.cmpi .sle (nvW m j) 104#32) = 1#1) : InRange m :=
  ⟨fun j => expert_lt (ha j), fun j => expert_lt (hb j), (count_le (hn one0)).1, (count_le (hn one0)).2⟩

/-- `tiles_in_range` of the arguments, as the tables' bounds. -/
theorem inRange_tiles {F : FTy → Type} [FloatOps F] (m : (ℓ : Loc nD τ sig) → Buf (Elt F) ℓ) (x : IVec S53248x640 32)
    (w1 w3 : FVec F S16x1024x512 .f32) (w2 : FVec F S16x512x1024 .f32)
    (h : (Cert.Pre_tiles_in_range.fn (F := F) x (eaW m) (ebW m) (nvW m) w1 w3 w2).1 = (fun _ => 1#1)
      ∧ (Cert.Pre_tiles_in_range.fn (F := F) x (eaW m) (ebW m) (nvW m) w1 w3 w2).2.1 = (fun _ => 1#1)
      ∧ (Cert.Pre_tiles_in_range.fn (F := F) x (eaW m) (ebW m) (nvW m) w1 w3 w2).2.2 = (fun _ => 1#1)) : InRange m :=
  inRange_of m (fun j => congrFun h.1 j) (fun j => congrFun h.2.1 j) (fun j => congrFun h.2.2 j)

/-- Whether row `p` belongs to a used tile, the number of used tiles being the word `n`. -/
def UsedRow (n : IVec S1 32) (p : Fin 53248) : Prop := IntOp.cmpi .sge (BitVec.ofNat 32 (p.val / 512)) (n (ix1 0)) ≠ 1#1

/-- What the floats' precondition says of the arguments: the used tiles' rows and gates, and the weights, are finite. -/
structure Finite (n : IVec S1 32) (x : S53248x1024.Idx → EReal) (g : Fin 53248 → Fin 2 → EReal) (w1 w3 : S16x1024x512.Idx → EReal) (w2 : S16x512x1024.Idx → EReal) : Prop where
  x : ∀ (p : Fin 53248) (k : Fin 1024), UsedRow n p → x (ix2 p k) ≠ ⊥ ∧ x (ix2 p k) ≠ ⊤
  g : ∀ (p : Fin 53248) (c : Fin 2), UsedRow n p → g p c ≠ ⊥ ∧ g p c ≠ ⊤
  w1 : ∀ i, w1 i ≠ ⊥ ∧ w1 i ≠ ⊤
  w3 : ∀ i, w3 i ≠ ⊥ ∧ w3 i ≠ ⊤
  w2 : ∀ i, w2 i ≠ ⊥ ∧ w2 i ≠ ⊤

/-- A packed word's upper half is the second of its two numbers, its lower half the first. -/
theorem halves_one (x : IVec S53248x640 32) (p : Fin 53248) (k : Fin 512) :
    (Experts.halvesOf x : FVec Ideal Cert.ExpertsIdeal.S53248x512x2 .f32) (ix3 p k 1) = Ideal.ofBits .bf16 ((x (ix2 p ⟨k.val, by omega⟩)).extractLsb' 16 16) := by
  pointwise [Experts.halvesOf]
theorem halves_zero (x : IVec S53248x640 32) (p : Fin 53248) (k : Fin 512) :
    (Experts.halvesOf x : FVec Ideal Cert.ExpertsIdeal.S53248x512x2 .f32) (ix3 p k 0) = Ideal.ofBits .bf16 ((x (ix2 p ⟨k.val, by omega⟩)).extractLsb' 0 16) := by
  pointwise [Experts.halvesOf]

/-- The precondition's mark of the rows past the used tiles. -/
def pastRow (n : IVec Cert.Pre_finite_tiles_in_range.S1 32) : IVec Cert.Pre_finite_tiles_in_range.S53248 1 :=
  shapeCast Cert.Pre_finite_tiles_in_range.S53248 (broadcastInDim Cert.Pre_finite_tiles_in_range.S104x512 ![0] Cert.Pre_finite_tiles_in_range.Facts.bcast_S104_S104x512_0
    (cmpi .sge (iotaInDim Cert.Pre_finite_tiles_in_range.S104 32 0) (broadcastInDim Cert.Pre_finite_tiles_in_range.S104 ![0] Cert.Pre_finite_tiles_in_range.Facts.bcast_S1_S104_0 n))) Cert.Pre_finite_tiles_in_range.Facts.shapeCasts_S104x512_S53248

theorem past_halves (n : IVec Cert.Pre_finite_tiles_in_range.S1 32) (p : Fin 53248) (k : Fin 512) (j : Fin 2) :
    broadcastInDim Cert.Pre_finite_tiles_in_range.S53248x512x2 ![0, 1, 2] Cert.Pre_finite_tiles_in_range.Facts.bcast_S53248x1x1_S53248x512x2_0_1_2 (broadcastInDim Cert.Pre_finite_tiles_in_range.S53248x1x1 ![0] Cert.Pre_finite_tiles_in_range.Facts.bcast_S53248_S53248x1x1_0 (pastRow n)) (ix3 p k j)
      = IntOp.cmpi .sge (BitVec.ofNat 32 (p.val / 512)) (n (ix1 0)) := by
  pointwise [pastRow]

theorem past_gates (n : IVec Cert.Pre_finite_tiles_in_range.S1 32) (p : Fin 53248) (j : Fin 2) :
    broadcastInDim Cert.Pre_finite_tiles_in_range.S53248x2 ![0, 1] Cert.Pre_finite_tiles_in_range.Facts.bcast_S53248x1_S53248x2_0_1 (broadcastInDim Cert.Pre_finite_tiles_in_range.S53248x1 ![0] Cert.Pre_finite_tiles_in_range.Facts.bcast_S53248_S53248x1_0 (pastRow n)) (ix2 p j)
      = IntOp.cmpi .sge (BitVec.ofNat 32 (p.val / 512)) (n (ix1 0)) := by
  pointwise [pastRow]

/-- `finite_tiles_in_range` of the arguments, as real entries. -/
theorem finite_of (x : IVec S53248x640 32) (ea eb : IVec S104 32) (n : IVec S1 32)
    (w1 w3 : FVec Ideal S16x1024x512 .f32) (w2 : FVec Ideal S16x512x1024 .f32)
    (h0 : (Cert.Pre_finite_tiles_in_range.fn (F := Ideal) x ea eb n w1 w3 w2).1 = (fun _ => 1#1))
    (h1 : (Cert.Pre_finite_tiles_in_range.fn (F := Ideal) x ea eb n w1 w3 w2).2.1 = (fun _ => 1#1))
    (h2 : (Cert.Pre_finite_tiles_in_range.fn (F := Ideal) x ea eb n w1 w3 w2).2.2.1 = (fun _ => 1#1))
    (h3 : (Cert.Pre_finite_tiles_in_range.fn (F := Ideal) x ea eb n w1 w3 w2).2.2.2.1 = (fun _ => 1#1))
    (h4 : (Cert.Pre_finite_tiles_in_range.fn (F := Ideal) x ea eb n w1 w3 w2).2.2.2.2.1 = (fun _ => 1#1)) :
    Finite n (fun i => rowNum (fun j => x (ix2 (i 0) j)) (i 1)) (fun p c => gateNum (fun j => x (ix2 p j)) c) w1 w3 w2 where
  x := fun p k hu => by
    by_cases hk : k.val < 512
    · have e := real_or (congrFun h0 (ix3 p ⟨k.val, hk⟩ 1)) (fun e => hu ((past_halves n p ⟨k.val, hk⟩ 1).symm.trans e))
      have hs := halves_one x p ⟨k.val, hk⟩
      exact (rowNum_up (fun j => x (ix2 p j)) k hk) ▸ (hs ▸ e)
    · have e := real_or (congrFun h0 (ix3 p ⟨k.val - 512, by omega⟩ 0)) (fun e => hu ((past_halves n p ⟨k.val - 512, by omega⟩ 0).symm.trans e))
      have hs := halves_zero x p ⟨k.val - 512, by omega⟩
      exact (rowNum_low (fun j => x (ix2 p j)) k hk) ▸ (hs ▸ e)
  g := fun p c hu => by
    have e := real_or (congrFun h1 (ix2 p c)) (fun e => hu ((past_gates n p c).symm.trans e))
    exact Experts.weightsOf_apply x p c ▸ e
  w1 := fun i => real_of (congrFun h2 i)
  w3 := fun i => real_of (congrFun h3 i)
  w2 := fun i => real_of (congrFun h4 i)

/-! ## The two results -/

/-- The reference's result on real entries is the kernel's formula. -/
theorem out_eq (m : (ℓ : Loc nD τ sig) → Buf (Elt Ideal) ℓ) (h : InRange m) (c : Dev nD)
    (hf : Finite (nvW m) (rowsW m c) (gatesW m c) (w1W m c) (w3W m c) (w2W m c)) (p : Fin 53248) (n : Fin 1024) :
    Experts.out (F := Ideal) (wordsW m c) (eaW m) (ebW m) (nvW m) (w1W m c) (w3W m c) (w2W m c) (ix2 p n) = resOut m h c p n := by
  have hp : p.val / 512 < 104 := by have := p.isLt; omega
  have hl : (BitVec.ofNat 32 (p.val / 512)).toNat = p.val / 512 := by rw [BitVec.toNat_ofNat]; exact Nat.mod_eq_of_lt (by omega)
  have hn := h.le
  have hu : Experts.rowUsed (nvW m) (ix2 p n) = 1#1 ↔ p.val / 512 < nv m := by
    rw [Experts.rowUsed_apply, show (ix1 0 : S1.Idx) = one0 from one0_eq _,
      Idealize.ShloMosaic.StableHlo.Predicate.slt_iff_toNat (by rw [hl]; omega) (by change nv m < _; omega), hl]
  have hz : broadcastInDim S53248x1024 ![] Cert.ExpertsIdeal.Facts₀.bcast_S_S53248x1024 (constant (F := Ideal) Cert.ExpertsIdeal.S_ .f32 0x00000000#32) (ix2 p n) = (0 : EReal) :=
    Ideal.ofBits_zero_f32
  have er : (Experts.rowsOf (wordsW m c) : FVec Ideal S53248x1024 .f32) = rowsW m c := funext fun i => by
    rw [eq_ix2 i]; exact Experts.rowsOf_apply (wordsW m c) (i 0) (i 1)
  have eg (p : Fin 53248) (j : Fin 2) : (Experts.weightsOf (wordsW m c) : FVec Ideal Cert.ExpertsIdeal.S53248x2 .f32) (ix2 p j) = gatesW m c p j :=
    Experts.weightsOf_apply (wordsW m c) p j
  have hs (hp' : p.val / 512 < nv m) : UsedRow (nvW m) p := by
    unfold UsedRow
    rw [show (ix1 0 : S1.Idx) = one0 from one0_eq _]
    intro e
    have e' := (Idealize.ShloMosaic.StableHlo.Predicate.sge_iff_toNat (by rw [hl]; omega) (by change nv m < _; omega)).1 e
    rw [hl] at e'
    exact absurd hp' (not_lt.2 e')
  have hm (hp' : p.val / 512 < nv m) := mix_eq (rowsW m c) (Experts.weightsOf (F := Ideal) (wordsW m c)) (eaW m) (ebW m) (w1W m c) (w3W m c) (w2W m c) p
    (fun k => hf.x p k (hs hp')) (fun j => (eg p j).symm ▸ hf.g p j (hs hp')) hf.w1 hf.w3 hf.w2 h.ea h.eb n ⟨p.val / 512, hp⟩ rfl
  simp only [eg] at hm
  unfold resOut Experts.out
  rw [er]
  exact ite_congr (propext hu) (fun hp' => hm hp') (fun _ => hz)

end Cert.Proof.Moe

end
-- ==== Proof.Final.Run.lean ====
/-
  The run of the two final calls, over any floats: every execution terminates, nothing faulting, with the result array at
  what the second call's pipeline leaves in it, every argument as launched and every counter at zero.
-/
module

public import proofs.«01_k».proof.Proof.Gen.FinalIdeal.Frame

@[expose] public section

set_option maxRecDepth 16384

noncomputable section

namespace Cert.Proof.Final

open Cert.FinalIdeal Cert.FinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

end Cert.Proof.Final

end
-- ==== Proof.Final.Body.lean ====
/-
  A grid point's output block, read at an index, for each of the two calls: the normed row of the point's input blocks.
-/
module

public import proofs.«01_k».proof.Proof.Final.Payload
public import Idealize.ShloMosaic.Lib.WholeRead
public import Idealize.ShloMosaic.Lib.Writes
public import Idealize.ShloMosaic.Lib.Pipeline.Value

@[expose] public section

set_option maxRecDepth 16384

noncomputable section

namespace Cert.Proof.Final

open Cert.FinalIdeal Cert.FinalIdeal.Gen Idealize.ShloMosaic Idealize.ShloMosaic.TcCoe Idealize.ShloMosaic.Tactic Idealize.SL.Sem

section
variable (x0 : Vec Ideal S1x2048x1024 .f32) (x1 : Vec Ideal S1x2048x512 .i32) (x2 : Vec Ideal S1x6x1024 .f32) (x3 : Vec Ideal S1x1024 .f32)

/-- The block a body leaves, from its input blocks. -/
def blockOut (r : Fin 2048) (k : Fin 1024) : EReal :=
  normed (fun k => x0 (ix3 0 r k)) (fun k => x1 (ix3 0 r k)) (fun k => x2 (ix3 0 5 k)) (fun k => x3 (ix2 0 k)) k

/-- The two stores' pieces over the loaded values, at a row. -/
theorem pieces_apply (v0 : Vec Ideal S1x2048x512 .i32) (v8 : Vec Ideal S1x1x1024 .f32) (v10 v16 : Vec Ideal S1x2048x512 .f32) (v36 v45 : Vec Ideal S1x512 .f32) (r : Fin 2048)
    (h0 : ∀ k, v0 (ix3 0 r k) = x1 (ix3 0 r k)) (h8 : ∀ k, v8 (ix3 0 0 k) = x2 (ix3 0 5 k))
    (h10 : ∀ k, v10 (ix3 0 r k) = x0 (ix3 0 r (lo k))) (h16 : ∀ k, v16 (ix3 0 r k) = x0 (ix3 0 r (hi k)))
    (h36 : ∀ k, v36 (ix2 0 k) = x3 (ix2 0 (lo k))) (h45 : ∀ k, v45 (ix2 0 k) = x3 (ix2 0 (hi k))) :
    (∀ k, k0_pay1 (k0_pay8 v0 v8 v10 v16) (k0_pay9 v36) (ix3 0 r k) = blockOut x0 x1 x2 x3 r (lo k))
      ∧ ∀ k, k0_pay2 (k0_pay6 v0 v8 v16) (k0_pay7 v0 v8 v10 v16) v45 (ix3 0 r k) = blockOut x0 x1 x2 x3 r (hi k) := by
  obtain ⟨a5, a6, a7⟩ := norm_halves v0 v8 v10 v16 r (fun k => x0 (ix3 0 r k)) (fun k => x1 (ix3 0 r k)) (fun k => x2 (ix3 0 5 k)) h0 h8 h10 h16
  refine ⟨fun k => ?_, fun k => ?_⟩
  · rw [pay1_apply, a5, a7, h36]; rfl
  · rw [pay2_apply, a6, a7, h45]; rfl

theorem at_left (y : S1x2048x512.Idx) : r0_2.emb y = (ix3 0 (y 1) (lo (y 2)) : S1x2048x1024.Idx) := funext fun a => Fin.ext (by
  match a with
  | ⟨0, _⟩ => show 0 + 1 * (y 0).val = 0; have h : (y 0).val < 1 := (y 0).isLt; omega
  | ⟨1, _⟩ => show 0 + 1 * (y 1).val = (y 1).val; omega
  | ⟨2, _⟩ => show 0 + 1 * (y 2).val = (y 2).val; omega)

theorem at_right (y : S1x2048x512.Idx) : r0_3.emb y = (ix3 0 (y 1) (hi (y 2)) : S1x2048x1024.Idx) := funext fun a => Fin.ext (by
  match a with
  | ⟨0, _⟩ => show 0 + 1 * (y 0).val = 0; have h : (y 0).val < 1 := (y 0).isLt; omega
  | ⟨1, _⟩ => show 0 + 1 * (y 1).val = (y 1).val; omega
  | ⟨2, _⟩ => show 512 + 1 * (y 2).val = 512 + (y 2).val; omega)

theorem eta_half (y : S1x2048x512.Idx) : y = ix3 0 (y 1) (y 2) := funext fun a => Fin.ext (by
  match a with
  | ⟨0, _⟩ => have h : (y 0).val < 1 := (y 0).isLt; show (y 0).val = 0; omega
  | ⟨1, _⟩ => rfl
  | ⟨2, _⟩ => rfl)

/-- Two stores side by side, read back at an index. -/
theorem canon_halves (p1 p2 : Vec Ideal S1x2048x512 .f32) (G : Fin 2048 → Fin 1024 → EReal)
    (h1 : ∀ r k, p1 (ix3 0 r k) = G r (lo k)) (h2 : ∀ r k, p2 (ix3 0 r k) = G r (hi k)) (y : S1x2048x1024.Idx) :
    View.canon ([⟨r0_3, p2⟩, ⟨r0_2, p1⟩] : List (View.Piece (Elt Ideal) S1x2048x1024 .f32)) y = G (y 1) (y 2) := by
  refine View.canon_apply_of_pieces (fun y => G (y 1) (y 2)) _ (fun p hp x => ?_) y (cover0_4 p2 p1 y)
  rcases List.mem_cons.mp hp with rfl | hp
  · show p2 x = G ((r0_3.emb x) 1) ((r0_3.emb x) 2)
    rw [at_right x]
    exact (congrArg p2 (eta_half x)).trans (h2 _ _)
  · rcases List.mem_cons.mp hp with rfl | hp
    · show p1 x = G ((r0_2.emb x) 1) ((r0_2.emb x) 2)
      rw [at_left x]
      exact (congrArg p1 (eta_half x)).trans (h1 _ _)
    · exact absurd hp (List.not_mem_nil)

theorem ld_words (r : Fin 2048) (k : Fin 512) : View.ld x1 r0_0 (ix3 0 r k) = x1 (ix3 0 r k) := by pointwise
theorem ld_gate (k : Fin 1024) : View.ld x2 r0_1 (ix3 0 0 k) = x2 (ix3 0 5 k) := by pointwise
theorem ld_left (r : Fin 2048) (k : Fin 512) : View.ld x0 r0_2 (ix3 0 r k) = x0 (ix3 0 r (lo k)) := by pointwise
theorem ld_right (r : Fin 2048) (k : Fin 512) : View.ld x0 r0_3 (ix3 0 r k) = x0 (ix3 0 r (hi k)) := by pointwise
theorem ld_normL (k : Fin 512) : View.ld x3 r0_4 (ix2 0 k) = x3 (ix2 0 (lo k)) := by pointwise
theorem ld_normR (k : Fin 512) : View.ld x3 r0_5 (ix2 0 k) = x3 (ix2 0 (hi k)) := by pointwise

theorem out_apply (y : S1x2048x1024.Idx) : out0_4 x0 x1 x2 x3 y = blockOut x0 x1 x2 x3 (y 1) (y 2) := by
  have h (r : Fin 2048) := pieces_apply x0 x1 x2 x3 (View.ld x1 r0_0) (View.ld x2 r0_1) (View.ld x0 r0_2) (View.ld x0 r0_3) (View.ld x3 r0_4) (View.ld x3 r0_5) r
    (ld_words x1 r) (ld_gate x2) (ld_left x0 r) (ld_right x0 r) (ld_normL x3) (ld_normR x3)
  have h1 := fun r => (h r).1
  have h2 := fun r => (h r).2
  clear h
  unfold out0_4
  generalize k0_pay1 (F := Ideal) _ _ = p1 at h1 ⊢
  generalize k0_pay2 (F := Ideal) _ _ _ = p2 at h2 ⊢
  exact canon_halves p1 p2 (blockOut x0 x1 x2 x3) h1 h2 y

end

variable {F : FTy → Type} [FloatOps F]

/-- A load through the whole of a buffer is the load from its contents. -/
theorem ld_unread {κ : Kind} {sp : Space} {s : Shape} {e : EltTy} (mr : Memref sig κ sp s e) (h : mr.IsWhole) (X : s.Idx → Elt F e) (rc : Rect s) :
    View.readAt (Elt F) mr.view rc.toLoadRect (h.unread X) = View.ld X rc := funext fun y => h.readAt_unread X _ _

/-- The second call's body leaves what the first's does. -/
theorem out1_eq (c : Dev nD) (i : grid1.Coords) (arg2 : Memref sig .tc .vmem S1x2048x1024 .f32) (harg2 : arg2.IsWhole) (arg3 : Memref sig .tc .vmem S1x2048x512 .i32) (harg3 : arg3.IsWhole) (arg4 : Memref sig .tc .vmem S1x6x1024 .f32) (harg4 : arg4.IsWhole) (arg5 : Memref sig .tc .vmem S1x1024 .f32) (harg5 : arg5.IsWhole) (arg7 : Memref sig .tc .vmem S1x2048x1024 .f32) (harg7 : arg7.IsWhole)
    (x0 : Vec F S1x2048x1024 .f32) (x1 : Vec F S1x2048x512 .i32) (x2 : Vec F S1x6x1024 .f32) (x3 : Vec F S1x1024 .f32) :
    out1_A_4 c i arg2 harg2 arg3 harg3 arg4 harg4 arg5 harg5 arg7 harg7 x0 x1 x2 x3 = out0_4 x0 x1 x2 x3 := by
  unfold out1_A_4 out0_4
  rw [View.read_writes_junk_eq_canon]
  unfold kernelRun1_A
  dsimp only
  unfold kernelRun1_A.sl.r kernelRun1_A.sl.r_1 kernelRun1_A.sl.r_2 kernelRun1_A.sl.r_3
  simp only [ld_unread]
  sl_kernel_rfl

end Cert.Proof.Final

end
-- ==== Proof.Final.Array.lean ====
/-
  The result array after the two final calls: the first call's blocks are the first twenty batches, the second's the
  last twelve, and each holds the normed rows of its own arguments.
-/
module

public import proofs.«01_k».proof.Proof.Final.Body
public import Idealize.ShloMosaic.Lib.Pipeline.ValueKit.Geometry

@[expose] public section

set_option maxRecDepth 16384

noncomputable section

namespace Cert.Proof.Final

open Cert.FinalIdeal Cert.FinalIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The arguments as launched. -/
abbrev xA : S20x2048x1024.Idx → EReal := m ((c : Thread nD τ).loc main_arg0)
abbrev wA : S20x2048x512.Idx → BitVec 32 := m ((c : Thread nD τ).loc main_arg1)
abbrev xB : S12x2048x1024.Idx → EReal := m ((c : Thread nD τ).loc main_arg2)
abbrev wB : S12x2048x512.Idx → BitVec 32 := m ((c : Thread nD τ).loc main_arg3)
abbrev modW : S32x6x1024.Idx → EReal := m ((c : Thread nD τ).loc main_arg4)
abbrev normW : S1024.Idx → EReal := m ((c : Thread nD τ).loc main_arg5)

/-- A batch's row of the stream, and of the experts' packed words. -/
def rowX (b : Fin 32) (r : Fin 2048) (k : Fin 1024) : EReal :=
  if h : b.val < 20 then xA m c (ix3 ⟨b.val, h⟩ r k) else xB m c (ix3 ⟨b.val - 20, by omega⟩ r k)
def rowW (b : Fin 32) (r : Fin 2048) (k : Fin 512) : BitVec 32 :=
  if h : b.val < 20 then wA m c (ix3 ⟨b.val, h⟩ r k) else wB m c (ix3 ⟨b.val - 20, by omega⟩ r k)

/-- The result at an index. -/
def res (b : Fin 32) (r : Fin 2048) (k : Fin 1024) : EReal :=
  normed (rowX m c b r) (rowW m c b r) (fun k => modW m c (ix3 b 5 k)) (fun k => normW m c (ix1 k)) k

def resG (i : S32x2048x1024.Idx) : EReal := res m c (i 0) (i 1) (i 2)

/-! ## The arrays at a region's entry -/

theorem norm0 (k : Fin 1024) : (V1 m ρ c main_v0 : S1x1024.Idx → EReal) (ix2 0 k) = normW m c (ix1 k) := by
  have e : (V1 m ρ c main_v0 : S1x1024.Idx → EReal) = shapeCast S1x1024 (normW m c) shapeCasts_S1024_S1x1024 := by
    show StableHlo.after hostOps0 (W0 m ρ c) (Proc.devRef .tc main_v0) = _
    after_results_simp <;> rfl
  rw [e]
  pointwise

theorem norm1 (k : Fin 1024) : (V3 m ρ c main_v2 : S1x1024.Idx → EReal) (ix2 0 k) = normW m c (ix1 k) := by
  have e : (V3 m ρ c main_v2 : S1x1024.Idx → EReal) = shapeCast S1x1024 (W2 m ρ c (Proc.devRef .tc main_arg5) : S1024.Idx → EReal) shapeCasts_S1024_S1x1024 := by
    show StableHlo.after hostOps1 (W2 m ρ c) (Proc.devRef .tc main_v2) = _
    after_results_simp <;> rfl
  have e5 : (W2 m ρ c (Proc.devRef .tc main_arg5) : S1024.Idx → EReal) = normW m c := W2_args m ρ c main_arg5 (by decide)
  rw [e, e5]
  pointwise

/-- The second call's result array starts as the first call leaves it. -/
theorem carried : (V3 m ρ c main_v3 : S32x2048x1024.Idx → EReal) = (dat0 (V1 m ρ) c).arrAt 4 cfg0.N := by
  refine Eq.trans ?_ (W2_arr m ρ c 4)
  show StableHlo.after hostOps1 (W2 m ρ c) (Proc.devRef .tc main_v3) = _
  after_results_simp <;> rfl

/-! ## The first call -/

theorem lt0 (t : Fin cfg0.N) : t.val < 20 := t.isLt
/-- The batch of a grid point. -/
abbrev bat0 (t : Fin cfg0.N) : Fin 32 := ⟨t.val, by have := lt0 t; omega⟩

theorem index0_0 : ∀ t : Fin cfg0.N, (cfg0.win 0).index t = ![t.val, 0, 0] := (by decide +kernel : ∀ t : Fin grid0.N, win0_0.index t = ![t.val, 0, 0])
theorem index0_1 : ∀ t : Fin cfg0.N, (cfg0.win 1).index t = ![t.val, 0, 0] := (by decide +kernel : ∀ t : Fin grid0.N, win0_1.index t = ![t.val, 0, 0])
theorem index0_2 : ∀ t : Fin cfg0.N, (cfg0.win 2).index t = ![t.val, 0, 0] := (by decide +kernel : ∀ t : Fin grid0.N, win0_2.index t = ![t.val, 0, 0])
theorem index0_3 : ∀ t : Fin cfg0.N, (cfg0.win 3).index t = ![0, 0] := (by decide +kernel : ∀ t : Fin grid0.N, win0_3.index t = ![0, 0])
theorem index0_4 : ∀ t : Fin cfg0.N, (cfg0.win 4).index t = ![t.val, 0, 0] := (by decide +kernel : ∀ t : Fin grid0.N, win0_4.index t = ![t.val, 0, 0])

theorem iblk0_x (t : Fin cfg0.N) (r : Fin 2048) (k : Fin 1024) : iblk0 (V1 m ρ) c 0 t (ix3 0 r k) = rowX m c (bat0 t) r k := by
  have e1 : (V1 m ρ c main_arg0 : S20x2048x1024.Idx → EReal) = xA m c := W1_args m ρ c main_arg0 (by decide)
  refine Eq.trans (congrArg (V1 m ρ c main_arg0) (?_ : ((cfg0.win 0).rect t).emb (ix3 0 r k) = (ix3 ⟨t.val, lt0 t⟩ r k : S20x2048x1024.Idx))) ((congrFun e1 _).trans ?_)
  · funext a
    refine Fin.ext ((Window.rect_emb_val _ t _ a rfl).trans ?_)
    rw [index0_0]
    match a with
    | ⟨0, _⟩ => show t.val * 1 + 0 = t.val; omega
    | ⟨1, _⟩ => show 0 * 2048 + r.val = r.val; omega
    | ⟨2, _⟩ => show 0 * 1024 + k.val = k.val; omega
  · unfold rowX
    rw [dif_pos (lt0 t)]

theorem iblk0_w (t : Fin cfg0.N) (r : Fin 2048) (k : Fin 512) : iblk0 (V1 m ρ) c 1 t (ix3 0 r k) = rowW m c (bat0 t) r k := by
  have e1 : (V1 m ρ c main_arg1 : S20x2048x512.Idx → BitVec 32) = wA m c := W1_args m ρ c main_arg1 (by decide)
  refine Eq.trans (congrArg (V1 m ρ c main_arg1) (?_ : ((cfg0.win 1).rect t).emb (ix3 0 r k) = (ix3 ⟨t.val, lt0 t⟩ r k : S20x2048x512.Idx))) ((congrFun e1 _).trans ?_)
  · funext a
    refine Fin.ext ((Window.rect_emb_val _ t _ a rfl).trans ?_)
    rw [index0_1]
    match a with
    | ⟨0, _⟩ => show t.val * 1 + 0 = t.val; omega
    | ⟨1, _⟩ => show 0 * 2048 + r.val = r.val; omega
    | ⟨2, _⟩ => show 0 * 512 + k.val = k.val; omega
  · unfold rowW
    rw [dif_pos (lt0 t)]

theorem iblk0_m (t : Fin cfg0.N) (k : Fin 1024) : iblk0 (V1 m ρ) c 2 t (ix3 0 5 k) = modW m c (ix3 (bat0 t) 5 k) := by
  have e1 : (V1 m ρ c main_arg4 : S32x6x1024.Idx → EReal) = modW m c := W1_args m ρ c main_arg4 (by decide)
  refine Eq.trans (congrArg (V1 m ρ c main_arg4) (?_ : ((cfg0.win 2).rect t).emb (ix3 0 5 k) = (ix3 (bat0 t) 5 k : S32x6x1024.Idx))) (congrFun e1 _)
  funext a
  refine Fin.ext ((Window.rect_emb_val _ t _ a rfl).trans ?_)
  rw [index0_2]
  match a with
  | ⟨0, _⟩ => show t.val * 1 + 0 = t.val; omega
  | ⟨1, _⟩ => show 0 * 6 + 5 = 5; omega
  | ⟨2, _⟩ => show 0 * 1024 + k.val = k.val; omega

theorem iblk0_g (t : Fin cfg0.N) (k : Fin 1024) : iblk0 (V1 m ρ) c 3 t (ix2 0 k) = normW m c (ix1 k) := by
  refine Eq.trans (congrArg (V1 m ρ c main_v0) (?_ : ((cfg0.win 3).rect t).emb (ix2 0 k) = (ix2 0 k : S1x1024.Idx))) (norm0 m ρ c k)
  funext a
  refine Fin.ext ((Window.rect_emb_val _ t _ a rfl).trans ?_)
  rw [index0_3]
  match a with
  | ⟨0, _⟩ => show 0 * 1 + 0 = 0; omega
  | ⟨1, _⟩ => show 0 * 1024 + k.val = k.val; omega

theorem emb0 (t : Fin cfg0.N) (y : S1x2048x1024.Idx) : ((cfg0.win 4).rect t).emb y = (ix3 (bat0 t) (y 1) (y 2) : S32x2048x1024.Idx) := by
  funext a
  refine Fin.ext ((Window.rect_emb_val _ t _ a rfl).trans ?_)
  rw [index0_4]
  match a with
  | ⟨0, _⟩ => have h : (y 0).val < 1 := (y 0).isLt; show t.val * 1 + (y 0).val = t.val; omega
  | ⟨1, _⟩ => show 0 * 2048 + (y 1).val = (y 1).val; omega
  | ⟨2, _⟩ => show 0 * 1024 + (y 2).val = (y 2).val; omega

theorem after0_at (t : Fin cfg0.N) (y : S1x2048x1024.Idx) : out0_4 (iblk0 (V1 m ρ) c 0 t) (iblk0 (V1 m ρ) c 1 t) (iblk0 (V1 m ρ) c 2 t) (iblk0 (V1 m ρ) c 3 t) y = resG m c (((cfg0.win 4).rect t).emb y) := by
  rw [emb0 t y]
  refine (out_apply _ _ _ _ y).trans ?_
  show blockOut _ _ _ _ (y 1) (y 2) = res m c (bat0 t) (y 1) (y 2)
  unfold blockOut res
  rw [funext (iblk0_x m ρ c t (y 1)), funext (iblk0_w m ρ c t (y 1)), funext (iblk0_m m ρ c t), funext (iblk0_g m ρ c t)]

theorem mem0 (t : Fin cfg0.N) (i : S32x2048x1024.Idx) : i ∈ ((cfg0.win 4).blk t).view.set ↔ (i 0).val = t.val := by
  refine (Window.emb_mem_blk_iff (cfg0.win 4) t i rfl).trans ⟨fun h => ?_, fun h a => ?_⟩
  · have h0 := h 0
    rw [index0_4] at h0
    have h0' : t.val * 1 ≤ (i 0).val ∧ (i 0).val < t.val * 1 + 1 := h0
    omega
  · rw [index0_4]
    match a with
    | ⟨0, _⟩ => show t.val * 1 ≤ (i 0).val ∧ (i 0).val < t.val * 1 + 1; omega
    | ⟨1, _⟩ => have h1 : (i 1).val < 2048 := (i 1).isLt; show 0 * 2048 ≤ (i 1).val ∧ (i 1).val < 0 * 2048 + 2048; omega
    | ⟨2, _⟩ => have h2 : (i 2).val < 1024 := (i 2).isLt; show 0 * 1024 ≤ (i 2).val ∧ (i 2).val < 0 * 1024 + 1024; omega

theorem arr0 (i : S32x2048x1024.Idx) (hi : (i 0).val < 20) : (dat0 (V1 m ρ) c).arrAt 4 cfg0.N i = resG m c i := by
  let t : Fin cfg0.N := ⟨(i 0).val, hi⟩
  refine (dat0 (V1 m ρ) c).arrAt_forall_of_flushed 4 (fun i v => v = resG m c i) (fun s _ y => ?_)
    cfg0.N t i t.isLt (flush0_4 t) ((mem0 t i).2 rfl)
  rw [Dat.flushed_apply, after0_4 (V1 m ρ) c s]
  have ex : ((cfg0.win 4).xinj (cfg0.grid.coords s) y : S1x2048x1024.Idx) = (y : S1x2048x1024.Idx) := funext fun a => Fin.ext rfl
  have ec {x : EReal} (he : EReal = EReal) : _root_.cast he x = x := rfl
  exact (ec _).trans ((congrArg (out0_4 (iblk0 (V1 m ρ) c 0 s) (iblk0 (V1 m ρ) c 1 s) (iblk0 (V1 m ρ) c 2 s) (iblk0 (V1 m ρ) c 3 s)) ex).trans (after0_at m ρ c s y))

/-! ## The second call -/

theorem lt1 (t : Fin cfg1.N) : t.val < 12 := t.isLt
/-- The batch of a grid point. -/
abbrev bat1 (t : Fin cfg1.N) : Fin 32 := ⟨t.val + 20, by have := lt1 t; omega⟩

theorem index1_0 : ∀ t : Fin cfg1.N, (cfg1.win 0).index t = ![t.val, 0, 0] := (by decide +kernel : ∀ t : Fin grid1.N, win1_0.index t = ![t.val, 0, 0])
theorem index1_1 : ∀ t : Fin cfg1.N, (cfg1.win 1).index t = ![t.val, 0, 0] := (by decide +kernel : ∀ t : Fin grid1.N, win1_1.index t = ![t.val, 0, 0])
theorem index1_2 : ∀ t : Fin cfg1.N, (cfg1.win 2).index t = ![(t.val + 20), 0, 0] := (by decide +kernel : ∀ t : Fin grid1.N, win1_2.index t = ![(t.val + 20), 0, 0])
theorem index1_3 : ∀ t : Fin cfg1.N, (cfg1.win 3).index t = ![0, 0] := (by decide +kernel : ∀ t : Fin grid1.N, win1_3.index t = ![0, 0])
theorem index1_4 : ∀ t : Fin cfg1.N, (cfg1.win 4).index t = ![(t.val + 20), 0, 0] := (by decide +kernel : ∀ t : Fin grid1.N, win1_4.index t = ![(t.val + 20), 0, 0])

theorem iblk1_x (t : Fin cfg1.N) (r : Fin 2048) (k : Fin 1024) : iblk1 (V3 m ρ) c 0 t (ix3 0 r k) = rowX m c (bat1 t) r k := by
  have e1 : (V3 m ρ c main_arg2 : S12x2048x1024.Idx → EReal) = xB m c := W3_args m ρ c main_arg2 (by decide)
  refine Eq.trans (congrArg (V3 m ρ c main_arg2) (?_ : ((cfg1.win 0).rect t).emb (ix3 0 r k) = (ix3 ⟨t.val, lt1 t⟩ r k : S12x2048x1024.Idx))) ((congrFun e1 _).trans ?_)
  · funext a
    refine Fin.ext ((Window.rect_emb_val _ t _ a rfl).trans ?_)
    rw [index1_0]
    match a with
    | ⟨0, _⟩ => show t.val * 1 + 0 = t.val; omega
    | ⟨1, _⟩ => show 0 * 2048 + r.val = r.val; omega
    | ⟨2, _⟩ => show 0 * 1024 + k.val = k.val; omega
  · unfold rowX
    rw [dif_neg (by show ¬ t.val + 20 < 20; omega)]
    have e : (⟨t.val, lt1 t⟩ : Fin 12) = ⟨(bat1 t).val - 20, by have := lt1 t; show t.val + 20 - 20 < 12; omega⟩ := Fin.ext (by show t.val = t.val + 20 - 20; omega)
    rw [e]

theorem iblk1_w (t : Fin cfg1.N) (r : Fin 2048) (k : Fin 512) : iblk1 (V3 m ρ) c 1 t (ix3 0 r k) = rowW m c (bat1 t) r k := by
  have e1 : (V3 m ρ c main_arg3 : S12x2048x512.Idx → BitVec 32) = wB m c := W3_args m ρ c main_arg3 (by decide)
  refine Eq.trans (congrArg (V3 m ρ c main_arg3) (?_ : ((cfg1.win 1).rect t).emb (ix3 0 r k) = (ix3 ⟨t.val, lt1 t⟩ r k : S12x2048x512.Idx))) ((congrFun e1 _).trans ?_)
  · funext a
    refine Fin.ext ((Window.rect_emb_val _ t _ a rfl).trans ?_)
    rw [index1_1]
    match a with
    | ⟨0, _⟩ => show t.val * 1 + 0 = t.val; omega
    | ⟨1, _⟩ => show 0 * 2048 + r.val = r.val; omega
    | ⟨2, _⟩ => show 0 * 512 + k.val = k.val; omega
  · unfold rowW
    rw [dif_neg (by show ¬ t.val + 20 < 20; omega)]
    have e : (⟨t.val, lt1 t⟩ : Fin 12) = ⟨(bat1 t).val - 20, by have := lt1 t; show t.val + 20 - 20 < 12; omega⟩ := Fin.ext (by show t.val = t.val + 20 - 20; omega)
    rw [e]

theorem iblk1_m (t : Fin cfg1.N) (k : Fin 1024) : iblk1 (V3 m ρ) c 2 t (ix3 0 5 k) = modW m c (ix3 (bat1 t) 5 k) := by
  have e1 : (V3 m ρ c main_arg4 : S32x6x1024.Idx → EReal) = modW m c := W3_args m ρ c main_arg4 (by decide)
  refine Eq.trans (congrArg (V3 m ρ c main_arg4) (?_ : ((cfg1.win 2).rect t).emb (ix3 0 5 k) = (ix3 (bat1 t) 5 k : S32x6x1024.Idx))) (congrFun e1 _)
  funext a
  refine Fin.ext ((Window.rect_emb_val _ t _ a rfl).trans ?_)
  rw [index1_2]
  match a with
  | ⟨0, _⟩ => show (t.val + 20) * 1 + 0 = (t.val + 20); omega
  | ⟨1, _⟩ => show 0 * 6 + 5 = 5; omega
  | ⟨2, _⟩ => show 0 * 1024 + k.val = k.val; omega

theorem iblk1_g (t : Fin cfg1.N) (k : Fin 1024) : iblk1 (V3 m ρ) c 3 t (ix2 0 k) = normW m c (ix1 k) := by
  refine Eq.trans (congrArg (V3 m ρ c main_v2) (?_ : ((cfg1.win 3).rect t).emb (ix2 0 k) = (ix2 0 k : S1x1024.Idx))) (norm1 m ρ c k)
  funext a
  refine Fin.ext ((Window.rect_emb_val _ t _ a rfl).trans ?_)
  rw [index1_3]
  match a with
  | ⟨0, _⟩ => show 0 * 1 + 0 = 0; omega
  | ⟨1, _⟩ => show 0 * 1024 + k.val = k.val; omega

theorem emb1 (t : Fin cfg1.N) (y : S1x2048x1024.Idx) : ((cfg1.win 4).rect t).emb y = (ix3 (bat1 t) (y 1) (y 2) : S32x2048x1024.Idx) := by
  funext a
  refine Fin.ext ((Window.rect_emb_val _ t _ a rfl).trans ?_)
  rw [index1_4]
  match a with
  | ⟨0, _⟩ => have h : (y 0).val < 1 := (y 0).isLt; show (t.val + 20) * 1 + (y 0).val = (t.val + 20); omega
  | ⟨1, _⟩ => show 0 * 2048 + (y 1).val = (y 1).val; omega
  | ⟨2, _⟩ => show 0 * 1024 + (y 2).val = (y 2).val; omega

theorem after1_at (t : Fin cfg1.N) (y : S1x2048x1024.Idx) : outsAt1 (V3 m ρ) c t y = resG m c (((cfg1.win 4).rect t).emb y) := by
  rw [emb1 t y]
  unfold outsAt1
  rw [out1_eq]
  refine (out_apply _ _ _ _ y).trans ?_
  show blockOut _ _ _ _ (y 1) (y 2) = res m c (bat1 t) (y 1) (y 2)
  unfold blockOut res
  rw [funext (iblk1_x m ρ c t (y 1)), funext (iblk1_w m ρ c t (y 1)), funext (iblk1_m m ρ c t), funext (iblk1_g m ρ c t)]

theorem mem1 (t : Fin cfg1.N) (i : S32x2048x1024.Idx) : i ∈ ((cfg1.win 4).blk t).view.set ↔ (i 0).val = (t.val + 20) := by
  refine (Window.emb_mem_blk_iff (cfg1.win 4) t i rfl).trans ⟨fun h => ?_, fun h a => ?_⟩
  · have h0 := h 0
    rw [index1_4] at h0
    have h0' : (t.val + 20) * 1 ≤ (i 0).val ∧ (i 0).val < (t.val + 20) * 1 + 1 := h0
    omega
  · rw [index1_4]
    match a with
    | ⟨0, _⟩ => show (t.val + 20) * 1 ≤ (i 0).val ∧ (i 0).val < (t.val + 20) * 1 + 1; omega
    | ⟨1, _⟩ => have h1 : (i 1).val < 2048 := (i 1).isLt; show 0 * 2048 ≤ (i 1).val ∧ (i 1).val < 0 * 2048 + 2048; omega
    | ⟨2, _⟩ => have h2 : (i 2).val < 1024 := (i 2).isLt; show 0 * 1024 ≤ (i 2).val ∧ (i 2).val < 0 * 1024 + 1024; omega

theorem arr1 (i : S32x2048x1024.Idx) (hi : 20 ≤ (i 0).val) : (dat1 (V3 m ρ) c).arrAt 4 cfg1.N i = resG m c i := by
  let t : Fin cfg1.N := ⟨(i 0).val - 20, by have h : (i 0).val < 32 := (i 0).isLt; show (i 0).val - 20 < 12; omega⟩
  refine (dat1 (V3 m ρ) c).arrAt_forall_of_flushed 4 (fun i v => v = resG m c i) (fun s _ y => ?_)
    cfg1.N t i t.isLt (flush1_4 t) ((mem1 t i).2 (by show (i 0).val = (i 0).val - 20 + 20; omega))
  rw [Dat.flushed_apply, after1_4 (V3 m ρ) c s]
  have ex : ((cfg1.win 4).xinj (cfg1.grid.coords s) y : S1x2048x1024.Idx) = (y : S1x2048x1024.Idx) := funext fun a => Fin.ext rfl
  have ec {x : EReal} (he : EReal = EReal) : _root_.cast he x = x := rfl
  exact (ec _).trans ((congrArg (outsAt1 (V3 m ρ) c s) ex).trans (after1_at m ρ c s y))

/-! ## The result -/

theorem result_eq (i : S32x2048x1024.Idx) : (W4 m ρ c (Proc.devRef .tc main_v3) : S32x2048x1024.Idx → EReal) i = resG m c i := by
  have e : (W4 m ρ c (Proc.devRef .tc main_v3) : S32x2048x1024.Idx → EReal) = (dat1 (V3 m ρ) c).arrAt 4 cfg1.N := W4_arr m ρ c 4
  rw [e]
  by_cases hi : 20 ≤ (i 0).val
  · exact arr1 m ρ c i hi
  · refine ((dat1 (V3 m ρ) c).arrAt_apply_of_forall_not_mem 4 cfg1.N i fun t _ _ h => hi ?_).trans ?_
    · rw [(mem1 t i).1 h]; omega
    · refine (congrFun (A_eq1 (V3 m ρ) c 4) i).trans ?_
      exact (congrFun (carried m ρ c) i).trans (arr0 m ρ c i (by omega))

end Cert.Proof.Final

end
-- ==== Proof.Final.Result.lean ====
/-
  The reference's result, read at an index: the normed row of the concatenated arguments.
-/
module

public import proofs.«01_k».proof.Proof.Final.Payload
public import proofs.«01_k».proof.Proof.Gen.NormIdeal.Run
public import Idealize.ShloMosaic.Lib.BitcastConvert

@[expose] public section

set_option maxRecDepth 16384

noncomputable section

namespace Cert.Proof.Final

open Cert.NormIdeal Cert.NormIdeal.Gen Cert.NormIdeal.Value Idealize.ShloMosaic Idealize.ShloMosaic.TcCoe Idealize.SL.Sem

variable (m : (ℓ : Loc nD τ sig) → Buf (Elt Ideal) ℓ) (c : Dev nD)

/-- The concatenated arguments' rows. -/
def catX (b : Fin 32) (r : Fin 2048) (k : Fin 1024) : EReal :=
  if h : b.val < 20 then (m ((c.tc : Thread nD τ).loc main_arg0) : S20x2048x1024.Idx → EReal) (ix3 ⟨b.val, h⟩ r k)
  else (m ((c.tc : Thread nD τ).loc main_arg2) : S12x2048x1024.Idx → EReal) (ix3 ⟨b.val - 20, by omega⟩ r k)
def catW (b : Fin 32) (r : Fin 2048) (k : Fin 512) : BitVec 32 :=
  if h : b.val < 20 then (m ((c.tc : Thread nD τ).loc main_arg1) : S20x2048x512.Idx → BitVec 32) (ix3 ⟨b.val, h⟩ r k)
  else (m ((c.tc : Thread nD τ).loc main_arg3) : S12x2048x512.Idx → BitVec 32) (ix3 ⟨b.val - 20, by omega⟩ r k)

theorem reference_eq (b : Fin 32) (r : Fin 2048) (k : Fin 1024) : (res_main_v25 m c : S32x2048x1024.Idx → EReal) (ix3 b r k)
    = normed (catX m c b r) (catW m c b r) (fun k => (m ((c.tc : Thread nD τ).loc main_arg4) : S32x6x1024.Idx → EReal) (ix3 b 5 k))
        (fun k => (m ((c.tc : Thread nD τ).loc main_arg5) : S1024.Idx → EReal) (ix1 k)) k := by
  pointwise [res_main_v25, normed, mix, inv, half, catX, catW]

end Cert.Proof.Final

end
-- ==== Proof.Gather.Closed.lean ====
/-
  The closed forms of the row gather's block loop. A vector subcore's pipeline carries six counters through its
  twenty steps; every condition, check and window offset of a step is a function of those counters and of the
  subcore's coordinates. Here they are stated at step `k`: the counters (`a6` … `a11`), which branches are taken,
  the windows' offsets, and the counters after the step.
-/
module

public import proofs.«01_k».proof.Defs
public import proofs.«01_k».proof.Proof.Gen.KernelIdeal
public import proofs.«01_k».proof.Proof.Gen.KernelIdeal.Skeleton
public import Idealize.ShloMosaic.Lib.Decide

@[expose] public section

set_option Elab.async false
set_option maxRecDepth 65536

noncomputable section

namespace Cert.Proof.Gather

open Cert.KernelIdeal Cert.KernelIdeal.Gen
open Idealize.ShloMosaic Idealize.SL.Sem

/-! ## The counters before step `k` -/

def a6 (k : ℕ) : BitVec 32 := BitVec.ofNat 32 (if k < 20 then 1 + k / 2 else 10)
def a7 (k : ℕ) : BitVec 32 := BitVec.ofNat 32 (k / 2)
def a8 (k : ℕ) : BitVec 32 := BitVec.ofNat 32 k
def a9 (k : ℕ) : BitVec 32 := BitVec.ofNat 32 (k - 1)
def a10 (k : ℕ) : BitVec 32 := BitVec.ofNat 32 (k / 2 % 10)
def a11 (k : ℕ) : BitVec 32 := BitVec.ofNat 32 (k % 2)

/-- The six counters before step `k`. -/
def carry (k : ℕ) : BitVec 32 × BitVec 32 × BitVec 32 × BitVec 32 × BitVec 32 × BitVec 32 :=
  (a6 k, a7 k, a8 k, a9 k, a10 k, a11 k)

/-- The subcore's number among the thirty-two. -/
def wk (i : grid0.Coords) : ℕ := (i 1).val + 16 * (i 0).val
theorem wk_lt (i : grid0.Coords) : wk i < 32 := by
  have h0 : (i 0).val < 2 := (i 0).isLt
  have h1 : (i 1).val < 16 := (i 1).isLt
  unfold wk; omega

theorem trips_eq : k0_t1_loop.trips = 20 := by decide +kernel

/-! ## The checks -/

theorem chk1_at : ∀ (i : grid0.Coords) (k : Fin k0_t1_loop.trips), k0_chk1 i k (a6 k) (a7 k) (a8 k) (a9 k) (a10 k) (a11 k) := by decide +kernel
theorem chk2_at : ∀ k : Fin k0_t1_loop.trips, k0_chk2 (a8 k) := by decide +kernel
theorem chk3_at : ∀ k : Fin k0_t1_loop.trips, k0_chk3 (a7 k) := by decide +kernel
theorem chk4_end : k0_chk4 (a9 20) := by decide +kernel
theorem chk5_end : ∀ i : grid0.Coords, k0_chk5 i (a11 20) (a10 20) := by decide +kernel

/-! ## The branches -/

theorem cond1_at : ∀ (i : grid0.Coords) (k : Fin k0_t1_loop.trips),
    (k0_cond1 i k (a10 k) (a11 k) = 1#1) ↔ (k.val % 2 = 1 ∧ k.val ≠ 19) := by decide +kernel
theorem cond2_at : ∀ (i : grid0.Coords) (k : Fin k0_t1_loop.trips),
    (k0_cond2 i k (a10 k) (a11 k) = 1#1) ↔ k.val % 2 = 0 := by decide +kernel
theorem cond5_at : ∀ (i : grid0.Coords) (k : Fin k0_t1_loop.trips), k0_cond5 i k (a10 k) (a11 k) = 1#1 := by decide +kernel
theorem cond7_at : ∀ (i : grid0.Coords) (k : Fin k0_t1_loop.trips),
    (k0_cond7 i k (a10 k) (a11 k) = 1#1) ↔ k.val ≠ 0 := by decide +kernel

/-! ## The windows' offsets -/

theorem off4_at : ∀ k : Fin k0_t1_loop.trips, k0_off4 (a6 k) = ![(k.val / 2 + 1) % 2, 0, 0] := by decide +kernel
theorem off5_at : ∀ (i : grid0.Coords) (k : Fin k0_t1_loop.trips), k.val % 2 = 1 ∧ k.val ≠ 19 →
    k0_off5 i (a10 k) (a11 k) = ![0, 128 * (10 * wk i + (k.val / 2 + 1))] := by decide +kernel
theorem off6_at : ∀ k : Fin k0_t1_loop.trips, k0_off6 (a6 k) = ![(k.val / 2 + 1) % 2] := by decide +kernel
theorem off7_at : ∀ k : Fin k0_t1_loop.trips, k0_off7 (a7 k) = ![k.val / 2 % 2, 0, 0] := by decide +kernel
theorem off9_at : ∀ k : Fin k0_t1_loop.trips, k0_off9 (a7 k) = ![k.val / 2 % 2] := by decide +kernel
theorem off10_at : ∀ k : Fin k0_t1_loop.trips, k0_off10 (a8 k) = ![k.val % 2, 0, 0] := by decide +kernel
theorem off11_at : ∀ k : Fin k0_t1_loop.trips, k0_off11 (a7 k) = ![k.val / 2 % 2, 0, 0] := by decide +kernel
theorem off12_at : ∀ k : Fin k0_t1_loop.trips, k0_off12 (a11 k) = ![0, 64 * (k.val % 2)] := by decide +kernel
theorem off13_at : ∀ k : Fin k0_t1_loop.trips, k0_off13 (a8 k) = ![k.val % 2, 0, 0] := by decide +kernel
theorem off14_at : ∀ (i : grid0.Coords) (k : Fin k0_t1_loop.trips),
    k0_off14 i (a10 k) (a11 k) = ![64 * (20 * wk i + k.val), 0] := by decide +kernel
theorem off15_at : ∀ k : Fin k0_t1_loop.trips, k0_off15 (a8 k) = ![k.val % 2] := by decide +kernel
theorem off17_at : ∀ (i : grid0.Coords) (k : Fin k0_t1_loop.trips), k.val ≠ 0 →
    k0_off17 i (a10 k) (a11 k) = ![64 * (20 * wk i + (k.val - 1)), 0] := by decide +kernel
theorem off20_end : ∀ i : grid0.Coords, k0_off20 i (a11 20) (a10 20) = ![64 * (20 * wk i + 19), 0] := by decide +kernel
theorem off18_at : ∀ k : Fin k0_t1_loop.trips, k0_off18 (a9 k) = ![(k.val - 1) % 2] := by decide +kernel
theorem off21_end : k0_off21 (a9 20) = ![1] := by decide +kernel
theorem off2_at (i : grid0.Coords) : k0_off2 i = ![0, 128 * (10 * wk i + 0)] := by
  rw [k0_off2_eq]; congr 2; unfold wk; omega

end Cert.Proof.Gather

end
-- ==== Proof.Gather.Windows.lean ====
/-
  The windows the row gather moves data through, under names that do not depend on the program's counters: the two
  slots of the index ring and the two slots of the row ring, a slot's four column parts, a list's half, a block of 128
  indices, a block of 64 output rows, a column part of the source. For each: which elements it occupies, where it
  places an index, and what a transfer through it leaves in the buffer, stated by functions of the arrays alone.
-/
module

public import proofs.«01_k».proof.Proof.Gather.Closed
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic Idealize.SL.Sem

variable {F : FTy → Type}

/-! ## The buffers as a subcore names them -/

abbrev xM : Memref sig .scVector .hbm S53248x512 .i32 := Memref.whole main_arg0_scv
abbrev iM : Memref sig .scVector .hbm S1x40960 .i32 := Memref.whole main_arg1_scv
abbrev oM : Memref sig .scVector .hbm S40960x512 .i32 := Memref.whole main_v0_scv
abbrev ibM : Memref sig .scVector .vmem S2x1x128 .i32 := Memref.whole cc0_scoped0
abbrev obM : Memref sig .scVector .vmem S2x64x512 .i32 := Memref.whole cc0_scoped2

/-! ## The windows -/

/-- The slot a step's number picks. -/
def sl (n : ℕ) : Fin 2 := ⟨n % 2, Nat.mod_lt _ (by decide)⟩
theorem sl_val (n : ℕ) : (sl n).val = n % 2 := rfl

theorem islot_inb (s : Fin 2) : ∀ a, (![s.val, 0, 0] : Fin 3 → ℕ) a + S1x1x128.size a ≤ S2x1x128.size a := by revert s; decide
theorem oslot_inb (s : Fin 2) : ∀ a, (![s.val, 0, 0] : Fin 3 → ℕ) a + S1x64x512.size a ≤ S2x64x512.size a := by revert s; decide
theorem ocol_inb (c : Fin 4) : ∀ a, (![0, 128 * c.val] : Fin 2 → ℕ) a + S64x128.size a ≤ S64x512.size a := by revert c; decide
theorem xcol_inb (c : Fin 4) : ∀ a, (![0, 128 * c.val] : Fin 2 → ℕ) a + S53248x128.size a ≤ S53248x512.size a := by revert c; decide
theorem ilist_inb (h : Fin 2) : ∀ a, (![0, 64 * h.val] : Fin 2 → ℕ) a + S1x64.size a ≤ S1x128.size a := by revert h; decide
theorem iblk_inb (n : Fin 320) : ∀ a, (![0, 128 * n.val] : Fin 2 → ℕ) a + S1x128.size a ≤ S1x40960.size a := by
  have := n.isLt
  intro a
  match a with
  | 0 => show 0 + 1 ≤ 1; omega
  | 1 => show 128 * n.val + 128 ≤ 40960; omega
theorem oblk_inb (n : Fin 640) : ∀ a, (![64 * n.val, 0] : Fin 2 → ℕ) a + S64x512.size a ≤ S40960x512.size a := by
  have := n.isLt
  intro a
  match a with
  | 0 => show 64 * n.val + 64 ≤ 40960; omega
  | 1 => show 0 + 512 ≤ 512; omega

/-- Slot `s` of the index ring: a list of 128 row numbers. -/
abbrev islot (s : Fin 2) : Memref sig .scVector .vmem S1x128 .i32 :=
  (ibM.slice (Rect.unit (s := S2x1x128) ![s.val, 0, 0] S1x1x128.size (islot_inb s)) (fun _ => rfl)).squeeze S1x128 squeezes_S1x1x128_S1x128
/-- Slot `s` of the row ring: 64 rows. -/
abbrev oslot (s : Fin 2) : Memref sig .scVector .vmem S64x512 .i32 :=
  (obM.slice (Rect.unit (s := S2x64x512) ![s.val, 0, 0] S1x64x512.size (oslot_inb s)) (fun _ => rfl)).squeeze S64x512 squeezes_S1x64x512_S64x512
/-- Column part `c` of slot `s` of the row ring. -/
abbrev ocol (s : Fin 2) (c : Fin 4) : Memref sig .scVector .vmem S64x128 .i32 :=
  (oslot s).slice (Rect.unit (s := S64x512) ![0, 128 * c.val] S64x128.size (ocol_inb c)) (fun _ => rfl)
/-- Half `h` of the list in slot `s` of the index ring. -/
abbrev ilist (s h : Fin 2) : Memref sig .scVector .vmem S64 .i32 :=
  ((islot s).slice (Rect.unit (s := S1x128) ![0, 64 * h.val] S1x64.size (ilist_inb h)) (fun _ => rfl)).squeeze S64 squeezes_S1x64_S64
/-- Column part `c` of the source. -/
abbrev xcol (c : Fin 4) : Memref sig .scVector .hbm S53248x128 .i32 :=
  xM.slice (Rect.unit (s := S53248x512) ![0, 128 * c.val] S53248x128.size (xcol_inb c)) (fun _ => rfl)
/-- Block `n` of 128 indices. -/
abbrev iblk (n : Fin 320) : Memref sig .scVector .hbm S1x128 .i32 :=
  iM.slice (Rect.unit (s := S1x40960) ![0, 128 * n.val] S1x128.size (iblk_inb n)) (fun _ => rfl)
/-- Block `n` of 64 output rows. -/
abbrev oblk (n : Fin 640) : Memref sig .scVector .hbm S64x512 .i32 :=
  oM.slice (Rect.unit (s := S40960x512) ![64 * n.val, 0] S64x512.size (oblk_inb n)) (fun _ => rfl)

/-! ## Where the windows place an index -/

theorem islot_emb (s : Fin 2) (j : S1x128.Idx) :
    ((islot s).view.emb j 0).val = s.val ∧ ((islot s).view.emb j 1).val = 0 ∧ ((islot s).view.emb j 2).val = (j 1).val := by
  let y : S1x1x128.Idx := fun a => match a with | 0 => ⟨0, by decide⟩ | 1 => ⟨0, by decide⟩ | 2 => j 1
  have h0 : (j 0).val = 0 := by have : (j 0).val < 1 := (j 0).isLt; omega
  have e : Shape.reshapeEquiv squeezes_S1x1x128_S1x128.numel_eq j = y := by
    refine Shape.reshapeEquiv_eq_of_rowMajor _ ?_
    rw [Shape.rowMajor_val_three, Shape.rowMajor_val_two]
    show (0 * 1 + 0) * 128 + (j 1).val = (j 0).val * 128 + (j 1).val
    omega
  refine ⟨?_, ?_, ?_⟩
  · show s.val + 1 * (Shape.reshapeEquiv squeezes_S1x1x128_S1x128.numel_eq j 0).val = _; rw [e]; show s.val + 1 * 0 = _; omega
  · show 0 + 1 * (Shape.reshapeEquiv squeezes_S1x1x128_S1x128.numel_eq j 1).val = _; rw [e]; show 0 + 1 * 0 = _; omega
  · show 0 + 1 * (Shape.reshapeEquiv squeezes_S1x1x128_S1x128.numel_eq j 2).val = _; rw [e]; show 0 + 1 * (j 1).val = _; omega

theorem oslot_emb (s : Fin 2) (j : S64x512.Idx) :
    ((oslot s).view.emb j 0).val = s.val ∧ ((oslot s).view.emb j 1).val = (j 0).val ∧ ((oslot s).view.emb j 2).val = (j 1).val := by
  let y : S1x64x512.Idx := fun a => match a with | 0 => ⟨0, by decide⟩ | 1 => j 0 | 2 => j 1
  have e : Shape.reshapeEquiv squeezes_S1x64x512_S64x512.numel_eq j = y := by
    refine Shape.reshapeEquiv_eq_of_rowMajor _ ?_
    rw [Shape.rowMajor_val_three, Shape.rowMajor_val_two]
    show (0 * 64 + (j 0).val) * 512 + (j 1).val = (j 0).val * 512 + (j 1).val
    omega
  refine ⟨?_, ?_, ?_⟩
  · show s.val + 1 * (Shape.reshapeEquiv squeezes_S1x64x512_S64x512.numel_eq j 0).val = _; rw [e]; show s.val + 1 * 0 = _; omega
  · show 0 + 1 * (Shape.reshapeEquiv squeezes_S1x64x512_S64x512.numel_eq j 1).val = _; rw [e]; show 0 + 1 * (j 0).val = _; omega
  · show 0 + 1 * (Shape.reshapeEquiv squeezes_S1x64x512_S64x512.numel_eq j 2).val = _; rw [e]; show 0 + 1 * (j 1).val = _; omega

theorem ocol_emb (s : Fin 2) (c : Fin 4) (j : S64x128.Idx) :
    ((ocol s c).view.emb j 0).val = s.val ∧ ((ocol s c).view.emb j 1).val = (j 0).val ∧ ((ocol s c).view.emb j 2).val = 128 * c.val + (j 1).val := by
  have h := oslot_emb s ((Rect.unit (s := S64x512) ![0, 128 * c.val] S64x128.size (ocol_inb c)).emb j)
  refine ⟨h.1, h.2.1.trans ?_, h.2.2.trans ?_⟩
  · show 0 + 1 * (j 0).val = _; omega
  · show 128 * c.val + 1 * (j 1).val = _; omega

theorem ilist_emb (s h : Fin 2) (j : S64.Idx) :
    ((ilist s h).view.emb j 0).val = s.val ∧ ((ilist s h).view.emb j 1).val = 0 ∧ ((ilist s h).view.emb j 2).val = 64 * h.val + (j 0).val := by
  let y : S1x64.Idx := fun a => match a with | 0 => ⟨0, by decide⟩ | 1 => j 0
  have e : Shape.reshapeEquiv squeezes_S1x64_S64.numel_eq j = y := by
    refine Shape.reshapeEquiv_eq_of_rowMajor _ ?_
    rw [Shape.rowMajor_val_two, Shape.rowMajor_val_one]
    show 0 * 64 + (j 0).val = (j 0).val
    omega
  have hh := islot_emb s ((Rect.unit (s := S1x128) ![0, 64 * h.val] S1x64.size (ilist_inb h)).emb (Shape.reshapeEquiv squeezes_S1x64_S64.numel_eq j))
  refine ⟨hh.1, hh.2.1, hh.2.2.trans ?_⟩
  rw [e]
  show 64 * h.val + 1 * (j 0).val = _; omega

theorem xcol_emb (c : Fin 4) (j : S53248x128.Idx) :
    ((xcol c).view.emb j 0).val = (j 0).val ∧ ((xcol c).view.emb j 1).val = 128 * c.val + (j 1).val := by
  refine ⟨?_, ?_⟩
  · show 0 + 1 * (j 0).val = _; omega
  · show 128 * c.val + 1 * (j 1).val = _; omega

theorem iblk_emb (n : Fin 320) (j : S1x128.Idx) :
    ((iblk n).view.emb j 0).val = 0 ∧ ((iblk n).view.emb j 1).val = 128 * n.val + (j 1).val := by
  have h0 : (j 0).val = 0 := by have : (j 0).val < 1 := (j 0).isLt; omega
  refine ⟨?_, ?_⟩
  · show 0 + 1 * (j 0).val = _; omega
  · show 128 * n.val + 1 * (j 1).val = _; omega

theorem oblk_emb (n : Fin 640) (j : S64x512.Idx) :
    ((oblk n).view.emb j 0).val = 64 * n.val + (j 0).val ∧ ((oblk n).view.emb j 1).val = (j 1).val := by
  refine ⟨?_, ?_⟩
  · show 64 * n.val + 1 * (j 0).val = _; omega
  · show 0 + 1 * (j 1).val = _; omega

/-! ## What the transfers leave -/

/-- An element of an array of rank two, by its coordinates (each taken modulo its axis). -/
def at2 (a b : ℕ) (ha : 0 < a) (hb : 0 < b) (p q : ℕ) : (⟨2, ![a, b]⟩ : Shape).Idx :=
  fun x => match x with
    | ⟨0, _⟩ => ⟨p % a, Nat.mod_lt _ ha⟩
    | ⟨1, _⟩ => ⟨q % b, Nat.mod_lt _ hb⟩
    | ⟨_ + 2, h⟩ => absurd h (Nat.not_lt.2 (Nat.le_add_left _ _))

theorem eq_at2 {a b : ℕ} (ha : 0 < a) (hb : 0 < b) (i : (⟨2, ![a, b]⟩ : Shape).Idx) (p q : ℕ) (h0 : (i 0).val = p) (h1 : (i 1).val = q) :
    i = at2 a b ha hb p q := by
  subst h0; subst h1
  funext x
  match x with
  | ⟨0, _⟩ => exact Fin.ext (Nat.mod_eq_of_lt (i 0).isLt).symm
  | ⟨1, _⟩ => exact Fin.ext (Nat.mod_eq_of_lt (i 1).isLt).symm

variable (X : S53248x512.Idx → Elt F .i32) (I : S1x40960.Idx → Elt F .i32)

/-- Row number `p` of the index array. -/
def row (p : ℕ) : ℕ := (show BitVec 32 from I (at2 1 40960 (by decide) (by decide) 0 p)).toNat
/-- The gathered array: row `p` is the source's row whose number the index array's element `p` is. -/
def outT (y : S40960x512.Idx) : Elt F .i32 := X (at2 53248 512 (by decide) (by decide) (row I (y 0).val) (y 1).val)
/-- The index ring's contents where block `n` landed. -/
def idxT (n : ℕ) (y : S2x1x128.Idx) : Elt F .i32 := I (at2 1 40960 (by decide) (by decide) 0 (128 * n + (y 2).val))
/-- The row ring's contents where output block `n` was gathered. -/
def rowT (n : ℕ) (y : S2x64x512.Idx) : Elt F .i32 :=
  X (at2 53248 512 (by decide) (by decide) (row I (64 * n + (y 1).val)) (y 2).val)

theorem fetch_leaves (s : Fin 2) (n : Fin 320) (f : S2x1x128.Idx → Elt F .i32) :
    ∀ y ∈ (islot s).view.set, View.write (Elt F) (islot s).view f ((iblk n).view.read (Elt F) I) Finset.univ y = idxT I n.val y := by
  intro y hy
  obtain ⟨j, -, rfl⟩ := Finset.mem_map.mp hy
  rw [View.write_emb_of_mem _ _ (Finset.mem_univ j), View.read_apply]
  simp only [cast_eq]
  unfold idxT
  refine congrArg I (eq_at2 (by decide) (by decide) _ _ _ (iblk_emb n j).1 ((iblk_emb n j).2.trans ?_))
  rw [(islot_emb s j).2.2]

theorem drain_leaves (s : Fin 2) (n : Fin 640) (f : S40960x512.Idx → Elt F .i32) :
    ∀ y ∈ (oblk n).view.set, View.write (Elt F) (oblk n).view f ((oslot s).view.read (Elt F) (rowT X I n.val)) Finset.univ y = outT X I y := by
  intro y hy
  obtain ⟨j, -, rfl⟩ := Finset.mem_map.mp hy
  rw [View.write_emb_of_mem _ _ (Finset.mem_univ j), View.read_apply]
  simp only [cast_eq]
  unfold outT rowT
  rw [(oslot_emb s j).2.1, (oslot_emb s j).2.2, (oblk_emb n j).1, (oblk_emb n j).2]

/-- The list's words are row numbers of the source. -/
theorem list_inb (hI : ∀ j, (show BitVec 32 from I j).toNat < 53248) (s h : Fin 2) (n : ℕ) :
    ∀ x, ((ilist s h).view.read (Elt F) (idxT I n) x).toNat < S53248x128.size gathers_S53248x128_S64x128.axis := by
  intro x
  rw [View.read_apply]
  exact hI _

theorem gather_leaves (hI : ∀ j, (show BitVec 32 from I j).toNat < 53248) (s : Fin 2) (c : Fin 4) (s' h : Fin 2) (n : ℕ) (hn)
    (f : S2x64x512.Idx → Elt F .i32) :
    ∀ y ∈ (ocol s c).view.set,
      View.write (Elt F) (ocol s c).view f
        (SparseCore.gatherPayload gathers_S53248x128_S64x128 ((xcol c).view.read (Elt F) X)
          (SparseCore.rows ((ilist s' h).view.read (Elt F) (idxT I n)) hn (list_inb I hI s' h n))) Finset.univ y
        = rowT X I (2 * n + h.val) y := by
  intro y hy
  obtain ⟨j, -, rfl⟩ := Finset.mem_map.mp hy
  rw [View.write_emb_of_mem _ _ (Finset.mem_univ j)]
  simp only [cast_eq]
  unfold SparseCore.gatherPayload
  rw [View.read_apply]
  simp only [cast_eq]
  unfold rowT
  refine congrArg X (eq_at2 (by decide) (by decide) _ _ _ ((xcol_emb c _).1.trans ?_) ((xcol_emb c _).2.trans ?_))
  · have e := Shape.Gathers.idx_axis gathers_S53248x128_S64x128
      (SparseCore.rows ((ilist s' h).view.read (Elt F) (idxT I n)) hn (list_inb I hI s' h n)) j
    refine (congrArg Fin.val e).trans ?_
    unfold SparseCore.rows row
    show BitVec.toNat ((ilist s' h).view.read (Elt F) (idxT I n) _) = _
    rw [View.read_apply]
    show BitVec.toNat (I (at2 1 40960 _ _ 0 (128 * n + _))) = BitVec.toNat (I _)
    rw [(ilist_emb s' h _).2.2, (ocol_emb s c j).2.1]
    have e2 : ∀ k : Fin S64.numel, (S64.rowMajor.symm k 0).val = k.val := fun k => by
      have := Shape.rowMajor_val_one (S64.rowMajor.symm k)
      rw [← this, Equiv.apply_symm_apply]
    rw [e2]
    refine congrArg (fun q => BitVec.toNat (I (at2 1 40960 _ _ 0 q))) ?_
    show 128 * n + (64 * h.val + (j 0).val) = 64 * (2 * n + h.val) + (j 0).val
    omega
  · rw [Shape.Gathers.idx_of_ne _ _ _ _ (by decide), (ocol_emb s c j).2.2]
    rfl

end Cert.Proof.Gather
-- ==== Proof.Gather.Ops.lean ====
/-
  The row gather's transfers, one lemma each, over the windows' names: the fetch of a block of indices into a slot of
  the index ring and its wait, the gather of one column part of 64 rows and its wait, the write-out of a slot of the row
  ring to a block of the output and its wait. Each is stated for the program's own operands by the equations that name
  them.
-/
module

public import proofs.«01_k».proof.Proof.Gather.Windows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- Four resources at once. -/
theorem bigSep_four {M : Type} [RA.URA M] (Φ : Fin 4 → sProp M) : bigSep Finset.univ Φ = iprop(Φ 0 ∗ Φ 1 ∗ Φ 2 ∗ Φ 3) := by
  rw [show (Finset.univ : Finset (Fin 4)) = {0, 1, 2, 3} from rfl, bigSep_insert (by decide), bigSep_insert (by decide), bigSep_insert (by decide), bigSep_singleton]
  rfl

/-! ## The program as the launch sees it, and the resource algebra -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UH : Type := URounds (GSem nD τ sig) ℕ
abbrev UU : Type := UH × Counters

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The subcore at coordinates `L` of device `d`. -/
abbrev th (d : Dev nD) (L : grid0.Coords) : Thread nD τ := V d (cV L) (jV L)

/-! ## The windows' elements -/

theorem mem_islot (s : Fin 2) (y : S2x1x128.Idx) : y ∈ (islot s).view.set ↔ (y 0).val = s.val := by
  constructor
  · intro h; obtain ⟨j, -, rfl⟩ := Finset.mem_map.mp h; exact (islot_emb s j).1
  · intro h
    refine Finset.mem_map.mpr ⟨(fun a => match a with | 0 => ⟨0, by decide⟩ | 1 => y 2 : S1x128.Idx), Finset.mem_univ _, ?_⟩
    obtain ⟨h0, h1, h2⟩ := islot_emb s (fun a => match a with | 0 => ⟨0, by decide⟩ | 1 => y 2 : S1x128.Idx)
    have hy1 : (y 1).val = 0 := by have : (y 1).val < 1 := (y 1).isLt; omega
    funext a
    match a with
    | 0 => exact Fin.ext (h0.trans h.symm)
    | 1 => exact Fin.ext (h1.trans hy1.symm)
    | 2 => exact Fin.ext h2

theorem mem_oslot (s : Fin 2) (y : S2x64x512.Idx) : y ∈ (oslot s).view.set ↔ (y 0).val = s.val := by
  constructor
  · intro h; obtain ⟨j, -, rfl⟩ := Finset.mem_map.mp h; exact (oslot_emb s j).1
  · intro h
    refine Finset.mem_map.mpr ⟨(fun a => match a with | 0 => y 1 | 1 => y 2 : S64x512.Idx), Finset.mem_univ _, ?_⟩
    obtain ⟨h0, h1, h2⟩ := oslot_emb s (fun a => match a with | 0 => y 1 | 1 => y 2 : S64x512.Idx)
    funext a
    match a with
    | 0 => exact Fin.ext (h0.trans h.symm)
    | 1 => exact Fin.ext h1
    | 2 => exact Fin.ext h2

theorem mem_ocol (s : Fin 2) (c : Fin 4) (y : S2x64x512.Idx) :
    y ∈ (ocol s c).view.set ↔ (y 0).val = s.val ∧ (y 2).val / 128 = c.val := by
  constructor
  · intro h; obtain ⟨j, -, rfl⟩ := Finset.mem_map.mp h
    refine ⟨(ocol_emb s c j).1, ?_⟩
    rw [(ocol_emb s c j).2.2]
    have : (j 1).val < 128 := (j 1).isLt
    omega
  · rintro ⟨h, hc⟩
    have hb : (y 2).val - 128 * c.val < 128 := by omega
    refine Finset.mem_map.mpr ⟨(fun a => match a with | 0 => y 1 | 1 => ⟨(y 2).val - 128 * c.val, hb⟩ : S64x128.Idx), Finset.mem_univ _, ?_⟩
    obtain ⟨h0, h1, h2⟩ := ocol_emb s c (fun a => match a with | 0 => y 1 | 1 => ⟨(y 2).val - 128 * c.val, hb⟩ : S64x128.Idx)
    funext a
    match a with
    | 0 => exact Fin.ext (h0.trans h.symm)
    | 1 => exact Fin.ext h1
    | 2 => exact Fin.ext (h2.trans (show 128 * c.val + ((y 2).val - 128 * c.val) = (y 2).val by omega))

theorem ilist_sub (s h : Fin 2) : (ilist s h).view.set ⊆ (islot s).view.set := by
  intro y hy; obtain ⟨j, -, rfl⟩ := Finset.mem_map.mp hy
  exact (mem_islot s _).mpr (ilist_emb s h j).1

theorem mem_oblk (n : Fin 640) (y : S40960x512.Idx) : y ∈ (oblk n).view.set ↔ (y 0).val / 64 = n.val := by
  constructor
  · intro h; obtain ⟨j, -, rfl⟩ := Finset.mem_map.mp h
    rw [(oblk_emb n j).1]
    have : (j 0).val < 64 := (j 0).isLt
    omega
  · intro hc
    have hb : (y 0).val - 64 * n.val < 64 := by omega
    refine Finset.mem_map.mpr ⟨(fun a => match a with | 0 => ⟨(y 0).val - 64 * n.val, hb⟩ | 1 => y 1 : S64x512.Idx), Finset.mem_univ _, ?_⟩
    obtain ⟨h0, h1⟩ := oblk_emb n (fun a => match a with | 0 => ⟨(y 0).val - 64 * n.val, hb⟩ | 1 => y 1 : S64x512.Idx)
    funext a
    match a with
    | 0 => exact Fin.ext (h0.trans (show 64 * n.val + ((y 0).val - 64 * n.val) = (y 0).val by omega))
    | 1 => exact Fin.ext h1

abbrev oslotSet (s : Fin 2) : Finset S2x64x512.Idx := (oslot s).view.set
abbrev ocolSet (s : Fin 2) (c : Fin 4) : Finset S2x64x512.Idx := (ocol s c).view.set

theorem oslot_cols (s : Fin 2) : oslotSet s = (Finset.univ : Finset (Fin 4)).biUnion (ocolSet s) := by
  ext y
  rw [Finset.mem_biUnion]
  constructor
  · intro h
    have hy : (y 2).val < 512 := (y 2).isLt
    exact ⟨⟨(y 2).val / 128, by omega⟩, Finset.mem_univ _, (mem_ocol s _ y).mpr ⟨(mem_oslot s y).mp h, rfl⟩⟩
  · rintro ⟨c, -, hc⟩; exact (mem_oslot s y).mpr ((mem_ocol s c y).mp hc).1

theorem ocol_disj (s : Fin 2) :
    ∀ c ∈ (Finset.univ : Finset (Fin 4)), ∀ c' ∈ (Finset.univ : Finset (Fin 4)), c ≠ c' → Disjoint (ocolSet s c) (ocolSet s c') := by
  intro c _ c' _ hne
  refine Finset.disjoint_left.mpr fun y hy hy' => hne (Fin.ext ?_)
  rw [← ((mem_ocol s c y).mp hy).2, ← ((mem_ocol s c' y).mp hy').2]

/-! ## The semaphores -/

theorem sem_inb (s : Fin 2) : ∀ a, (![s.val] : Fin 1 → ℕ) a + S1.size a ≤ S2.size a := by revert s; decide
/-- The index ring's semaphore of slot `s`, and the row ring's. -/
abbrev semI (s : Fin 2) : DmaSem sig := ((cc0_scoped1.slice (Rect.unit (s := S2) ![s.val] S1.size (sem_inb s))).squeeze S_ squeezes_S1_S_).sem
abbrev semO (s : Fin 2) : DmaSem sig := ((cc0_scoped3.slice (Rect.unit (s := S2) ![s.val] S1.size (sem_inb s))).squeeze S_ squeezes_S1_S_).sem

/-! ## The windows' resources -/

section Res

variable (d : Dev nD) (L : grid0.Coords) (q : PosShare TreeShare)
variable (X : S53248x512.Idx → Elt F .i32) (I : S1x40960.Idx → Elt F .i32)

/-- Slot `s` of the index ring holding `f`; of the row ring; a column part of it. -/
def ISl (s : Fin 2) (f : S2x1x128.Idx → Elt F .i32) : sProp 𝕄 := (islot s).view.loc (th d L) ↦[(islot s).view.set]{fullShare} f
def OSl (s : Fin 2) (f : S2x64x512.Idx → Elt F .i32) : sProp 𝕄 := (oslot s).view.loc (th d L) ↦[(oslot s).view.set]{fullShare} f
def OCl (s : Fin 2) (c : Fin 4) (f : S2x64x512.Idx → Elt F .i32) : sProp 𝕄 := (ocol s c).view.loc (th d L) ↦[(ocol s c).view.set]{fullShare} f
/-- The subcore's share of the source, and of the index array. -/
def XSh : sProp 𝕄 := (xM).view.loc (th d L) ↦{q} X
def ISh : sProp 𝕄 := (iM).view.loc (th d L) ↦{q} I
/-- Block `n` of the output holding `f`. -/
def OB (n : Fin 640) (f : S40960x512.Idx → Elt F .i32) : sProp 𝕄 := (oblk n).view.loc (th d L) ↦[(oblk n).view.set]{fullShare} f
/-- The subcore's debts, whatever of its own transfers it has waited for. -/
def Ow (O : CellTallies nD τ sig (HIx 1)) (W₀ : Waits sig (HIx 1)) : sProp 𝕄 :=
  iprop(∃ W, ⌜∀ p ∈ W, p ∈ W₀ ∨ p.2 = none⌝ ∗ owes (th d L) O W)

/-- Block `n` of the indices on its way into slot `s`, with the rest of the index array's share. -/
def FlI (s : Fin 2) (n : Fin 320) : sProp 𝕄 :=
  iprop(Transfers.Flight countersEmb (th d L) (.dma (semI s)) (default : HIx 1) (islot s).view.dmaCredit
      iprop(ISl d L s (idxT I n.val) ∗ ((iblk n).view.loc (th d L) ↦[(iblk n).view.set]{q} I))
    ∗ ((iM).view.loc (th d L) ↦[Finset.univ \ (iblk n).view.set]{q} I))
/-- Slot `s`, holding output block `n`, on its way out. -/
def FlO (s : Fin 2) (n : Fin 640) : sProp 𝕄 :=
  Transfers.Flight countersEmb (th d L) (.dma (semO s)) (default : HIx 1) (oblk n).view.dmaCredit
      iprop(OB d L n (outT X I) ∗ OSl d L s (rowT X I n.val))
/-- Column part `c` of the rows half `h` of list `s'` names on its way into slot `s`, with the rest of the source's
    share and of the list's slot. -/
def FlG (sem : DmaSem sig) (s : Fin 2) (c : Fin 4) (s' h : Fin 2) (n : ℕ) : sProp 𝕄 :=
  iprop(Transfers.Flight countersEmb (th d L) (.dma sem) (default : HIx 1) (ocol s c).view.dmaCredit
      iprop(OCl d L s c (rowT X I (2 * n + h.val))
        ∗ ((xcol c).view.loc (th d L) ↦[(xcol c).view.set]{q} X)
        ∗ ((ilist s' h).view.loc (th d L) ↦[(ilist s' h).view.set]{fullShare} idxT I n))
    ∗ ((xM).view.loc (th d L) ↦[Finset.univ \ (xcol c).view.set]{q} X)
    ∗ ((islot s').view.loc (th d L) ↦[(islot s').view.set \ (ilist s' h).view.set]{fullShare} idxT I n))

variable [FloatOps F]
variable {α : Type}

theorem fetch_start {Q : α → sProp 𝕄} {src : Memref sig (th d L).2.kind .hbm S1x128 .i32} {dst : Memref sig (th d L).2.kind .vmem S1x128 .i32} {sem : DmaSem sig} (s : Fin 2) (n : Fin 320)
    (e₁ : src = iblk n) (e₂ : dst = islot s) (e₃ : sem = semI s)
    {h₁ : src.view.WordExact} {h₂ : dst.view.WordExact} {h₃} {k : PUnit → Prog (TpuEff nD τ sig (Elt F) Λ₀ (th d L).2) α} :
    iprop(ISh d L q I ∗ (∃ f, ISl d L s f) ∗ semVal (th d L, .dma (semI s)) 0)
      ⊢ iprop((FlI d L q I s n -∗ wp frame (wpE (defs₀ (F := F)) 𝒱₀ (th d L) none) Set.univ (k ⟨⟩) Q)
        -∗ wp frame (wpE (defs₀ (F := F)) 𝒱₀ (th d L) none) Set.univ (.op (.enqueueDma src (.here dst) (.dma sem) h₁ h₂ h₃) k) Q) := by
  subst e₁; subst e₂; subst e₃
  unfold ISh FlI
  iintro ⟨HI, ⟨%f, Hs⟩, Hsem⟩ Hk
  ihave HI' := (pointsTo_split_subset (q := q) (f := I) (S := Finset.univ) (Finset.subset_univ (iblk n).view.set)).1 $$ HI
  icases HI' with ⟨HIb, HIr⟩
  unfold ISl
  iapply (Transfers.wp_dmaLocal countersEmb 𝒱₀ (th d L) none (default : HIx 1) (islot s).view.dmaCredit rfl (View.dmaCredit_pos _ (by decide)) (Finset.Subset.refl (islot s).view.set)) $$ [HIb Hs Hsem]
  · isplitl [HIb]; · iexact HIb
    isplitl [Hs]; · iexact Hs
    iexact Hsem
  iintro Hf
  iapply Hk
  isplitl [Hf]
  · have e := pointsTo_congr (Val := Elt F) (Ix := HIx 1) (Name := ℕ) (U := UU) (Lvl := ℕ) (ℓ := (islot s).view.loc (th d L)) (q := fullShare) (fetch_leaves I s n f)
    iapply (Entails.of_eq (congrArg (fun z => Transfers.Flight countersEmb (th d L) (.dma (semI s)) (default : HIx 1) (islot s).view.dmaCredit
      iprop(z ∗ ((iblk n).view.loc (th d L) ↦[(iblk n).view.set]{q} I))) e))
    iexact Hf
  · iexact HIr

theorem fetch_wait {Q : α → sProp 𝕄} {src : Memref sig (th d L).2.kind .hbm S1x128 .i32} {dst : Memref sig (th d L).2.kind .vmem S1x128 .i32} {sem : DmaSem sig} (s : Fin 2) (n : Fin 320)
    (e₂ : dst = islot s) (e₃ : sem = semI s) {O : CellTallies nD τ sig (HIx 1)} {W₀ : Waits sig (HIx 1)}
    {h₁ : src.view.WordExact} {h₂ : dst.view.WordExact} {k : PUnit → Prog (TpuEff nD τ sig (Elt F) Λ₀ (th d L).2) α} :
    iprop(FlI d L q I s n ∗ Ow d L O W₀ ∗ Transfers.MayWaits (th d L) (default : HIx 1) O)
      ⊢ iprop((iprop(ISl d L s (idxT I n.val) ∗ ISh d L q I ∗ semVal (th d L, .dma (semI s)) 0 ∗ Ow d L O W₀)
          -∗ wp frame (wpE (defs₀ (F := F)) 𝒱₀ (th d L) none) Set.univ (k ⟨⟩) Q)
        -∗ wp frame (wpE (defs₀ (F := F)) 𝒱₀ (th d L) none) Set.univ (.op (.waitDma2 sem src dst h₁ h₂) k) Q) := by
  subst e₂; subst e₃
  unfold ISh FlI Ow
  iintro ⟨⟨Hf, HIr⟩, ⟨%W, %hW, HO⟩, Hmw⟩ Hk
  iapply (Transfers.wp_waitLocalO countersEmb 𝒱₀ (th d L) none (default : HIx 1) (rfl : (islot s).view.dmaCredit = _)) $$ [Hf HO Hmw]
  · isplitl [Hf]; · iexact Hf
    isplitl [HO]; · iexact HO
    iapply (Transfers.MayWaits.elim (SemLoc.dma (semI s))) $$ Hmw
  iintro ⟨⟨Hs, HIb⟩, Hsem, HO⟩
  iapply Hk
  isplitl [Hs]; · iexact Hs
  isplitl [HIb HIr]
  · iapply (pointsTo_split_subset (q := q) (f := I) (S := Finset.univ) (Finset.subset_univ (iblk n).view.set)).2
    isplitl [HIb]; · iexact HIb
    iexact HIr
  isplitl [Hsem]; · iexact Hsem
  iexists _; isplitr
  swap; · iexact HO
  ipureintro; intro p hp
  rcases Finset.mem_insert.mp hp with hp | hp
  · exact .inr (hp ▸ rfl)
  · exact hW p hp

theorem drain_start {Q : α → sProp 𝕄} {src : Memref sig (th d L).2.kind .vmem S64x512 .i32} {dst : Memref sig (th d L).2.kind .hbm S64x512 .i32} {sem : DmaSem sig} (s : Fin 2) (n : Fin 640)
    (e₁ : src = oslot s) (e₂ : dst = oblk n) (e₃ : sem = semO s) (f : S40960x512.Idx → Elt F .i32)
    {h₁ : src.view.WordExact} {h₂ : dst.view.WordExact} {h₃} {k : PUnit → Prog (TpuEff nD τ sig (Elt F) Λ₀ (th d L).2) α} :
    iprop(OSl d L s (rowT X I n.val) ∗ OB d L n f ∗ semVal (th d L, .dma (semO s)) 0)
      ⊢ iprop((FlO d L X I s n -∗ wp frame (wpE (defs₀ (F := F)) 𝒱₀ (th d L) none) Set.univ (k ⟨⟩) Q)
        -∗ wp frame (wpE (defs₀ (F := F)) 𝒱₀ (th d L) none) Set.univ (.op (.enqueueDma src (.here dst) (.dma sem) h₁ h₂ h₃) k) Q) := by
  subst e₁; subst e₂; subst e₃
  unfold FlO OSl OB
  iintro ⟨Hs, Hb, Hsem⟩ Hk
  iapply (Transfers.wp_dmaLocal countersEmb 𝒱₀ (th d L) none (default : HIx 1) (oblk n).view.dmaCredit rfl (View.dmaCredit_pos _ (by decide)) (Finset.Subset.refl (oblk n).view.set)) $$ [Hs Hb Hsem]
  · isplitl [Hs]; · iexact Hs
    isplitl [Hb]; · iexact Hb
    iexact Hsem
  iintro Hf
  iapply Hk
  have e := pointsTo_congr (Val := Elt F) (Ix := HIx 1) (Name := ℕ) (U := UU) (Lvl := ℕ) (ℓ := (oblk n).view.loc (th d L)) (q := fullShare) (drain_leaves X I s n f)
  iapply (Entails.of_eq (congrArg (fun z => Transfers.Flight countersEmb (th d L) (.dma (semO s)) (default : HIx 1) (oblk n).view.dmaCredit
    iprop(z ∗ ((oslot s).view.loc (th d L) ↦[(oslot s).view.set]{fullShare} rowT X I n.val))) e))
  iexact Hf

theorem drain_wait {Q : α → sProp 𝕄} {src : Memref sig (th d L).2.kind .vmem S64x512 .i32} {dst : Memref sig (th d L).2.kind .hbm S64x512 .i32} {sem : DmaSem sig} (s : Fin 2) (n : Fin 640)
    (e₂ : ∃ n', dst = oblk n') (e₃ : sem = semO s) {O : CellTallies nD τ sig (HIx 1)} {W₀ : Waits sig (HIx 1)}
    {h₁ : src.view.WordExact} {h₂ : dst.view.WordExact} {k : PUnit → Prog (TpuEff nD τ sig (Elt F) Λ₀ (th d L).2) α} :
    iprop(FlO d L X I s n ∗ Ow d L O W₀ ∗ Transfers.MayWaits (th d L) (default : HIx 1) O)
      ⊢ iprop((iprop(OSl d L s (rowT X I n.val) ∗ OB d L n (outT X I) ∗ semVal (th d L, .dma (semO s)) 0 ∗ Ow d L O W₀)
          -∗ wp frame (wpE (defs₀ (F := F)) 𝒱₀ (th d L) none) Set.univ (k ⟨⟩) Q)
        -∗ wp frame (wpE (defs₀ (F := F)) 𝒱₀ (th d L) none) Set.univ (.op (.waitDma2 sem src dst h₁ h₂) k) Q) := by
  obtain ⟨n', rfl⟩ := e₂; subst e₃
  unfold FlO Ow
  iintro ⟨Hf, ⟨%W, %hW, HO⟩, Hmw⟩ Hk
  iapply (Transfers.wp_waitLocalO countersEmb 𝒱₀ (th d L) none (default : HIx 1) (rfl : (oblk n').view.dmaCredit = (oblk n).view.dmaCredit)) $$ [Hf HO Hmw]
  · isplitl [Hf]; · iexact Hf
    isplitl [HO]; · iexact HO
    iapply (Transfers.MayWaits.elim (SemLoc.dma (semO s))) $$ Hmw
  iintro ⟨⟨Hb, Hs⟩, Hsem, HO⟩
  iapply Hk
  isplitl [Hs]; · iexact Hs
  isplitl [Hb]; · iexact Hb
  isplitl [Hsem]; · iexact Hsem
  iexists _; isplitr
  swap; · iexact HO
  ipureintro; intro p hp
  rcases Finset.mem_insert.mp hp with hp | hp
  · exact .inr (hp ▸ rfl)
  · exact hW p hp

theorem gather_start {Q : α → sProp 𝕄} (hI : ∀ j, (show BitVec 32 from I j).toNat < 53248)
    {src : Memref sig (th d L).2.kind .hbm S53248x128 .i32} {dst : Memref sig (th d L).2.kind .vmem S64x128 .i32}
    {offs : Memref sig (th d L).2.kind .vmem S64 .i32} {sem : DmaSem sig} (s : Fin 2) (c : Fin 4) (s' h : Fin 2) (n : ℕ)
    (e₁ : src = xcol c) (e₂ : dst = ocol s c) (e₃ : offs = ilist s' h)
    {hp hn hsrc he hsp hr} {k : PUnit → Prog (TpuEff nD τ sig (Elt F) Λ₀ (th d L).2) α} :
    iprop(XSh d L q X ∗ (∃ f, OCl d L s c f) ∗ ISl d L s' (idxT I n) ∗ semVal (th d L, .dma sem) 0)
      ⊢ iprop((FlG d L q X I sem s c s' h n -∗ wp frame (wpE (defs₀ (F := F)) 𝒱₀ (th d L) none) Set.univ (k ⟨⟩) Q)
        -∗ wp frame (wpE (defs₀ (F := F)) 𝒱₀ (th d L) none) Set.univ
            (SparseCore.enqueueIndirectGather hp src dst gathers_S53248x128_S64x128 offs hn sem hsrc he hsp hr >>= k) Q) := by
  subst e₁; subst e₂; subst e₃
  unfold FlG XSh OCl ISl
  iintro ⟨HX, ⟨%f, Hs⟩, Hl, Hsem⟩ Hk
  ihave HX' := (pointsTo_split_subset (q := q) (f := X) (S := Finset.univ) (Finset.subset_univ (xcol c).view.set)).1 $$ HX
  icases HX' with ⟨HXb, HXr⟩
  ihave Hl' := (pointsTo_split_subset (q := fullShare) (f := idxT I n) (ilist_sub s' h)).1 $$ Hl
  icases Hl' with ⟨Hlb, Hlr⟩
  iapply (SparseCore.wp_indirectGatherLocal countersEmb 𝒱₀ (th d L) none (hg := gathers_S53248x128_S64x128) (default : HIx 1)
      (ocol s c).view.dmaCredit (SparseCore.sum_rowCredit_eq_dmaCredit _ _ (fun _ => rfl)) (by decide) (list_inb I hI s' h n)) $$ [HXb Hs Hlb Hsem]
  · isplitl [HXb]; · iexact HXb
    isplitl [Hs]; · iexact Hs
    isplitl [Hlb]; · iexact Hlb
    iexact Hsem
  iintro Hf
  iapply Hk
  isplitl [Hf]
  · have e := pointsTo_congr (Val := Elt F) (Ix := HIx 1) (Name := ℕ) (U := UU) (Lvl := ℕ) (ℓ := (ocol s c).view.loc (th d L)) (q := fullShare)
      (gather_leaves X I hI s c s' h n hn f)
    iapply (Entails.of_eq (congrArg (fun z => Transfers.Flight countersEmb (th d L) (.dma sem) (default : HIx 1) (ocol s c).view.dmaCredit
      iprop(z ∗ ((xcol c).view.loc (th d L) ↦[(xcol c).view.set]{q} X)
        ∗ ((ilist s' h).view.loc (th d L) ↦[(ilist s' h).view.set]{fullShare} idxT I n))) e))
    iexact Hf
  isplitl [HXr]; · iexact HXr
  iexact Hlr

theorem gather_wait {Q : α → sProp 𝕄} {src : Memref sig (th d L).2.kind .hbm S53248x128 .i32} {dst : Memref sig (th d L).2.kind .vmem S64x128 .i32} {sem : DmaSem sig}
    (s : Fin 2) (c : Fin 4) (s' h : Fin 2) (n : ℕ)
    (e₂ : dst = ocol s c) {O : CellTallies nD τ sig (HIx 1)} {W₀ : Waits sig (HIx 1)}
    {h₁ : src.view.WordExact} {h₂ : dst.view.WordExact} {k : PUnit → Prog (TpuEff nD τ sig (Elt F) Λ₀ (th d L).2) α} :
    iprop(FlG d L q X I sem s c s' h n ∗ Ow d L O W₀ ∗ Transfers.MayWaits (th d L) (default : HIx 1) O)
      ⊢ iprop((iprop(XSh d L q X ∗ OCl d L s c (rowT X I (2 * n + h.val)) ∗ ISl d L s' (idxT I n) ∗ semVal (th d L, .dma sem) 0 ∗ Ow d L O W₀)
          -∗ wp frame (wpE (defs₀ (F := F)) 𝒱₀ (th d L) none) Set.univ (k ⟨⟩) Q)
        -∗ wp frame (wpE (defs₀ (F := F)) 𝒱₀ (th d L) none) Set.univ (SparseCore.waitIndirectGather sem src dst h₁ h₂ >>= k) Q) := by
  subst e₂
  unfold FlG Ow XSh
  iintro ⟨⟨Hf, HXr, Hlr⟩, ⟨%W, %hW, HO⟩, Hmw⟩ Hk
  iapply (Transfers.wp_waitLocalO countersEmb 𝒱₀ (th d L) none (default : HIx 1) (rfl : (ocol s c).view.dmaCredit = _)) $$ [Hf HO Hmw]
  · isplitl [Hf]; · iexact Hf
    isplitl [HO]; · iexact HO
    iapply (Transfers.MayWaits.elim (SemLoc.dma sem)) $$ Hmw
  iintro ⟨⟨Hs, HXb, Hlb⟩, Hsem, HO⟩
  iapply Hk
  isplitl [HXb HXr]
  · iapply (pointsTo_split_subset (q := q) (f := X) (S := Finset.univ) (Finset.subset_univ (xcol c).view.set)).2
    isplitl [HXb]; · iexact HXb
    iexact HXr
  isplitl [Hs]; · iexact Hs
  isplitl [Hlb Hlr]
  · unfold ISl
    iapply (pointsTo_split_subset (q := fullShare) (f := idxT I n) (ilist_sub s' h)).2
    isplitl [Hlb]; · iexact Hlb
    iexact Hlr
  isplitl [Hsem]; · iexact Hsem
  iexists _; isplitr
  swap; · iexact HO
  ipureintro; intro p hp
  rcases Finset.mem_insert.mp hp with hp | hp
  · exact .inr (hp ▸ rfl)
  · exact hW p hp

omit [FloatOps F] in
/-- A slot of the row ring is its four column parts. -/
theorem OSl_cols (s : Fin 2) (f : S2x64x512.Idx → Elt F .i32) :
    OSl d L s f = iprop(OCl d L s 0 f ∗ OCl d L s 1 f ∗ OCl d L s 2 f ∗ OCl d L s 3 f) := by
  have e : (OSl d L s f : sProp 𝕄) = (oslot s).view.loc (th d L) ↦[(Finset.univ : Finset (Fin 4)).biUnion (ocolSet s)]{fullShare} f :=
    congrArg (fun z : Finset S2x64x512.Idx => ((oslot s).view.loc (th d L) ↦[z]{fullShare} f : sProp 𝕄)) (oslot_cols s)
  exact e.trans ((pointsTo_biUnion _ _ (ocol_disj s)).trans (bigSep_four fun c => OCl d L s c f))

end Res

end Cert.Proof.Gather
-- ==== Proof.Gather.Trip.lean ====
/-
  One step of a subcore's pipeline. Before step `k` the subcore holds its shares of the source and of the index array,
  the index ring (the current block's list in its slot, or on its way there), the row ring (the previous step's rows on
  their way out), the output blocks of the steps before at the gathered rows and those of the steps to come as they
  were; the step takes this to the same before step `k + 1`.
-/
module

public import proofs.«01_k».proof.Proof.Gather.Ops

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The subcore's index block `b` of ten, and its output block `k` of twenty. -/
def ibn (L : grid0.Coords) (b : ℕ) : Fin 320 := ⟨10 * wk L + b % 10, by have := wk_lt L; omega⟩
def obn (L : grid0.Coords) (k : ℕ) : Fin 640 := ⟨20 * wk L + k % 20, by have := wk_lt L; omega⟩

variable (d : Dev nD) (L : grid0.Coords) (q : PosShare TreeShare)
variable (X : S53248x512.Idx → Elt F .i32) (I : S1x40960.Idx → Elt F .i32) (f₀ : S40960x512.Idx → Elt F .i32)

/-- The two semaphores of the index ring at zero, and of the row ring. -/
abbrev sI (s : Fin 2) : sProp 𝕄 := semVal (th d L, .dma (semI s)) 0
abbrev sO (s : Fin 2) : sProp 𝕄 := semVal (th d L, .dma (semO s)) 0

/-- The index ring and the index array's share, the list of block `b` in place. -/
def Have (b : ℕ) : sProp 𝕄 :=
  iprop(ISl d L (sl b) (idxT I (ibn L b).val) ∗ (∃ f, ISl d L (sl (b + 1)) f) ∗ ISh d L q I ∗ sI d L (sl b) ∗ sI d L (sl (b + 1)))
/-- The same, block `b` on its way in. -/
def Coming (b : ℕ) : sProp 𝕄 :=
  iprop(FlI d L q I (sl b) (ibn L b) ∗ (∃ f, ISl d L (sl (b + 1)) f) ∗ sI d L (sl (b + 1)))
/-- The same, both slots free. -/
def Free : sProp 𝕄 :=
  iprop((∃ f, ISl d L 0 f) ∗ (∃ f, ISl d L 1 f) ∗ ISh d L q I ∗ sI d L 0 ∗ sI d L 1)

/-- The index ring before step `k`. -/
def PI (k : ℕ) : sProp 𝕄 :=
  if k = 20 then Free d L q I else if k % 2 = 0 then Coming d L q I (k / 2) else Have d L q I (k / 2)
/-- The row ring before step `k`. -/
def PO (k : ℕ) : sProp 𝕄 :=
  if k = 0 then iprop((∃ f, OSl d L 0 f) ∗ (∃ f, OSl d L 1 f) ∗ sO d L 0 ∗ sO d L 1)
  else iprop(FlO d L X I (sl (k - 1)) (obn L (k - 1)) ∗ (∃ f, OSl d L (sl k) f) ∗ sO d L (sl k))
/-- The output blocks before step `k`: those written, and those to come. -/
def PB (k : ℕ) : sProp 𝕄 :=
  iprop((bigSep (Finset.univ.filter fun j : Fin 20 => j.val + 1 < k) fun j => OB d L (obn L j.val) (outT X I))
    ∗ bigSep (Finset.univ.filter fun j : Fin 20 => k ≤ j.val) fun j => OB d L (obn L j.val) f₀)
/-- The four gathers' semaphores at zero. -/
def PG : sProp 𝕄 :=
  iprop(semVal (th d L, .dma cc0_scoped4.sem) 0 ∗ semVal (th d L, .dma cc0_scoped5.sem) 0
    ∗ semVal (th d L, .dma cc0_scoped6.sem) 0 ∗ semVal (th d L, .dma cc0_scoped7.sem) 0)

/-- What holds before step `k`, the counters at `acc`. -/
def Inv (O : CellTallies nD τ sig (HIx 1)) (W₀ : Waits sig (HIx 1)) (k : ℕ)
    (acc : BitVec 32 × BitVec 32 × BitVec 32 × BitVec 32 × BitVec 32 × BitVec 32) : sProp 𝕄 :=
  iprop(⌜acc = carry k⌝ ∗ Transfers.MayWaits (th d L) (default : HIx 1) O ∗ XSh d L q X ∗ PI d L q I k ∗ PO d L X I k
    ∗ PB d L X I f₀ k ∗ PG d L ∗ Ow d L O W₀)

variable [FloatOps F]

abbrev TL (L : grid0.Coords) (v4 v7 v27 v29 : BitVec 32) :=
  k0_t1_body (F := F) L xM (Memref.isWhole_whole _) iM (Memref.isWhole_whole _) oM (Memref.isWhole_whole _) ibM (Memref.isWhole_whole _)
    cc0_scoped1 obM (Memref.isWhole_whole _) cc0_scoped3 cc0_scoped4 cc0_scoped5 cc0_scoped6 cc0_scoped7 v4 v7 v27 v29

/-- The word the subcore's index blocks are numbered from. -/
def v4w (L : grid0.Coords) : BitVec 32 :=
  Scalar.muli (Scalar.addi (Scalar.addi 0#32 (Scalar.muli (BitVec.ofNat 32 (L 1).val) 1#32)) (Scalar.muli (BitVec.ofNat 32 (L 0).val) 16#32)) 10#32

/-- The index ring and array during step `k`, but for the slot whose list the step reads. -/
def PR (k : ℕ) : sProp 𝕄 :=
  if k % 2 = 1 ∧ k ≠ 19 then iprop(FlI d L q I (sl (k / 2 + 1)) (ibn L (k / 2 + 1)) ∗ sI d L (sl (k / 2)))
  else iprop((∃ f, ISl d L (sl (k / 2 + 1)) f) ∗ ISh d L q I ∗ sI d L (sl (k / 2)) ∗ sI d L (sl (k / 2 + 1)))

theorem islot_eq {off : Fin 3 → ℕ} {n : ℕ} (e : off = ![n % 2, 0, 0]) (h) :
    (ibM.slice (Rect.unit (s := S2x1x128) off S1x1x128.size h) (fun _ => rfl)).squeeze S1x128 squeezes_S1x1x128_S1x128 = islot (sl n) := by
  subst e; rfl
theorem oslot_eq {off : Fin 3 → ℕ} {n : ℕ} (e : off = ![n % 2, 0, 0]) (h) :
    (obM.slice (Rect.unit (s := S2x64x512) off S1x64x512.size h) (fun _ => rfl)).squeeze S64x512 squeezes_S1x64x512_S64x512 = oslot (sl n) := by
  subst e; rfl
theorem semI_eq {off : Fin 1 → ℕ} {n : ℕ} (e : off = ![n % 2]) (h) :
    ((cc0_scoped1.slice (Rect.unit (s := S2) off S1.size h)).squeeze S_ squeezes_S1_S_).sem = semI (sl n) := by
  subst e; rfl
theorem semO_eq {off : Fin 1 → ℕ} {n : ℕ} (e : off = ![n % 2]) (h) :
    ((cc0_scoped3.slice (Rect.unit (s := S2) off S1.size h)).squeeze S_ squeezes_S1_S_).sem = semO (sl n) := by
  subst e; rfl
theorem iblk_eq {off : Fin 2 → ℕ} {n : Fin 320} (e : off = ![0, 128 * n.val]) (h) :
    iM.slice (Rect.unit (s := S1x40960) off S1x128.size h) (fun _ => rfl) = iblk n := by
  subst e; rfl
theorem oblk_eq {off : Fin 2 → ℕ} {n : Fin 640} (e : off = ![64 * n.val, 0]) (h) :
    oM.slice (Rect.unit (s := S40960x512) off S64x512.size h) (fun _ => rfl) = oblk n := by
  subst e; rfl

theorem PI_even {k : ℕ} (h : k % 2 = 0) (hk : k < 20) : PI d L q I k = (Coming d L q I (k / 2) : sProp 𝕄) := by
  unfold PI; rw [if_neg (by omega), if_pos h]
theorem PI_odd {k : ℕ} (h : k % 2 = 1) : PI d L q I k = (Have d L q I (k / 2) : sProp 𝕄) := by
  unfold PI; rw [if_neg (by omega), if_neg (by omega)]
theorem PR_fetch {k : ℕ} (h : k % 2 = 1 ∧ k ≠ 19) :
    PR d L q I k = (iprop(FlI d L q I (sl (k / 2 + 1)) (ibn L (k / 2 + 1)) ∗ sI d L (sl (k / 2))) : sProp 𝕄) := by
  unfold PR; rw [if_pos h]
theorem PR_rest {k : ℕ} (h : ¬ (k % 2 = 1 ∧ k ≠ 19)) :
    PR d L q I k = (iprop((∃ f, ISl d L (sl (k / 2 + 1)) f) ∗ ISh d L q I ∗ sI d L (sl (k / 2)) ∗ sI d L (sl (k / 2 + 1))) : sProp 𝕄) := by
  unfold PR; rw [if_neg h]

theorem ocol_eq {off : Fin 3 → ℕ} {n : ℕ} (e : off = ![n % 2, 0, 0]) (h) (c : Fin 4) {off' : Fin 2 → ℕ} (e' : off' = ![0, 128 * c.val]) (h') :
    ((obM.slice (Rect.unit (s := S2x64x512) off S1x64x512.size h) (fun _ => rfl)).squeeze S64x512 squeezes_S1x64x512_S64x512).slice
      (Rect.unit (s := S64x512) off' S64x128.size h') (fun _ => rfl) = ocol (sl n) c := by
  subst e; subst e'; rfl
theorem xcol_eq (c : Fin 4) {off' : Fin 2 → ℕ} (e' : off' = ![0, 128 * c.val]) (h') :
    xM.slice (Rect.unit (s := S53248x512) off' S53248x128.size h') (fun _ => rfl) = xcol c := by
  subst e'; rfl
theorem ilist_eq {off : Fin 3 → ℕ} {n : ℕ} (e : off = ![n % 2, 0, 0]) (h) {off' : Fin 2 → ℕ} {m : ℕ} (e' : off' = ![0, 64 * (m % 2)]) (h') :
    (((ibM.slice (Rect.unit (s := S2x1x128) off S1x1x128.size h) (fun _ => rfl)).squeeze S1x128 squeezes_S1x1x128_S1x128).slice
      (Rect.unit (s := S1x128) off' S1x64.size h') (fun _ => rfl)).squeeze S64 squeezes_S1x64_S64 = ilist (sl n) (sl m) := by
  subst e; subst e'; rfl

/-- The row ring during step `k`, but for the slot the step fills: the previous step's rows on their way out. -/
def PT (k : ℕ) : sProp 𝕄 :=
  if k = 0 then iprop((∃ f, OSl d L 1 f) ∗ sO d L 1) else FlO d L X I (sl (k - 1)) (obn L (k - 1))

theorem PO_split (k : ℕ) : PO d L X I k ⊢ (iprop(PT d L X I k ∗ (∃ f, OSl d L (sl k) f) ∗ sO d L (sl k)) : sProp 𝕄) := by
  unfold PO PT
  by_cases h : k = 0
  · subst h
    rw [if_pos rfl, if_pos rfl]
    iintro ⟨H0, H1, Hs0, Hs1⟩
    isplitl [H1 Hs1]
    · isplitl [H1] <;> iassumption
    isplitl [H0]
    · iexact H0
    · iexact Hs0
  · rw [if_neg h, if_neg h]

theorem obn_val {k : ℕ} (hk : k < 20) : 2 * (ibn L (k / 2)).val + (sl k).val = (obn L k).val := by
  show 2 * (10 * wk L + k / 2 % 10) + k % 2 = 20 * wk L + k % 20
  omega

/-- The four column parts gathered are the slot holding the block's rows. -/
theorem cols_row {k : ℕ} (hk : k < 20) :
    iprop(OCl d L (sl k) 0 (rowT X I (2 * (ibn L (k / 2)).val + (sl k).val)) ∗ OCl d L (sl k) 1 (rowT X I (2 * (ibn L (k / 2)).val + (sl k).val))
        ∗ OCl d L (sl k) 2 (rowT X I (2 * (ibn L (k / 2)).val + (sl k).val)) ∗ OCl d L (sl k) 3 (rowT X I (2 * (ibn L (k / 2)).val + (sl k).val)))
      ⊢ (OSl d L (sl k) (rowT X I (obn L k).val) : sProp 𝕄) := by
  rw [OSl_cols, obn_val L hk]

/-- A free slot is its four column parts, free. -/
theorem row_cols (s : Fin 2) :
    iprop(∃ f, OSl d L s f) ⊢ (iprop((∃ f, OCl d L s 0 f) ∗ (∃ f, OCl d L s 1 f) ∗ (∃ f, OCl d L s 2 f) ∗ (∃ f, OCl d L s 3 f)) : sProp 𝕄) := by
  iintro ⟨%f, H⟩
  ihave H' := (Entails.of_eq (OSl_cols (F := F) d L s f)) $$ H
  icases H' with ⟨H0, H1, H2, H3⟩
  isplitl [H0]; · iexists f; iexact H0
  isplitl [H1]; · iexists f; iexact H1
  isplitl [H2]; · iexists f; iexact H2
  iexists f; iexact H3

/-- Step `k` takes its block from those to come. -/
theorem PB_take {k : ℕ} (hk : k < 20) :
    PB d L X I f₀ k ⊢ (iprop(OB d L (obn L k) f₀
      ∗ (bigSep (Finset.univ.filter fun j : Fin 20 => j.val + 1 < k) fun j => OB d L (obn L j.val) (outT X I))
      ∗ bigSep (Finset.univ.filter fun j : Fin 20 => k + 1 ≤ j.val) fun j => OB d L (obn L j.val) f₀) : sProp 𝕄) := by
  have e : (Finset.univ.filter fun j : Fin 20 => k ≤ j.val) = insert ⟨k, hk⟩ (Finset.univ.filter fun j : Fin 20 => k + 1 ≤ j.val) := by
    ext j
    simp only [Finset.mem_filter, Finset.mem_univ, true_and, Finset.mem_insert, Fin.ext_iff]
    omega
  unfold PB
  rw [e, SparseCore.bigSep_insert' (by simp)]
  iintro ⟨H1, H2, H3⟩
  isplitl [H2]; · iexact H2
  isplitl [H1] <;> iassumption

/-- Step `0` brings no block back. -/
theorem PB_next0 {k : ℕ} (h0 : k = 0) :
    iprop((bigSep (Finset.univ.filter fun j : Fin 20 => j.val + 1 < k) fun j => OB d L (obn L j.val) (outT X I))
      ∗ bigSep (Finset.univ.filter fun j : Fin 20 => k + 1 ≤ j.val) fun j => OB d L (obn L j.val) f₀)
      ⊢ (PB d L X I f₀ (k + 1) : sProp 𝕄) := by
  subst h0
  have e : (Finset.univ.filter fun j : Fin 20 => j.val + 1 < 0) = (Finset.univ.filter fun j : Fin 20 => j.val + 1 < 0 + 1) := by
    ext j
    simp only [Finset.mem_filter, Finset.mem_univ, true_and]
    omega
  unfold PB
  rw [e]

/-- A later step brings back the block of the step before, written. -/
theorem PB_next {k : ℕ} (h0 : k ≠ 0) (hk : k ≤ 20) (T : Finset (Fin 20)) (hT : T = Finset.univ.filter fun j : Fin 20 => k + 1 ≤ j.val) :
    iprop(OB d L (obn L (k - 1)) (outT X I) ∗ (bigSep (Finset.univ.filter fun j : Fin 20 => j.val + 1 < k) fun j => OB d L (obn L j.val) (outT X I))
      ∗ bigSep T fun j => OB d L (obn L j.val) f₀)
      ⊢ (PB d L X I f₀ (k + 1) : sProp 𝕄) := by
  subst hT
  have e : (Finset.univ.filter fun j : Fin 20 => j.val + 1 < k + 1) = insert ⟨k - 1, by omega⟩ (Finset.univ.filter fun j : Fin 20 => j.val + 1 < k) := by
    ext j
    simp only [Finset.mem_filter, Finset.mem_univ, true_and, Finset.mem_insert, Fin.ext_iff]
    omega
  unfold PB
  rw [e, SparseCore.bigSep_insert' (by simp only [Finset.mem_filter, Finset.mem_univ, true_and]; omega)]
  iintro ⟨H1, H2, H3⟩
  isplitr [H3]
  · isplitl [H1] <;> iassumption
  · iexact H3

theorem sl_next {k : ℕ} (h0 : k ≠ 0) : sl (k - 1) = sl (k + 1) := Fin.ext (by show (k - 1) % 2 = (k + 1) % 2; omega)

/-- The row ring before the next step. -/
theorem PO_next {k : ℕ} (h0 : k ≠ 0) (f : S2x64x512.Idx → Elt F .i32) :
    iprop(FlO d L X I (sl k) (obn L k) ∗ OSl d L (sl (k - 1)) f ∗ sO d L (sl (k - 1))) ⊢ (PO d L X I (k + 1) : sProp 𝕄) := by
  unfold PO
  rw [if_neg (by omega), Nat.add_sub_cancel, sl_next h0]
  iintro ⟨H1, H2, H3⟩
  isplitl [H1]; · iexact H1
  isplitl [H2]; · iexists f; iexact H2
  iexact H3
theorem PO_next0 {k : ℕ} (h0 : k = 0) :
    iprop(FlO d L X I (sl k) (obn L k) ∗ PT d L X I k) ⊢ (PO d L X I (k + 1) : sProp 𝕄) := by
  subst h0
  unfold PO PT
  rw [if_pos rfl, if_neg (show ¬ (0 + 1 = 0) by omega)]
  exact .rfl

/-- The index ring before the next step. -/
theorem PI_next {k : ℕ} (hk : k < 20) (f : S2x1x128.Idx → Elt F .i32) (hf : f = idxT I (ibn L (k / 2)).val) :
    iprop(ISl d L (sl (k / 2)) f ∗ PR d L q I k) ⊢ (PI d L q I (k + 1) : sProp 𝕄) := by
  subst hf
  by_cases he : k % 2 = 0
  · rw [PR_rest d L q I (by omega), PI_odd d L q I (by omega)]
    unfold Have
    rw [show (k + 1) / 2 = k / 2 by omega]
  · by_cases hl : k = 19
    · subst hl
      rw [PR_rest d L q I (by omega)]
      unfold PI Free
      rw [if_pos rfl]
      iintro ⟨H1, H2, H3, H4, H5⟩
      isplitl [H2]; · iexact H2
      isplitl [H1]; · iexists _; iexact H1
      isplitl [H3]; · iexact H3
      isplitl [H5]; · iexact H5
      iexact H4
    · rw [PR_fetch d L q I ⟨by omega, hl⟩, PI_even d L q I (by omega) (by omega)]
      unfold Coming
      rw [show (k + 1) / 2 = k / 2 + 1 by omega, show sl (k / 2 + 1 + 1) = sl (k / 2) from Fin.ext (by show (k / 2 + 1 + 1) % 2 = k / 2 % 2; omega)]
      iintro ⟨H1, H2, H3⟩
      isplitl [H2]; · iexact H2
      isplitl [H1]; · iexists _; iexact H1
      iexact H3

theorem PT_pos {k : ℕ} (h0 : k ≠ 0) : PT d L X I k = (FlO d L X I (sl (k - 1)) (obn L (k - 1)) : sProp 𝕄) := by
  unfold PT; rw [if_neg h0]
theorem obn_off {k : ℕ} (hk : k < 20) : (![64 * (20 * wk L + k), 0] : Fin 2 → ℕ) = ![64 * (obn L k).val, 0] := by
  have : (obn L k).val = 20 * wk L + k := by
    show 20 * wk L + k % 20 = _
    omega
  rw [this]
theorem ibn_off {b : ℕ} (hb : b < 10) : (![0, 128 * (10 * wk L + b)] : Fin 2 → ℕ) = ![0, 128 * (ibn L b).val] := by
  have : (ibn L b).val = 10 * wk L + b := by
    show 10 * wk L + b % 10 = _
    omega
  rw [this]

set_option maxHeartbeats 40000000 in
theorem trip (hI : ∀ j, (show BitVec 32 from I j).toNat < 53248) (v7 v27 v29 : BitVec 32)
    (O : CellTallies nD τ sig (HIx 1)) (W₀ : Waits sig (HIx 1)) (k : Fin k0_t1_loop.trips) (acc) :
    Inv d L q X I f₀ O W₀ k.val acc
      ⊢ wp frame (wpE (defs₀ (F := F)) 𝒱₀ (th d L) none) Set.univ (TL (F := F) L (v4w L) v7 v27 v29 k acc)
          (Inv d L q X I f₀ O W₀ (k.val + 1)) := by
  by_cases hacc : acc = carry k.val
  swap
  · unfold Inv
    iintro ⟨%h, -⟩
    exact absurd h hacc
  subst hacc
  have hk : k.val < 20 := trips_eq ▸ k.isLt
  unfold TL k0_t1_body carry
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h1 := chk1_at L k
  have h2 := chk2_at k
  have h3 := chk3_at k
  have c5 := cond5_at L k
  have hseg : k.val = 0 ∨ (k.val % 2 = 0 ∧ k.val ≠ 0) ∨ (k.val % 2 = 1 ∧ k.val ≠ 19) ∨ k.val = 19 := by omega
  rcases hseg with h0 | ⟨he, h0⟩ | ho | hl
  · have he : k.val % 2 = 0 := by omega
    have c7 : ¬ k0_cond7 L k (a10 k) (a11 k) = 1#1 := fun h => (cond7_at L k).mp h h0
    have c1 : ¬ k0_cond1 L k (a10 k) (a11 k) = 1#1 := fun h => by have := (cond1_at L k).mp h; omega
    have c2 : k0_cond2 L k (a10 k) (a11 k) = 1#1 := (cond2_at L k).mpr he
    simp only [dif_neg c1, dif_pos c2, dif_pos c5, dif_neg c7, ite_self]
    unfold Inv
    iintro ⟨-, #Hmw, HX, HI, HO, HB, HG, Hw⟩
    ihave HI' := (Entails.of_eq (PI_even d L q I he hk)) $$ HI
    unfold Coming
    icases HI' with ⟨Hf, Hr, Hs⟩
    sl_exec
    iapply (fetch_wait d L q I (sl (k.val / 2)) (ibn L (k.val / 2)) (islot_eq (off7_at k) _) (semI_eq (off9_at k) _)) $$ [Hf Hw]
    · isplitl [Hf]; · iexact Hf
      isplitl [Hw]; · iexact Hw
      iexact Hmw
    iintro ⟨Hl, HIs, Hs', Hw⟩
    ihave HR := (Entails.of_eq (PR_rest d L q I (k := k.val) (by omega)).symm) $$ [Hr HIs Hs' Hs]
    · isplitl [Hr]; · iexact Hr
      isplitl [HIs]; · iexact HIs
      isplitl [Hs']; · iexact Hs'
      iexact Hs
    ihave HO' := (PO_split d L X I k.val) $$ HO
    icases HO' with ⟨HT, HS, HsO⟩
    ihave HS' := (row_cols (F := F) d L (sl k.val)) $$ HS
    icases HS' with ⟨HT0, HT1, HT2, HT3⟩
    unfold PG
    icases HG with ⟨HG0, HG1, HG2, HG3⟩
    sl_exec
    iapply (gather_start d L q X I hI (sl k.val) 0 (sl (k.val / 2)) (sl k.val) (ibn L (k.val / 2)).val
      (xcol_eq 0 (by decide) _) (ocol_eq (off10_at k) _ 0 (by decide) _) (ilist_eq (off11_at k) _ (off12_at k) _)) $$ [HX HT0 Hl HG0]
    · isplitl [HX]; · iexact HX
      isplitl [HT0]; · iexact HT0
      isplitl [Hl]; · iexact Hl
      iexact HG0
    iintro Hg
    sl_exec
    iapply (gather_wait d L q X I (sl k.val) 0 (sl (k.val / 2)) (sl k.val) (ibn L (k.val / 2)).val
      (ocol_eq (off10_at k) _ 0 (by decide) _)) $$ [Hg Hw]
    · isplitl [Hg]; · iexact Hg
      isplitl [Hw]; · iexact Hw
      iexact Hmw
    iintro ⟨HX, HT0, Hl, HG0, Hw⟩
    sl_exec
    iapply (gather_start d L q X I hI (sl k.val) 1 (sl (k.val / 2)) (sl k.val) (ibn L (k.val / 2)).val
      (xcol_eq 1 (by decide) _) (ocol_eq (off10_at k) _ 1 (by decide) _) (ilist_eq (off11_at k) _ (off12_at k) _)) $$ [HX HT1 Hl HG1]
    · isplitl [HX]; · iexact HX
      isplitl [HT1]; · iexact HT1
      isplitl [Hl]; · iexact Hl
      iexact HG1
    iintro Hg
    sl_exec
    iapply (gather_wait d L q X I (sl k.val) 1 (sl (k.val / 2)) (sl k.val) (ibn L (k.val / 2)).val
      (ocol_eq (off10_at k) _ 1 (by decide) _)) $$ [Hg Hw]
    · isplitl [Hg]; · iexact Hg
      isplitl [Hw]; · iexact Hw
      iexact Hmw
    iintro ⟨HX, HT1, Hl, HG1, Hw⟩
    sl_exec
    iapply (gather_start d L q X I hI (sl k.val) 2 (sl (k.val / 2)) (sl k.val) (ibn L (k.val / 2)).val
      (xcol_eq 2 (by decide) _) (ocol_eq (off10_at k) _ 2 (by decide) _) (ilist_eq (off11_at k) _ (off12_at k) _)) $$ [HX HT2 Hl HG2]
    · isplitl [HX]; · iexact HX
      isplitl [HT2]; · iexact HT2
      isplitl [Hl]; · iexact Hl
      iexact HG2
    iintro Hg
    sl_exec
    iapply (gather_wait d L q X I (sl k.val) 2 (sl (k.val / 2)) (sl k.val) (ibn L (k.val / 2)).val
      (ocol_eq (off10_at k) _ 2 (by decide) _)) $$ [Hg Hw]
    · isplitl [Hg]; · iexact Hg
      isplitl [Hw]; · iexact Hw
      iexact Hmw
    iintro ⟨HX, HT2, Hl, HG2, Hw⟩
    sl_exec
    iapply (gather_start d L q X I hI (sl k.val) 3 (sl (k.val / 2)) (sl k.val) (ibn L (k.val / 2)).val
      (xcol_eq 3 (by decide) _) (ocol_eq (off10_at k) _ 3 (by decide) _) (ilist_eq (off11_at k) _ (off12_at k) _)) $$ [HX HT3 Hl HG3]
    · isplitl [HX]; · iexact HX
      isplitl [HT3]; · iexact HT3
      isplitl [Hl]; · iexact Hl
      iexact HG3
    iintro Hg
    sl_exec
    iapply (gather_wait d L q X I (sl k.val) 3 (sl (k.val / 2)) (sl k.val) (ibn L (k.val / 2)).val
      (ocol_eq (off10_at k) _ 3 (by decide) _)) $$ [Hg Hw]
    · isplitl [Hg]; · iexact Hg
      isplitl [Hw]; · iexact Hw
      iexact Hmw
    iintro ⟨HX, HT3, Hl, HG3, Hw⟩
    ihave HS := (cols_row d L X I hk) $$ [HT0 HT1 HT2 HT3]
    · isplitl [HT0]; · iexact HT0
      isplitl [HT1]; · iexact HT1
      isplitl [HT2]; · iexact HT2
      iexact HT3
    ihave HB' := (PB_take d L X I f₀ hk) $$ HB
    icases HB' with ⟨HB0, HBd, HBt⟩
    sl_exec
    iapply (drain_start d L X I (sl k.val) (obn L k.val) (oslot_eq (off13_at k) _) (oblk_eq ((off14_at L k).trans (obn_off L hk)) _) (semO_eq (off15_at k) _) f₀) $$ [HS HB0 HsO]
    · isplitl [HS]; · iexact HS
      isplitl [HB0]; · iexact HB0
      iexact HsO
    iintro HfO
    ihave HO := (PO_next0 d L X I h0) $$ [HfO HT]
    · isplitl [HfO]; · iexact HfO
      iexact HT
    ihave HB := (PB_next0 d L X I f₀ h0) $$ [HBd HBt]
    · isplitl [HBd]; · iexact HBd
      iexact HBt
    ihave HI := (PI_next d L q I hk _ rfl) $$ [Hl HR]
    · isplitl [Hl]; · iexact Hl
      iexact HR
    sl_exec
    rw [wp_ret]
    imodintro
    isplitr
    · ipureintro
      clear h1 h2 h3 c1 c2 c5 c7 h0 hI hk he
      revert k
      revert L
      decide +kernel
    isplitr; · iexact Hmw
    isplitl [HX]; · iexact HX
    isplitl [HI]; · iexact HI
    isplitl [HO]; · iexact HO
    isplitl [HB]; · iexact HB
    isplitr [Hw]
    · isplitl [HG0]; · iexact HG0
      isplitl [HG1]; · iexact HG1
      isplitl [HG2]; · iexact HG2
      iexact HG3
    iexact Hw
  · have c7 : k0_cond7 L k (a10 k) (a11 k) = 1#1 := (cond7_at L k).mpr h0
    have c1 : ¬ k0_cond1 L k (a10 k) (a11 k) = 1#1 := fun h => by have := (cond1_at L k).mp h; omega
    have c2 : k0_cond2 L k (a10 k) (a11 k) = 1#1 := (cond2_at L k).mpr he
    simp only [dif_neg c1, dif_pos c2, dif_pos c5, dif_pos c7, ite_self]
    unfold Inv
    iintro ⟨-, #Hmw, HX, HI, HO, HB, HG, Hw⟩
    ihave HI' := (Entails.of_eq (PI_even d L q I he hk)) $$ HI
    unfold Coming
    icases HI' with ⟨Hf, Hr, Hs⟩
    sl_exec
    iapply (fetch_wait d L q I (sl (k.val / 2)) (ibn L (k.val / 2)) (islot_eq (off7_at k) _) (semI_eq (off9_at k) _)) $$ [Hf Hw]
    · isplitl [Hf]; · iexact Hf
      isplitl [Hw]; · iexact Hw
      iexact Hmw
    iintro ⟨Hl, HIs, Hs', Hw⟩
    ihave HR := (Entails.of_eq (PR_rest d L q I (k := k.val) (by omega)).symm) $$ [Hr HIs Hs' Hs]
    · isplitl [Hr]; · iexact Hr
      isplitl [HIs]; · iexact HIs
      isplitl [Hs']; · iexact Hs'
      iexact Hs
    ihave HO' := (PO_split d L X I k.val) $$ HO
    icases HO' with ⟨HT, HS, HsO⟩
    ihave HS' := (row_cols (F := F) d L (sl k.val)) $$ HS
    icases HS' with ⟨HT0, HT1, HT2, HT3⟩
    unfold PG
    icases HG with ⟨HG0, HG1, HG2, HG3⟩
    sl_exec
    iapply (gather_start d L q X I hI (sl k.val) 0 (sl (k.val / 2)) (sl k.val) (ibn L (k.val / 2)).val
      (xcol_eq 0 (by decide) _) (ocol_eq (off10_at k) _ 0 (by decide) _) (ilist_eq (off11_at k) _ (off12_at k) _)) $$ [HX HT0 Hl HG0]
    · isplitl [HX]; · iexact HX
      isplitl [HT0]; · iexact HT0
      isplitl [Hl]; · iexact Hl
      iexact HG0
    iintro Hg
    sl_exec
    iapply (gather_wait d L q X I (sl k.val) 0 (sl (k.val / 2)) (sl k.val) (ibn L (k.val / 2)).val
      (ocol_eq (off10_at k) _ 0 (by decide) _)) $$ [Hg Hw]
    · isplitl [Hg]; · iexact Hg
      isplitl [Hw]; · iexact Hw
      iexact Hmw
    iintro ⟨HX, HT0, Hl, HG0, Hw⟩
    sl_exec
    iapply (gather_start d L q X I hI (sl k.val) 1 (sl (k.val / 2)) (sl k.val) (ibn L (k.val / 2)).val
      (xcol_eq 1 (by decide) _) (ocol_eq (off10_at k) _ 1 (by decide) _) (ilist_eq (off11_at k) _ (off12_at k) _)) $$ [HX HT1 Hl HG1]
    · isplitl [HX]; · iexact HX
      isplitl [HT1]; · iexact HT1
      isplitl [Hl]; · iexact Hl
      iexact HG1
    iintro Hg
    sl_exec
    iapply (gather_wait d L q X I (sl k.val) 1 (sl (k.val / 2)) (sl k.val) (ibn L (k.val / 2)).val
      (ocol_eq (off10_at k) _ 1 (by decide) _)) $$ [Hg Hw]
    · isplitl [Hg]; · iexact Hg
      isplitl [Hw]; · iexact Hw
      iexact Hmw
    iintro ⟨HX, HT1, Hl, HG1, Hw⟩
    sl_exec
    iapply (gather_start d L q X I hI (sl k.val) 2 (sl (k.val / 2)) (sl k.val) (ibn L (k.val / 2)).val
      (xcol_eq 2 (by decide) _) (ocol_eq (off10_at k) _ 2 (by decide) _) (ilist_eq (off11_at k) _ (off12_at k) _)) $$ [HX HT2 Hl HG2]
    · isplitl [HX]; · iexact HX
      isplitl [HT2]; · iexact HT2
      isplitl [Hl]; · iexact Hl
      iexact HG2
    iintro Hg
    sl_exec
    iapply (gather_wait d L q X I (sl k.val) 2 (sl (k.val / 2)) (sl k.val) (ibn L (k.val / 2)).val
      (ocol_eq (off10_at k) _ 2 (by decide) _)) $$ [Hg Hw]
    · isplitl [Hg]; · iexact Hg
      isplitl [Hw]; · iexact Hw
      iexact Hmw
    iintro ⟨HX, HT2, Hl, HG2, Hw⟩
    sl_exec
    iapply (gather_start d L q X I hI (sl k.val) 3 (sl (k.val / 2)) (sl k.val) (ibn L (k.val / 2)).val
      (xcol_eq 3 (by decide) _) (ocol_eq (off10_at k) _ 3 (by decide) _) (ilist_eq (off11_at k) _ (off12_at k) _)) $$ [HX HT3 Hl HG3]
    · isplitl [HX]; · iexact HX
      isplitl [HT3]; · iexact HT3
      isplitl [Hl]; · iexact Hl
      iexact HG3
    iintro Hg
    sl_exec
    iapply (gather_wait d L q X I (sl k.val) 3 (sl (k.val / 2)) (sl k.val) (ibn L (k.val / 2)).val
      (ocol_eq (off10_at k) _ 3 (by decide) _)) $$ [Hg Hw]
    · isplitl [Hg]; · iexact Hg
      isplitl [Hw]; · iexact Hw
      iexact Hmw
    iintro ⟨HX, HT3, Hl, HG3, Hw⟩
    ihave HS := (cols_row d L X I hk) $$ [HT0 HT1 HT2 HT3]
    · isplitl [HT0]; · iexact HT0
      isplitl [HT1]; · iexact HT1
      isplitl [HT2]; · iexact HT2
      iexact HT3
    ihave HB' := (PB_take d L X I f₀ hk) $$ HB
    icases HB' with ⟨HB0, HBd, HBt⟩
    sl_exec
    iapply (drain_start d L X I (sl k.val) (obn L k.val) (oslot_eq (off13_at k) _) (oblk_eq ((off14_at L k).trans (obn_off L hk)) _) (semO_eq (off15_at k) _) f₀) $$ [HS HB0 HsO]
    · isplitl [HS]; · iexact HS
      isplitl [HB0]; · iexact HB0
      iexact HsO
    iintro HfO
    ihave HT' := (Entails.of_eq (PT_pos d L X I h0)) $$ HT
    iapply (drain_wait d L X I (sl (k.val - 1)) (obn L (k.val - 1)) ⟨obn L (k.val - 1), oblk_eq ((off17_at L k h0).trans (obn_off L (by omega))) _⟩ (semO_eq (off18_at k) _)) $$ [HT' Hw]
    · isplitl [HT']; · iexact HT'
      isplitl [Hw]; · iexact Hw
      iexact Hmw
    iintro ⟨HS, HB1, HsO, Hw⟩
    ihave HO := (PO_next d L X I h0 _) $$ [HfO HS HsO]
    · isplitl [HfO]; · iexact HfO
      isplitl [HS]; · iexact HS
      iexact HsO
    ihave HB := (PB_next d L X I f₀ h0 (by omega) _ rfl) $$ [HB1 HBd HBt]
    · isplitl [HB1]; · iexact HB1
      isplitl [HBd]; · iexact HBd
      iexact HBt
    ihave HI := (PI_next d L q I hk _ rfl) $$ [Hl HR]
    · isplitl [Hl]; · iexact Hl
      iexact HR
    simp only [Prog.bind]
    sl_exec
    rw [wp_ret]
    imodintro
    isplitr
    · ipureintro
      clear h1 h2 h3 c1 c2 c5 c7 h0 hI hk he
      revert k
      revert L
      decide +kernel
    isplitr; · iexact Hmw
    isplitl [HX]; · iexact HX
    isplitl [HI]; · iexact HI
    isplitl [HO]; · iexact HO
    isplitl [HB]; · iexact HB
    isplitr [Hw]
    · isplitl [HG0]; · iexact HG0
      isplitl [HG1]; · iexact HG1
      isplitl [HG2]; · iexact HG2
      iexact HG3
    iexact Hw
  · have h0 : k.val ≠ 0 := by omega
    have c7 : k0_cond7 L k (a10 k) (a11 k) = 1#1 := (cond7_at L k).mpr h0
    have c1 : k0_cond1 L k (a10 k) (a11 k) = 1#1 := (cond1_at L k).mpr ho
    have c2 : ¬ k0_cond2 L k (a10 k) (a11 k) = 1#1 := fun h => by have := (cond2_at L k).mp h; omega
    simp only [dif_pos c1, dif_neg c2, dif_pos c5, dif_pos c7, ite_self]
    unfold Inv
    iintro ⟨-, #Hmw, HX, HI, HO, HB, HG, Hw⟩
    ihave HI' := (Entails.of_eq (PI_odd d L q I ho.1)) $$ HI
    unfold Have
    icases HI' with ⟨Hl, Hr, HIs, Hs, Hs'⟩
    sl_exec
    iapply (fetch_start d L q I (sl (k.val / 2 + 1)) (ibn L (k.val / 2 + 1)) (iblk_eq ((off5_at L k ho).trans (ibn_off L (by omega))) _) (islot_eq (off4_at k) _) (semI_eq (off6_at k) _)) $$ [HIs Hr Hs']
    · isplitl [HIs]; · iexact HIs
      isplitl [Hr]; · iexact Hr
      iexact Hs'
    iintro Hf
    ihave HR := (Entails.of_eq (PR_fetch d L q I ho).symm) $$ [Hf Hs]
    · isplitl [Hf]; · iexact Hf
      iexact Hs
    ihave HO' := (PO_split d L X I k.val) $$ HO
    icases HO' with ⟨HT, HS, HsO⟩
    ihave HS' := (row_cols (F := F) d L (sl k.val)) $$ HS
    icases HS' with ⟨HT0, HT1, HT2, HT3⟩
    unfold PG
    icases HG with ⟨HG0, HG1, HG2, HG3⟩
    sl_exec
    iapply (gather_start d L q X I hI (sl k.val) 0 (sl (k.val / 2)) (sl k.val) (ibn L (k.val / 2)).val
      (xcol_eq 0 (by decide) _) (ocol_eq (off10_at k) _ 0 (by decide) _) (ilist_eq (off11_at k) _ (off12_at k) _)) $$ [HX HT0 Hl HG0]
    · isplitl [HX]; · iexact HX
      isplitl [HT0]; · iexact HT0
      isplitl [Hl]; · iexact Hl
      iexact HG0
    iintro Hg
    sl_exec
    iapply (gather_wait d L q X I (sl k.val) 0 (sl (k.val / 2)) (sl k.val) (ibn L (k.val / 2)).val
      (ocol_eq (off10_at k) _ 0 (by decide) _)) $$ [Hg Hw]
    · isplitl [Hg]; · iexact Hg
      isplitl [Hw]; · iexact Hw
      iexact Hmw
    iintro ⟨HX, HT0, Hl, HG0, Hw⟩
    sl_exec
    iapply (gather_start d L q X I hI (sl k.val) 1 (sl (k.val / 2)) (sl k.val) (ibn L (k.val / 2)).val
      (xcol_eq 1 (by decide) _) (ocol_eq (off10_at k) _ 1 (by decide) _) (ilist_eq (off11_at k) _ (off12_at k) _)) $$ [HX HT1 Hl HG1]
    · isplitl [HX]; · iexact HX
      isplitl [HT1]; · iexact HT1
      isplitl [Hl]; · iexact Hl
      iexact HG1
    iintro Hg
    sl_exec
    iapply (gather_wait d L q X I (sl k.val) 1 (sl (k.val / 2)) (sl k.val) (ibn L (k.val / 2)).val
      (ocol_eq (off10_at k) _ 1 (by decide) _)) $$ [Hg Hw]
    · isplitl [Hg]; · iexact Hg
      isplitl [Hw]; · iexact Hw
      iexact Hmw
    iintro ⟨HX, HT1, Hl, HG1, Hw⟩
    sl_exec
    iapply (gather_start d L q X I hI (sl k.val) 2 (sl (k.val / 2)) (sl k.val) (ibn L (k.val / 2)).val
      (xcol_eq 2 (by decide) _) (ocol_eq (off10_at k) _ 2 (by decide) _) (ilist_eq (off11_at k) _ (off12_at k) _)) $$ [HX HT2 Hl HG2]
    · isplitl [HX]; · iexact HX
      isplitl [HT2]; · iexact HT2
      isplitl [Hl]; · iexact Hl
      iexact HG2
    iintro Hg
    sl_exec
    iapply (gather_wait d L q X I (sl k.val) 2 (sl (k.val / 2)) (sl k.val) (ibn L (k.val / 2)).val
      (ocol_eq (off10_at k) _ 2 (by decide) _)) $$ [Hg Hw]
    · isplitl [Hg]; · iexact Hg
      isplitl [Hw]; · iexact Hw
      iexact Hmw
    iintro ⟨HX, HT2, Hl, HG2, Hw⟩
    sl_exec
    iapply (gather_start d L q X I hI (sl k.val) 3 (sl (k.val / 2)) (sl k.val) (ibn L (k.val / 2)).val
      (xcol_eq 3 (by decide) _) (ocol_eq (off10_at k) _ 3 (by decide) _) (ilist_eq (off11_at k) _ (off12_at k) _)) $$ [HX HT3 Hl HG3]
    · isplitl [HX]; · iexact HX
      isplitl [HT3]; · iexact HT3
      isplitl [Hl]; · iexact Hl
      iexact HG3
    iintro Hg
    sl_exec
    iapply (gather_wait d L q X I (sl k.val) 3 (sl (k.val / 2)) (sl k.val) (ibn L (k.val / 2)).val
      (ocol_eq (off10_at k) _ 3 (by decide) _)) $$ [Hg Hw]
    · isplitl [Hg]; · iexact Hg
      isplitl [Hw]; · iexact Hw
      iexact Hmw
    iintro ⟨HX, HT3, Hl, HG3, Hw⟩
    ihave HS := (cols_row d L X I hk) $$ [HT0 HT1 HT2 HT3]
    · isplitl [HT0]; · iexact HT0
      isplitl [HT1]; · iexact HT1
      isplitl [HT2]; · iexact HT2
      iexact HT3
    ihave HB' := (PB_take d L X I f₀ hk) $$ HB
    icases HB' with ⟨HB0, HBd, HBt⟩
    sl_exec
    iapply (drain_start d L X I (sl k.val) (obn L k.val) (oslot_eq (off13_at k) _) (oblk_eq ((off14_at L k).trans (obn_off L hk)) _) (semO_eq (off15_at k) _) f₀) $$ [HS HB0 HsO]
    · isplitl [HS]; · iexact HS
      isplitl [HB0]; · iexact HB0
      iexact HsO
    iintro HfO
    ihave HT' := (Entails.of_eq (PT_pos d L X I h0)) $$ HT
    iapply (drain_wait d L X I (sl (k.val - 1)) (obn L (k.val - 1)) ⟨obn L (k.val - 1), oblk_eq ((off17_at L k h0).trans (obn_off L (by omega))) _⟩ (semO_eq (off18_at k) _)) $$ [HT' Hw]
    · isplitl [HT']; · iexact HT'
      isplitl [Hw]; · iexact Hw
      iexact Hmw
    iintro ⟨HS, HB1, HsO, Hw⟩
    ihave HO := (PO_next d L X I h0 _) $$ [HfO HS HsO]
    · isplitl [HfO]; · iexact HfO
      isplitl [HS]; · iexact HS
      iexact HsO
    ihave HB := (PB_next d L X I f₀ h0 (by omega) _ rfl) $$ [HB1 HBd HBt]
    · isplitl [HB1]; · iexact HB1
      isplitl [HBd]; · iexact HBd
      iexact HBt
    ihave HI := (PI_next d L q I hk _ rfl) $$ [Hl HR]
    · isplitl [Hl]; · iexact Hl
      iexact HR
    simp only [Prog.bind]
    sl_exec
    rw [wp_ret]
    imodintro
    isplitr
    · ipureintro
      clear h1 h2 h3 c1 c2 c5 c7 h0 hI hk ho
      revert k
      revert L
      decide +kernel
    isplitr; · iexact Hmw
    isplitl [HX]; · iexact HX
    isplitl [HI]; · iexact HI
    isplitl [HO]; · iexact HO
    isplitl [HB]; · iexact HB
    isplitr [Hw]
    · isplitl [HG0]; · iexact HG0
      isplitl [HG1]; · iexact HG1
      isplitl [HG2]; · iexact HG2
      iexact HG3
    iexact Hw
  · have h0 : k.val ≠ 0 := by omega
    have c7 : k0_cond7 L k (a10 k) (a11 k) = 1#1 := (cond7_at L k).mpr h0
    have c1 : ¬ k0_cond1 L k (a10 k) (a11 k) = 1#1 := fun h => by have := (cond1_at L k).mp h; omega
    have c2 : ¬ k0_cond2 L k (a10 k) (a11 k) = 1#1 := fun h => by have := (cond2_at L k).mp h; omega
    simp only [dif_neg c1, dif_neg c2, dif_pos c5, dif_pos c7, ite_self]
    unfold Inv
    iintro ⟨-, #Hmw, HX, HI, HO, HB, HG, Hw⟩
    ihave HI' := (Entails.of_eq (PI_odd d L q I (by omega))) $$ HI
    unfold Have
    icases HI' with ⟨Hl, Hr, HIs, Hs, Hs'⟩
    ihave HR := (Entails.of_eq (PR_rest d L q I (k := k.val) (by omega)).symm) $$ [Hr HIs Hs' Hs]
    · isplitl [Hr]; · iexact Hr
      isplitl [HIs]; · iexact HIs
      isplitl [Hs]; · iexact Hs
      iexact Hs'
    ihave HO' := (PO_split d L X I k.val) $$ HO
    icases HO' with ⟨HT, HS, HsO⟩
    ihave HS' := (row_cols (F := F) d L (sl k.val)) $$ HS
    icases HS' with ⟨HT0, HT1, HT2, HT3⟩
    unfold PG
    icases HG with ⟨HG0, HG1, HG2, HG3⟩
    sl_exec
    iapply (gather_start d L q X I hI (sl k.val) 0 (sl (k.val / 2)) (sl k.val) (ibn L (k.val / 2)).val
      (xcol_eq 0 (by decide) _) (ocol_eq (off10_at k) _ 0 (by decide) _) (ilist_eq (off11_at k) _ (off12_at k) _)) $$ [HX HT0 Hl HG0]
    · isplitl [HX]; · iexact HX
      isplitl [HT0]; · iexact HT0
      isplitl [Hl]; · iexact Hl
      iexact HG0
    iintro Hg
    sl_exec
    iapply (gather_wait d L q X I (sl k.val) 0 (sl (k.val / 2)) (sl k.val) (ibn L (k.val / 2)).val
      (ocol_eq (off10_at k) _ 0 (by decide) _)) $$ [Hg Hw]
    · isplitl [Hg]; · iexact Hg
      isplitl [Hw]; · iexact Hw
      iexact Hmw
    iintro ⟨HX, HT0, Hl, HG0, Hw⟩
    sl_exec
    iapply (gather_start d L q X I hI (sl k.val) 1 (sl (k.val / 2)) (sl k.val) (ibn L (k.val / 2)).val
      (xcol_eq 1 (by decide) _) (ocol_eq (off10_at k) _ 1 (by decide) _) (ilist_eq (off11_at k) _ (off12_at k) _)) $$ [HX HT1 Hl HG1]
    · isplitl [HX]; · iexact HX
      isplitl [HT1]; · iexact HT1
      isplitl [Hl]; · iexact Hl
      iexact HG1
    iintro Hg
    sl_exec
    iapply (gather_wait d L q X I (sl k.val) 1 (sl (k.val / 2)) (sl k.val) (ibn L (k.val / 2)).val
      (ocol_eq (off10_at k) _ 1 (by decide) _)) $$ [Hg Hw]
    · isplitl [Hg]; · iexact Hg
      isplitl [Hw]; · iexact Hw
      iexact Hmw
    iintro ⟨HX, HT1, Hl, HG1, Hw⟩
    sl_exec
    iapply (gather_start d L q X I hI (sl k.val) 2 (sl (k.val / 2)) (sl k.val) (ibn L (k.val / 2)).val
      (xcol_eq 2 (by decide) _) (ocol_eq (off10_at k) _ 2 (by decide) _) (ilist_eq (off11_at k) _ (off12_at k) _)) $$ [HX HT2 Hl HG2]
    · isplitl [HX]; · iexact HX
      isplitl [HT2]; · iexact HT2
      isplitl [Hl]; · iexact Hl
      iexact HG2
    iintro Hg
    sl_exec
    iapply (gather_wait d L q X I (sl k.val) 2 (sl (k.val / 2)) (sl k.val) (ibn L (k.val / 2)).val
      (ocol_eq (off10_at k) _ 2 (by decide) _)) $$ [Hg Hw]
    · isplitl [Hg]; · iexact Hg
      isplitl [Hw]; · iexact Hw
      iexact Hmw
    iintro ⟨HX, HT2, Hl, HG2, Hw⟩
    sl_exec
    iapply (gather_start d L q X I hI (sl k.val) 3 (sl (k.val / 2)) (sl k.val) (ibn L (k.val / 2)).val
      (xcol_eq 3 (by decide) _) (ocol_eq (off10_at k) _ 3 (by decide) _) (ilist_eq (off11_at k) _ (off12_at k) _)) $$ [HX HT3 Hl HG3]
    · isplitl [HX]; · iexact HX
      isplitl [HT3]; · iexact HT3
      isplitl [Hl]; · iexact Hl
      iexact HG3
    iintro Hg
    sl_exec
    iapply (gather_wait d L q X I (sl k.val) 3 (sl (k.val / 2)) (sl k.val) (ibn L (k.val / 2)).val
      (ocol_eq (off10_at k) _ 3 (by decide) _)) $$ [Hg Hw]
    · isplitl [Hg]; · iexact Hg
      isplitl [Hw]; · iexact Hw
      iexact Hmw
    iintro ⟨HX, HT3, Hl, HG3, Hw⟩
    ihave HS := (cols_row d L X I hk) $$ [HT0 HT1 HT2 HT3]
    · isplitl [HT0]; · iexact HT0
      isplitl [HT1]; · iexact HT1
      isplitl [HT2]; · iexact HT2
      iexact HT3
    ihave HB' := (PB_take d L X I f₀ hk) $$ HB
    icases HB' with ⟨HB0, HBd, HBt⟩
    sl_exec
    iapply (drain_start d L X I (sl k.val) (obn L k.val) (oslot_eq (off13_at k) _) (oblk_eq ((off14_at L k).trans (obn_off L hk)) _) (semO_eq (off15_at k) _) f₀) $$ [HS HB0 HsO]
    · isplitl [HS]; · iexact HS
      isplitl [HB0]; · iexact HB0
      iexact HsO
    iintro HfO
    ihave HT' := (Entails.of_eq (PT_pos d L X I h0)) $$ HT
    iapply (drain_wait d L X I (sl (k.val - 1)) (obn L (k.val - 1)) ⟨obn L (k.val - 1), oblk_eq ((off17_at L k h0).trans (obn_off L (by omega))) _⟩ (semO_eq (off18_at k) _)) $$ [HT' Hw]
    · isplitl [HT']; · iexact HT'
      isplitl [Hw]; · iexact Hw
      iexact Hmw
    iintro ⟨HS, HB1, HsO, Hw⟩
    ihave HO := (PO_next d L X I h0 _) $$ [HfO HS HsO]
    · isplitl [HfO]; · iexact HfO
      isplitl [HS]; · iexact HS
      iexact HsO
    ihave HB := (PB_next d L X I f₀ h0 (by omega) _ rfl) $$ [HB1 HBd HBt]
    · isplitl [HB1]; · iexact HB1
      isplitl [HBd]; · iexact HBd
      iexact HBt
    ihave HI := (PI_next d L q I hk _ rfl) $$ [Hl HR]
    · isplitl [Hl]; · iexact Hl
      iexact HR
    simp only [Prog.bind]
    sl_exec
    rw [wp_ret]
    imodintro
    isplitr
    · ipureintro
      clear h1 h2 h3 c1 c2 c5 c7 h0 hI hk hl
      revert k
      revert L
      decide +kernel
    isplitr; · iexact Hmw
    isplitl [HX]; · iexact HX
    isplitl [HI]; · iexact HI
    isplitl [HO]; · iexact HO
    isplitl [HB]; · iexact HB
    isplitr [Hw]
    · isplitl [HG0]; · iexact HG0
      isplitl [HG1]; · iexact HG1
      isplitl [HG2]; · iexact HG2
      iexact HG3
    iexact Hw

end Cert.Proof.Gather
-- ==== Proof.Gather.Tile.lean ====
/-
  A subcore's whole run: its scratch buffers and semaphores taken apart into the two rings' slots, the first list's
  fetch, the twenty steps, the last block's wait, and the pieces put together again. It begins with its shares of the
  source and of the index array and its twenty output blocks, and ends with the same, the blocks at the gathered rows.
-/
module

public import proofs.«01_k».proof.Proof.Gather.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (d : Dev nD) (L : grid0.Coords) (q : PosShare TreeShare)
variable (X : S53248x512.Idx → Elt F .i32) (I : S1x40960.Idx → Elt F .i32) (f₀ : S40960x512.Idx → Elt F .i32)

theorem bigSep_two {M : Type} [RA.URA M] (Φ : Fin 2 → sProp M) : bigSep Finset.univ Φ = iprop(Φ 0 ∗ Φ 1) := by
  rw [show (Finset.univ : Finset (Fin 2)) = {0, 1} from rfl, SparseCore.bigSep_insert' (by decide), bigSep_singleton]

/-! ## A ring's buffer is its two slots -/

abbrev islotSet (s : Fin 2) : Finset S2x1x128.Idx := (islot s).view.set

theorem islots_cover : (Finset.univ : Finset (Fin 2)).biUnion islotSet = Finset.univ := by
  ext y
  simp only [Finset.mem_biUnion, Finset.mem_univ, true_and, iff_true]
  exact ⟨y 0, (mem_islot (y 0) y).mpr rfl⟩
theorem islots_disj : ∀ s ∈ (Finset.univ : Finset (Fin 2)), ∀ s' ∈ (Finset.univ : Finset (Fin 2)), s ≠ s' → Disjoint (islotSet s) (islotSet s') := by
  intro s _ s' _ hne
  refine Finset.disjoint_left.mpr fun y hy hy' => hne (Fin.ext ?_)
  rw [← (mem_islot s y).mp hy, ← (mem_islot s' y).mp hy']
theorem oslots_cover : (Finset.univ : Finset (Fin 2)).biUnion oslotSet = Finset.univ := by
  ext y
  simp only [Finset.mem_biUnion, Finset.mem_univ, true_and, iff_true]
  exact ⟨y 0, (mem_oslot (y 0) y).mpr rfl⟩
theorem oslots_disj : ∀ s ∈ (Finset.univ : Finset (Fin 2)), ∀ s' ∈ (Finset.univ : Finset (Fin 2)), s ≠ s' → Disjoint (oslotSet s) (oslotSet s') := by
  intro s _ s' _ hne
  refine Finset.disjoint_left.mpr fun y hy hy' => hne (Fin.ext ?_)
  rw [← (mem_oslot s y).mp hy, ← (mem_oslot s' y).mp hy']

abbrev ibLoc : Loc nD τ sig := (th d L).loc cc0_scoped0
abbrev obLoc : Loc nD τ sig := (th d L).loc cc0_scoped2

theorem ibuf_split (f : S2x1x128.Idx → Elt F .i32) : (ibLoc d L ↦{fullShare} f : sProp 𝕄) ⊢ iprop(ISl d L 0 f ∗ ISl d L 1 f) := by
  have e : (ibLoc d L ↦{fullShare} f : sProp 𝕄) = ibLoc d L ↦[(Finset.univ : Finset (Fin 2)).biUnion islotSet]{fullShare} f := by rw [islots_cover]
  rw [e]
  exact Entails.of_eq ((pointsTo_biUnion (ℓ := ibLoc d L) (q := fullShare) (f := f) Finset.univ islotSet islots_disj).trans (bigSep_two fun s => ISl d L s f))
theorem obuf_split (f : S2x64x512.Idx → Elt F .i32) : (obLoc d L ↦{fullShare} f : sProp 𝕄) ⊢ iprop(OSl d L 0 f ∗ OSl d L 1 f) := by
  have e : (obLoc d L ↦{fullShare} f : sProp 𝕄) = obLoc d L ↦[(Finset.univ : Finset (Fin 2)).biUnion oslotSet]{fullShare} f := by rw [oslots_cover]
  rw [e]
  exact Entails.of_eq ((pointsTo_biUnion (ℓ := obLoc d L) (q := fullShare) (f := f) Finset.univ oslotSet oslots_disj).trans (bigSep_two fun s => OSl d L s f))

theorem ibuf_join : (iprop((∃ f, ISl d L 0 f) ∗ (∃ f, ISl d L 1 f)) : sProp 𝕄) ⊢ iprop(∃ f, ibLoc d L ↦{fullShare} f) := by
  iintro ⟨⟨%f, Hf⟩, %g, Hg⟩
  ihave H := (Entails.of_eq (bigSep_two fun s : Fin 2 => (ibLoc d L ↦[islotSet s]{fullShare} (if s = 0 then f else g : S2x1x128.Idx → Elt F .i32) : sProp 𝕄)).symm) $$ [Hf Hg]
  · isplitl [Hf]
    · unfold ISl; iexact Hf
    · unfold ISl; iexact Hg
  ihave H' := (pointsTo_biUnion_join (ℓ := ibLoc d L) (q := fullShare) (Val := Elt F) Finset.univ islotSet (fun s : Fin 2 => (if s = 0 then f else g : S2x1x128.Idx → Elt F .i32)) f islots_disj) $$ H
  icases H' with ⟨%h, -, Hh⟩
  rw [islots_cover]
  iexists h; iexact Hh
theorem obuf_join : (iprop((∃ f, OSl d L 0 f) ∗ (∃ f, OSl d L 1 f)) : sProp 𝕄) ⊢ iprop(∃ f, obLoc d L ↦{fullShare} f) := by
  iintro ⟨⟨%f, Hf⟩, %g, Hg⟩
  ihave H := (Entails.of_eq (bigSep_two fun s : Fin 2 => (obLoc d L ↦[oslotSet s]{fullShare} (if s = 0 then f else g : S2x64x512.Idx → Elt F .i32) : sProp 𝕄)).symm) $$ [Hf Hg]
  · isplitl [Hf]
    · unfold OSl; iexact Hf
    · unfold OSl; iexact Hg
  ihave H' := (pointsTo_biUnion_join (ℓ := obLoc d L) (q := fullShare) (Val := Elt F) Finset.univ oslotSet (fun s : Fin 2 => (if s = 0 then f else g : S2x64x512.Idx → Elt F .i32)) f oslots_disj) $$ H
  icases H' with ⟨%h, -, Hh⟩
  rw [oslots_cover]
  iexists h; iexact Hh

/-! ## The subcore's own buffers and semaphores -/

/-- The eight semaphores. -/
def sem8 : Fin 8 → SemLoc sig
  | 0 => .dma (semI 0) | 1 => .dma (semI 1) | 2 => .dma (semO 0) | 3 => .dma (semO 1)
  | 4 => .dma cc0_scoped4.sem | 5 => .dma cc0_scoped5.sem | 6 => .dma cc0_scoped6.sem | 7 => .dma cc0_scoped7.sem
theorem sem8_inj : ∀ i j, sem8 i = sem8 j → i = j := by decide +kernel
theorem sem8_scoped : ∀ i, (sem8 i).isScoped .scVector = true := by decide +kernel

theorem cell8_inj (s : Set (Fin 8)) : Set.InjOn (fun i : Fin 8 => ((th d L, sem8 i) : GSem nD τ sig)) s := by
  intro i _ j _ h
  exact sem8_inj i j (Prod.ext_iff.mp h).2

theorem sem8_0 : sem8 0 = .dma (semI 0) := rfl
theorem sem8_1 : sem8 1 = .dma (semI 1) := rfl
theorem sem8_2 : sem8 2 = .dma (semO 0) := rfl
theorem sem8_3 : sem8 3 = .dma (semO 1) := rfl
theorem sem8_4 : sem8 4 = .dma cc0_scoped4.sem := rfl
theorem sem8_5 : sem8 5 = .dma cc0_scoped5.sem := rfl
theorem sem8_6 : sem8 6 = .dma cc0_scoped6.sem := rfl
theorem sem8_7 : sem8 7 = .dma cc0_scoped7.sem := rfl

def cells8 : Finset (GSem nD τ sig) := Finset.univ.image fun i : Fin 8 => ((th d L, sem8 i) : GSem nD τ sig)

theorem cells8_sub : cells8 d L ⊆ ownCells (th d L) := by
  intro g hg
  obtain ⟨i, -, rfl⟩ := Finset.mem_image.mp hg
  exact mem_ownCells.mpr ⟨rfl, sem8_scoped i⟩

theorem bigSep_eight {M : Type} [RA.URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from rfl, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem ownSems0_V :
    (ownSems0 (th d L) : sProp 𝕄)
      = iprop((sI d L 0 ∗ sI d L 1 ∗ sO d L 0 ∗ sO d L 1 ∗ PG d L) ∗ bigSep (ownCells (th d L) \ cells8 d L) fun g => semVal g 0) := by
  unfold SparseCore.Cfg.ownSems0
  rw [SparseCore.bigSep_sdiff_split' (cells8_sub d L)]
  refine congrArg (fun A : sProp 𝕄 => iprop(A ∗ bigSep (ownCells (th d L) \ cells8 d L) fun g => semVal g 0)) ?_
  unfold cells8 PG
  refine (SparseCore.bigSep_image_of_injOn (cell8_inj d L _) _).trans ((bigSep_eight _).trans ?_)
  rw [sem8_0, sem8_1, sem8_2, sem8_3, sem8_4, sem8_5, sem8_6, sem8_7]

theorem ownBufs_V :
    (ownBufs (th d L) : sProp 𝕄)
      = iprop((∃ f, ibLoc d L ↦{fullShare} f) ∗ (∃ f, obLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The blocks -/

/-- The subcore's twenty output blocks at `f`. -/
def Blocks (f : S40960x512.Idx → Elt F .i32) : sProp 𝕄 := bigSep Finset.univ fun j : Fin 20 => OB d L (obn L j.val) f

theorem PB_first : Blocks d L f₀ ⊢ (PB d L X I f₀ 0 : sProp 𝕄) := by
  unfold PB Blocks
  rw [show (Finset.univ.filter fun j : Fin 20 => j.val + 1 < 0) = ∅ by decide, show (Finset.univ.filter fun j : Fin 20 => 0 ≤ j.val) = Finset.univ by decide, bigSep_empty]
  iintro H
  isplitr [H]
  · iempintro
  · iexact H
theorem PB_last : iprop(OB d L (obn L 19) (outT X I) ∗ PB d L X I f₀ 20) ⊢ (Blocks d L (outT X I) : sProp 𝕄) := by
  unfold PB Blocks
  rw [show (Finset.univ : Finset (Fin 20)) = insert (19 : Fin 20) (Finset.univ.filter fun j : Fin 20 => j.val + 1 < 20) by decide,
    SparseCore.bigSep_insert' (by decide)]
  iintro ⟨H1, H2, -⟩
  isplitl [H1]; · iexact H1
  rw [show ((insert (19 : Fin 20) (Finset.univ.filter fun j : Fin 20 => j.val + 1 < 20)).filter fun j : Fin 20 => j.val + 1 < 20) = (Finset.univ.filter fun j : Fin 20 => j.val + 1 < 20) by decide]
  iexact H2

variable [FloatOps F]

theorem PI_first : iprop(FlI d L q I (sl 0) (ibn L 0) ∗ (∃ f, ISl d L 1 f) ∗ sI d L 1) ⊢ (PI d L q I 0 : sProp 𝕄) := by
  rw [PI_even d L q I (k := 0) rfl (by omega)]
  unfold Coming
  exact .rfl
theorem PO_first : iprop((∃ f, OSl d L 0 f) ∗ (∃ f, OSl d L 1 f) ∗ sO d L 0 ∗ sO d L 1) ⊢ (PO d L X I 0 : sProp 𝕄) := by
  unfold PO; rw [if_pos rfl]
theorem PI_last : PI d L q I 20 ⊢ (iprop((∃ f, ISl d L 0 f) ∗ (∃ f, ISl d L 1 f) ∗ ISh d L q I ∗ sI d L 0 ∗ sI d L 1) : sProp 𝕄) := by
  unfold PI; rw [if_pos rfl]; unfold Free; exact .rfl
theorem PO_last : PO d L X I 20 ⊢ (iprop(FlO d L X I 1 (obn L 19) ∗ (∃ f, OSl d L 0 f) ∗ sO d L 0) : sProp 𝕄) := by
  unfold PO; rw [if_neg (by decide)]; exact .rfl

theorem Inv_end (O : CellTallies nD τ sig (HIx 1)) (W₀ : Waits sig (HIx 1)) (acc) :
    Inv d L q X I f₀ O W₀ (Scf.trips k0_t1_loop.lb k0_t1_loop.ub k0_t1_loop.st) acc
      ⊢ (iprop(⌜acc = carry 20⌝ ∗ XSh d L q X ∗ PI d L q I 20 ∗ PO d L X I 20 ∗ PB d L X I f₀ 20 ∗ PG d L ∗ Ow d L O W₀) : sProp 𝕄) := by
  rw [show Scf.trips k0_t1_loop.lb k0_t1_loop.ub k0_t1_loop.st = 20 from trips_eq]
  unfold Inv
  iintro ⟨%h, -, H⟩
  isplitr; · ipureintro; exact h
  iexact H

/-- What a subcore is handed and hands back: its shares of the source and of the index array, its blocks at `f`. -/
def Go (f : S40960x512.Idx → Elt F .i32) : sProp 𝕄 := iprop(XSh d L q X ∗ ISh d L q I ∗ Blocks d L f)

set_option maxHeartbeats 4000000 in
theorem tile_body (hI : ∀ j, (show BitVec 32 from I j).toNat < 53248) (hF : (K (F := F)).Facts)
    (O : CellTallies nD τ sig (HIx 1)) (W : Waits sig (HIx 1)) (hO : ∀ g, O g none = 0) :
    iprop(levAts (K (F := F)).L (K (F := F)).lev ∗ emp ∗ Go d L q X I f₀
        ∗ scopedBufs (th d L) ∗ scopedSems0 (th d L) ∗ owes (th d L) O W)
      ⊢ wp frame (wpE (defs₀ (F := F)) 𝒱₀ (th d L) none) Set.univ
          (cc0_gather_rows (F := F) L xM (Memref.isWhole_whole _) iM (Memref.isWhole_whole _) oM (Memref.isWhole_whole _) ibM (Memref.isWhole_whole _)
            cc0_scoped1 obM (Memref.isWhole_whole _) cc0_scoped3 cc0_scoped4 cc0_scoped5 cc0_scoped6 cc0_scoped7)
          fun _ => iprop(Go d L q X I (outT X I) ∗ scopedBufs (th d L) ∗ scopedSems0 (th d L)
            ∗ ∃ W', ⌜∀ p ∈ W', p ∈ W ∨ p.2 = none⌝ ∗ owes (th d L) O W') := by
  simp only [cc0_gather_rows_eq_skeleton]
  unfold cc0_gather_rows_skel
  simp only [k0_part6_eq_skeleton, k0_part7_eq_skeleton, k0_part8_eq_skeleton]
  unfold k0_part6_skel k0_part7_skel k0_part8_skel
  have h4 := chk4_end
  have h5 := chk5_end L
  rw [(K (F := F)).scopedBufs_V hF d (cV L) (jV L), SparseCore.Cfg.scopedSems0_V (Val := Elt F) d (cV L) (jV L), ownSems0_V, ownBufs_V]
  iintro ⟨#Hlv, -, HGo, ⟨⟨%fi, Hib⟩, ⟨%fo, Hob⟩, Hbufs⟩, ⟨⟨HsI0, HsI1, HsO0, HsO1, HPG⟩, Hsems⟩, HO⟩
  ihave #Hmw := (show levAts (K (F := F)).L (K (F := F)).lev ⊢ Transfers.MayWaits (th d L) (default : HIx 1) O from
    (K (F := F)).mayWaits_none (thr := th d L) hO) $$ Hlv
  ihave Hib' := (ibuf_split d L fi) $$ Hib
  icases Hib' with ⟨Hi0, Hi1⟩
  ihave Hob' := (obuf_split d L fo) $$ Hob
  icases Hob' with ⟨Ho0, Ho1⟩
  ihave HGo' := (show Go d L q X I f₀ ⊢ (iprop(XSh d L q X ∗ ISh d L q I ∗ Blocks d L f₀) : sProp 𝕄) from .rfl) $$ HGo
  icases HGo' with ⟨HX, HI, HBl⟩
  sl_exec
  iapply (fetch_start d L q I 0 (ibn L 0) (iblk_eq ((off2_at L).trans (ibn_off L (by omega))) _) (islot_eq (n := 0) rfl _) (semI_eq (n := 0) rfl _)) $$ [HI Hi0 HsI0]
  · isplitl [HI]; · iexact HI
    isplitl [Hi0]; · iexists fi; iexact Hi0
    iexact HsI0
  iintro Hf
  ihave HPI := (PI_first d L q I) $$ [Hf Hi1 HsI1]
  · isplitl [Hf]; · iexact Hf
    isplitl [Hi1]; · iexists fi; iexact Hi1
    iexact HsI1
  ihave HPO := (PO_first d L X I) $$ [Ho0 Ho1 HsO0 HsO1]
  · isplitl [Ho0]; · iexists fo; iexact Ho0
    isplitl [Ho1]; · iexists fo; iexact Ho1
    isplitl [HsO0]; · iexact HsO0
    iexact HsO1
  ihave HPB := (PB_first d L X I f₀) $$ HBl
  ihave HOw := (show owes (th d L) O W ⊢ (Ow d L O W : sProp 𝕄) from by
    unfold Ow; iintro H; iexists W; isplitr; · ipureintro; exact fun p hp => .inl hp
    iexact H) $$ HO
  rw [wp_bind]
  dsimp only
  iapply (Scf.wp_for_bind (lb := k0_t1_loop.lb) (ub := k0_t1_loop.ub) (st := k0_t1_loop.st) (hok := k0_t1_ok) (I := fun k acc => Inv d L q X I f₀ O W k acc)
    (hbody := fun k acc => trip d L q X I f₀ hI _ _ _ O W k acc)) $$ [HX HPI HPO HPB HPG HOw]
  · unfold Inv
    isplitr; · ipureintro; rfl
    isplitr; · iexact Hmw
    isplitl [HX]; · iexact HX
    isplitl [HPI]; · iexact HPI
    isplitl [HPO]; · iexact HPO
    isplitl [HPB]; · iexact HPB
    isplitl [HPG]; · iexact HPG
    iexact HOw
  iintro %acc HInv
  ihave HInv' := (Inv_end d L q X I f₀ O W acc) $$ HInv
  icases HInv' with ⟨%hacc, HX, HPI, HPO, HPB, HPG, HOw⟩
  subst hacc
  ihave HPI' := (PI_last d L q I) $$ HPI
  icases HPI' with ⟨Hi0, Hi1, HI, HsI0, HsI1⟩
  ihave HPO' := (PO_last d L X I) $$ HPO
  icases HPO' with ⟨HfO, Ho0, HsO0⟩
  unfold carry
  sl_exec
  iapply (drain_wait d L X I 1 (obn L 19) ⟨obn L 19, oblk_eq ((off20_end L).trans (obn_off L (by omega))) _⟩ (semO_eq (n := 1) off21_end _)) $$ [HfO HOw]
  · isplitl [HfO]; · iexact HfO
    isplitl [HOw]; · iexact HOw
    iexact Hmw
  iintro ⟨Ho1, HB, HsO1, HOw⟩
  ihave HBl := (PB_last d L X I f₀) $$ [HB HPB]
  · isplitl [HB]; · iexact HB
    iexact HPB
  ihave Hib := (ibuf_join d L) $$ [Hi0 Hi1]
  · isplitl [Hi0]; · iexact Hi0
    iexact Hi1
  ihave Hob := (obuf_join d L) $$ [Ho0 Ho1]
  · isplitl [Ho0]; · iexact Ho0
    iexists _; iexact Ho1
  sl_exec
  rw [wp_ret]
  imodintro
  unfold Go
  isplitl [HX HI HBl]
  · isplitl [HX]; · iexact HX
    isplitl [HI]; · iexact HI
    iexact HBl
  isplitl [Hib Hob Hbufs]
  · isplitl [Hib]; · iexact Hib
    isplitl [Hob]; · iexact Hob
    iexact Hbufs
  isplitl [HsI0 HsI1 HsO0 HsO1 HPG Hsems]
  · isplitr [Hsems]
    · isplitl [HsI0]; · iexact HsI0
      isplitl [HsI1]; · iexact HsI1
      isplitl [HsO0]; · iexact HsO0
      isplitl [HsO1]; · iexact HsO1
      iexact HPG
    · iexact Hsems
  unfold Ow
  iexact HOw

end Cert.Proof.Gather
-- ==== Proof.Gather.Run.lean ====
/-
  The row gather's launch: the program's one call runs a task on each vector subcore of the two SparseCores. Every
  subcore reads all of the source and all of the index array, at a share of its own, and owns its twenty blocks of the
  output; the call takes the three arrays whole, hands each subcore its part and puts the parts together again. From a
  memory whose row numbers are all below the source's height, every run ends with both arguments unchanged, the output
  at the gathered rows and every semaphore at zero.
-/
module

public import proofs.«01_k».proof.Proof.Gather.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## A share parted among readers -/

/-- A share can be parted among any positive number of readers, each then holding the buffer's contents. -/
theorem exists_parts : ∀ (n : ℕ) (q : PosShare TreeShare), ∃ p : Fin (n + 1) → PosShare TreeShare,
    ∀ (ℓ : Loc nD τ sig) (J : Finset (Idx ℓ)) (f : Buf (Elt F) ℓ),
      (ℓ ↦[J]{q} f : sProp 𝕄) = bigSep Finset.univ fun i : Fin (n + 1) => ℓ ↦[J]{p i} f := by
  intro n
  induction n with
  | zero => exact fun q => ⟨fun _ => q, fun ℓ J f => (bigSep_univ_of_subsingleton (0 : Fin 1) (Φ := fun _ : Fin 1 => (ℓ ↦[J]{q} f : sProp 𝕄))).symm⟩
  | succ n ih =>
    intro q
    obtain ⟨p, hp⟩ := ih q.right
    refine ⟨Fin.cons q.left p, fun ℓ J f => ?_⟩
    have hn : (0 : Fin (n + 2)) ∉ (Finset.univ : Finset (Fin (n + 1))).image Fin.succ := by
      intro h; obtain ⟨i, -, hi⟩ := Finset.mem_image.mp h; exact Fin.succ_ne_zero i hi
    have hu : (Finset.univ : Finset (Fin (n + 2))) = insert 0 ((Finset.univ : Finset (Fin (n + 1))).image Fin.succ) := by
      ext i
      simp only [Finset.mem_univ, true_iff, Finset.mem_insert, Finset.mem_image, true_and]
      induction i using Fin.cases with
      | zero => exact .inl rfl
      | succ i => exact .inr ⟨i, rfl⟩
    rw [BI.Entails.antisymm (pointsTo_share (PosShare.mem_left_op_right q)).1 (pointsTo_share (PosShare.mem_left_op_right q)).2,
      hp ℓ J f, hu, SparseCore.bigSep_insert' hn, SparseCore.bigSep_image_of_injOn (Fin.succ_injective _).injOn]
    rfl

/-- A SparseCore's share of an array all subcores read, and a subcore's. -/
def coreShare (F : FTy → Type) : Fin 2 → PosShare TreeShare := Classical.choose (exists_parts (F := F) 1 fullShare)
def subShare (F : FTy → Type) (c : Fin 2) : Fin 16 → PosShare TreeShare := Classical.choose (exists_parts (F := F) 15 (coreShare F c))

theorem whole_parts (ℓ : Loc nD τ sig) (f : Buf (Elt F) ℓ) :
    (ℓ ↦{fullShare} f : sProp 𝕄)
      = bigSep Finset.univ fun c : Fin 2 => bigSep Finset.univ fun i : Fin 16 => ℓ ↦{subShare F c i} f := by
  rw [Classical.choose_spec (exists_parts (F := F) 1 fullShare) ℓ Finset.univ f]
  exact bigSep_congr fun c _ => Classical.choose_spec (exists_parts (F := F) 15 (coreShare F c)) ℓ Finset.univ f

/-! ## The output is its blocks, by SparseCore and subcore -/

/-- The coordinates of subcore `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

abbrev blkSet (n : Fin 640) : Finset S40960x512.Idx := (oblk n).view.set
/-- The output rows of SparseCore `c`, and of its subcore `i`. -/
def coreRows (c : Fin 2) : Finset S40960x512.Idx := Finset.univ.filter fun y => (y 0).val / 20480 = c.val
def subRows (c : Fin 2) (i : Fin 16) : Finset S40960x512.Idx := Finset.univ.filter fun y => (y 0).val / 1280 = i.val + 16 * c.val

theorem mem_coreRows (c : Fin 2) (y : S40960x512.Idx) : y ∈ coreRows c ↔ (y 0).val / 20480 = c.val := by simp [coreRows]
theorem mem_subRows (c : Fin 2) (i : Fin 16) (y : S40960x512.Idx) : y ∈ subRows c i ↔ (y 0).val / 1280 = i.val + 16 * c.val := by simp [subRows]

theorem cores_cover : (Finset.univ : Finset (Fin 2)).biUnion coreRows = Finset.univ := by
  ext y
  simp only [Finset.mem_biUnion, Finset.mem_univ, true_and, iff_true]
  have hy : (y 0).val < 40960 := (y 0).isLt
  exact ⟨⟨(y 0).val / 20480, by omega⟩, (mem_coreRows _ y).mpr rfl⟩
theorem cores_disj : ∀ c ∈ (Finset.univ : Finset (Fin 2)), ∀ c' ∈ (Finset.univ : Finset (Fin 2)), c ≠ c' → Disjoint (coreRows c) (coreRows c') := by
  intro c _ c' _ hne
  refine Finset.disjoint_left.mpr fun y hy hy' => hne (Fin.ext ?_)
  rw [← (mem_coreRows c y).mp hy, ← (mem_coreRows c' y).mp hy']
theorem subs_cover (c : Fin 2) : (Finset.univ : Finset (Fin 16)).biUnion (subRows c) = coreRows c := by
  ext y
  simp only [Finset.mem_biUnion, Finset.mem_univ, true_and, mem_coreRows, mem_subRows]
  have hy : (y 0).val < 40960 := (y 0).isLt
  constructor
  · rintro ⟨i, h⟩; have := i.isLt; omega
  · intro h; exact ⟨⟨(y 0).val / 1280 - 16 * c.val, by omega⟩, by show _ = (y 0).val / 1280 - 16 * c.val + _; omega⟩
theorem subs_disj (c : Fin 2) :
    ∀ i ∈ (Finset.univ : Finset (Fin 16)), ∀ j ∈ (Finset.univ : Finset (Fin 16)), i ≠ j → Disjoint (subRows c i) (subRows c j) := by
  intro i _ j _ hne
  refine Finset.disjoint_left.mpr fun y hy hy' => hne (Fin.ext ?_)
  have h := (mem_subRows c i y).mp hy; have h' := (mem_subRows c j y).mp hy'; omega
theorem obn_at (c : Fin 2) (i : Fin 16) (j : Fin 20) : (obn (coordsV c i) j.val).val = 20 * (i.val + 16 * c.val) + j.val := by
  show 20 * (i.val + 16 * c.val) + j.val % 20 = _
  have := j.isLt; omega
theorem blks_cover (c : Fin 2) (i : Fin 16) :
    (Finset.univ : Finset (Fin 20)).biUnion (fun j => blkSet (obn (coordsV c i) j.val)) = subRows c i := by
  ext y
  simp only [Finset.mem_biUnion, Finset.mem_univ, true_and, mem_subRows]
  constructor
  · rintro ⟨j, h⟩; have := j.isLt; have h' := (mem_oblk _ y).mp h; rw [obn_at] at h'; omega
  · intro h
    refine ⟨⟨(y 0).val / 64 - 20 * (i.val + 16 * c.val), by omega⟩, (mem_oblk _ y).mpr ?_⟩
    rw [obn_at]; show _ = _ + ((y 0).val / 64 - 20 * (i.val + 16 * c.val)); omega
theorem blks_disj (c : Fin 2) (i : Fin 16) :
    ∀ j ∈ (Finset.univ : Finset (Fin 20)), ∀ k ∈ (Finset.univ : Finset (Fin 20)), j ≠ k →
      Disjoint (blkSet (obn (coordsV c i) j.val)) (blkSet (obn (coordsV c i) k.val)) := by
  intro j _ k _ hne
  refine Finset.disjoint_left.mpr fun y hy hy' => hne (Fin.ext ?_)
  have h := (mem_oblk _ y).mp hy; have h' := (mem_oblk _ y).mp hy'
  rw [obn_at] at h h'; omega

/-! ## The launch memory -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- What the call leaves in the output. -/
def outM (d : Dev nD) : Buf (Elt F) (oLoc d) := outT (m (xLoc d)) (m (iLoc d))

theorem out_parts (d : Dev nD) (f : Buf (Elt F) (oLoc d)) :
    (oLoc d ↦{fullShare} f : sProp 𝕄)
      = bigSep Finset.univ fun c : Fin 2 => bigSep Finset.univ fun i : Fin 16 => Blocks d (coordsV c i) f := by
  have h1 : (oLoc d ↦{fullShare} f : sProp 𝕄) = bigSep Finset.univ fun c : Fin 2 => oLoc d ↦[coreRows c]{fullShare} f := by
    rw [← pointsTo_biUnion Finset.univ (ℓ := oLoc d) coreRows cores_disj, cores_cover]; try rfl
  rw [h1]
  refine bigSep_congr fun c _ => ?_
  have h2 : (oLoc d ↦[coreRows c]{fullShare} f : sProp 𝕄) = bigSep Finset.univ fun i : Fin 16 => oLoc d ↦[subRows c i]{fullShare} f := by
    rw [← pointsTo_biUnion Finset.univ (ℓ := oLoc d) (subRows c) (subs_disj c), subs_cover]
  rw [h2]
  refine bigSep_congr fun i _ => ?_
  have h3 : (oLoc d ↦[subRows c i]{fullShare} f : sProp 𝕄)
      = bigSep Finset.univ fun j : Fin 20 => oLoc d ↦[blkSet (obn (coordsV c i) j.val)]{fullShare} f := by
    rw [← pointsTo_biUnion Finset.univ (ℓ := oLoc d) (fun j : Fin 20 => blkSet (obn (coordsV c i) j.val)) (blks_disj c i), blks_cover]
  rw [h3]; rfl

/-! ## What the call carries -/

def Part (d : Dev nD) (c : Fin 2) (i : Fin 16) (f : Buf (Elt F) (oLoc d)) : sProp 𝕄 :=
  Go d (coordsV c i) (subShare F c i) (m (xLoc d)) (m (iLoc d)) f

/-- A SparseCore's subcores' parts. -/
def Parts (d : Dev nD) (c : Fin 2) (f : Buf (Elt F) (oLoc d)) : sProp 𝕄 := bigSep Finset.univ fun i : Fin 16 => Part m d c i f

/-- The three arrays whole are the subcores' parts. -/
theorem arrays_parts (d : Dev nD) (f : Buf (Elt F) (oLoc d)) :
    (iprop((xLoc d ↦{fullShare} m (xLoc d)) ∗ (iLoc d ↦{fullShare} m (iLoc d)) ∗ oLoc d ↦{fullShare} f) : sProp 𝕄)
      = bigSep Finset.univ fun c : Fin 2 => Parts m d c f := by
  rw [whole_parts (xLoc d), whole_parts (iLoc d), out_parts]
  unfold Parts Part Go
  simp only [bigSep_sep']
  rfl

instance part_storable (d : Dev nD) (c : Fin 2) (i : Fin 16) (f : Buf (Elt F) (oLoc d)) :
    BI.Storable (upEmb : UEmb _ 𝕄) (Part m d c i f) := by
  unfold Part Go XSh ISh Blocks OB
  infer_instance

instance parts_storable (d : Dev nD) (c : Fin 2) (f : Buf (Elt F) (oLoc d)) : BI.Storable (upEmb : UEmb _ 𝕄) (Parts m d c f) := by
  unfold Parts; infer_instance

theorem nCore_eq (q : Fin 1) : (K (F := F)).nCore q = 2 := match q with | 0 => rfl
theorem nSub_eq (q : Fin 1) : (K (F := F)).nSub q = 16 := match q with | 0 => rfl

/-- Each SparseCore takes its subcores' parts and brings them back, the output at the gathered rows. -/
def P : (K (F := F)).Pay (nD := nD) (Val := Elt F) (Name := ℕ) (U := UU) where
  st := fun q d c => Parts m d (Fin.cast (nCore_eq q) c) (m (oLoc d))
  dn := fun q d c => Parts m d (Fin.cast (nCore_eq q) c) (outM m d)
  go := fun q d c i => Part m d (Fin.cast (nCore_eq q) c) (Fin.cast (nSub_eq q) i) (m (oLoc d))
  td := fun q d c i => Part m d (Fin.cast (nCore_eq q) c) (Fin.cast (nSub_eq q) i) (outM m d)
  x := fun _ _ => iprop(emp)

instance P_storable : (P (F := F) m).IsStorable where
  st q d c := parts_storable m d (Fin.cast (nCore_eq q) c) (m (oLoc d))
  dn q d c := parts_storable m d (Fin.cast (nCore_eq q) c) (outM m d)
  go q d c i := part_storable m d (Fin.cast (nCore_eq q) c) (Fin.cast (nSub_eq q) i) (m (oLoc d))
  td q d c i := part_storable m d (Fin.cast (nCore_eq q) c) (Fin.cast (nSub_eq q) i) (outM m d)

/-- What is asked of the launch memory: every row number is a row of the source. -/
def PreOK : Prop := ∀ (d : Dev nD) (j : S1x40960.Idx), (show BitVec 32 from m (iLoc d) j).toNat < 53248

variable [FloatOps F]

abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The subcores' obligation -/

theorem defs₀_vector (c : Fin τ.nSC) (i : Fin τ.nSub) :
    defs₀ (F := F) (.scVector c i) 0 ()
      = SparseCore.onTile hcore0 hsub0 (fun c i => cc0_gather_rows (F := F) (coordsV c i)
          xM (Memref.isWhole_whole _) iM (Memref.isWhole_whole _) oM (Memref.isWhole_whole _) ibM (Memref.isWhole_whole _)
          cc0_scoped1 obM (Memref.isWhole_whole _) cc0_scoped3 cc0_scoped4 cc0_scoped5 cc0_scoped6 cc0_scoped7) ⟨⟩ c i := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; intro p hp
    rcases hW p hp with h | h
    · exact .inl h
    · exact .inr (.inl h)
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  unfold P Part
  exact (tile_body d (coordsV ⟨_, hci.1⟩ ⟨_, hci.2⟩) (subShare F (Fin.cast (nCore_eq 0) c) (Fin.cast (nSub_eq 0) i)) (m (xLoc d)) (m (iLoc d)) (m (oLoc d))
    (hpre d) hF O W hO).trans (wp_mono frame _ _ fun _ => obl_post)

omit [FloatOps F] in
theorem vecSplit : (K (F := F)).VecSplit' (P m) 0 := by
  intro d c
  show Parts m d (Fin.cast (nCore_eq 0) c) (m (oLoc d)) ⊢ |={Set.univ}=> iprop(
      Parts m d (Fin.cast (nCore_eq 0) c) (m (oLoc d)) ∗ (Parts m d (Fin.cast (nCore_eq 0) c) (outM m d) -∗ Parts m d (Fin.cast (nCore_eq 0) c) (outM m d)))
  iintro H; imodintro
  isplitl [H]; · iexact H
  iintro H; iexact H

/-! ## The ghost state the launch begins with -/

def u₀ : UU := (initOf (K (F := F)).hsCells (K (F := F)).hsToks, 1)

omit [FloatOps F] in
theorem bigSep_emp' {J : Type} (s : Finset J) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev xPts (d : Dev nD) : sProp 𝕄 := xLoc d ↦{fullShare} m (xLoc d)
abbrev iPts (d : Dev nD) : sProp 𝕄 := iLoc d ↦{fullShare} m (iLoc d)
abbrev oPts (d : Dev nD) (f : Buf (Elt F) (oLoc d)) : sProp 𝕄 := oLoc d ↦{fullShare} f

omit [FloatOps F] in
theorem bigSep_cast {n k : ℕ} (h : n = k) (Φ : Fin k → sProp 𝕄) :
    (bigSep Finset.univ fun c : Fin n => Φ (Fin.cast h c)) = bigSep Finset.univ Φ := by subst h; rfl

omit [FloatOps F] in
theorem st0_eq (d : Dev nD) : (bigSep Finset.univ fun c : Fin ((K (F := F)).nCore 0) => (P m).st 0 d c) = iprop(xPts m d ∗ iPts m d ∗ oPts d (m (oLoc d))) := by
  rw [arrays_parts m d (m (oLoc d))]
  exact bigSep_cast (nCore_eq (F := F) 0) fun c => Parts m d c (m (oLoc d))
omit [FloatOps F] in
theorem dn0_eq (d : Dev nD) : (bigSep Finset.univ fun c : Fin ((K (F := F)).nCore 0) => (P m).dn 0 d c) = iprop(xPts m d ∗ iPts m d ∗ oPts d (outM m d)) := by
  rw [arrays_parts m d (outM m d)]
  exact bigSep_cast (nCore_eq (F := F) 0) fun c => Parts m d c (outM m d)

abbrev FIN (d : Dev nD) : sProp 𝕄 := iprop(xPts m d ∗ iPts m d ∗ oPts d (outM m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (xLoc d) = m (xLoc d) ∧ s'.mem.mem (iLoc d) = m (iLoc d) ∧ s'.mem.mem (oLoc d) = outM m d

omit [FloatOps F] in
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

omit [FloatOps F] in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (agree_whole s' (xLoc d) _) $$ [Hx HSI]
  · isplitl [Hx] <;> iassumption
  icases H with ⟨%h1, HSI⟩
  ihave H := (agree_whole s' (iLoc d) _) $$ [Hi HSI]
  · isplitl [Hi] <;> iassumption
  icases H with ⟨%h2, HSI⟩
  ihave H := (agree_whole s' (oLoc d) _) $$ [Ho HSI]
  · isplitl [Ho] <;> iassumption
  icases H with ⟨%h3, -⟩
  ipureintro; exact ⟨h1, h2, h3⟩

/-! ## The run -/

def QC : PUnit × MemSt nD τ sig (Elt F) → Prop := fun r =>
  (∀ d : Dev nD, r.2.mem (xLoc d) = m (xLoc d) ∧ r.2.mem (iLoc d) = m (iLoc d) ∧ r.2.mem (oLoc d) = outM m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Gather.Take.lean ====
/-
  The reference program's function of its two arrays: `take` along the rows, with its wrapped negative indices, its
  bounds mask and its fill value, written as the operations the program runs. Where every row number is a row of the
  source, the mask is all ones, no index is wrapped or clamped, and the function is the row gather `outT`.
-/
module

public import proofs.«01_k».proof.Proof.Gather.Windows
public import proofs.«01_k».proof.Proof.Gen.ReferenceIdeal
public import proofs.«01_k».proof.Defs

@[expose] public section

noncomputable section

namespace Cert.Proof.Take

open Cert.ReferenceIdeal Cert.ReferenceIdeal.Gen
open Idealize.ShloMosaic

/-- The index column: each row number, plus the height where negative. -/
def col (I : IVec S1x40960 32) : IVec S40960x1 32 :=
  broadcastInDim S40960x1 ![0] bcast_S40960_S40960x1_0
    (select (cmpi .slt (shapeCast S40960 I shapeCasts_S1x40960_S40960) (broadcastInDim S40960 ![] bcast_S_S40960 (constantI S_ 32 0#32)))
      (addi (shapeCast S40960 I shapeCasts_S1x40960_S40960) (broadcastInDim S40960 ![] bcast_S_S40960 (constantI S_ 32 53248#32)))
      (shapeCast S40960 I shapeCasts_S1x40960_S40960))

/-- Which entries of the column are rows of the source. -/
def inside (I : IVec S1x40960 32) : IVec S40960x1 1 :=
  andi (cmpi .sge (col I) (broadcastInDim S40960x1 ![] bcast_S_S40960x1 (constantI S_ 32 0#32)))
    (cmpi .sle (col I) (broadcastInDim S40960x1 ![0, 1] bcast_S1x1_S40960x1_0_1 (broadcastInDim S1x1 ![1] bcast_S1_S1x1_1 (constantI S1 32 53247#32))))

/-- The reference's result. -/
def take (X : IVec S53248x512 32) (I : IVec S1x40960 32) : IVec S40960x512 32 :=
  select (broadcastInDim S40960x512 ![0] bcast_S40960_S40960x512_0
      (Host.reduce IntOp.andi (inside I) (constantI S_ 1 1#1) reducesTo_S40960x1_S40960_d1 h_S_))
    (Host.gather gather_S53248x512_S40960x1_S40960x512_1_0_n_n_0_1_1512 X (col I))
    (broadcastInDim S40960x512 ![] bcast_S_S40960x512 (constantI S_ 32 4294967295#32))

/-! ## Words -/

/-- A word below the height is not negative, and passes the two bounds. -/
theorem word_facts (v : BitVec 32) (h : v.toNat < 53248) :
    IntOp.cmpi .slt v 0#32 = 0#1 ∧ IntOp.andi (IntOp.cmpi .sge v 0#32) (IntOp.cmpi .sle v 53247#32) = 1#1
      ∧ min v.toInt.toNat (53248 - 1) = v.toNat := by
  have ht : v.toInt = v.toNat := by rw [BitVec.toInt_eq_toNat_cond]; rw [if_pos]; omega
  have h0 : (0#32).toInt = 0 := by decide
  have h1 : (53247#32).toInt = 53247 := by decide
  refine ⟨?_, ?_, ?_⟩
  · have : v.slt 0#32 = false := by rw [BitVec.slt_eq_decide, ht, h0]; exact decide_eq_false (by omega)
    simp only [IntOp.cmpi, this]; rfl
  · have h2 : (0#32).sle v = true := by rw [BitVec.sle_eq_decide, ht, h0]; exact decide_eq_true (by omega)
    have h3 : v.sle 53247#32 = true := by rw [BitVec.sle_eq_decide, ht, h1]; exact decide_eq_true (by omega)
    simp only [IntOp.cmpi, h2, h3]; rfl
  · rw [ht]; omega

theorem norm_eq (v w : BitVec 32) (h : v.toNat < 53248) : Scalar.select (IntOp.cmpi .slt v 0#32) w v = v := by
  rw [(word_facts v h).1]; rfl

variable (X : IVec S53248x512 32) (I : IVec S1x40960 32) (hI : ∀ j, (I j).toNat < 53248)

/-- Index `p` of the index array. -/
abbrev at1 (p : Fin 40960) : S1x40960.Idx := fun a => match a with | 0 => ⟨0, by decide⟩ | 1 => p

/-- Index `p` of the flat index array. -/
abbrev at0 (p : Fin 40960) : S40960.Idx := fun a => match a with | 0 => p

include hI in
theorem col_at (i : S40960x1.Idx) : col I i = I (at1 (i 0)) := by
  have e : ∀ k : S40960.Idx, shapeCast S40960 I shapeCasts_S1x40960_S40960 k = I (at1 (k 0)) := by
    intro k
    unfold shapeCast
    congr 1
    refine Shape.reshapeEquiv_eq_of_rowMajor _ ?_
    rw [Shape.rowMajor_val_two, Shape.rowMajor_val_one]
    show 0 * 40960 + (k 0).val = (k 0).val
    omega
  refine (norm_eq (shapeCast S40960 I shapeCasts_S1x40960_S40960 (at0 (i 0))) _ ?_).trans (e _)
  rw [e]; exact hI _

include hI in
theorem inside_at (i : S40960x1.Idx) : inside I i = 1#1 := by
  show IntOp.andi (IntOp.cmpi .sge (col I i) 0#32) (IntOp.cmpi .sle (col I i) 53247#32) = 1#1
  rw [col_at I hI]
  exact (word_facts _ (hI _)).2.1

theorem foldl_andi {β : Type} (l : List β) (g : β → BitVec 1) (hg : ∀ b, g b = 1#1) :
    l.foldl (fun r b => IntOp.andi r (g b)) 1#1 = 1#1 := by
  induction l with
  | nil => rfl
  | cons b l ih =>
    rw [List.foldl_cons, hg b]
    exact ih

include hI in
theorem mask_at (k : S40960.Idx) :
    Host.reduce IntOp.andi (inside I) (constantI S_ 1 1#1) reducesTo_S40960x1_S40960_d1 h_S_ k = 1#1 := by
  unfold Host.reduce
  exact foldl_andi _ _ fun n => inside_at I hI _

include hI in
theorem gather_at (y : S40960x512.Idx) :
    Host.gather gather_S53248x512_S40960x1_S40960x512_1_0_n_n_0_1_1512 X (col I) y
      = X (fun a => match a with | 0 => ⟨(I (at1 (y 0))).toNat, hI _⟩ | 1 => y 1) := by
  unfold Host.gather
  congr 1
  funext a
  match a with
  | 0 =>
    apply Fin.ext
    show GatherDims.start _ y (col I) 0 + GatherDims.batchCoord _ y 0 + GatherDims.offCoord _ y 0 = (I (at1 (y 0))).toNat
    rw [GatherDims.batchCoord_eq_zero _ _ _ (by decide), GatherDims.offCoord_eq_zero _ _ _ (by decide)]
    unfold GatherDims.start
    rw [dif_pos (show (0 : Fin S53248x512.rank) ∈ gather_S53248x512_S40960x1_S40960x512_1_0_n_n_0_1_1512.startIndexMap by decide), col_at I hI]
    exact (word_facts _ (hI _)).2.2
  | 1 =>
    apply Fin.ext
    show GatherDims.start _ y (col I) 1 + GatherDims.batchCoord _ y 1 + GatherDims.offCoord _ y 1 = (y 1).val
    rw [GatherDims.batchCoord_eq_zero _ _ _ (by decide)]
    unfold GatherDims.start GatherDims.offCoord
    rw [dif_neg (show (1 : Fin S53248x512.rank) ∉ gather_S53248x512_S40960x1_S40960x512_1_0_n_n_0_1_1512.startIndexMap by decide), dif_pos (show (1 : Fin S53248x512.rank) ∈ gather_S53248x512_S40960x1_S40960x512_1_0_n_n_0_1_1512.sKept by decide)]
    show 0 + 0 + (y 1).val = (y 1).val
    omega

include hI in
/-- The reference's result is the row gather. -/
theorem take_eq {F : FTy → Type} : take X I = Cert.Proof.Gather.outT (F := F) X I := by
  funext y
  unfold take
  show Scalar.select (Host.reduce IntOp.andi (inside I) (constantI S_ 1 1#1) reducesTo_S40960x1_S40960_d1 h_S_ _) _ _ = _
  rw [mask_at I hI, gather_at X I hI]
  show X _ = X _
  congr 1
  have hy0 : (y 0).val < 40960 := (y 0).isLt
  have hy1 : (y 1).val < 512 := (y 1).isLt
  have e : (at1 (y 0) : S1x40960.Idx) = Cert.Proof.Gather.at2 1 40960 (by decide) (by decide) 0 (y 0).val := by
    funext a
    match a with
    | 0 => rfl
    | 1 => exact Fin.ext (Nat.mod_eq_of_lt hy0).symm
  funext a
  match a with
  | 0 =>
    apply Fin.ext
    show (I (at1 (y 0))).toNat = Cert.Proof.Gather.row (F := F) I (y 0).val % 53248
    unfold Cert.Proof.Gather.row
    rw [e]
    exact (Nat.mod_eq_of_lt (hI _)).symm
  | 1 => exact Fin.ext (Nat.mod_eq_of_lt hy1).symm

end Cert.Proof.Take

end
-- ==== Proof.Gather.RefIdeal.lean ====
/-
  The run of the program `ReferenceIdeal`: a straight line of operations on whole arrays, no kernel. From any memory whose
  counters are zero, every weakly fair execution ends with the result array holding `Take.take` of the two argument
  arrays, the arguments unchanged, and every counter zero.
-/
module

public import proofs.«01_k».proof.Proof.Gather.Take
public import Idealize.ShloMosaic.Lib.StableHlo.Run
public import proofs.«01_k».proof.Proof.Gen.ReferenceIdeal

@[expose] public section

set_option maxRecDepth 100000

noncomputable section

namespace Cert.Proof.ReferenceIdealRun

open Cert.ReferenceIdeal Cert.ReferenceIdeal.Gen
open Idealize.ShloMosaic Idealize.ShloMosaic.TcCoe Idealize.ShloMosaic.StableHlo Idealize.SL.Sem

variable {F : FTy → Type} [FloatOps F]

/-- The program's operations, in order. -/
abbrev ops : List (HloOp τ sig (Elt F)) :=
  [ StableHlo.reshape main_arg1 main_v0 (rfl : (.i32 : EltTy) = .i32) shapeCasts_S1x40960_S40960,
    nullary main_call0_c (constantI S_ 32 0#32),
    unary main_call0_c main_call0_v0 (broadcastInDim S40960 ![] bcast_S_S40960),
    binary main_v0 main_call0_v0 main_call0_v1 (cmpi .slt),
    nullary main_call0_c_0 (constantI S_ 32 53248#32),
    unary main_call0_c_0 main_call0_v2 (broadcastInDim S40960 ![] bcast_S_S40960),
    binary main_v0 main_call0_v2 main_call0_v3 addi,
    ternary main_call0_v1 main_call0_v3 main_v0 main_call0_v4 select,
    unary main_call0_v4 main_call0_v5 (broadcastInDim S40960x1 ![0] bcast_S40960_S40960x1_0),
    nullary main_call0_c_1 (constantI S1 32 53247#32),
    nullary main_call0_c_2 (constantI S_ 32 0#32),
    unary main_call0_c_2 main_call0_v6 (broadcastInDim S40960x1 ![] bcast_S_S40960x1),
    binary main_call0_v5 main_call0_v6 main_call0_v7 (cmpi .sge),
    unary main_call0_c_1 main_call0_v8 (broadcastInDim S1x1 ![1] bcast_S1_S1x1_1),
    unary main_call0_v8 main_call0_v9 (broadcastInDim S40960x1 ![0, 1] bcast_S1x1_S40960x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S40960x1_S40960_d1 h_S_),
    binary main_arg0 main_call0_v5 main_call0_v13 (fun x i => Host.gather gather_S53248x512_S40960x1_S40960x512_1_0_n_n_0_1_1512 x i),
    unary main_call0_v12 main_call0_v14 (broadcastInDim S40960x512 ![0] bcast_S40960_S40960x512_0),
    nullary main_call0_c_4 (constantI S_ 32 4294967295#32),
    unary main_call0_c_4 main_call0_v15 (broadcastInDim S40960x512 ![] bcast_S_S40960x512),
    ternary main_call0_v14 main_call0_v13 main_call0_v15 main_v1 select ]

theorem main_eq (d : Dev nD) : main (F := F) d = seq ops := rfl

theorem out_eq (V : Valuation τ sig (Elt F)) :
    after ops V (main_v1 : DevRef τ sig) = Take.take (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    nullary_bufs_sub ..,
    nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..,
    binary_bufs_sub ..,
    unary_bufs_sub ..,
    nullary_bufs_sub ..,
    unary_bufs_sub ..,
    ternary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = Take.take (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v1).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.Proof.ReferenceIdealRun

end
-- ==== Proof.lean ====
/-
  The certificate of the row gather, of the experts and of the final norm. Of the gather: the frames of the two readings of the kernel and
  of the two of the reference, the trivial preservation, and the equality of the kernel's result with the reference's,
  at the ideal instance and bit by bit. Of the experts: the frames of the two readings of the kernel and of the
  reference, the trivial preservation, and the equality of the results at the ideal instance. Of the final norm,
  of the calls before the mixers and of the mixers: the same claims as of the experts. One run of each program, over any float values, serves all of its claims.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.MoeIdeal.Launch
public import proofs.«01_k».proof.Proof.Gen.MoeIdeal.Skeleton
public import proofs.«01_k».proof.Proof.Gen.ExpertsIdeal.Run
public import proofs.«01_k».proof.Proof.Gen.Final
public import proofs.«01_k».proof.Proof.Gen.FinalIdeal.Frame
public import proofs.«01_k».proof.Proof.Gen.FinalIdeal.Points
public import proofs.«01_k».proof.Proof.Gen.NormIdeal.Run
public import proofs.«01_k».proof.Proof.Front.Run
public import proofs.«01_k».proof.Proof.Front.Same
public import proofs.«01_k».proof.Proof.Gen.Front
public import proofs.«01_k».proof.Proof.Gen.FrontIdeal.Frame
public import proofs.«01_k».proof.Proof.Gen.FrontIdeal.Points
public import proofs.«01_k».proof.Proof.Gen.ProjectIdeal.Run
public import proofs.«01_k».proof.Proof.Gen.Mix
public import proofs.«01_k».proof.Proof.Gen.MixIdeal.Frame
public import proofs.«01_k».proof.Proof.Gen.MixIdeal.Points
public import proofs.«01_k».proof.Proof.Gen.MixersIdeal.Run
public import proofs.«01_k».proof.Proof.Mix.Result
public import proofs.«01_k».proof.Proof.Mix.Same
public import proofs.«01_k».proof.Proof.Moe.Result
public import proofs.«01_k».proof.Proof.Final.Run
public import proofs.«01_k».proof.Proof.Final.Array
public import proofs.«01_k».proof.Proof.Final.Result
public import proofs.«01_k».proof.Proof.Gather.Run
public import proofs.«01_k».proof.Proof.Gather.Take
public import proofs.«01_k».proof.Proof.Gather.RefIdeal
public import Idealize.ShloMosaic.Adequacy
public import Idealize.ShloMosaic.Init

@[expose] public section

set_option maxRecDepth 100000

noncomputable section

namespace Cert.Proof

open Idealize.ShloMosaic Idealize.ShloMosaic.Tactic Idealize.SL.Sem

/-! ## The facts of the second reading of the reference, and of the precondition -/

instance refFacts₀ : Cert.Reference.Facts₀ where
  shapeCasts_S1x40960_S40960 := Cert.ReferenceIdeal.Gen.shapeCasts_S1x40960_S40960
  bcast_S_S40960 := Cert.ReferenceIdeal.Gen.bcast_S_S40960
  bcast_S40960_S40960x1_0 := Cert.ReferenceIdeal.Gen.bcast_S40960_S40960x1_0
  bcast_S_S40960x1 := Cert.ReferenceIdeal.Gen.bcast_S_S40960x1
  bcast_S1_S1x1_1 := Cert.ReferenceIdeal.Gen.bcast_S1_S1x1_1
  bcast_S1x1_S40960x1_0_1 := Cert.ReferenceIdeal.Gen.bcast_S1x1_S40960x1_0_1
  reducesTo_S40960x1_S40960_d1 := Cert.ReferenceIdeal.Gen.reducesTo_S40960x1_S40960_d1
  h_S_ := Cert.ReferenceIdeal.Gen.h_S_
  bcast_S40960_S40960x512_0 := Cert.ReferenceIdeal.Gen.bcast_S40960_S40960x512_0
  bcast_S_S40960x512 := Cert.ReferenceIdeal.Gen.bcast_S_S40960x512
  gather_S53248x512_S40960x1_S40960x512_1_0_n_n_0_1_1512_wf := Cert.ReferenceIdeal.Gen.gather_S53248x512_S40960x1_S40960x512_1_0_n_n_0_1_1512_wf

instance refFacts : Cert.Reference.Facts where

instance preFacts : Cert.Pre_rows_in_range.Facts where
  bcast_S_S1x40960 := by decide

/-! ## The precondition, as bounds on the row numbers -/

theorem rows_ok {F : FTy → Type} [FloatOps F] (X : IVec Cert.Pre_rows_in_range.S53248x512 32) (I : IVec Cert.Pre_rows_in_range.S1x40960 32)
    (h : Cert.Pre_rows_in_range.fn (F := F) X I = fun _ => 1#1) : ∀ j, (I j).toNat < 53248 := by
  have one_and (p q : Bool) (e : IntOp.andi (BitVec.ofBool p) (BitVec.ofBool q) = 1#1) : p = true ∧ q = true := by
    cases p <;> cases q <;> first | exact ⟨rfl, rfl⟩ | exact absurd e (by decide)
  intro j
  have e : IntOp.andi (IntOp.cmpi .sge (I j) 0#32) (IntOp.cmpi .slt (I j) 53248#32) = 1#1 := congrFun h j
  obtain ⟨hl, hu⟩ := one_and _ _ e
  have hn := (I j).isLt
  simp only [BitVec.sle_eq_decide, BitVec.slt_eq_decide, decide_eq_true_eq, BitVec.toInt_eq_toNat_cond, BitVec.toNat_ofNat,
    Nat.reducePow, Nat.reduceMod] at hl hu
  omega

/-! ## Frames -/

theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ fun d => rows_ok (F := Bits) _ _ (hpre d))

theorem frame_ideal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ fun d => rows_ok (F := Ideal) _ _ (hpre d))

theorem frame_refIdeal : Cert.quiescent_ReferenceIdeal := fun m ρ _ =>
  (θ_run Cert.ReferenceIdeal.defs _ _).mono (fun _ h => ⟨fun c => (h.1 c).2, h.2⟩) (ReferenceIdealRun.run_main (F := Ideal) m ρ)

theorem frame_refIdeal_pre : Cert.quiescent_ReferenceIdeal_pre_rows_in_range := fun m ρ _ => frame_refIdeal m ρ trivial

theorem frame_ref : Cert.quiescent_Reference := fun m ρ _ =>
  (θ_run Cert.ReferenceIdeal.defs _ _).mono (fun _ h => ⟨fun c => (h.1 c).2, h.2⟩) (ReferenceIdealRun.run_main (F := Bits) m ρ)

/-! ## The equal results -/

/-- The reference's result on the kernel's argument contents is the kernel's. -/
theorem take_eq_outM {F : FTy → Type} [FloatOps F] (m : (ℓ : Loc Cert.KernelIdeal.nD Cert.KernelIdeal.τ Cert.KernelIdeal.sig) → Buf (Elt F) ℓ)
    (hpre : Gather.PreOK m) (d : Dev Cert.KernelIdeal.nD) (X : IVec Cert.ReferenceIdeal.S53248x512 32) (I : IVec Cert.ReferenceIdeal.S1x40960 32)
    (hX : X = m (Gather.xLoc d)) (hI : I = m (Gather.iLoc d)) : Take.take X I = Gather.outM m d := by
  subst hX hI
  exact Take.take_eq (F := F) _ _ (hpre d)

theorem algebraic : Cert.algebraic_KernelIdeal_ReferenceIdeal := fun m g m' g' hpre hagree =>
  have hp : Gather.PreOK (F := Ideal) m := fun d => rows_ok (F := Ideal) _ _ (hpre d)
  ⟨fun c => Gather.outM (F := Ideal) m c,
    (θ_run Cert.KernelIdeal.defs _ _).mono (fun _ h c => ⟨(h.1 c).2.2, (h.1 c).1, (h.1 c).2.1⟩) (Gather.run_main (F := Ideal) m g hp),
    (θ_run Cert.ReferenceIdeal.defs _ _).mono
      (fun _ h c => ⟨(h.1 c).1.trans (take_eq_outM (F := Ideal) m hp c _ _ (hagree c).1 (hagree c).2), (h.1 c).2⟩)
      (ReferenceIdealRun.run_main (F := Ideal) m' g')⟩

theorem bitexact : Cert.bitexact_Kernel_Reference := fun m g m' g' hpre hagree =>
  have hp : Gather.PreOK (F := Bits) m := fun d => rows_ok (F := Bits) _ _ (hpre d)
  ⟨fun c => Gather.outM (F := Bits) m c,
    (θ_run Cert.KernelIdeal.defs _ _).mono (fun _ h c => ⟨(h.1 c).2.2, (h.1 c).1, (h.1 c).2.1⟩) (Gather.run_main (F := Bits) m g hp),
    (θ_run Cert.ReferenceIdeal.defs _ _).mono
      (fun _ h c => ⟨(h.1 c).1.trans (take_eq_outM (F := Bits) m hp c _ _ (hagree c).1 (hagree c).2), (h.1 c).2⟩)
      (ReferenceIdealRun.run_main (F := Bits) m' g')⟩

/-! ## The experts' second reading's facts -/

instance moeFacts₀ : Cert.Moe.Facts₀ where
  bcast_S1_S104_0 := @Cert.MoeIdeal.Gen.bcast_S1_S104_0
  natLt_1_32 := @Cert.MoeIdeal.Gen.natLt_1_32
  bcast_S_S1 := @Cert.MoeIdeal.Gen.bcast_S_S1
  bitsLt_bf16_f32 := @Cert.MoeIdeal.Gen.bitsLt_bf16_f32
  numel1_S1 := @Cert.MoeIdeal.Gen.numel1_S1
  inb_S512x640_S512x512_0_0 := @Cert.MoeIdeal.Gen.inb_S512x640_S512x512_0_0
  h_S512x512 := @Cert.MoeIdeal.Gen.h_S512x512
  inb_S512x640_S512x128_0_512 := @Cert.MoeIdeal.Gen.inb_S512x640_S512x128_0_512
  h_S512x128 := @Cert.MoeIdeal.Gen.h_S512x128
  slices_S512x128_o0_0_S512x1 := @Cert.MoeIdeal.Gen.slices_S512x128_o0_0_S512x1
  inb_S1x1024x512_S1x512x512_0_0_0 := @Cert.MoeIdeal.Gen.inb_S1x1024x512_S1x512x512_0_0_0
  h_S1x512x512 := @Cert.MoeIdeal.Gen.h_S1x512x512
  shapeCasts_S1x512x512_S512x512 := @Cert.MoeIdeal.Gen.shapeCasts_S1x512x512_S512x512
  inb_S1x1024x512_S1x512x512_0_512_0 := @Cert.MoeIdeal.Gen.inb_S1x1024x512_S1x512x512_0_512_0
  broadcasts_S512x1_S512x512 := @Cert.MoeIdeal.Gen.broadcasts_S512x1_S512x512
  inb_S1x512x1024_S1x512x1024_0_0_0 := @Cert.MoeIdeal.Gen.inb_S1x512x1024_S1x512x1024_0_0_0
  h_S1x512x1024 := @Cert.MoeIdeal.Gen.h_S1x512x1024
  shapeCasts_S1x512x1024_S512x1024 := @Cert.MoeIdeal.Gen.shapeCasts_S1x512x1024_S512x1024
  slices_S512x128_o0_1_S512x1 := @Cert.MoeIdeal.Gen.slices_S512x128_o0_1_S512x1
  slices_S512x1024_o0_0_S512x512 := @Cert.MoeIdeal.Gen.slices_S512x1024_o0_0_S512x512
  inb_S512x1024_S512x512_0_0 := @Cert.MoeIdeal.Gen.inb_S512x1024_S512x512_0_0
  packedbf16_S512x1024_S512x512_0_0 := @Cert.MoeIdeal.Gen.packedbf16_S512x1024_S512x512_0_0
  slices_S512x1024_o0_512_S512x512 := @Cert.MoeIdeal.Gen.slices_S512x1024_o0_512_S512x512
  inb_S512x1024_S512x512_0_512 := @Cert.MoeIdeal.Gen.inb_S512x1024_S512x512_0_512
  packedbf16_S512x1024_S512x512_0_512 := @Cert.MoeIdeal.Gen.packedbf16_S512x1024_S512x512_0_512
  bcast_S104_S104x512_0 := @Cert.MoeIdeal.Gen.bcast_S104_S104x512_0
  shapeCasts_S104x512_S53248 := @Cert.MoeIdeal.Gen.shapeCasts_S104x512_S53248
  bcast_S53248_S53248x1_0 := @Cert.MoeIdeal.Gen.bcast_S53248_S53248x1_0
  bcast_S53248x1_S53248x1024_0_1 := @Cert.MoeIdeal.Gen.bcast_S53248x1_S53248x1024_0_1
  bcast_S_S53248x1024 := @Cert.MoeIdeal.Gen.bcast_S_S53248x1024
  dot_S512x512_S512x512_S512x512_1_0_0_1_n_n_wf := @Cert.MoeIdeal.Gen.dot_S512x512_S512x512_S512x512_1_0_0_1_n_n_wf
  dot_S512x512_S512x1024_S512x1024_1_0_0_1_n_n_wf := @Cert.MoeIdeal.Gen.dot_S512x512_S512x1024_S512x1024_1_0_0_1_n_n_wf
  hrank0 := @Cert.MoeIdeal.Gen.hrank0
  k0_off1_inb := @Cert.MoeIdeal.Gen.k0_off1_inb
  hstage0_0 := @Cert.MoeIdeal.Gen.hstage0_0
  nbuf0_0 := @Cert.MoeIdeal.Gen.nbuf0_0
  hreads0_0 := @Cert.MoeIdeal.Gen.hreads0_0
  hstage0_1 := @Cert.MoeIdeal.Gen.hstage0_1
  nbuf0_1 := @Cert.MoeIdeal.Gen.nbuf0_1
  hreads0_1 := @Cert.MoeIdeal.Gen.hreads0_1
  hstage0_2 := @Cert.MoeIdeal.Gen.hstage0_2
  nbuf0_2 := @Cert.MoeIdeal.Gen.nbuf0_2
  hreads0_2 := @Cert.MoeIdeal.Gen.hreads0_2
  hstage0_3 := @Cert.MoeIdeal.Gen.hstage0_3
  nbuf0_3 := @Cert.MoeIdeal.Gen.nbuf0_3
  hreads0_3 := @Cert.MoeIdeal.Gen.hreads0_3
  hstage0_4 := @Cert.MoeIdeal.Gen.hstage0_4
  nbuf0_4 := @Cert.MoeIdeal.Gen.nbuf0_4
  hreads0_4 := @Cert.MoeIdeal.Gen.hreads0_4
  hstage0_5 := @Cert.MoeIdeal.Gen.hstage0_5
  nbuf0_5 := @Cert.MoeIdeal.Gen.nbuf0_5
  hreads0_5 := @Cert.MoeIdeal.Gen.hreads0_5
  hstage0_6 := @Cert.MoeIdeal.Gen.hstage0_6
  nbuf0_6 := @Cert.MoeIdeal.Gen.nbuf0_6
  hreads0_6 := @Cert.MoeIdeal.Gen.hreads0_6
  hstage0_7 := @Cert.MoeIdeal.Gen.hstage0_7
  nbuf0_7 := @Cert.MoeIdeal.Gen.nbuf0_7
  hreads0_7 := @Cert.MoeIdeal.Gen.hreads0_7

instance moeFacts : Cert.Moe.Facts where
  harr0 := @Cert.MoeIdeal.Gen.harr0

/-! ## The experts -/

/-- The experts' frame over any float values. -/
def MoeFrame (F : FTy → Type) [FloatOps F] : Prop :=
  ∀ (m : (ℓ : Loc Cert.MoeIdeal.nD Cert.MoeIdeal.τ Cert.MoeIdeal.sig) → Buf (Elt F) ℓ) (g : Dev Cert.MoeIdeal.nD → PrngReg),
    (∀ c : Dev Cert.MoeIdeal.nD,
      (Cert.Pre_tiles_in_range.fn (F := F) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
      ∧ (Cert.Pre_tiles_in_range.fn (F := F) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
      ∧ (Cert.Pre_tiles_in_range.fn (F := F) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2 = (fun _ => 1#1)) →
    θ_run (Cert.MoeIdeal.defs (F := F)) (onTc (τ := Cert.MoeIdeal.τ) (Cert.MoeIdeal.main (F := F))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

theorem moeFrame (F : FTy → Type) [FloatOps F] : MoeFrame F := fun m ρ hpre =>
  Moe.frame m ρ (Moe.plan m (Moe.inRange_tiles m _ _ _ _ (hpre 0)))

/-- The first reading's frame is that one at the bits. -/
theorem frame_moe_eq : Cert.quiescent_Moe = MoeFrame Bits := by sl_kernel_rfl

theorem frame_moe : Cert.quiescent_Moe := by rw [frame_moe_eq]; exact moeFrame Bits

theorem frame_moeIdeal : Cert.quiescent_MoeIdeal := moeFrame Ideal

/-- The floats' precondition bounds the tables too, -/
theorem inRange_finite (m : (ℓ : Loc Cert.MoeIdeal.nD Cert.MoeIdeal.τ Cert.MoeIdeal.sig) → Buf (Elt Ideal) ℓ)
    (hpre : Cert.Pre_MoeIdeal_finite_tiles_in_range m) : Moe.InRange (F := Ideal) m :=
  have h := (hpre 0).2.2.2.2.2
  Moe.inRange_of (F := Ideal) m (fun j => congrFun h.1 j) (fun j => congrFun h.2.1 j) (fun j => congrFun h.2.2 j)

/-- and says that every entry is real. -/
theorem finite_args (m : (ℓ : Loc Cert.MoeIdeal.nD Cert.MoeIdeal.τ Cert.MoeIdeal.sig) → Buf (Elt Ideal) ℓ)
    (hpre : Cert.Pre_MoeIdeal_finite_tiles_in_range m) (c : Dev Cert.MoeIdeal.nD) :
    Moe.Finite (Moe.nvW m) (Moe.rowsW m c) (Moe.gatesW m c) (Moe.w1W m c) (Moe.w3W m c) (Moe.w2W m c) :=
  match c with
  | 0 => Moe.finite_of _ _ _ _ _ _ _ (hpre 0).1 (hpre 0).2.1 (hpre 0).2.2.1 (hpre 0).2.2.2.1 (hpre 0).2.2.2.2.1

theorem frame_moeIdeal_pre : Cert.quiescent_MoeIdeal_pre_finite_tiles_in_range := fun m ρ hpre =>
  Moe.frame (F := Ideal) m ρ (Moe.plan m (inRange_finite m hpre))

theorem frame_experts : Cert.quiescent_ExpertsIdeal := fun m ρ _ =>
  (θ_run Cert.ExpertsIdeal.defs _ _).mono (fun _ h => ⟨fun c => (h.1 c).2, h.2⟩) (Experts.run_main (F := Ideal) m ρ)

theorem frame_experts_pre : Cert.quiescent_ExpertsIdeal_pre_finite_tiles_in_range := fun m ρ _ => frame_experts m ρ trivial

/-- What the launch leaves in the result. -/
def moeOut (m : (ℓ : Loc Cert.MoeIdeal.nD Cert.MoeIdeal.τ Cert.MoeIdeal.sig) → Buf (Elt Ideal) ℓ) (h : Moe.InRange (F := Ideal) m)
    (c : Dev Cert.MoeIdeal.nD) : Buf (Elt Ideal) ((c.tc : Thread Cert.MoeIdeal.nD Cert.MoeIdeal.τ).loc Cert.MoeIdeal.main_v16) :=
  Pipeline.afterTail Moe.pcfgs (fun _ => Moe.adm m (Moe.ok m h)) (Moe.dats m (Moe.ok m h) (Moe.nv m)) 0 (Moe.V0 m)
    [Cert.MoeIdeal.Gen.hostOps1, Cert.MoeIdeal.Gen.hostOps1_1] c Cert.MoeIdeal.main_v16

/-- The launch ends with it, -/
theorem moe_value (m : (ℓ : Loc Cert.MoeIdeal.nD Cert.MoeIdeal.τ Cert.MoeIdeal.sig) → Buf (Elt Ideal) ℓ) (ρ : Dev Cert.MoeIdeal.nD → PrngReg)
    (h : Moe.InRange (F := Ideal) m) :
    θ_run (Cert.MoeIdeal.defs (F := Ideal)) (onTc (τ := Cert.MoeIdeal.τ) (Cert.MoeIdeal.main (F := Ideal))) ⟨m, fun _ => 0, ρ⟩ (fun r => ∀ c : Dev Cert.MoeIdeal.nD,
      r.2.mem ((c.tc : Thread Cert.MoeIdeal.nD Cert.MoeIdeal.τ).loc Cert.MoeIdeal.main_v16) = moeOut m h c) :=
  (θ_run Cert.MoeIdeal.defs _ _).mono
    (fun _ h c => (h.1 c).2 Cert.MoeIdeal.main_v16 (by decide : Cert.MoeIdeal.main_v16 ∈ Pipeline.restRefs Cert.MoeIdeal.sig Cert.MoeIdeal.spec0))
    (Moe.run_main (F := Ideal) m ρ (Moe.plan m h))

/-- its arguments unchanged. -/
theorem moe_run (m : (ℓ : Loc Cert.MoeIdeal.nD Cert.MoeIdeal.τ Cert.MoeIdeal.sig) → Buf (Elt Ideal) ℓ) (ρ : Dev Cert.MoeIdeal.nD → PrngReg)
    (h : Moe.InRange (F := Ideal) m) :
    θ_run (Cert.MoeIdeal.defs (F := Ideal)) (onTc (τ := Cert.MoeIdeal.τ) (Cert.MoeIdeal.main (F := Ideal))) ⟨m, fun _ => 0, ρ⟩ (fun r => ∀ c : Dev Cert.MoeIdeal.nD,
      r.2.mem ((c.tc : Thread Cert.MoeIdeal.nD Cert.MoeIdeal.τ).loc Cert.MoeIdeal.main_v16) = moeOut m h c
      ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)) :=
  (θ_run Cert.MoeIdeal.defs _ _).mono (fun _ h c => ⟨h.1 c, h.2.1 c⟩)
    (θ_run_and (moe_value m ρ h) (Moe.frame (F := Ideal) m ρ (Moe.plan m h)))

/-- The reference's result on the kernel's argument contents is the kernel's. -/
theorem experts_eq_moe (m : (ℓ : Loc Cert.MoeIdeal.nD Cert.MoeIdeal.τ Cert.MoeIdeal.sig) → Buf (Elt Ideal) ℓ)
    (hpre : Cert.Pre_MoeIdeal_finite_tiles_in_range m) (c : Dev Cert.MoeIdeal.nD)
    (x : IVec Cert.ExpertsIdeal.S53248x640 32) (ea eb : IVec Cert.ExpertsIdeal.S104 32)
    (n : IVec Cert.ExpertsIdeal.S1 32) (w1 w3 : FVec Ideal Cert.ExpertsIdeal.S16x1024x512 .f32) (w2 : FVec Ideal Cert.ExpertsIdeal.S16x512x1024 .f32)
    (hx : x = Moe.wordsW m c) (ha : ea = Moe.eaW m) (hb : eb = Moe.ebW m) (hn : n = Moe.nvW m)
    (h1 : w1 = Moe.w1W m c) (h3 : w3 = Moe.w3W m c) (h2 : w2 = Moe.w2W m c) :
    Experts.out x ea eb n w1 w3 w2 = moeOut m (inRange_finite m hpre) c := by
  subst hx ha hb hn h1 h3 h2
  funext i
  rw [eq_ix2 i]
  exact (Moe.out_eq m (inRange_finite m hpre) c (finite_args m hpre c) (i 0) (i 1)).trans (Moe.result_eq m (inRange_finite m hpre) c (i 0) (i 1)).symm

theorem algebraic_moe : Cert.algebraic_MoeIdeal_ExpertsIdeal_pre_finite_tiles_in_range := fun m g m' g' hpre hagree =>
  ⟨moeOut m (inRange_finite m hpre), moe_run m g (inRange_finite m hpre),
    (θ_run Cert.ExpertsIdeal.defs _ _).mono
      (fun _ h c => ⟨(h.1 c).1.trans (by
        have hc : c = 0 := Subsingleton.elim _ _
        subst hc
        have a := hagree 0
        exact experts_eq_moe m hpre 0 _ _ _ _ _ _ _ a.1 a.2.1 a.2.2.1 a.2.2.2.1 a.2.2.2.2.1 a.2.2.2.2.2.1 a.2.2.2.2.2.2), (h.1 c).2⟩)
      (Experts.run_main (F := Ideal) m' g')⟩

/-! ## The final norm -/

/-- The final calls' frame over any float values. -/
def FinalFrame (F : FTy → Type) [FloatOps F] : Prop :=
  ∀ (m : (ℓ : Loc Cert.FinalIdeal.nD Cert.FinalIdeal.τ Cert.FinalIdeal.sig) → Buf (Elt F) ℓ) (g : Dev Cert.FinalIdeal.nD → PrngReg), True →
    θ_run (Cert.FinalIdeal.defs (F := F)) (onTc (τ := Cert.FinalIdeal.τ) (Cert.FinalIdeal.main (F := F))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

theorem finalFrame (F : FTy → Type) [FloatOps F] : FinalFrame F := fun m ρ _ =>
  (θ_run Cert.FinalIdeal.defs _ _).mono (fun _ h => ⟨fun c => (h.1 c).2, h.2⟩) (Final.run (F := F) m ρ)

theorem frame_final_eq : Cert.quiescent_Final = FinalFrame Bits := by sl_kernel_rfl

theorem frame_final : Cert.quiescent_Final := by rw [frame_final_eq]; exact finalFrame Bits

theorem frame_finalIdeal : Cert.quiescent_FinalIdeal := finalFrame Ideal

theorem frame_norm : Cert.quiescent_NormIdeal := fun m ρ _ =>
  (θ_run Cert.NormIdeal.defs _ _).mono (fun r h => ⟨fun c => (h c).2, sem_eq_zero_of_no_sems (by decide) r.2⟩) (Cert.NormIdeal.Value.run (F := Ideal) m ρ)

/-- The reference's result on the calls' arguments is what the calls leave. -/
theorem norm_eq_final (m : (ℓ : Loc Cert.FinalIdeal.nD Cert.FinalIdeal.τ Cert.FinalIdeal.sig) → Buf (Elt Ideal) ℓ) (ρ : Dev Cert.FinalIdeal.nD → PrngReg)
    (m' : (ℓ : Loc Cert.NormIdeal.nD Cert.NormIdeal.τ Cert.NormIdeal.sig) → Buf (Elt Ideal) ℓ) (c : Dev Cert.FinalIdeal.nD)
    (h0 : m' ((c.tc : Thread Cert.NormIdeal.nD Cert.NormIdeal.τ).loc Cert.NormIdeal.main_arg0) = m ((c.tc : Thread Cert.FinalIdeal.nD Cert.FinalIdeal.τ).loc Cert.FinalIdeal.main_arg0))
    (h1 : m' ((c.tc : Thread Cert.NormIdeal.nD Cert.NormIdeal.τ).loc Cert.NormIdeal.main_arg1) = m ((c.tc : Thread Cert.FinalIdeal.nD Cert.FinalIdeal.τ).loc Cert.FinalIdeal.main_arg1))
    (h2 : m' ((c.tc : Thread Cert.NormIdeal.nD Cert.NormIdeal.τ).loc Cert.NormIdeal.main_arg2) = m ((c.tc : Thread Cert.FinalIdeal.nD Cert.FinalIdeal.τ).loc Cert.FinalIdeal.main_arg2))
    (h3 : m' ((c.tc : Thread Cert.NormIdeal.nD Cert.NormIdeal.τ).loc Cert.NormIdeal.main_arg3) = m ((c.tc : Thread Cert.FinalIdeal.nD Cert.FinalIdeal.τ).loc Cert.FinalIdeal.main_arg3))
    (h4 : m' ((c.tc : Thread Cert.NormIdeal.nD Cert.NormIdeal.τ).loc Cert.NormIdeal.main_arg4) = m ((c.tc : Thread Cert.FinalIdeal.nD Cert.FinalIdeal.τ).loc Cert.FinalIdeal.main_arg4))
    (h5 : m' ((c.tc : Thread Cert.NormIdeal.nD Cert.NormIdeal.τ).loc Cert.NormIdeal.main_arg5) = m ((c.tc : Thread Cert.FinalIdeal.nD Cert.FinalIdeal.τ).loc Cert.FinalIdeal.main_arg5)) :
    Cert.NormIdeal.Value.res_main_v25 m' c = Cert.FinalIdeal.Gen.W4 m ρ c (Proc.devRef .tc Cert.FinalIdeal.main_v3) := by
  have hX (b : Fin 32) (r : Fin 2048) : Final.catX m' c b r = Final.rowX m c b r := funext fun k => by
    unfold Final.catX Final.rowX
    rw [h0, h2]
  have hW (b : Fin 32) (r : Fin 2048) : Final.catW m' c b r = Final.rowW m c b r := funext fun k => by
    unfold Final.catW Final.rowW
    rw [h1, h3]
  have key (b : Fin 32) (r : Fin 2048) (k : Fin 1024) :
      (Cert.NormIdeal.Value.res_main_v25 m' c : Cert.NormIdeal.S32x2048x1024.Idx → EReal) (ix3 b r k) = Final.resG m c (ix3 b r k) := by
    refine (Final.reference_eq m' c b r k).trans ?_
    rw [hX, hW, h4, h5]
    rfl
  funext i
  refine Eq.trans ?_ (Final.result_eq m ρ c i).symm
  rw [eq_ix3 i]
  exact key (i 0) (i 1) (i 2)

theorem algebraic_final : Cert.algebraic_FinalIdeal_NormIdeal := fun m g m' g' _ hagree =>
  ⟨fun c => Cert.FinalIdeal.Gen.W4 m g c (Proc.devRef .tc Cert.FinalIdeal.main_v3),
    (θ_run Cert.FinalIdeal.defs _ _).mono (fun _ h => h.1) (Final.run (F := Ideal) m g),
    (θ_run Cert.NormIdeal.defs _ _).mono
      (fun _ h c => ⟨(h c).1.trans (by
        have hc : c = 0 := Subsingleton.elim _ _
        subst hc
        have a := hagree 0
        exact norm_eq_final m g m' 0 a.1 a.2.1 a.2.2.1 a.2.2.2.1 a.2.2.2.2.1 a.2.2.2.2.2), (h c).2⟩)
      (Cert.NormIdeal.Value.run (F := Ideal) m' g')⟩

/-! ## The calls before the mixers -/

/-- The frame of the calls before the mixers over any float values. -/
def FrontFrame (F : FTy → Type) [FloatOps F] : Prop :=
  ∀ (m : (ℓ : Loc Cert.FrontIdeal.nD Cert.FrontIdeal.τ Cert.FrontIdeal.sig) → Buf (Elt F) ℓ) (g : Dev Cert.FrontIdeal.nD → PrngReg), True →
    θ_run (Cert.FrontIdeal.defs (F := F)) (onTc (τ := Cert.FrontIdeal.τ) (Cert.FrontIdeal.main (F := F))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

theorem frontFrame (F : FTy → Type) [FloatOps F] : FrontFrame F := fun m ρ _ =>
  (θ_run Cert.FrontIdeal.defs _ _).mono (fun _ h => ⟨fun c => (h.1 c).2.2.2.2, h.2⟩) (Front.run (F := F) m ρ)

theorem frame_front_eq : Cert.quiescent_Front = FrontFrame Bits := by sl_kernel_rfl

theorem frame_front : Cert.quiescent_Front := by rw [frame_front_eq]; exact frontFrame Bits

theorem frame_frontIdeal : Cert.quiescent_FrontIdeal := frontFrame Ideal

theorem frame_project : Cert.quiescent_ProjectIdeal := fun m ρ _ =>
  (θ_run Cert.ProjectIdeal.defs _ _).mono (fun r h => ⟨fun c => (h c).2.2.2.2, sem_eq_zero_of_no_sems (by decide) r.2⟩) (Front.run_reference (F := Ideal) m ρ)

theorem algebraic_front : Cert.algebraic_FrontIdeal_ProjectIdeal := fun m g m' g' _ hagree =>
  ⟨fun c => Cert.FrontIdeal.Gen.W7 m g c (Proc.devRef .tc Cert.FrontIdeal.main_v8), fun c => Cert.FrontIdeal.Gen.W7 m g c (Proc.devRef .tc Cert.FrontIdeal.main_v10),
    fun c => Cert.FrontIdeal.Gen.W7 m g c (Proc.devRef .tc Cert.FrontIdeal.main_v20), fun c => Cert.FrontIdeal.Gen.W7 m g c (Proc.devRef .tc Cert.FrontIdeal.main_v21),
    (θ_run Cert.FrontIdeal.defs _ _).mono (fun _ h => h.1) (Front.run (F := Ideal) m g),
    (θ_run Cert.ProjectIdeal.defs _ _).mono
      (fun _ h c => by
        have hc : c = 0 := Subsingleton.elim _ _
        subst hc
        obtain ⟨a0, a1, a2, a3, a4, a5, a6, a7⟩ := hagree 0
        obtain ⟨r0, r1, r2, r3, rest⟩ := h 0
        rw [a1, a4, a5] at r0
        rw [a3, a4, a5] at r1
        rw [a0, a1, a4, a5, a6, a7] at r2
        rw [a2, a3, a4, a5, a6, a7] at r3
        exact ⟨r0.trans (Front.mx_same m g 0), r1.trans (Front.mc_same m g 0), r2.trans (Front.u_same m g 0), r3.trans (Front.uc_same m g 0), rest⟩)
      (Front.run_reference (F := Ideal) m' g')⟩

/-! ## The mixers -/

/-- The mixers' call's frame over any float values. -/
def MixFrame (F : FTy → Type) [FloatOps F] : Prop :=
  ∀ (m : (ℓ : Loc Cert.MixIdeal.nD Cert.MixIdeal.τ Cert.MixIdeal.sig) → Buf (Elt F) ℓ) (g : Dev Cert.MixIdeal.nD → PrngReg), True →
    θ_run (Cert.MixIdeal.defs (F := F)) (onTc (τ := Cert.MixIdeal.τ) (Cert.MixIdeal.main (F := F))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

theorem mixFrame (F : FTy → Type) [FloatOps F] : MixFrame F := fun m ρ _ => Cert.MixIdeal.Gen.frame m ρ

theorem frame_mix_eq : Cert.quiescent_Mix = MixFrame Bits := by sl_kernel_rfl

theorem frame_mix : Cert.quiescent_Mix := by rw [frame_mix_eq]; exact mixFrame Bits

theorem frame_mixIdeal : Cert.quiescent_MixIdeal := mixFrame Ideal

theorem frame_mixers : Cert.quiescent_MixersIdeal := fun m ρ _ =>
  (θ_run Cert.MixersIdeal.defs _ _).mono (fun r h => ⟨fun c => (h c).2.2, sem_eq_zero_of_no_sems (by decide) r.2⟩) (Cert.MixersIdeal.Value.run (F := Ideal) m ρ)

theorem algebraic_mix : Cert.algebraic_MixIdeal_MixersIdeal := fun m g m' g' _ hagree =>
  ⟨fun c => Mix.arrG m c, fun c => Mix.arrM m c, Mix.run m g,
    (θ_run Cert.MixersIdeal.defs _ _).mono
      (fun _ h c => by
        have hc : c = 0 := Subsingleton.elim _ _
        subst hc
        obtain ⟨a0, a1, a2, a3, a4, a5, a6, a7, a8, a9, _⟩ := hagree 0
        obtain ⟨r0, r1, rest⟩ := h 0
        refine ⟨r0.trans ?_, r1.trans ?_, rest⟩
        · refine funext fun (i : Cert.MixersIdeal.S20x2048x1024.Idx) => ?_
          rw [eq_ix3 i]
          exact Mix.x1_same m 0 (StableHlo.launchContents m' 0) a0 a1 a2 a3 a5 a6 a7 a8 a9 (i 0) (i 1) (i 2)
        · refine funext fun (i : Cert.MixersIdeal.S20x2048x1024.Idx) => ?_
          rw [eq_ix3 i]
          exact Mix.h2_same m 0 (StableHlo.launchContents m' 0) a0 a1 a2 a3 a4 a5 a6 a7 a8 a9 (i 0) (i 1) (i 2))
      (Cert.MixersIdeal.Value.run (F := Ideal) m' g')⟩

theorem claim : Cert.Claim :=
  ⟨Cert.Kernel.Gen.facts, Cert.KernelIdeal.Gen.facts, Cert.ReferenceIdeal.Gen.facts, refFacts, moeFacts, Cert.MoeIdeal.Gen.facts,
    Cert.ExpertsIdeal.Gen.facts, Cert.Final.Gen.facts, Cert.FinalIdeal.Gen.facts, Cert.NormIdeal.Gen.facts,
    Cert.Front.Gen.facts, Cert.FrontIdeal.Gen.facts, Cert.ProjectIdeal.Gen.facts,
    Cert.Mix.Gen.facts, Cert.MixIdeal.Gen.facts, Cert.MixersIdeal.Gen.facts, preFacts, Moe.tilesFacts, Moe.finiteFacts,
    frame_kernel, frame_ideal, frame_refIdeal, frame_refIdeal_pre, frame_ref,
    frame_moe, frame_moeIdeal, frame_moeIdeal_pre, frame_experts, frame_experts_pre,
    frame_final, frame_finalIdeal, frame_norm, frame_front, frame_frontIdeal, frame_project, frame_mix, frame_mixIdeal, frame_mixers,
    trivial, algebraic, bitexact, trivial, algebraic_moe, trivial, algebraic_final, trivial, algebraic_front, trivial, algebraic_mix⟩

end Cert.Proof

end
